-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_twice [hPre_scales_twice : Cert.Pre_scales_twice.Facts] (m : (ℓ : Loc Cert.KernelIdeal.nD Cert.KernelIdeal.τ Cert.KernelIdeal.sig) → Buf (Elt Ideal) ℓ) : Prop :=
  ∀ c : Dev Cert.KernelIdeal.nD,
    (Cert.Pre_scales_twice.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_twice [hPre_scales_twice : Cert.Pre_scales_twice.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_twice.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Kernel1Ideal_scales_twice1 [hPre_scales_twice1 : Cert.Pre_scales_twice1.Facts] (m : (ℓ : Loc Cert.Kernel1Ideal.nD Cert.Kernel1Ideal.τ Cert.Kernel1Ideal.sig) → Buf (Elt Ideal) ℓ) : Prop :=
  ∀ c : Dev Cert.Kernel1Ideal.nD,
    (Cert.Pre_scales_twice1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7))) = (fun _ => 1#1)

def Pre_Reference1Ideal (m : (ℓ : Loc Cert.Reference1Ideal.nD Cert.Reference1Ideal.τ Cert.Reference1Ideal.sig) → Buf (Elt Ideal) ℓ) : Prop :=
  True

def Pre_Reference1Ideal_scales_twice1 [hPre_scales_twice1 : Cert.Pre_scales_twice1.Facts] (m : (ℓ : Loc Cert.Reference1Ideal.nD Cert.Reference1Ideal.τ Cert.Reference1Ideal.sig) → Buf (Elt Ideal) ℓ) : Prop :=
  ∀ c : Dev Cert.Reference1Ideal.nD,
    (Cert.Pre_scales_twice1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_scales_twice2 [hPre_scales_twice2 : Cert.Pre_scales_twice2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_scales_twice2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_scales_twice2 [hPre_scales_twice2 : Cert.Pre_scales_twice2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_scales_twice2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_scales_twice3 [hPre_scales_twice3 : Cert.Pre_scales_twice3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_scales_twice3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_scales_twice3 [hPre_scales_twice3 : Cert.Pre_scales_twice3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_scales_twice3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scales_twice [hKernelIdeal : Cert.KernelIdeal.Facts] [hPre_scales_twice : Cert.Pre_scales_twice.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_twice m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scales_twice [hReferenceIdeal : Cert.ReferenceIdeal.Facts] [hPre_scales_twice : Cert.Pre_scales_twice.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_twice m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5)
      ∧ r.2.mem ((c.tc : Thread Cert.Kernel1.nD Cert.Kernel1.τ).loc Cert.Kernel1.main_arg6) = m ((c.tc : Thread Cert.Kernel1.nD Cert.Kernel1.τ).loc Cert.Kernel1.main_arg6)
      ∧ r.2.mem ((c.tc : Thread Cert.Kernel1.nD Cert.Kernel1.τ).loc Cert.Kernel1.main_arg7) = m ((c.tc : Thread Cert.Kernel1.nD Cert.Kernel1.τ).loc Cert.Kernel1.main_arg7))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7))
      ∧ r.2.sem = fun _ => 0)

def quiescent_Kernel1Ideal_pre_scales_twice1 [hKernel1Ideal : Cert.Kernel1Ideal.Facts] [hPre_scales_twice1 : Cert.Pre_scales_twice1.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal_scales_twice1 m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7))
      ∧ r.2.sem = fun _ => 0)

def quiescent_Reference1Ideal_pre_scales_twice1 [hReference1Ideal : Cert.Reference1Ideal.Facts] [hPre_scales_twice1 : Cert.Pre_scales_twice1.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal_scales_twice1 m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_scales_twice2 [hKernel2Ideal : Cert.Kernel2Ideal.Facts] [hPre_scales_twice2 : Cert.Pre_scales_twice2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_scales_twice2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_scales_twice2 [hReference2Ideal : Cert.Reference2Ideal.Facts] [hPre_scales_twice2 : Cert.Pre_scales_twice2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_scales_twice2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_scales_twice3 [hKernel3Ideal : Cert.Kernel3Ideal.Facts] [hPre_scales_twice3 : Cert.Pre_scales_twice3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_scales_twice3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_scales_twice3 [hReference3Ideal : Cert.Reference3Ideal.Facts] [hPre_scales_twice3 : Cert.Pre_scales_twice3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_scales_twice3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  IdealRules.named_const.Statement Cert.KernelIdeal.κ "log2e_8" .f32 0x3E38AA3B#32 (((8 * (Real.log 2))⁻¹ : ℝ) : EReal)

def algebraic_KernelIdeal_ReferenceIdeal_pre_scales_twice [hKernelIdeal : Cert.KernelIdeal.Facts] [hReferenceIdeal : Cert.ReferenceIdeal.Facts] [hPre_scales_twice : Cert.Pre_scales_twice.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_twice m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel1_Kernel1Ideal : Prop :=
  IdealRules.named_const.Statement Cert.Kernel1Ideal.κ "log2e_8" .f32 0x3E38AA3B#32 (((8 * (Real.log 2))⁻¹ : ℝ) : EReal)

def algebraic_Kernel1Ideal_Reference1Ideal_pre_scales_twice1 [hKernel1Ideal : Cert.Kernel1Ideal.Facts] [hReference1Ideal : Cert.Reference1Ideal.Facts] [hPre_scales_twice1 : Cert.Pre_scales_twice1.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal_scales_twice1 m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
      ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)
      ∧ m' ((c.tc : Thread Cert.Reference1Ideal.nD Cert.Reference1Ideal.τ).loc Cert.Reference1Ideal.main_arg7) = m ((c.tc : Thread Cert.Kernel1Ideal.nD Cert.Kernel1Ideal.τ).loc Cert.Kernel1Ideal.main_arg7)) →
    ∃ (v0 : (c : Dev Cert.Kernel1Ideal.nD) → Buf (Elt Ideal) ((c.tc : Thread Cert.Kernel1Ideal.nD Cert.Kernel1Ideal.τ).loc Cert.Kernel1Ideal.main_v29)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v29) = v0 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
          ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
          ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v125) = v0 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5)
          ∧ r.2.mem ((c.tc : Thread Cert.Reference1Ideal.nD Cert.Reference1Ideal.τ).loc Cert.Reference1Ideal.main_arg6) = m' ((c.tc : Thread Cert.Reference1Ideal.nD Cert.Reference1Ideal.τ).loc Cert.Reference1Ideal.main_arg6)
          ∧ r.2.mem ((c.tc : Thread Cert.Reference1Ideal.nD Cert.Reference1Ideal.τ).loc Cert.Reference1Ideal.main_arg7) = m' ((c.tc : Thread Cert.Reference1Ideal.nD Cert.Reference1Ideal.τ).loc Cert.Reference1Ideal.main_arg7))

def preserves_Kernel2_Kernel2Ideal : Prop :=
  IdealRules.named_const.Statement Cert.Kernel2Ideal.κ "log2e_8" .f32 0x3E38AA3B#32 (((8 * (Real.log 2))⁻¹ : ℝ) : EReal)

def algebraic_Kernel2Ideal_Reference2Ideal_pre_scales_twice2 [hKernel2Ideal : Cert.Kernel2Ideal.Facts] [hReference2Ideal : Cert.Reference2Ideal.Facts] [hPre_scales_twice2 : Cert.Pre_scales_twice2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_scales_twice2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v29)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v125) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "log2e_8" .f32 0x3E38AA3B#32 (((8 * (Real.log 2))⁻¹ : ℝ) : EReal)

def algebraic_Kernel3Ideal_Reference3Ideal_pre_scales_twice3 [hKernel3Ideal : Cert.Kernel3Ideal.Facts] [hReference3Ideal : Cert.Reference3Ideal.Facts] [hPre_scales_twice3 : Cert.Pre_scales_twice3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_scales_twice3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v29)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v125) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel1 : Cert.Kernel1.Facts) (hKernel1Ideal : Cert.Kernel1Ideal.Facts) (hReference1Ideal : Cert.Reference1Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_scales_twice : Cert.Pre_scales_twice.Facts) (hPre_scales_twice1 : Cert.Pre_scales_twice1.Facts) (hPre_scales_twice2 : Cert.Pre_scales_twice2.Facts) (hPre_scales_twice3 : Cert.Pre_scales_twice3.Facts),
    quiescent_Kernel (hKernel := hKernel)
    ∧ quiescent_KernelIdeal (hKernelIdeal := hKernelIdeal)
    ∧ quiescent_KernelIdeal_pre_scales_twice (hKernelIdeal := hKernelIdeal) (hPre_scales_twice := hPre_scales_twice)
    ∧ quiescent_ReferenceIdeal (hReferenceIdeal := hReferenceIdeal)
    ∧ quiescent_ReferenceIdeal_pre_scales_twice (hReferenceIdeal := hReferenceIdeal) (hPre_scales_twice := hPre_scales_twice)
    ∧ quiescent_Kernel1 (hKernel1 := hKernel1)
    ∧ quiescent_Kernel1Ideal (hKernel1Ideal := hKernel1Ideal)
    ∧ quiescent_Kernel1Ideal_pre_scales_twice1 (hKernel1Ideal := hKernel1Ideal) (hPre_scales_twice1 := hPre_scales_twice1)
    ∧ quiescent_Reference1Ideal (hReference1Ideal := hReference1Ideal)
    ∧ quiescent_Reference1Ideal_pre_scales_twice1 (hReference1Ideal := hReference1Ideal) (hPre_scales_twice1 := hPre_scales_twice1)
    ∧ quiescent_Kernel2 (hKernel2 := hKernel2)
    ∧ quiescent_Kernel2Ideal (hKernel2Ideal := hKernel2Ideal)
    ∧ quiescent_Kernel2Ideal_pre_scales_twice2 (hKernel2Ideal := hKernel2Ideal) (hPre_scales_twice2 := hPre_scales_twice2)
    ∧ quiescent_Reference2Ideal (hReference2Ideal := hReference2Ideal)
    ∧ quiescent_Reference2Ideal_pre_scales_twice2 (hReference2Ideal := hReference2Ideal) (hPre_scales_twice2 := hPre_scales_twice2)
    ∧ quiescent_Kernel3 (hKernel3 := hKernel3)
    ∧ quiescent_Kernel3Ideal (hKernel3Ideal := hKernel3Ideal)
    ∧ quiescent_Kernel3Ideal_pre_scales_twice3 (hKernel3Ideal := hKernel3Ideal) (hPre_scales_twice3 := hPre_scales_twice3)
    ∧ quiescent_Reference3Ideal (hReference3Ideal := hReference3Ideal)
    ∧ quiescent_Reference3Ideal_pre_scales_twice3 (hReference3Ideal := hReference3Ideal) (hPre_scales_twice3 := hPre_scales_twice3)
    ∧ preserves_Kernel_KernelIdeal
    ∧ algebraic_KernelIdeal_ReferenceIdeal_pre_scales_twice (hKernelIdeal := hKernelIdeal) (hReferenceIdeal := hReferenceIdeal) (hPre_scales_twice := hPre_scales_twice)
    ∧ preserves_Kernel1_Kernel1Ideal
    ∧ algebraic_Kernel1Ideal_Reference1Ideal_pre_scales_twice1 (hKernel1Ideal := hKernel1Ideal) (hReference1Ideal := hReference1Ideal) (hPre_scales_twice1 := hPre_scales_twice1)
    ∧ preserves_Kernel2_Kernel2Ideal
    ∧ algebraic_Kernel2Ideal_Reference2Ideal_pre_scales_twice2 (hKernel2Ideal := hKernel2Ideal) (hReference2Ideal := hReference2Ideal) (hPre_scales_twice2 := hPre_scales_twice2)
    ∧ preserves_Kernel3_Kernel3Ideal
    ∧ algebraic_Kernel3Ideal_Reference3Ideal_pre_scales_twice3 (hKernel3Ideal := hKernel3Ideal) (hReference3Ideal := hReference3Ideal) (hPre_scales_twice3 := hPre_scales_twice3)
-- ==== Pre_scales_twice.lean ====
abbrev S120x6x20x64 : Shape := ⟨4, ![120, 6, 20, 64]⟩
abbrev S120x6x4x64 : Shape := ⟨4, ![120, 6, 4, 64]⟩
abbrev S15360x128 : Shape := ⟨2, ![15360, 128]⟩
abbrev S61440x128 : Shape := ⟨2, ![61440, 128]⟩
abbrev S120 : Shape := ⟨1, ![120]⟩
abbrev S120x4x128 : Shape := ⟨3, ![120, 4, 128]⟩
abbrev S15360x64 : Shape := ⟨2, ![15360, 64]⟩
abbrev S120x1x128 : Shape := ⟨3, ![120, 1, 128]⟩
abbrev S120x128 : Shape := ⟨2, ![120, 128]⟩
abbrev S15360x1 : Shape := ⟨2, ![15360, 1]⟩
abbrev S_ : Shape := ⟨0, ![]⟩

class Facts : Prop where
  slices_S61440x128_S15360x64_0_0 : S61440x128.Slices ![0, 0] S15360x64
  slices_S120x4x128_S120x1x128_0_0_0 : S120x4x128.Slices ![0, 0, 0] S120x1x128
  shapeCasts_S120x1x128_S120x128 : S120x1x128.ShapeCasts S120x128
  shapeCasts_S120x128_S15360x1 : S120x128.ShapeCasts S15360x1
  bcast_S_S15360x1 : S_.BroadcastsInDim S15360x1 (![] : Fin 0 → Fin S15360x1.rank)
  bcast_S_S15360x64 : S_.BroadcastsInDim S15360x64 (![] : Fin 0 → Fin S15360x64.rank)
  bcast_S15360x1_S15360x64_0_1 : S15360x1.BroadcastsInDim S15360x64 (![0, 1] : Fin 2 → Fin S15360x64.rank)

variable [Facts]

def fn {F : FTy → Type} [FloatOps F] (main_arg0 : FVec F S120x6x20x64 .bf16) (main_arg1 : FVec F S120x6x4x64 .bf16) (main_arg2 : FVec F S120x6x4x64 .bf16) (main_arg3 : IVec S15360x128 32) (main_arg4 : IVec S15360x128 32) (main_arg5 : IVec S61440x128 32) (main_arg6 : IVec S120 32) (main_arg7 : IVec S120x4x128 32) : IVec S15360x64 1 :=
  let main_v0 : IVec S15360x64 32 := (extractStridedSlice S15360x64 ![0, 0] · slices_S61440x128_S15360x64_0_0) main_arg5
  let main_v1 : IVec S120x1x128 32 := (extractStridedSlice S120x1x128 ![0, 0, 0] · slices_S120x4x128_S120x1x128_0_0_0) main_arg7
  let main_v2 : IVec S120x128 32 := shapeCast S120x128 main_v1 shapeCasts_S120x1x128_S120x128
  let main_v3 : IVec S15360x1 32 := shapeCast S15360x1 main_v2 shapeCasts_S120x128_S15360x1
  let main_c : IVec S_ 32 := constantI S_ 32 0#32
  let main_v4 : IVec S15360x1 32 := broadcastInDim S15360x1 ![] bcast_S_S15360x1 main_c
  let main_v5 : IVec S15360x1 1 := cmpi .slt main_v3 main_v4
  let main_c_0 : IVec S_ 32 := constantI S_ 32 65535#32
  let main_v6 : IVec S15360x64 32 := broadcastInDim S15360x64 ![] bcast_S_S15360x64 main_c_0
  let main_v7 : IVec S15360x64 32 := andi main_v0 main_v6
  let main_c_1 : IVec S_ 32 := constantI S_ 32 16#32
  let main_v8 : IVec S15360x64 32 := broadcastInDim S15360x64 ![] bcast_S_S15360x64 main_c_1
  let main_v9 : IVec S15360x64 32 := Host.shrui main_v0 main_v8
  let main_v10 : IVec S15360x64 1 := cmpi .eq main_v7 main_v9
  let main_v11 : IVec S15360x64 1 := broadcastInDim S15360x64 ![0, 1] bcast_S15360x1_S15360x64_0_1 main_v5
  let main_v12 : IVec S15360x64 1 := ori main_v11 main_v10
  main_v12
-- ==== Pre_scales_twice1.lean ====
abbrev S120x6x20x64 : Shape := ⟨4, ![120, 6, 20, 64]⟩
abbrev S120x6x4x64 : Shape := ⟨4, ![120, 6, 4, 64]⟩
abbrev S15360x128 : Shape := ⟨2, ![15360, 128]⟩
abbrev S61440x128 : Shape := ⟨2, ![61440, 128]⟩
abbrev S120 : Shape := ⟨1, ![120]⟩
abbrev S120x4x128 : Shape := ⟨3, ![120, 4, 128]⟩
abbrev S15360x64 : Shape := ⟨2, ![15360, 64]⟩
abbrev S120x1x128 : Shape := ⟨3, ![120, 1, 128]⟩
abbrev S120x128 : Shape := ⟨2, ![120, 128]⟩
abbrev S15360x1 : Shape := ⟨2, ![15360, 1]⟩
abbrev S_ : Shape := ⟨0, ![]⟩

class Facts : Prop where
  slices_S61440x128_S15360x64_15360_0 : S61440x128.Slices ![15360, 0] S15360x64
  slices_S120x4x128_S120x1x128_0_1_0 : S120x4x128.Slices ![0, 1, 0] S120x1x128
  shapeCasts_S120x1x128_S120x128 : S120x1x128.ShapeCasts S120x128
  shapeCasts_S120x128_S15360x1 : S120x128.ShapeCasts S15360x1
  bcast_S_S15360x1 : S_.BroadcastsInDim S15360x1 (![] : Fin 0 → Fin S15360x1.rank)
  bcast_S_S15360x64 : S_.BroadcastsInDim S15360x64 (![] : Fin 0 → Fin S15360x64.rank)
  bcast_S15360x1_S15360x64_0_1 : S15360x1.BroadcastsInDim S15360x64 (![0, 1] : Fin 2 → Fin S15360x64.rank)

variable [Facts]

def fn {F : FTy → Type} [FloatOps F] (main_arg0 : FVec F S120x6x20x64 .bf16) (main_arg1 : FVec F S120x6x4x64 .bf16) (main_arg2 : FVec F S120x6x4x64 .bf16) (main_arg3 : IVec S15360x128 32) (main_arg4 : IVec S15360x128 32) (main_arg5 : IVec S61440x128 32) (main_arg6 : IVec S120 32) (main_arg7 : IVec S120x4x128 32) : IVec S15360x64 1 :=
  let main_v0 : IVec S15360x64 32 := (extractStridedSlice S15360x64 ![15360, 0] · slices_S61440x128_S15360x64_15360_0) main_arg5
  let main_v1 : IVec S120x1x128 32 := (extractStridedSlice S120x1x128 ![0, 1, 0] · slices_S120x4x128_S120x1x128_0_1_0) main_arg7
  let main_v2 : IVec S120x128 32 := shapeCast S120x128 main_v1 shapeCasts_S120x1x128_S120x128
  let main_v3 : IVec S15360x1 32 := shapeCast S15360x1 main_v2 shapeCasts_S120x128_S15360x1
  let main_c : IVec S_ 32 := constantI S_ 32 0#32
  let main_v4 : IVec S15360x1 32 := broadcastInDim S15360x1 ![] bcast_S_S15360x1 main_c
  let main_v5 : IVec S15360x1 1 := cmpi .slt main_v3 main_v4
  let main_c_0 : IVec S_ 32 := constantI S_ 32 65535#32
  let main_v6 : IVec S15360x64 32 := broadcastInDim S15360x64 ![] bcast_S_S15360x64 main_c_0
  let main_v7 : IVec S15360x64 32 := andi main_v0 main_v6
  let main_c_1 : IVec S_ 32 := constantI S_ 32 16#32
  let main_v8 : IVec S15360x64 32 := broadcastInDim S15360x64 ![] bcast_S_S15360x64 main_c_1
  let main_v9 : IVec S15360x64 32 := Host.shrui main_v0 main_v8
  let main_v10 : IVec S15360x64 1 := cmpi .eq main_v7 main_v9
  let main_v11 : IVec S15360x64 1 := broadcastInDim S15360x64 ![0, 1] bcast_S15360x1_S15360x64_0_1 main_v5
  let main_v12 : IVec S15360x64 1 := ori main_v11 main_v10
  main_v12
-- ==== Pre_scales_twice2.lean ====
abbrev S120x6x20x64 : Shape := ⟨4, ![120, 6, 20, 64]⟩
abbrev S120x6x4x64 : Shape := ⟨4, ![120, 6, 4, 64]⟩
abbrev S15360x128 : Shape := ⟨2, ![15360, 128]⟩
abbrev S61440x128 : Shape := ⟨2, ![61440, 128]⟩
abbrev S120 : Shape := ⟨1, ![120]⟩
abbrev S120x4x128 : Shape := ⟨3, ![120, 4, 128]⟩
abbrev S15360x64 : Shape := ⟨2, ![15360, 64]⟩
abbrev S120x1x128 : Shape := ⟨3, ![120, 1, 128]⟩
abbrev S120x128 : Shape := ⟨2, ![120, 128]⟩
abbrev S15360x1 : Shape := ⟨2, ![15360, 1]⟩
abbrev S_ : Shape := ⟨0, ![]⟩

class Facts : Prop where
  slices_S61440x128_S15360x64_30720_0 : S61440x128.Slices ![30720, 0] S15360x64
  slices_S120x4x128_S120x1x128_0_2_0 : S120x4x128.Slices ![0, 2, 0] S120x1x128
  shapeCasts_S120x1x128_S120x128 : S120x1x128.ShapeCasts S120x128
  shapeCasts_S120x128_S15360x1 : S120x128.ShapeCasts S15360x1
  bcast_S_S15360x1 : S_.BroadcastsInDim S15360x1 (![] : Fin 0 → Fin S15360x1.rank)
  bcast_S_S15360x64 : S_.BroadcastsInDim S15360x64 (![] : Fin 0 → Fin S15360x64.rank)
  bcast_S15360x1_S15360x64_0_1 : S15360x1.BroadcastsInDim S15360x64 (![0, 1] : Fin 2 → Fin S15360x64.rank)

variable [Facts]

def fn {F : FTy → Type} [FloatOps F] (main_arg0 : FVec F S120x6x20x64 .bf16) (main_arg1 : FVec F S120x6x4x64 .bf16) (main_arg2 : FVec F S120x6x4x64 .bf16) (main_arg3 : IVec S15360x128 32) (main_arg4 : IVec S15360x128 32) (main_arg5 : IVec S61440x128 32) (main_arg6 : IVec S120 32) (main_arg7 : IVec S120x4x128 32) : IVec S15360x64 1 :=
  let main_v0 : IVec S15360x64 32 := (extractStridedSlice S15360x64 ![30720, 0] · slices_S61440x128_S15360x64_30720_0) main_arg5
  let main_v1 : IVec S120x1x128 32 := (extractStridedSlice S120x1x128 ![0, 2, 0] · slices_S120x4x128_S120x1x128_0_2_0) main_arg7
  let main_v2 : IVec S120x128 32 := shapeCast S120x128 main_v1 shapeCasts_S120x1x128_S120x128
  let main_v3 : IVec S15360x1 32 := shapeCast S15360x1 main_v2 shapeCasts_S120x128_S15360x1
  let main_c : IVec S_ 32 := constantI S_ 32 0#32
  let main_v4 : IVec S15360x1 32 := broadcastInDim S15360x1 ![] bcast_S_S15360x1 main_c
  let main_v5 : IVec S15360x1 1 := cmpi .slt main_v3 main_v4
  let main_c_0 : IVec S_ 32 := constantI S_ 32 65535#32
  let main_v6 : IVec S15360x64 32 := broadcastInDim S15360x64 ![] bcast_S_S15360x64 main_c_0
  let main_v7 : IVec S15360x64 32 := andi main_v0 main_v6
  let main_c_1 : IVec S_ 32 := constantI S_ 32 16#32
  let main_v8 : IVec S15360x64 32 := broadcastInDim S15360x64 ![] bcast_S_S15360x64 main_c_1
  let main_v9 : IVec S15360x64 32 := Host.shrui main_v0 main_v8
  let main_v10 : IVec S15360x64 1 := cmpi .eq main_v7 main_v9
  let main_v11 : IVec S15360x64 1 := broadcastInDim S15360x64 ![0, 1] bcast_S15360x1_S15360x64_0_1 main_v5
  let main_v12 : IVec S15360x64 1 := ori main_v11 main_v10
  main_v12
-- ==== Pre_scales_twice3.lean ====
abbrev S120x6x20x64 : Shape := ⟨4, ![120, 6, 20, 64]⟩
abbrev S120x6x4x64 : Shape := ⟨4, ![120, 6, 4, 64]⟩
abbrev S15360x128 : Shape := ⟨2, ![15360, 128]⟩
abbrev S61440x128 : Shape := ⟨2, ![61440, 128]⟩
abbrev S120 : Shape := ⟨1, ![120]⟩
abbrev S120x4x128 : Shape := ⟨3, ![120, 4, 128]⟩
abbrev S15360x64 : Shape := ⟨2, ![15360, 64]⟩
abbrev S120x1x128 : Shape := ⟨3, ![120, 1, 128]⟩
abbrev S120x128 : Shape := ⟨2, ![120, 128]⟩
abbrev S15360x1 : Shape := ⟨2, ![15360, 1]⟩
abbrev S_ : Shape := ⟨0, ![]⟩

class Facts : Prop where
  slices_S61440x128_S15360x64_46080_0 : S61440x128.Slices ![46080, 0] S15360x64
  slices_S120x4x128_S120x1x128_0_3_0 : S120x4x128.Slices ![0, 3, 0] S120x1x128
  shapeCasts_S120x1x128_S120x128 : S120x1x128.ShapeCasts S120x128
  shapeCasts_S120x128_S15360x1 : S120x128.ShapeCasts S15360x1
  bcast_S_S15360x1 : S_.BroadcastsInDim S15360x1 (![] : Fin 0 → Fin S15360x1.rank)
  bcast_S_S15360x64 : S_.BroadcastsInDim S15360x64 (![] : Fin 0 → Fin S15360x64.rank)
  bcast_S15360x1_S15360x64_0_1 : S15360x1.BroadcastsInDim S15360x64 (![0, 1] : Fin 2 → Fin S15360x64.rank)

variable [Facts]

def fn {F : FTy → Type} [FloatOps F] (main_arg0 : FVec F S120x6x20x64 .bf16) (main_arg1 : FVec F S120x6x4x64 .bf16) (main_arg2 : FVec F S120x6x4x64 .bf16) (main_arg3 : IVec S15360x128 32) (main_arg4 : IVec S15360x128 32) (main_arg5 : IVec S61440x128 32) (main_arg6 : IVec S120 32) (main_arg7 : IVec S120x4x128 32) : IVec S15360x64 1 :=
  let main_v0 : IVec S15360x64 32 := (extractStridedSlice S15360x64 ![46080, 0] · slices_S61440x128_S15360x64_46080_0) main_arg5
  let main_v1 : IVec S120x1x128 32 := (extractStridedSlice S120x1x128 ![0, 3, 0] · slices_S120x4x128_S120x1x128_0_3_0) main_arg7
  let main_v2 : IVec S120x128 32 := shapeCast S120x128 main_v1 shapeCasts_S120x1x128_S120x128
  let main_v3 : IVec S15360x1 32 := shapeCast S15360x1 main_v2 shapeCasts_S120x128_S15360x1
  let main_c : IVec S_ 32 := constantI S_ 32 0#32
  let main_v4 : IVec S15360x1 32 := broadcastInDim S15360x1 ![] bcast_S_S15360x1 main_c
  let main_v5 : IVec S15360x1 1 := cmpi .slt main_v3 main_v4
  let main_c_0 : IVec S_ 32 := constantI S_ 32 65535#32
  let main_v6 : IVec S15360x64 32 := broadcastInDim S15360x64 ![] bcast_S_S15360x64 main_c_0
  let main_v7 : IVec S15360x64 32 := andi main_v0 main_v6
  let main_c_1 : IVec S_ 32 := constantI S_ 32 16#32
  let main_v8 : IVec S15360x64 32 := broadcastInDim S15360x64 ![] bcast_S_S15360x64 main_c_1
  let main_v9 : IVec S15360x64 32 := Host.shrui main_v0 main_v8
  let main_v10 : IVec S15360x64 1 := cmpi .eq main_v7 main_v9
  let main_v11 : IVec S15360x64 1 := broadcastInDim S15360x64 ![0, 1] bcast_S15360x1_S15360x64_0_1 main_v5
  let main_v12 : IVec S15360x64 1 := ori main_v11 main_v10
  main_v12
-- ==== Kernel.lean ====
abbrev S120x6x20x64 : Shape := ⟨4, ![120, 6, 20, 64]⟩
abbrev S120x6x4x64 : Shape := ⟨4, ![120, 6, 4, 64]⟩
abbrev S15360x128 : Shape := ⟨2, ![15360, 128]⟩
abbrev S61440x128 : Shape := ⟨2, ![61440, 128]⟩
abbrev S120 : Shape := ⟨1, ![120]⟩
abbrev S120x4x128 : Shape := ⟨3, ![120, 4, 128]⟩
abbrev S4x120x128 : Shape := ⟨3, ![4, 120, 128]⟩
abbrev S120x6x4x5x64 : Shape := ⟨5, ![120, 6, 4, 5, 64]⟩
abbrev S120x6x4x5x2x8x2x2 : Shape := ⟨8, ![120, 6, 4, 5, 2, 8, 2, 2]⟩
abbrev S120x6x4x5x2x2x8x2 : Shape := ⟨8, ![120, 6, 4, 5, 2, 2, 8, 2]⟩
abbrev S4x120x6x5x64 : Shape := ⟨5, ![4, 120, 6, 5, 64]⟩
abbrev S4x120x30x64 : Shape := ⟨4, ![4, 120, 30, 64]⟩
abbrev S_ : Shape := ⟨0, ![]⟩
abbrev S4x120x32x64 : Shape := ⟨4, ![4, 120, 32, 64]⟩
abbrev S120x6x4x2x8x2x2 : Shape := ⟨7, ![120, 6, 4, 2, 8, 2, 2]⟩
abbrev S120x6x4x2x2x8x2 : Shape := ⟨7, ![120, 6, 4, 2, 2, 8, 2]⟩
abbrev S120x8x4x64 : Shape := ⟨4, ![120, 8, 4, 64]⟩
abbrev S4x64x120x8 : Shape := ⟨4, ![4, 64, 120, 8]⟩
abbrev S4x64x960 : Shape := ⟨3, ![4, 64, 960]⟩
abbrev S4x64x1024 : Shape := ⟨3, ![4, 64, 1024]⟩
abbrev S120x6x4x8x2x4 : Shape := ⟨6, ![120, 6, 4, 8, 2, 4]⟩
abbrev S120x6x4x4x8x2 : Shape := ⟨6, ![120, 6, 4, 4, 8, 2]⟩
abbrev S1x120x32x64 : Shape := ⟨4, ![1, 120, 32, 64]⟩
abbrev S1024x128 : Shape := ⟨2, ![1024, 128]⟩
abbrev S1x8x128 : Shape := ⟨3, ![1, 8, 128]⟩
abbrev S1x8x32x64 : Shape := ⟨4, ![1, 8, 32, 64]⟩
abbrev S1x64x128 : Shape := ⟨3, ![1, 64, 128]⟩
abbrev S64x128 : Shape := ⟨2, ![64, 128]⟩
abbrev S8x128 : Shape := ⟨2, ![8, 128]⟩
abbrev S32x128 : Shape := ⟨2, ![32, 128]⟩
abbrev S1x1x128 : Shape := ⟨3, ![1, 1, 128]⟩
abbrev S1x128 : Shape := ⟨2, ![1, 128]⟩
abbrev S1 : Shape := ⟨1, ![1]⟩
abbrev S128x128 : Shape := ⟨2, ![128, 128]⟩
abbrev S1x1x32x64 : Shape := ⟨4, ![1, 1, 32, 64]⟩
abbrev S32x64 : Shape := ⟨2, ![32, 64]⟩
abbrev S16x128 : Shape := ⟨2, ![16, 128]⟩
abbrev S64x256 : Shape := ⟨2, ![64, 256]⟩
abbrev S32x256 : Shape := ⟨2, ![32, 256]⟩
abbrev S32 : Shape := ⟨1, ![32]⟩
abbrev S32x1 : Shape := ⟨2, ![32, 1]⟩
abbrev S32x2176 : Shape := ⟨2, ![32, 2176]⟩
abbrev S64x2176 : Shape := ⟨2, ![64, 2176]⟩
abbrev S1x120x30x64 : Shape := ⟨4, ![1, 120, 30, 64]⟩
abbrev S1x120x30x4x8x2 : Shape := ⟨6, ![1, 120, 30, 4, 8, 2]⟩
abbrev S1x120x30x8x2x4 : Shape := ⟨6, ![1, 120, 30, 8, 2, 4]⟩
abbrev S1x120x6x5x64 : Shape := ⟨5, ![1, 120, 6, 5, 64]⟩
abbrev S120x6x1x5x64 : Shape := ⟨5, ![120, 6, 1, 5, 64]⟩
abbrev S120x6x5x64 : Shape := ⟨4, ![120, 6, 5, 64]⟩

abbrev nBuf : Space → Nat
  | .hbm => 47
  | .vmem => 17
  | .smem => 1
  | _ => 0

abbrev bufTy : (tb : Table) → Fin (tcTables nBuf tb) → BufTy
  | .hbm, ⟨0, _⟩ => ⟨S120x6x20x64, .bf16⟩
  | .hbm, ⟨1, _⟩ => ⟨S120x6x4x64, .bf16⟩
  | .hbm, ⟨2, _⟩ => ⟨S120x6x4x64, .bf16⟩
  | .hbm, ⟨3, _⟩ => ⟨S15360x128, .i32⟩
  | .hbm, ⟨4, _⟩ => ⟨S15360x128, .i32⟩
  | .hbm, ⟨5, _⟩ => ⟨S61440x128, .i32⟩
  | .hbm, ⟨6, _⟩ => ⟨S120x4x128, .i32⟩
  | .hbm, ⟨7, _⟩ => ⟨S4x120x128, .i32⟩
  | .hbm, ⟨8, _⟩ => ⟨S120x6x4x5x64, .bf16⟩
  | .hbm, ⟨9, _⟩ => ⟨S120x6x4x5x2x8x2x2, .bf16⟩
  | .hbm, ⟨10, _⟩ => ⟨S120x6x4x5x2x2x8x2, .bf16⟩
  | .hbm, ⟨11, _⟩ => ⟨S120x6x4x5x64, .bf16⟩
  | .hbm, ⟨12, _⟩ => ⟨S4x120x6x5x64, .bf16⟩
  | .hbm, ⟨13, _⟩ => ⟨S4x120x30x64, .bf16⟩
  | .hbm, ⟨14, _⟩ => ⟨S_, .i32⟩
  | .hbm, ⟨15, _⟩ => ⟨S_, .bf16⟩
  | .hbm, ⟨16, _⟩ => ⟨S4x120x32x64, .bf16⟩
  | .hbm, ⟨17, _⟩ => ⟨S120x6x4x2x8x2x2, .bf16⟩
  | .hbm, ⟨18, _⟩ => ⟨S120x6x4x2x2x8x2, .bf16⟩
  | .hbm, ⟨19, _⟩ => ⟨S120x6x4x64, .bf16⟩
  | .hbm, ⟨20, _⟩ => ⟨S_, .i32⟩
  | .hbm, ⟨21, _⟩ => ⟨S_, .bf16⟩
  | .hbm, ⟨22, _⟩ => ⟨S120x8x4x64, .bf16⟩
  | .hbm, ⟨23, _⟩ => ⟨S4x64x120x8, .bf16⟩
  | .hbm, ⟨24, _⟩ => ⟨S4x64x960, .bf16⟩
  | .hbm, ⟨25, _⟩ => ⟨S_, .i32⟩
  | .hbm, ⟨26, _⟩ => ⟨S_, .bf16⟩
  | .hbm, ⟨27, _⟩ => ⟨S4x64x1024, .bf16⟩
  | .hbm, ⟨28, _⟩ => ⟨S120x6x4x8x2x4, .bf16⟩
  | .hbm, ⟨29, _⟩ => ⟨S120x6x4x4x8x2, .bf16⟩
  | .hbm, ⟨30, _⟩ => ⟨S120x6x4x64, .bf16⟩
  | .hbm, ⟨31, _⟩ => ⟨S_, .i32⟩
  | .hbm, ⟨32, _⟩ => ⟨S_, .bf16⟩
  | .hbm, ⟨33, _⟩ => ⟨S120x8x4x64, .bf16⟩
  | .hbm, ⟨34, _⟩ => ⟨S4x64x120x8, .bf16⟩
  | .hbm, ⟨35, _⟩ => ⟨S4x64x960, .bf16⟩
  | .hbm, ⟨36, _⟩ => ⟨S_, .i32⟩
  | .hbm, ⟨37, _⟩ => ⟨S_, .bf16⟩
  | .hbm, ⟨38, _⟩ => ⟨S4x64x1024, .bf16⟩
  | .hbm, ⟨39, _⟩ => ⟨S1x120x32x64, .bf16⟩
  | .hbm, ⟨40, _⟩ => ⟨S1x120x30x64, .bf16⟩
  | .hbm, ⟨41, _⟩ => ⟨S1x120x30x4x8x2, .bf16⟩
  | .hbm, ⟨42, _⟩ => ⟨S1x120x30x8x2x4, .bf16⟩
  | .hbm, ⟨43, _⟩ => ⟨S1x120x30x64, .bf16⟩
  | .hbm, ⟨44, _⟩ => ⟨S1x120x6x5x64, .bf16⟩
  | .hbm, ⟨45, _⟩ => ⟨S120x6x1x5x64, .bf16⟩
  | .hbm, ⟨46, _⟩ => ⟨S120x6x5x64, .bf16⟩
  | .local _ .vmem, ⟨0, _⟩ => ⟨S1024x128, .i32⟩
  | .local _ .vmem, ⟨1, _⟩ => ⟨S1024x128, .i32⟩
  | .local _ .vmem, ⟨2, _⟩ => ⟨S1024x128, .i32⟩
  | .local _ .vmem, ⟨3, _⟩ => ⟨S1024x128, .i32⟩
  | .local _ .vmem, ⟨4, _⟩ => ⟨S1024x128, .i32⟩
  | .local _ .vmem, ⟨5, _⟩ => ⟨S1024x128, .i32⟩
  | .local _ .vmem, ⟨6, _⟩ => ⟨S1x8x128, .i32⟩
  | .local _ .vmem, ⟨7, _⟩ => ⟨S1x8x128, .i32⟩
  | .local _ .vmem, ⟨8, _⟩ => ⟨S1x8x32x64, .bf16⟩
  | .local _ .vmem, ⟨9, _⟩ => ⟨S1x8x32x64, .bf16⟩
  | .local _ .vmem, ⟨10, _⟩ => ⟨S1x64x128, .bf16⟩
  | .local _ .vmem, ⟨11, _⟩ => ⟨S1x64x128, .bf16⟩
  | .local _ .vmem, ⟨12, _⟩ => ⟨S1x64x128, .bf16⟩
  | .local _ .vmem, ⟨13, _⟩ => ⟨S1x64x128, .bf16⟩
  | .local _ .vmem, ⟨14, _⟩ => ⟨S1x8x32x64, .bf16⟩
  | .local _ .vmem, ⟨15, _⟩ => ⟨S1x8x32x64, .bf16⟩
  | .local _ .vmem, ⟨16, _⟩ => ⟨S64x128, .i32⟩
  | .local _ .smem, ⟨0, _⟩ => ⟨S120, .i32⟩
  | _, _ => ⟨S120x6x20x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_call3_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_call4_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![15], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_off1 (k0_t1 : Fin k0_t1_loop.trips) : Fin 3 → Nat :=
  let c0 : Index := 0#32
  let c0_i32 : BitVec 32 := 0#32
  let c1_i32 : BitVec 32 := 1#32
  let arg11 : BitVec 32 := Scf.iv c0_i32 c1_i32 k0_t1
  let v6 : Index := Scalar.indexCast arg11
  let c0_2 : Index := 0#32
  ![0, v6.toNat, 0]
def k0_off2 (i : grid0.Coords) (k0_t1 : Fin k0_t1_loop.trips) : Fin 1 → Nat :=
  let arg0 : BitVec 32 := BitVec.ofNat 32 (i 0).val
  let c8_i32_1 : BitVec 32 := 8#32
  let v4 : BitVec 32 := Scalar.muli arg0 c8_i32_1
  let c0_i32 : BitVec 32 := 0#32
  let c1_i32 : BitVec 32 := 1#32
  let arg11 : BitVec 32 := Scf.iv c0_i32 c1_i32 k0_t1
  let v5 : BitVec 32 := Scalar.addi v4 arg11
  let v11 : Index := Scalar.indexCast v5
  ![v11.toNat]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v21 : BitVec 32 := Scalar.muli arg11 c128_i32
  let v22 : Index := Scalar.indexCast v21
  let c0_5 : Index := 0#32
  ![v22.toNat, 0]
def k0_off4 (k0_t1 : Fin k0_t1_loop.trips) : Fin 4 → Nat :=
  let c0_11 : Index := 0#32
  let c0_i32 : BitVec 32 := 0#32
  let c1_i32 : BitVec 32 := 1#32
  let arg11 : BitVec 32 := Scf.iv c0_i32 c1_i32 k0_t1
  let v39 : Index := Scalar.indexCast arg11
  let c0_12 : Index := 0#32
  let c0_13 : Index := 0#32
  ![0, v39.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let c8_i32 : BitVec 32 := 8#32
  let v0 : BitVec 32 := Scalar.muli arg0 c8_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![c0_i32_4.toNat, c0_i32_5.toNat, v17.toNat]

def cc0_transform_6 (i : grid0.Coords) : Fin 3 → Nat :=
  let arg0 : BitVec 32 := BitVec.ofNat 32 (i 0).val
  let c8_i32 : BitVec 32 := 8#32
  let v0 : BitVec 32 := Scalar.muli arg0 c8_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![c0_i32_4.toNat, c0_i32_5.toNat, v17.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x32x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x32x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
abbrev S120x6x20x64 : Shape := ⟨4, ![120, 6, 20, 64]⟩
abbrev S120x6x4x64 : Shape := ⟨4, ![120, 6, 4, 64]⟩
abbrev S15360x128 : Shape := ⟨2, ![15360, 128]⟩
abbrev S61440x128 : Shape := ⟨2, ![61440, 128]⟩
abbrev S120 : Shape := ⟨1, ![120]⟩
abbrev S120x4x128 : Shape := ⟨3, ![120, 4, 128]⟩
abbrev S4x120x128 : Shape := ⟨3, ![4, 120, 128]⟩
abbrev S120x6x4x5x64 : Shape := ⟨5, ![120, 6, 4, 5, 64]⟩
abbrev S120x6x4x5x2x8x2x2 : Shape := ⟨8, ![120, 6, 4, 5, 2, 8, 2, 2]⟩
abbrev S120x6x4x5x2x2x8x2 : Shape := ⟨8, ![120, 6, 4, 5, 2, 2, 8, 2]⟩
abbrev S4x120x6x5x64 : Shape := ⟨5, ![4, 120, 6, 5, 64]⟩
abbrev S4x120x30x64 : Shape := ⟨4, ![4, 120, 30, 64]⟩
abbrev S_ : Shape := ⟨0, ![]⟩
abbrev S4x120x32x64 : Shape := ⟨4, ![4, 120, 32, 64]⟩
abbrev S120x6x4x2x8x2x2 : Shape := ⟨7, ![120, 6, 4, 2, 8, 2, 2]⟩
abbrev S120x6x4x2x2x8x2 : Shape := ⟨7, ![120, 6, 4, 2, 2, 8, 2]⟩
abbrev S120x8x4x64 : Shape := ⟨4, ![120, 8, 4, 64]⟩
abbrev S4x64x120x8 : Shape := ⟨4, ![4, 64, 120, 8]⟩
abbrev S4x64x960 : Shape := ⟨3, ![4, 64, 960]⟩
abbrev S4x64x1024 : Shape := ⟨3, ![4, 64, 1024]⟩
abbrev S120x6x4x8x2x4 : Shape := ⟨6, ![120, 6, 4, 8, 2, 4]⟩
abbrev S120x6x4x4x8x2 : Shape := ⟨6, ![120, 6, 4, 4, 8, 2]⟩
abbrev S1x120x32x64 : Shape := ⟨4, ![1, 120, 32, 64]⟩
abbrev S1024x128 : Shape := ⟨2, ![1024, 128]⟩
abbrev S1x8x128 : Shape := ⟨3, ![1, 8, 128]⟩
abbrev S1x8x32x64 : Shape := ⟨4, ![1, 8, 32, 64]⟩
abbrev S1x64x128 : Shape := ⟨3, ![1, 64, 128]⟩
abbrev S64x128 : Shape := ⟨2, ![64, 128]⟩
abbrev S8x128 : Shape := ⟨2, ![8, 128]⟩
abbrev S32x128 : Shape := ⟨2, ![32, 128]⟩
abbrev S1x1x128 : Shape := ⟨3, ![1, 1, 128]⟩
abbrev S1x128 : Shape := ⟨2, ![1, 128]⟩
abbrev S1 : Shape := ⟨1, ![1]⟩
abbrev S128x128 : Shape := ⟨2, ![128, 128]⟩
abbrev S1x1x32x64 : Shape := ⟨4, ![1, 1, 32, 64]⟩
abbrev S32x64 : Shape := ⟨2, ![32, 64]⟩
abbrev S16x128 : Shape := ⟨2, ![16, 128]⟩
abbrev S64x256 : Shape := ⟨2, ![64, 256]⟩
abbrev S32x256 : Shape := ⟨2, ![32, 256]⟩
abbrev S32 : Shape := ⟨1, ![32]⟩
abbrev S32x1 : Shape := ⟨2, ![32, 1]⟩
abbrev S32x2176 : Shape := ⟨2, ![32, 2176]⟩
abbrev S64x2176 : Shape := ⟨2, ![64, 2176]⟩
abbrev S1x120x30x64 : Shape := ⟨4, ![1, 120, 30, 64]⟩
abbrev S1x120x30x4x8x2 : Shape := ⟨6, ![1, 120, 30, 4, 8, 2]⟩
abbrev S1x120x30x8x2x4 : Shape := ⟨6, ![1, 120, 30, 8, 2, 4]⟩
abbrev S1x120x6x5x64 : Shape := ⟨5, ![1, 120, 6, 5, 64]⟩
abbrev S120x6x1x5x64 : Shape := ⟨5, ![120, 6, 1, 5, 64]⟩
abbrev S120x6x5x64 : Shape := ⟨4, ![120, 6, 5, 64]⟩

abbrev nBuf : Space → Nat
  | .hbm => 47
  | .vmem => 17
  | .smem => 1
  | _ => 0

abbrev bufTy : (tb : Table) → Fin (tcTables nBuf tb) → BufTy
  | .hbm, ⟨0, _⟩ => ⟨S120x6x20x64, .bf16⟩
  | .hbm, ⟨1, _⟩ => ⟨S120x6x4x64, .bf16⟩
  | .hbm, ⟨2, _⟩ => ⟨S120x6x4x64, .bf16⟩
  | .hbm, ⟨3, _⟩ => ⟨S15360x128, .i32⟩
  | .hbm, ⟨4, _⟩ => ⟨S15360x128, .i32⟩
  | .hbm, ⟨5, _⟩ => ⟨S61440x128, .i32⟩
  | .hbm, ⟨6, _⟩ => ⟨S120x4x128, .i32⟩
  | .hbm, ⟨7, _⟩ => ⟨S4x120x128, .i32⟩
  | .hbm, ⟨8, _⟩ => ⟨S120x6x4x5x64, .bf16⟩
  | .hbm, ⟨9, _⟩ => ⟨S120x6x4x5x2x8x2x2, .bf16⟩
  | .hbm, ⟨10, _⟩ => ⟨S120x6x4x5x2x2x8x2, .bf16⟩
  | .hbm, ⟨11, _⟩ => ⟨S120x6x4x5x64, .bf16⟩
  | .hbm, ⟨12, _⟩ => ⟨S4x120x6x5x64, .bf16⟩
  | .hbm, ⟨13, _⟩ => ⟨S4x120x30x64, .bf16⟩
  | .hbm, ⟨14, _⟩ => ⟨S_, .i32⟩
  | .hbm, ⟨15, _⟩ => ⟨S_, .bf16⟩
  | .hbm, ⟨16, _⟩ => ⟨S4x120x32x64, .bf16⟩
  | .hbm, ⟨17, _⟩ => ⟨S120x6x4x2x8x2x2, .bf16⟩
  | .hbm, ⟨18, _⟩ => ⟨S120x6x4x2x2x8x2, .bf16⟩
  | .hbm, ⟨19, _⟩ => ⟨S120x6x4x64, .bf16⟩
  | .hbm, ⟨20, _⟩ => ⟨S_, .i32⟩
  | .hbm, ⟨21, _⟩ => ⟨S_, .bf16⟩
  | .hbm, ⟨22, _⟩ => ⟨S120x8x4x64, .bf16⟩
  | .hbm, ⟨23, _⟩ => ⟨S4x64x120x8, .bf16⟩
  | .hbm, ⟨24, _⟩ => ⟨S4x64x960, .bf16⟩
  | .hbm, ⟨25, _⟩ => ⟨S_, .i32⟩
  | .hbm, ⟨26, _⟩ => ⟨S_, .bf16⟩
  | .hbm, ⟨27, _⟩ => ⟨S4x64x1024, .bf16⟩
  | .hbm, ⟨28, _⟩ => ⟨S120x6x4x8x2x4, .bf16⟩
  | .hbm, ⟨29, _⟩ => ⟨S120x6x4x4x8x2, .bf16⟩
  | .hbm, ⟨30, _⟩ => ⟨S120x6x4x64, .bf16⟩
  | .hbm, ⟨31, _⟩ => ⟨S_, .i32⟩
  | .hbm, ⟨32, _⟩ => ⟨S_, .bf16⟩
  | .hbm, ⟨33, _⟩ => ⟨S120x8x4x64, .bf16⟩
  | .hbm, ⟨34, _⟩ => ⟨S4x64x120x8, .bf16⟩
  | .hbm, ⟨35, _⟩ => ⟨S4x64x960, .bf16⟩
  | .hbm, ⟨36, _⟩ => ⟨S_, .i32⟩
  | .hbm, ⟨37, _⟩ => ⟨S_, .bf16⟩
  | .hbm, ⟨38, _⟩ => ⟨S4x64x1024, .bf16⟩
  | .hbm, ⟨39, _⟩ => ⟨S1x120x32x64, .bf16⟩
  | .hbm, ⟨40, _⟩ => ⟨S1x120x30x64, .bf16⟩
  | .hbm, ⟨41, _⟩ => ⟨S1x120x30x4x8x2, .bf16⟩
  | .hbm, ⟨42, _⟩ => ⟨S1x120x30x8x2x4, .bf16⟩
  | .hbm, ⟨43, _⟩ => ⟨S1x120x30x64, .bf16⟩
  | .hbm, ⟨44, _⟩ => ⟨S1x120x6x5x64, .bf16⟩
  | .hbm, ⟨45, _⟩ => ⟨S120x6x1x5x64, .bf16⟩
  | .hbm, ⟨46, _⟩ => ⟨S120x6x5x64, .bf16⟩
  | .local _ .vmem, ⟨0, _⟩ => ⟨S1024x128, .i32⟩
  | .local _ .vmem, ⟨1, _⟩ => ⟨S1024x128, .i32⟩
  | .local _ .vmem, ⟨2, _⟩ => ⟨S1024x128, .i32⟩
  | .local _ .vmem, ⟨3, _⟩ => ⟨S1024x128, .i32⟩
  | .local _ .vmem, ⟨4, _⟩ => ⟨S1024x128, .i32⟩
  | .local _ .vmem, ⟨5, _⟩ => ⟨S1024x128, .i32⟩
  | .local _ .vmem, ⟨6, _⟩ => ⟨S1x8x128, .i32⟩
  | .local _ .vmem, ⟨7, _⟩ => ⟨S1x8x128, .i32⟩
  | .local _ .vmem, ⟨8, _⟩ => ⟨S1x8x32x64, .bf16⟩
  | .local _ .vmem, ⟨9, _⟩ => ⟨S1x8x32x64, .bf16⟩
  | .local _ .vmem, ⟨10, _⟩ => ⟨S1x64x128, .bf16⟩
  | .local _ .vmem, ⟨11, _⟩ => ⟨S1x64x128, .bf16⟩
  | .local _ .vmem, ⟨12, _⟩ => ⟨S1x64x128, .bf16⟩
  | .local _ .vmem, ⟨13, _⟩ => ⟨S1x64x128, .bf16⟩
  | .local _ .vmem, ⟨14, _⟩ => ⟨S1x8x32x64, .bf16⟩
  | .local _ .vmem, ⟨15, _⟩ => ⟨S1x8x32x64, .bf16⟩
  | .local _ .vmem, ⟨16, _⟩ => ⟨S64x128, .i32⟩
  | .local _ .smem, ⟨0, _⟩ => ⟨S120, .i32⟩
  | _, _ => ⟨S120x6x20x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_call3_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_call4_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "log2e_8" => some (((8 * (Real.log 2))⁻¹ : ℝ) : EReal)
  | _ => none

abbrev grid0 : Pipeline.Grid := ⟨1, ![15], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_off1 (k0_t1 : Fin k0_t1_loop.trips) : Fin 3 → Nat :=
  let c0 : Index := 0#32
  let c0_i32 : BitVec 32 := 0#32
  let c1_i32 : BitVec 32 := 1#32
  let arg11 : BitVec 32 := Scf.iv c0_i32 c1_i32 k0_t1
  let v6 : Index := Scalar.indexCast arg11
  let c0_2 : Index := 0#32
  ![0, v6.toNat, 0]
def k0_off2 (i : grid0.Coords) (k0_t1 : Fin k0_t1_loop.trips) : Fin 1 → Nat :=
  let arg0 : BitVec 32 := BitVec.ofNat 32 (i 0).val
  let c8_i32_1 : BitVec 32 := 8#32
  let v4 : BitVec 32 := Scalar.muli arg0 c8_i32_1
  let c0_i32 : BitVec 32 := 0#32
  let c1_i32 : BitVec 32 := 1#32
  let arg11 : BitVec 32 := Scf.iv c0_i32 c1_i32 k0_t1
  let v5 : BitVec 32 := Scalar.addi v4 arg11
  let v11 : Index := Scalar.indexCast v5
  ![v11.toNat]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v21 : BitVec 32 := Scalar.muli arg11 c128_i32
  let v22 : Index := Scalar.indexCast v21
  let c0_5 : Index := 0#32
  ![v22.toNat, 0]
def k0_off4 (k0_t1 : Fin k0_t1_loop.trips) : Fin 4 → Nat :=
  let c0_11 : Index := 0#32
  let c0_i32 : BitVec 32 := 0#32
  let c1_i32 : BitVec 32 := 1#32
  let arg11 : BitVec 32 := Scf.iv c0_i32 c1_i32 k0_t1
  let v39 : Index := Scalar.indexCast arg11
  let c0_12 : Index := 0#32
  let c0_13 : Index := 0#32
  ![0, v39.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let c8_i32 : BitVec 32 := 8#32
  let v0 : BitVec 32 := Scalar.muli arg0 c8_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![c0_i32_4.toNat, c0_i32_5.toNat, v17.toNat]

def cc0_transform_6 (i : grid0.Coords) : Fin 3 → Nat :=
  let arg0 : BitVec 32 := BitVec.ofNat 32 (i 0).val
  let c8_i32 : BitVec 32 := 8#32
  let v0 : BitVec 32 := Scalar.muli arg0 c8_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![c0_i32_4.toNat, c0_i32_5.toNat, v17.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x32x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x32x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S120x6x20x64 : Shape := ⟨4, ![120, 6, 20, 64]⟩
abbrev S120x6x4x64 : Shape := ⟨4, ![120, 6, 4, 64]⟩
abbrev S15360x128 : Shape := ⟨2, ![15360, 128]⟩
abbrev S61440x128 : Shape := ⟨2, ![61440, 128]⟩
abbrev S120 : Shape := ⟨1, ![120]⟩
abbrev S120x4x128 : Shape := ⟨3, ![120, 4, 128]⟩
abbrev S120x6x4x5x64 : Shape := ⟨5, ![120, 6, 4, 5, 64]⟩
abbrev S120x6x1x5x64 : Shape := ⟨5, ![120, 6, 1, 5, 64]⟩
abbrev S120x6x5x64 : Shape := ⟨4, ![120, 6, 5, 64]⟩
abbrev S120x6x1x64 : Shape := ⟨4, ![120, 6, 1, 64]⟩
abbrev S120x6x64 : Shape := ⟨3, ![120, 6, 64]⟩
abbrev S120x1x128 : Shape := ⟨3, ![120, 1, 128]⟩
abbrev S120x128 : Shape := ⟨2, ![120, 128]⟩
abbrev S15360x64 : Shape := ⟨2, ![15360, 64]⟩
abbrev S120x128x2x16x2 : Shape := ⟨5, ![120, 128, 2, 16, 2]⟩
abbrev S120x128x8x16 : Shape := ⟨4, ![120, 128, 8, 16]⟩
abbrev S120x128x8x16x1 : Shape := ⟨5, ![120, 128, 8, 16, 1]⟩
abbrev S8 : Shape := ⟨1, ![8]⟩
abbrev S_ : Shape := ⟨0, ![]⟩
abbrev S1x1x1x1x8 : Shape := ⟨5, ![1, 1, 1, 1, 8]⟩
abbrev S120x128x8x16x8 : Shape := ⟨5, ![120, 128, 8, 16, 8]⟩
abbrev S120x128x8x16x4x2 : Shape := ⟨6, ![120, 128, 8, 16, 4, 2]⟩
abbrev S120x128x8x2x16x4 : Shape := ⟨6, ![120, 128, 8, 2, 16, 4]⟩
abbrev S120x128x16x2x32 : Shape := ⟨5, ![120, 128, 16, 2, 32]⟩
abbrev S120x128x1x16x2 : Shape := ⟨5, ![120, 128, 1, 16, 2]⟩
abbrev S120x128x16x2 : Shape := ⟨4, ![120, 128, 16, 2]⟩
abbrev S120x128x16x2x1 : Shape := ⟨5, ![120, 128, 16, 2, 1]⟩
abbrev S120x128x16x64 : Shape := ⟨4, ![120, 128, 16, 64]⟩
abbrev S120x128x16x8 : Shape := ⟨4, ![120, 128, 16, 8]⟩
abbrev S120x128x16x8x1 : Shape := ⟨5, ![120, 128, 16, 8, 1]⟩
abbrev S120x128x16x8x8 : Shape := ⟨5, ![120, 128, 16, 8, 8]⟩
abbrev S120x6x5x128x16 : Shape := ⟨5, ![120, 6, 5, 128, 16]⟩
abbrev S120x1 : Shape := ⟨2, ![120, 1]⟩
abbrev S120x128x1 : Shape := ⟨3, ![120, 128, 1]⟩
abbrev S16 : Shape := ⟨1, ![16]⟩
abbrev S1x1x16 : Shape := ⟨3, ![1, 1, 16]⟩
abbrev S120x128x16 : Shape := ⟨3, ![120, 128, 16]⟩
abbrev S120x1x1x128x16 : Shape := ⟨5, ![120, 1, 1, 128, 16]⟩
abbrev S120x6x5x6 : Shape := ⟨4, ![120, 6, 5, 6]⟩
abbrev S6 : Shape := ⟨1, ![6]⟩
abbrev S6x1 : Shape := ⟨2, ![6, 1]⟩
abbrev S1x6 : Shape := ⟨2, ![1, 6]⟩
abbrev S6x6 : Shape := ⟨2, ![6, 6]⟩
abbrev S6x1x6 : Shape := ⟨3, ![6, 1, 6]⟩
abbrev S120x6x5x128 : Shape := ⟨4, ![120, 6, 5, 128]⟩
abbrev S120x6x5 : Shape := ⟨3, ![120, 6, 5]⟩
abbrev S120x6x5x1x1 : Shape := ⟨5, ![120, 6, 5, 1, 1]⟩
abbrev S120x6x5x1 : Shape := ⟨4, ![120, 6, 5, 1]⟩

abbrev nBuf : Space → Nat
  | .hbm => 161
  | .vmem => 0
  | .smem => 0
  | _ => 0

abbrev hbmTy0_0 (i : Nat) : BufTy := match i % 128 with
  | 0 => ⟨S120x6x20x64, .bf16⟩
  | 1 => ⟨S120x6x4x64, .bf16⟩
  | 2 => ⟨S120x6x4x64, .bf16⟩
  | 3 => ⟨S15360x128, .i32⟩
  | 4 => ⟨S15360x128, .i32⟩
  | 5 => ⟨S61440x128, .i32⟩
  | 6 => ⟨S120, .i32⟩
  | 7 => ⟨S120x4x128, .i32⟩
  | 8 => ⟨S120x6x4x5x64, .bf16⟩
  | 9 => ⟨S120x6x1x5x64, .bf16⟩
  | 10 => ⟨S120x6x5x64, .bf16⟩
  | 11 => ⟨S120x6x1x64, .bf16⟩
  | 12 => ⟨S120x6x64, .bf16⟩
  | 13 => ⟨S120x6x1x64, .bf16⟩
  | 14 => ⟨S120x6x64, .bf16⟩
  | 15 => ⟨S120x1x128, .i32⟩
  | 16 => ⟨S120x128, .i32⟩
  | 17 => ⟨S15360x64, .i32⟩
  | 18 => ⟨S15360x64, .i16⟩
  | 19 => ⟨S15360x64, .bf16⟩
  | 20 => ⟨S120x128x2x16x2, .bf16⟩
  | 21 => ⟨S120x128x8x16, .i32⟩
  | 22 => ⟨S120x128x8x16x1, .i32⟩
  | 23 => ⟨S8, .i32⟩
  | 24 => ⟨S_, .i32⟩
  | 25 => ⟨S8, .i32⟩
  | 26 => ⟨S8, .i32⟩
  | 27 => ⟨S1x1x1x1x8, .i32⟩
  | 28 => ⟨S120x128x8x16x8, .i32⟩
  | 29 => ⟨S120x128x8x16x8, .i32⟩
  | 30 => ⟨S120x128x8x16x8, .i32⟩
  | 31 => ⟨S_, .i32⟩
  | 32 => ⟨S120x128x8x16x8, .i32⟩
  | 33 => ⟨S120x128x8x16x8, .i32⟩
  | 34 => ⟨S_, .i32⟩
  | 35 => ⟨S120x128x8x16x8, .i32⟩
  | 36 => ⟨S120x128x8x16x8, .i1⟩
  | 37 => ⟨S_, .i32⟩
  | 38 => ⟨S120x128x8x16x8, .i32⟩
  | 39 => ⟨S120x128x8x16x8, .i32⟩
  | 40 => ⟨S120x128x8x16x8, .i32⟩
  | 41 => ⟨S120x128x8x16x8, .bf16⟩
  | 42 => ⟨S120x128x8x16x4x2, .bf16⟩
  | 43 => ⟨S120x128x8x2x16x4, .bf16⟩
  | 44 => ⟨S120x128x16x2x32, .bf16⟩
  | 45 => ⟨S120x128x1x16x2, .bf16⟩
  | 46 => ⟨S120x128x16x2, .bf16⟩
  | 47 => ⟨S120x128x16x2x1, .bf16⟩
  | 48 => ⟨S120x128x16x2x32, .bf16⟩
  | 49 => ⟨S120x128x16x2x32, .bf16⟩
  | 50 => ⟨S120x128x16x64, .bf16⟩
  | 51 => ⟨S120x128x16x8, .i32⟩
  | 52 => ⟨S120x128x16x8x1, .i32⟩
  | 53 => ⟨S8, .i32⟩
  | 54 => ⟨S_, .i32⟩
  | 55 => ⟨S8, .i32⟩
  | 56 => ⟨S8, .i32⟩
  | 57 => ⟨S1x1x1x1x8, .i32⟩
  | 58 => ⟨S120x128x16x8x8, .i32⟩
  | 59 => ⟨S120x128x16x8x8, .i32⟩
  | 60 => ⟨S120x128x16x8x8, .i32⟩
  | 61 => ⟨S_, .i32⟩
  | 62 => ⟨S120x128x16x8x8, .i32⟩
  | 63 => ⟨S120x128x16x8x8, .i32⟩
  | 64 => ⟨S_, .i32⟩
  | 65 => ⟨S120x128x16x8x8, .i32⟩
  | 66 => ⟨S120x128x16x8x8, .i1⟩
  | 67 => ⟨S_, .i32⟩
  | 68 => ⟨S120x128x16x8x8, .i32⟩
  | 69 => ⟨S120x128x16x8x8, .i32⟩
  | 70 => ⟨S120x128x16x8x8, .i32⟩
  | 71 => ⟨S120x128x16x8x8, .bf16⟩
  | 72 => ⟨S120x128x16x2x32, .bf16⟩
  | 73 => ⟨S120x128x1x16x2, .bf16⟩
  | 74 => ⟨S120x128x16x2, .bf16⟩
  | 75 => ⟨S120x128x16x2x1, .bf16⟩
  | 76 => ⟨S120x128x16x2x32, .bf16⟩
  | 77 => ⟨S120x128x16x2x32, .bf16⟩
  | 78 => ⟨S120x128x16x64, .bf16⟩
  | 79 => ⟨S120x6x5x128x16, .f32⟩
  | 80 => ⟨S_, .f32⟩
  | 81 => ⟨S120x6x5x128x16, .f32⟩
  | 82 => ⟨S120x6x5x128x16, .f32⟩
  | 83 => ⟨S120x1, .i32⟩
  | 84 => ⟨S_, .i32⟩
  | 85 => ⟨S120x128, .i32⟩
  | 86 => ⟨S120x128, .i32⟩
  | 87 => ⟨S120x128, .i32⟩
  | 88 => ⟨S120x128, .i32⟩
  | 89 => ⟨S_, .i32⟩
  | 90 => ⟨S120x128, .i32⟩
  | 91 => ⟨S120x128, .i1⟩
  | 92 => ⟨S120x128x1, .i1⟩
  | 93 => ⟨S120x128x1, .i32⟩
  | 94 => ⟨S16, .i32⟩
  | 95 => ⟨S1x1x16, .i32⟩
  | 96 => ⟨S120x128x16, .i32⟩
  | 97 => ⟨S120x128x16, .i32⟩
  | 98 => ⟨S120x128x16, .i1⟩
  | 99 => ⟨S120x128x16, .i1⟩
  | 100 => ⟨S120x128x16, .i1⟩
  | 101 => ⟨S120x1x1x128x16, .i1⟩
  | 102 => ⟨S_, .f32⟩
  | 103 => ⟨S_, .f32⟩
  | 104 => ⟨S120x6x5x128x16, .i1⟩
  | 105 => ⟨S120x6x5x128x16, .f32⟩
  | 106 => ⟨S120x6x5x128x16, .f32⟩
  | 107 => ⟨S120x6x5x6, .f32⟩
  | 108 => ⟨S_, .f32⟩
  | 109 => ⟨S120x6x5x6, .f32⟩
  | 110 => ⟨S120x6x5x6, .f32⟩
  | 111 => ⟨S6, .i32⟩
  | 112 => ⟨S6x1, .i32⟩
  | 113 => ⟨S6, .i32⟩
  | 114 => ⟨S1x6, .i32⟩
  | 115 => ⟨S6x6, .i32⟩
  | 116 => ⟨S6x6, .i32⟩
  | 117 => ⟨S6x6, .i1⟩
  | 118 => ⟨S6x1x6, .i1⟩
  | 119 => ⟨S_, .f32⟩
  | 120 => ⟨S_, .f32⟩
  | 121 => ⟨S120x6x5x6, .i1⟩
  | 122 => ⟨S120x6x5x6, .f32⟩
  | 123 => ⟨S120x6x5x6, .f32⟩
  | 124 => ⟨S_, .f32⟩
  | 125 => ⟨S120x6x5x128, .f32⟩
  | 126 => ⟨S_, .f32⟩
  | 127 => ⟨S120x6x5, .f32⟩
  | _ => ⟨S120x6x20x64, .bf16⟩

abbrev hbmTy0_1 (i : Nat) : BufTy := match i % 128 with
  | 0 => ⟨S_, .f32⟩
  | 1 => ⟨S120x6x5, .f32⟩
  | 2 => ⟨S120x6x5, .f32⟩
  | 3 => ⟨S120x6x5x1x1, .f32⟩
  | 4 => ⟨S120x6x5x128x16, .f32⟩
  | 5 => ⟨S120x6x5x128x16, .f32⟩
  | 6 => ⟨S120x6x5x128x16, .f32⟩
  | 7 => ⟨S120x6x5x1, .f32⟩
  | 8 => ⟨S120x6x5x6, .f32⟩
  | 9 => ⟨S120x6x5x6, .f32⟩
  | 10 => ⟨S120x6x5x6, .f32⟩
  | 11 => ⟨S_, .f32⟩
  | 12 => ⟨S120x6x5x128, .f32⟩
  | 13 => ⟨S_, .f32⟩
  | 14 => ⟨S120x6x5, .f32⟩
  | 15 => ⟨S_, .f32⟩
  | 16 => ⟨S120x6x5, .f32⟩
  | 17 => ⟨S120x6x5, .f32⟩
  | 18 => ⟨S_, .f32⟩
  | 19 => ⟨S120x6x5, .f32⟩
  | 20 => ⟨S120x6x5, .f32⟩
  | 21 => ⟨S120x6x5x1x1, .f32⟩
  | 22 => ⟨S120x6x5x128x16, .f32⟩
  | 23 => ⟨S120x6x5x128x16, .f32⟩
  | 24 => ⟨S120x6x5x128x16, .bf16⟩
  | 25 => ⟨S120x6x5x1, .f32⟩
  | 26 => ⟨S120x6x5x6, .f32⟩
  | 27 => ⟨S120x6x5x6, .f32⟩
  | 28 => ⟨S120x6x5x6, .bf16⟩
  | 29 => ⟨S120x6x5x64, .f32⟩
  | 30 => ⟨S120x6x5x64, .f32⟩
  | 31 => ⟨S120x6x5x64, .f32⟩
  | 32 => ⟨S120x6x5x64, .bf16⟩
  | _ => ⟨S120x6x20x64, .bf16⟩

abbrev hbmTy (i : Nat) : BufTy := match i / 128 with
  | 0 => hbmTy0_0 i
  | 1 => hbmTy0_1 i
  | _ => ⟨S120x6x20x64, .bf16⟩

abbrev bufTy : (tb : Table) → Fin (tcTables nBuf tb) → BufTy
  | .hbm, ⟨i, _⟩ => hbmTy i
  | _, _ => ⟨S120x6x20x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_0 : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_3 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_4 : Ref sig .tc := ⟨.hbm, 61, rfl⟩
abbrev main_v48 : Ref sig .tc := ⟨.hbm, 62, rfl⟩
abbrev main_v49 : Ref sig .tc := ⟨.hbm, 63, rfl⟩
abbrev main_c_5 : Ref sig .tc := ⟨.hbm, 64, rfl⟩
abbrev main_v50 : Ref sig .tc := ⟨.hbm, 65, rfl⟩
abbrev main_v51 : Ref sig .tc := ⟨.hbm, 66, rfl⟩
abbrev main_c_6 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_c_7 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_c_8 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_9 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_v83 : Ref sig .tc := ⟨.hbm, 106, rfl⟩
abbrev main_v84 : Ref sig .tc := ⟨.hbm, 107, rfl⟩
abbrev main_cst_10 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_11 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_v95 : Ref sig .tc := ⟨.hbm, 123, rfl⟩
abbrev main_cst_12 : Ref sig .tc := ⟨.hbm, 124, rfl⟩
abbrev main_v96 : Ref sig .tc := ⟨.hbm, 125, rfl⟩
abbrev main_cst_13 : Ref sig .tc := ⟨.hbm, 126, rfl⟩
abbrev main_v97 : Ref sig .tc := ⟨.hbm, 127, rfl⟩
abbrev main_cst_14 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_15 : Ref sig .tc := ⟨.hbm, 139, rfl⟩
abbrev main_v108 : Ref sig .tc := ⟨.hbm, 140, rfl⟩
abbrev main_cst_16 : Ref sig .tc := ⟨.hbm, 141, rfl⟩
abbrev main_v109 : Ref sig .tc := ⟨.hbm, 142, rfl⟩
abbrev main_cst_17 : Ref sig .tc := ⟨.hbm, 143, rfl⟩
abbrev main_v110 : Ref sig .tc := ⟨.hbm, 144, rfl⟩
abbrev main_v111 : Ref sig .tc := ⟨.hbm, 145, rfl⟩
abbrev main_cst_18 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩

abbrev nD : Nat := 1
abbrev τ : Topo := Topo.v7x

variable {F : FTy → Type} [FloatOps F]
-- ==== Kernel1.lean ====
abbrev S120x6x20x64 : Shape := ⟨4, ![120, 6, 20, 64]⟩
abbrev S120x6x4x64 : Shape := ⟨4, ![120, 6, 4, 64]⟩
abbrev S15360x128 : Shape := ⟨2, ![15360, 128]⟩
abbrev S61440x128 : Shape := ⟨2, ![61440, 128]⟩
abbrev S120 : Shape := ⟨1, ![120]⟩
abbrev S120x4x128 : Shape := ⟨3, ![120, 4, 128]⟩
abbrev S4x120x128 : Shape := ⟨3, ![4, 120, 128]⟩
abbrev S120x6x4x5x64 : Shape := ⟨5, ![120, 6, 4, 5, 64]⟩
abbrev S120x6x4x5x2x8x2x2 : Shape := ⟨8, ![120, 6, 4, 5, 2, 8, 2, 2]⟩
abbrev S120x6x4x5x2x2x8x2 : Shape := ⟨8, ![120, 6, 4, 5, 2, 2, 8, 2]⟩
abbrev S4x120x6x5x64 : Shape := ⟨5, ![4, 120, 6, 5, 64]⟩
abbrev S4x120x30x64 : Shape := ⟨4, ![4, 120, 30, 64]⟩
abbrev S_ : Shape := ⟨0, ![]⟩
abbrev S4x120x32x64 : Shape := ⟨4, ![4, 120, 32, 64]⟩
abbrev S120x6x4x2x8x2x2 : Shape := ⟨7, ![120, 6, 4, 2, 8, 2, 2]⟩
abbrev S120x6x4x2x2x8x2 : Shape := ⟨7, ![120, 6, 4, 2, 2, 8, 2]⟩
abbrev S120x8x4x64 : Shape := ⟨4, ![120, 8, 4, 64]⟩
abbrev S4x64x120x8 : Shape := ⟨4, ![4, 64, 120, 8]⟩
abbrev S4x64x960 : Shape := ⟨3, ![4, 64, 960]⟩
abbrev S4x64x1024 : Shape := ⟨3, ![4, 64, 1024]⟩
abbrev S120x6x4x8x2x4 : Shape := ⟨6, ![120, 6, 4, 8, 2, 4]⟩
abbrev S120x6x4x4x8x2 : Shape := ⟨6, ![120, 6, 4, 4, 8, 2]⟩
abbrev S1x120x32x64 : Shape := ⟨4, ![1, 120, 32, 64]⟩
abbrev S1024x128 : Shape := ⟨2, ![1024, 128]⟩
abbrev S1x8x128 : Shape := ⟨3, ![1, 8, 128]⟩
abbrev S1x8x32x64 : Shape := ⟨4, ![1, 8, 32, 64]⟩
abbrev S1x64x128 : Shape := ⟨3, ![1, 64, 128]⟩
abbrev S64x128 : Shape := ⟨2, ![64, 128]⟩
abbrev S8x128 : Shape := ⟨2, ![8, 128]⟩
abbrev S32x128 : Shape := ⟨2, ![32, 128]⟩
abbrev S1x1x128 : Shape := ⟨3, ![1, 1, 128]⟩
abbrev S1x128 : Shape := ⟨2, ![1, 128]⟩
abbrev S1 : Shape := ⟨1, ![1]⟩
abbrev S128x128 : Shape := ⟨2, ![128, 128]⟩
abbrev S1x1x32x64 : Shape := ⟨4, ![1, 1, 32, 64]⟩
abbrev S32x64 : Shape := ⟨2, ![32, 64]⟩
abbrev S16x128 : Shape := ⟨2, ![16, 128]⟩
abbrev S64x256 : Shape := ⟨2, ![64, 256]⟩
abbrev S32x256 : Shape := ⟨2, ![32, 256]⟩
abbrev S32 : Shape := ⟨1, ![32]⟩
abbrev S32x1 : Shape := ⟨2, ![32, 1]⟩
abbrev S32x2176 : Shape := ⟨2, ![32, 2176]⟩
abbrev S64x2176 : Shape := ⟨2, ![64, 2176]⟩
abbrev S1x120x30x64 : Shape := ⟨4, ![1, 120, 30, 64]⟩
abbrev S1x120x30x4x8x2 : Shape := ⟨6, ![1, 120, 30, 4, 8, 2]⟩
abbrev S1x120x30x8x2x4 : Shape := ⟨6, ![1, 120, 30, 8, 2, 4]⟩
abbrev S1x120x6x5x64 : Shape := ⟨5, ![1, 120, 6, 5, 64]⟩
abbrev S120x6x1x5x64 : Shape := ⟨5, ![120, 6, 1, 5, 64]⟩
abbrev S120x6x5x64 : Shape := ⟨4, ![120, 6, 5, 64]⟩

abbrev nBuf : Space → Nat
  | .hbm => 47
  | .vmem => 17
  | .smem => 1
  | _ => 0

abbrev bufTy : (tb : Table) → Fin (tcTables nBuf tb) → BufTy
  | .hbm, ⟨0, _⟩ => ⟨S120x6x20x64, .bf16⟩
  | .hbm, ⟨1, _⟩ => ⟨S120x6x4x64, .bf16⟩
  | .hbm, ⟨2, _⟩ => ⟨S120x6x4x64, .bf16⟩
  | .hbm, ⟨3, _⟩ => ⟨S15360x128, .i32⟩
  | .hbm, ⟨4, _⟩ => ⟨S15360x128, .i32⟩
  | .hbm, ⟨5, _⟩ => ⟨S61440x128, .i32⟩
  | .hbm, ⟨6, _⟩ => ⟨S120x4x128, .i32⟩
  | .hbm, ⟨7, _⟩ => ⟨S4x120x128, .i32⟩
  | .hbm, ⟨8, _⟩ => ⟨S120x6x4x5x64, .bf16⟩
  | .hbm, ⟨9, _⟩ => ⟨S120x6x4x5x2x8x2x2, .bf16⟩
  | .hbm, ⟨10, _⟩ => ⟨S120x6x4x5x2x2x8x2, .bf16⟩
  | .hbm, ⟨11, _⟩ => ⟨S120x6x4x5x64, .bf16⟩
  | .hbm, ⟨12, _⟩ => ⟨S4x120x6x5x64, .bf16⟩
  | .hbm, ⟨13, _⟩ => ⟨S4x120x30x64, .bf16⟩
  | .hbm, ⟨14, _⟩ => ⟨S_, .i32⟩
  | .hbm, ⟨15, _⟩ => ⟨S_, .bf16⟩
  | .hbm, ⟨16, _⟩ => ⟨S4x120x32x64, .bf16⟩
  | .hbm, ⟨17, _⟩ => ⟨S120x6x4x2x8x2x2, .bf16⟩
  | .hbm, ⟨18, _⟩ => ⟨S120x6x4x2x2x8x2, .bf16⟩
  | .hbm, ⟨19, _⟩ => ⟨S120x6x4x64, .bf16⟩
  | .hbm, ⟨20, _⟩ => ⟨S_, .i32⟩
  | .hbm, ⟨21, _⟩ => ⟨S_, .bf16⟩
  | .hbm, ⟨22, _⟩ => ⟨S120x8x4x64, .bf16⟩
  | .hbm, ⟨23, _⟩ => ⟨S4x64x120x8, .bf16⟩
  | .hbm, ⟨24, _⟩ => ⟨S4x64x960, .bf16⟩
  | .hbm, ⟨25, _⟩ => ⟨S_, .i32⟩
  | .hbm, ⟨26, _⟩ => ⟨S_, .bf16⟩
  | .hbm, ⟨27, _⟩ => ⟨S4x64x1024, .bf16⟩
  | .hbm, ⟨28, _⟩ => ⟨S120x6x4x8x2x4, .bf16⟩
  | .hbm, ⟨29, _⟩ => ⟨S120x6x4x4x8x2, .bf16⟩
  | .hbm, ⟨30, _⟩ => ⟨S120x6x4x64, .bf16⟩
  | .hbm, ⟨31, _⟩ => ⟨S_, .i32⟩
  | .hbm, ⟨32, _⟩ => ⟨S_, .bf16⟩
  | .hbm, ⟨33, _⟩ => ⟨S120x8x4x64, .bf16⟩
  | .hbm, ⟨34, _⟩ => ⟨S4x64x120x8, .bf16⟩
  | .hbm, ⟨35, _⟩ => ⟨S4x64x960, .bf16⟩
  | .hbm, ⟨36, _⟩ => ⟨S_, .i32⟩
  | .hbm, ⟨37, _⟩ => ⟨S_, .bf16⟩
  | .hbm, ⟨38, _⟩ => ⟨S4x64x1024, .bf16⟩
  | .hbm, ⟨39, _⟩ => ⟨S1x120x32x64, .bf16⟩
  | .hbm, ⟨40, _⟩ => ⟨S1x120x30x64, .bf16⟩
  | .hbm, ⟨41, _⟩ => ⟨S1x120x30x4x8x2, .bf16⟩
  | .hbm, ⟨42, _⟩ => ⟨S1x120x30x8x2x4, .bf16⟩
  | .hbm, ⟨43, _⟩ => ⟨S1x120x30x64, .bf16⟩
  | .hbm, ⟨44, _⟩ => ⟨S1x120x6x5x64, .bf16⟩
  | .hbm, ⟨45, _⟩ => ⟨S120x6x1x5x64, .bf16⟩
  | .hbm, ⟨46, _⟩ => ⟨S120x6x5x64, .bf16⟩
  | .local _ .vmem, ⟨0, _⟩ => ⟨S1024x128, .i32⟩
  | .local _ .vmem, ⟨1, _⟩ => ⟨S1024x128, .i32⟩
  | .local _ .vmem, ⟨2, _⟩ => ⟨S1024x128, .i32⟩
  | .local _ .vmem, ⟨3, _⟩ => ⟨S1024x128, .i32⟩
  | .local _ .vmem, ⟨4, _⟩ => ⟨S1024x128, .i32⟩
  | .local _ .vmem, ⟨5, _⟩ => ⟨S1024x128, .i32⟩
  | .local _ .vmem, ⟨6, _⟩ => ⟨S1x8x128, .i32⟩
  | .local _ .vmem, ⟨7, _⟩ => ⟨S1x8x128, .i32⟩
  | .local _ .vmem, ⟨8, _⟩ => ⟨S1x8x32x64, .bf16⟩
  | .local _ .vmem, ⟨9, _⟩ => ⟨S1x8x32x64, .bf16⟩
  | .local _ .vmem, ⟨10, _⟩ => ⟨S1x64x128, .bf16⟩
  | .local _ .vmem, ⟨11, _⟩ => ⟨S1x64x128, .bf16⟩
  | .local _ .vmem, ⟨12, _⟩ => ⟨S1x64x128, .bf16⟩
  | .local _ .vmem, ⟨13, _⟩ => ⟨S1x64x128, .bf16⟩
  | .local _ .vmem, ⟨14, _⟩ => ⟨S1x8x32x64, .bf16⟩
  | .local _ .vmem, ⟨15, _⟩ => ⟨S1x8x32x64, .bf16⟩
  | .local _ .vmem, ⟨16, _⟩ => ⟨S64x128, .i32⟩
  | .local _ .smem, ⟨0, _⟩ => ⟨S120, .i32⟩
  | _, _ => ⟨S120x6x20x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_call3_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_call4_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![15], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_off1 (k0_t1 : Fin k0_t1_loop.trips) : Fin 3 → Nat :=
  let c0 : Index := 0#32
  let c0_i32 : BitVec 32 := 0#32
  let c1_i32 : BitVec 32 := 1#32
  let arg11 : BitVec 32 := Scf.iv c0_i32 c1_i32 k0_t1
  let v6 : Index := Scalar.indexCast arg11
  let c0_2 : Index := 0#32
  ![0, v6.toNat, 0]
def k0_off2 (i : grid0.Coords) (k0_t1 : Fin k0_t1_loop.trips) : Fin 1 → Nat :=
  let arg0 : BitVec 32 := BitVec.ofNat 32 (i 0).val
  let c8_i32_1 : BitVec 32 := 8#32
  let v4 : BitVec 32 := Scalar.muli arg0 c8_i32_1
  let c0_i32 : BitVec 32 := 0#32
  let c1_i32 : BitVec 32 := 1#32
  let arg11 : BitVec 32 := Scf.iv c0_i32 c1_i32 k0_t1
  let v5 : BitVec 32 := Scalar.addi v4 arg11
  let v11 : Index := Scalar.indexCast v5
  ![v11.toNat]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v21 : BitVec 32 := Scalar.muli arg11 c128_i32
  let v22 : Index := Scalar.indexCast v21
  let c0_5 : Index := 0#32
  ![v22.toNat, 0]
def k0_off4 (k0_t1 : Fin k0_t1_loop.trips) : Fin 4 → Nat :=
  let c0_11 : Index := 0#32
  let c0_i32 : BitVec 32 := 0#32
  let c1_i32 : BitVec 32 := 1#32
  let arg11 : BitVec 32 := Scf.iv c0_i32 c1_i32 k0_t1
  let v39 : Index := Scalar.indexCast arg11
  let c0_12 : Index := 0#32
  let c0_13 : Index := 0#32
  ![0, v39.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.addi c15_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.muli arg0 c8_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let c0_i32_5 : BitVec 32 := 0#32
  let c0_i32_6 : BitVec 32 := 0#32
  ![c1_i32_4.toNat, c0_i32_5.toNat, v17.toNat]

def cc0_transform_6 (i : grid0.Coords) : Fin 3 → Nat :=
  let arg0 : BitVec 32 := BitVec.ofNat 32 (i 0).val
  let c8_i32 : BitVec 32 := 8#32
  let v0 : BitVec 32 := Scalar.muli arg0 c8_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let c0_i32_5 : BitVec 32 := 0#32
  let c0_i32_6 : BitVec 32 := 0#32
  ![c1_i32_4.toNat, c0_i32_5.toNat, v17.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x32x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x32x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel1Ideal.lean ====
abbrev S120x6x20x64 : Shape := ⟨4, ![120, 6, 20, 64]⟩
abbrev S120x6x4x64 : Shape := ⟨4, ![120, 6, 4, 64]⟩
abbrev S15360x128 : Shape := ⟨2, ![15360, 128]⟩
abbrev S61440x128 : Shape := ⟨2, ![61440, 128]⟩
abbrev S120 : Shape := ⟨1, ![120]⟩
abbrev S120x4x128 : Shape := ⟨3, ![120, 4, 128]⟩
abbrev S4x120x128 : Shape := ⟨3, ![4, 120, 128]⟩
abbrev S120x6x4x5x64 : Shape := ⟨5, ![120, 6, 4, 5, 64]⟩
abbrev S120x6x4x5x2x8x2x2 : Shape := ⟨8, ![120, 6, 4, 5, 2, 8, 2, 2]⟩
abbrev S120x6x4x5x2x2x8x2 : Shape := ⟨8, ![120, 6, 4, 5, 2, 2, 8, 2]⟩
abbrev S4x120x6x5x64 : Shape := ⟨5, ![4, 120, 6, 5, 64]⟩
abbrev S4x120x30x64 : Shape := ⟨4, ![4, 120, 30, 64]⟩
abbrev S_ : Shape := ⟨0, ![]⟩
abbrev S4x120x32x64 : Shape := ⟨4, ![4, 120, 32, 64]⟩
abbrev S120x6x4x2x8x2x2 : Shape := ⟨7, ![120, 6, 4, 2, 8, 2, 2]⟩
abbrev S120x6x4x2x2x8x2 : Shape := ⟨7, ![120, 6, 4, 2, 2, 8, 2]⟩
abbrev S120x8x4x64 : Shape := ⟨4, ![120, 8, 4, 64]⟩
abbrev S4x64x120x8 : Shape := ⟨4, ![4, 64, 120, 8]⟩
abbrev S4x64x960 : Shape := ⟨3, ![4, 64, 960]⟩
abbrev S4x64x1024 : Shape := ⟨3, ![4, 64, 1024]⟩
abbrev S120x6x4x8x2x4 : Shape := ⟨6, ![120, 6, 4, 8, 2, 4]⟩
abbrev S120x6x4x4x8x2 : Shape := ⟨6, ![120, 6, 4, 4, 8, 2]⟩
abbrev S1x120x32x64 : Shape := ⟨4, ![1, 120, 32, 64]⟩
abbrev S1024x128 : Shape := ⟨2, ![1024, 128]⟩
abbrev S1x8x128 : Shape := ⟨3, ![1, 8, 128]⟩
abbrev S1x8x32x64 : Shape := ⟨4, ![1, 8, 32, 64]⟩
abbrev S1x64x128 : Shape := ⟨3, ![1, 64, 128]⟩
abbrev S64x128 : Shape := ⟨2, ![64, 128]⟩
abbrev S8x128 : Shape := ⟨2, ![8, 128]⟩
abbrev S32x128 : Shape := ⟨2, ![32, 128]⟩
abbrev S1x1x128 : Shape := ⟨3, ![1, 1, 128]⟩
abbrev S1x128 : Shape := ⟨2, ![1, 128]⟩
abbrev S1 : Shape := ⟨1, ![1]⟩
abbrev S128x128 : Shape := ⟨2, ![128, 128]⟩
abbrev S1x1x32x64 : Shape := ⟨4, ![1, 1, 32, 64]⟩
abbrev S32x64 : Shape := ⟨2, ![32, 64]⟩
abbrev S16x128 : Shape := ⟨2, ![16, 128]⟩
abbrev S64x256 : Shape := ⟨2, ![64, 256]⟩
abbrev S32x256 : Shape := ⟨2, ![32, 256]⟩
abbrev S32 : Shape := ⟨1, ![32]⟩
abbrev S32x1 : Shape := ⟨2, ![32, 1]⟩
abbrev S32x2176 : Shape := ⟨2, ![32, 2176]⟩
abbrev S64x2176 : Shape := ⟨2, ![64, 2176]⟩
abbrev S1x120x30x64 : Shape := ⟨4, ![1, 120, 30, 64]⟩
abbrev S1x120x30x4x8x2 : Shape := ⟨6, ![1, 120, 30, 4, 8, 2]⟩
abbrev S1x120x30x8x2x4 : Shape := ⟨6, ![1, 120, 30, 8, 2, 4]⟩
abbrev S1x120x6x5x64 : Shape := ⟨5, ![1, 120, 6, 5, 64]⟩
abbrev S120x6x1x5x64 : Shape := ⟨5, ![120, 6, 1, 5, 64]⟩
abbrev S120x6x5x64 : Shape := ⟨4, ![120, 6, 5, 64]⟩

abbrev nBuf : Space → Nat
  | .hbm => 47
  | .vmem => 17
  | .smem => 1
  | _ => 0

abbrev bufTy : (tb : Table) → Fin (tcTables nBuf tb) → BufTy
  | .hbm, ⟨0, _⟩ => ⟨S120x6x20x64, .bf16⟩
  | .hbm, ⟨1, _⟩ => ⟨S120x6x4x64, .bf16⟩
  | .hbm, ⟨2, _⟩ => ⟨S120x6x4x64, .bf16⟩
  | .hbm, ⟨3, _⟩ => ⟨S15360x128, .i32⟩
  | .hbm, ⟨4, _⟩ => ⟨S15360x128, .i32⟩
  | .hbm, ⟨5, _⟩ => ⟨S61440x128, .i32⟩
  | .hbm, ⟨6, _⟩ => ⟨S120x4x128, .i32⟩
  | .hbm, ⟨7, _⟩ => ⟨S4x120x128, .i32⟩
  | .hbm, ⟨8, _⟩ => ⟨S120x6x4x5x64, .bf16⟩
  | .hbm, ⟨9, _⟩ => ⟨S120x6x4x5x2x8x2x2, .bf16⟩
  | .hbm, ⟨10, _⟩ => ⟨S120x6x4x5x2x2x8x2, .bf16⟩
  | .hbm, ⟨11, _⟩ => ⟨S120x6x4x5x64, .bf16⟩
  | .hbm, ⟨12, _⟩ => ⟨S4x120x6x5x64, .bf16⟩
  | .hbm, ⟨13, _⟩ => ⟨S4x120x30x64, .bf16⟩
  | .hbm, ⟨14, _⟩ => ⟨S_, .i32⟩
  | .hbm, ⟨15, _⟩ => ⟨S_, .bf16⟩
  | .hbm, ⟨16, _⟩ => ⟨S4x120x32x64, .bf16⟩
  | .hbm, ⟨17, _⟩ => ⟨S120x6x4x2x8x2x2, .bf16⟩
  | .hbm, ⟨18, _⟩ => ⟨S120x6x4x2x2x8x2, .bf16⟩
  | .hbm, ⟨19, _⟩ => ⟨S120x6x4x64, .bf16⟩
  | .hbm, ⟨20, _⟩ => ⟨S_, .i32⟩
  | .hbm, ⟨21, _⟩ => ⟨S_, .bf16⟩
  | .hbm, ⟨22, _⟩ => ⟨S120x8x4x64, .bf16⟩
  | .hbm, ⟨23, _⟩ => ⟨S4x64x120x8, .bf16⟩
  | .hbm, ⟨24, _⟩ => ⟨S4x64x960, .bf16⟩
  | .hbm, ⟨25, _⟩ => ⟨S_, .i32⟩
  | .hbm, ⟨26, _⟩ => ⟨S_, .bf16⟩
  | .hbm, ⟨27, _⟩ => ⟨S4x64x1024, .bf16⟩
  | .hbm, ⟨28, _⟩ => ⟨S120x6x4x8x2x4, .bf16⟩
  | .hbm, ⟨29, _⟩ => ⟨S120x6x4x4x8x2, .bf16⟩
  | .hbm, ⟨30, _⟩ => ⟨S120x6x4x64, .bf16⟩
  | .hbm, ⟨31, _⟩ => ⟨S_, .i32⟩
  | .hbm, ⟨32, _⟩ => ⟨S_, .bf16⟩
  | .hbm, ⟨33, _⟩ => ⟨S120x8x4x64, .bf16⟩
  | .hbm, ⟨34, _⟩ => ⟨S4x64x120x8, .bf16⟩
  | .hbm, ⟨35, _⟩ => ⟨S4x64x960, .bf16⟩
  | .hbm, ⟨36, _⟩ => ⟨S_, .i32⟩
  | .hbm, ⟨37, _⟩ => ⟨S_, .bf16⟩
  | .hbm, ⟨38, _⟩ => ⟨S4x64x1024, .bf16⟩
  | .hbm, ⟨39, _⟩ => ⟨S1x120x32x64, .bf16⟩
  | .hbm, ⟨40, _⟩ => ⟨S1x120x30x64, .bf16⟩
  | .hbm, ⟨41, _⟩ => ⟨S1x120x30x4x8x2, .bf16⟩
  | .hbm, ⟨42, _⟩ => ⟨S1x120x30x8x2x4, .bf16⟩
  | .hbm, ⟨43, _⟩ => ⟨S1x120x30x64, .bf16⟩
  | .hbm, ⟨44, _⟩ => ⟨S1x120x6x5x64, .bf16⟩
  | .hbm, ⟨45, _⟩ => ⟨S120x6x1x5x64, .bf16⟩
  | .hbm, ⟨46, _⟩ => ⟨S120x6x5x64, .bf16⟩
  | .local _ .vmem, ⟨0, _⟩ => ⟨S1024x128, .i32⟩
  | .local _ .vmem, ⟨1, _⟩ => ⟨S1024x128, .i32⟩
  | .local _ .vmem, ⟨2, _⟩ => ⟨S1024x128, .i32⟩
  | .local _ .vmem, ⟨3, _⟩ => ⟨S1024x128, .i32⟩
  | .local _ .vmem, ⟨4, _⟩ => ⟨S1024x128, .i32⟩
  | .local _ .vmem, ⟨5, _⟩ => ⟨S1024x128, .i32⟩
  | .local _ .vmem, ⟨6, _⟩ => ⟨S1x8x128, .i32⟩
  | .local _ .vmem, ⟨7, _⟩ => ⟨S1x8x128, .i32⟩
  | .local _ .vmem, ⟨8, _⟩ => ⟨S1x8x32x64, .bf16⟩
  | .local _ .vmem, ⟨9, _⟩ => ⟨S1x8x32x64, .bf16⟩
  | .local _ .vmem, ⟨10, _⟩ => ⟨S1x64x128, .bf16⟩
  | .local _ .vmem, ⟨11, _⟩ => ⟨S1x64x128, .bf16⟩
  | .local _ .vmem, ⟨12, _⟩ => ⟨S1x64x128, .bf16⟩
  | .local _ .vmem, ⟨13, _⟩ => ⟨S1x64x128, .bf16⟩
  | .local _ .vmem, ⟨14, _⟩ => ⟨S1x8x32x64, .bf16⟩
  | .local _ .vmem, ⟨15, _⟩ => ⟨S1x8x32x64, .bf16⟩
  | .local _ .vmem, ⟨16, _⟩ => ⟨S64x128, .i32⟩
  | .local _ .smem, ⟨0, _⟩ => ⟨S120, .i32⟩
  | _, _ => ⟨S120x6x20x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_call3_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_call4_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "log2e_8" => some (((8 * (Real.log 2))⁻¹ : ℝ) : EReal)
  | _ => none

abbrev grid0 : Pipeline.Grid := ⟨1, ![15], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_off1 (k0_t1 : Fin k0_t1_loop.trips) : Fin 3 → Nat :=
  let c0 : Index := 0#32
  let c0_i32 : BitVec 32 := 0#32
  let c1_i32 : BitVec 32 := 1#32
  let arg11 : BitVec 32 := Scf.iv c0_i32 c1_i32 k0_t1
  let v6 : Index := Scalar.indexCast arg11
  let c0_2 : Index := 0#32
  ![0, v6.toNat, 0]
def k0_off2 (i : grid0.Coords) (k0_t1 : Fin k0_t1_loop.trips) : Fin 1 → Nat :=
  let arg0 : BitVec 32 := BitVec.ofNat 32 (i 0).val
  let c8_i32_1 : BitVec 32 := 8#32
  let v4 : BitVec 32 := Scalar.muli arg0 c8_i32_1
  let c0_i32 : BitVec 32 := 0#32
  let c1_i32 : BitVec 32 := 1#32
  let arg11 : BitVec 32 := Scf.iv c0_i32 c1_i32 k0_t1
  let v5 : BitVec 32 := Scalar.addi v4 arg11
  let v11 : Index := Scalar.indexCast v5
  ![v11.toNat]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v21 : BitVec 32 := Scalar.muli arg11 c128_i32
  let v22 : Index := Scalar.indexCast v21
  let c0_5 : Index := 0#32
  ![v22.toNat, 0]
def k0_off4 (k0_t1 : Fin k0_t1_loop.trips) : Fin 4 → Nat :=
  let c0_11 : Index := 0#32
  let c0_i32 : BitVec 32 := 0#32
  let c1_i32 : BitVec 32 := 1#32
  let arg11 : BitVec 32 := Scf.iv c0_i32 c1_i32 k0_t1
  let v39 : Index := Scalar.indexCast arg11
  let c0_12 : Index := 0#32
  let c0_13 : Index := 0#32
  ![0, v39.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.addi c15_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.muli arg0 c8_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let c0_i32_5 : BitVec 32 := 0#32
  let c0_i32_6 : BitVec 32 := 0#32
  ![c1_i32_4.toNat, c0_i32_5.toNat, v17.toNat]

def cc0_transform_6 (i : grid0.Coords) : Fin 3 → Nat :=
  let arg0 : BitVec 32 := BitVec.ofNat 32 (i 0).val
  let c8_i32 : BitVec 32 := 8#32
  let v0 : BitVec 32 := Scalar.muli arg0 c8_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let c0_i32_5 : BitVec 32 := 0#32
  let c0_i32_6 : BitVec 32 := 0#32
  ![c1_i32_4.toNat, c0_i32_5.toNat, v17.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x32x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x32x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference1Ideal.lean ====
abbrev S120x6x20x64 : Shape := ⟨4, ![120, 6, 20, 64]⟩
abbrev S120x6x4x64 : Shape := ⟨4, ![120, 6, 4, 64]⟩
abbrev S15360x128 : Shape := ⟨2, ![15360, 128]⟩
abbrev S61440x128 : Shape := ⟨2, ![61440, 128]⟩
abbrev S120 : Shape := ⟨1, ![120]⟩
abbrev S120x4x128 : Shape := ⟨3, ![120, 4, 128]⟩
abbrev S120x6x4x5x64 : Shape := ⟨5, ![120, 6, 4, 5, 64]⟩
abbrev S120x6x1x5x64 : Shape := ⟨5, ![120, 6, 1, 5, 64]⟩
abbrev S120x6x5x64 : Shape := ⟨4, ![120, 6, 5, 64]⟩
abbrev S120x6x1x64 : Shape := ⟨4, ![120, 6, 1, 64]⟩
abbrev S120x6x64 : Shape := ⟨3, ![120, 6, 64]⟩
abbrev S120x1x128 : Shape := ⟨3, ![120, 1, 128]⟩
abbrev S120x128 : Shape := ⟨2, ![120, 128]⟩
abbrev S15360x64 : Shape := ⟨2, ![15360, 64]⟩
abbrev S120x128x2x16x2 : Shape := ⟨5, ![120, 128, 2, 16, 2]⟩
abbrev S120x128x8x16 : Shape := ⟨4, ![120, 128, 8, 16]⟩
abbrev S120x128x8x16x1 : Shape := ⟨5, ![120, 128, 8, 16, 1]⟩
abbrev S8 : Shape := ⟨1, ![8]⟩
abbrev S_ : Shape := ⟨0, ![]⟩
abbrev S1x1x1x1x8 : Shape := ⟨5, ![1, 1, 1, 1, 8]⟩
abbrev S120x128x8x16x8 : Shape := ⟨5, ![120, 128, 8, 16, 8]⟩
abbrev S120x128x8x16x4x2 : Shape := ⟨6, ![120, 128, 8, 16, 4, 2]⟩
abbrev S120x128x8x2x16x4 : Shape := ⟨6, ![120, 128, 8, 2, 16, 4]⟩
abbrev S120x128x16x2x32 : Shape := ⟨5, ![120, 128, 16, 2, 32]⟩
abbrev S120x128x1x16x2 : Shape := ⟨5, ![120, 128, 1, 16, 2]⟩
abbrev S120x128x16x2 : Shape := ⟨4, ![120, 128, 16, 2]⟩
abbrev S120x128x16x2x1 : Shape := ⟨5, ![120, 128, 16, 2, 1]⟩
abbrev S120x128x16x64 : Shape := ⟨4, ![120, 128, 16, 64]⟩
abbrev S120x128x16x8 : Shape := ⟨4, ![120, 128, 16, 8]⟩
abbrev S120x128x16x8x1 : Shape := ⟨5, ![120, 128, 16, 8, 1]⟩
abbrev S120x128x16x8x8 : Shape := ⟨5, ![120, 128, 16, 8, 8]⟩
abbrev S120x6x5x128x16 : Shape := ⟨5, ![120, 6, 5, 128, 16]⟩
abbrev S120x1 : Shape := ⟨2, ![120, 1]⟩
abbrev S120x128x1 : Shape := ⟨3, ![120, 128, 1]⟩
abbrev S16 : Shape := ⟨1, ![16]⟩
abbrev S1x1x16 : Shape := ⟨3, ![1, 1, 16]⟩
abbrev S120x128x16 : Shape := ⟨3, ![120, 128, 16]⟩
abbrev S120x1x1x128x16 : Shape := ⟨5, ![120, 1, 1, 128, 16]⟩
abbrev S120x6x5x6 : Shape := ⟨4, ![120, 6, 5, 6]⟩
abbrev S6 : Shape := ⟨1, ![6]⟩
abbrev S6x1 : Shape := ⟨2, ![6, 1]⟩
abbrev S1x6 : Shape := ⟨2, ![1, 6]⟩
abbrev S6x6 : Shape := ⟨2, ![6, 6]⟩
abbrev S6x1x6 : Shape := ⟨3, ![6, 1, 6]⟩
abbrev S120x6x5x128 : Shape := ⟨4, ![120, 6, 5, 128]⟩
abbrev S120x6x5 : Shape := ⟨3, ![120, 6, 5]⟩
abbrev S120x6x5x1x1 : Shape := ⟨5, ![120, 6, 5, 1, 1]⟩
abbrev S120x6x5x1 : Shape := ⟨4, ![120, 6, 5, 1]⟩

abbrev nBuf : Space → Nat
  | .hbm => 161
  | .vmem => 0
  | .smem => 0
  | _ => 0

abbrev hbmTy0_0 (i : Nat) : BufTy := match i % 128 with
  | 0 => ⟨S120x6x20x64, .bf16⟩
  | 1 => ⟨S120x6x4x64, .bf16⟩
  | 2 => ⟨S120x6x4x64, .bf16⟩
  | 3 => ⟨S15360x128, .i32⟩
  | 4 => ⟨S15360x128, .i32⟩
  | 5 => ⟨S61440x128, .i32⟩
  | 6 => ⟨S120, .i32⟩
  | 7 => ⟨S120x4x128, .i32⟩
  | 8 => ⟨S120x6x4x5x64, .bf16⟩
  | 9 => ⟨S120x6x1x5x64, .bf16⟩
  | 10 => ⟨S120x6x5x64, .bf16⟩
  | 11 => ⟨S120x6x1x64, .bf16⟩
  | 12 => ⟨S120x6x64, .bf16⟩
  | 13 => ⟨S120x6x1x64, .bf16⟩
  | 14 => ⟨S120x6x64, .bf16⟩
  | 15 => ⟨S120x1x128, .i32⟩
  | 16 => ⟨S120x128, .i32⟩
  | 17 => ⟨S15360x64, .i32⟩
  | 18 => ⟨S15360x64, .i16⟩
  | 19 => ⟨S15360x64, .bf16⟩
  | 20 => ⟨S120x128x2x16x2, .bf16⟩
  | 21 => ⟨S120x128x8x16, .i32⟩
  | 22 => ⟨S120x128x8x16x1, .i32⟩
  | 23 => ⟨S8, .i32⟩
  | 24 => ⟨S_, .i32⟩
  | 25 => ⟨S8, .i32⟩
  | 26 => ⟨S8, .i32⟩
  | 27 => ⟨S1x1x1x1x8, .i32⟩
  | 28 => ⟨S120x128x8x16x8, .i32⟩
  | 29 => ⟨S120x128x8x16x8, .i32⟩
  | 30 => ⟨S120x128x8x16x8, .i32⟩
  | 31 => ⟨S_, .i32⟩
  | 32 => ⟨S120x128x8x16x8, .i32⟩
  | 33 => ⟨S120x128x8x16x8, .i32⟩
  | 34 => ⟨S_, .i32⟩
  | 35 => ⟨S120x128x8x16x8, .i32⟩
  | 36 => ⟨S120x128x8x16x8, .i1⟩
  | 37 => ⟨S_, .i32⟩
  | 38 => ⟨S120x128x8x16x8, .i32⟩
  | 39 => ⟨S120x128x8x16x8, .i32⟩
  | 40 => ⟨S120x128x8x16x8, .i32⟩
  | 41 => ⟨S120x128x8x16x8, .bf16⟩
  | 42 => ⟨S120x128x8x16x4x2, .bf16⟩
  | 43 => ⟨S120x128x8x2x16x4, .bf16⟩
  | 44 => ⟨S120x128x16x2x32, .bf16⟩
  | 45 => ⟨S120x128x1x16x2, .bf16⟩
  | 46 => ⟨S120x128x16x2, .bf16⟩
  | 47 => ⟨S120x128x16x2x1, .bf16⟩
  | 48 => ⟨S120x128x16x2x32, .bf16⟩
  | 49 => ⟨S120x128x16x2x32, .bf16⟩
  | 50 => ⟨S120x128x16x64, .bf16⟩
  | 51 => ⟨S120x128x16x8, .i32⟩
  | 52 => ⟨S120x128x16x8x1, .i32⟩
  | 53 => ⟨S8, .i32⟩
  | 54 => ⟨S_, .i32⟩
  | 55 => ⟨S8, .i32⟩
  | 56 => ⟨S8, .i32⟩
  | 57 => ⟨S1x1x1x1x8, .i32⟩
  | 58 => ⟨S120x128x16x8x8, .i32⟩
  | 59 => ⟨S120x128x16x8x8, .i32⟩
  | 60 => ⟨S120x128x16x8x8, .i32⟩
  | 61 => ⟨S_, .i32⟩
  | 62 => ⟨S120x128x16x8x8, .i32⟩
  | 63 => ⟨S120x128x16x8x8, .i32⟩
  | 64 => ⟨S_, .i32⟩
  | 65 => ⟨S120x128x16x8x8, .i32⟩
  | 66 => ⟨S120x128x16x8x8, .i1⟩
  | 67 => ⟨S_, .i32⟩
  | 68 => ⟨S120x128x16x8x8, .i32⟩
  | 69 => ⟨S120x128x16x8x8, .i32⟩
  | 70 => ⟨S120x128x16x8x8, .i32⟩
  | 71 => ⟨S120x128x16x8x8, .bf16⟩
  | 72 => ⟨S120x128x16x2x32, .bf16⟩
  | 73 => ⟨S120x128x1x16x2, .bf16⟩
  | 74 => ⟨S120x128x16x2, .bf16⟩
  | 75 => ⟨S120x128x16x2x1, .bf16⟩
  | 76 => ⟨S120x128x16x2x32, .bf16⟩
  | 77 => ⟨S120x128x16x2x32, .bf16⟩
  | 78 => ⟨S120x128x16x64, .bf16⟩
  | 79 => ⟨S120x6x5x128x16, .f32⟩
  | 80 => ⟨S_, .f32⟩
  | 81 => ⟨S120x6x5x128x16, .f32⟩
  | 82 => ⟨S120x6x5x128x16, .f32⟩
  | 83 => ⟨S120x1, .i32⟩
  | 84 => ⟨S_, .i32⟩
  | 85 => ⟨S120x128, .i32⟩
  | 86 => ⟨S120x128, .i32⟩
  | 87 => ⟨S120x128, .i32⟩
  | 88 => ⟨S120x128, .i32⟩
  | 89 => ⟨S_, .i32⟩
  | 90 => ⟨S120x128, .i32⟩
  | 91 => ⟨S120x128, .i1⟩
  | 92 => ⟨S120x128x1, .i1⟩
  | 93 => ⟨S120x128x1, .i32⟩
  | 94 => ⟨S16, .i32⟩
  | 95 => ⟨S1x1x16, .i32⟩
  | 96 => ⟨S120x128x16, .i32⟩
  | 97 => ⟨S120x128x16, .i32⟩
  | 98 => ⟨S120x128x16, .i1⟩
  | 99 => ⟨S120x128x16, .i1⟩
  | 100 => ⟨S120x128x16, .i1⟩
  | 101 => ⟨S120x1x1x128x16, .i1⟩
  | 102 => ⟨S_, .f32⟩
  | 103 => ⟨S_, .f32⟩
  | 104 => ⟨S120x6x5x128x16, .i1⟩
  | 105 => ⟨S120x6x5x128x16, .f32⟩
  | 106 => ⟨S120x6x5x128x16, .f32⟩
  | 107 => ⟨S120x6x5x6, .f32⟩
  | 108 => ⟨S_, .f32⟩
  | 109 => ⟨S120x6x5x6, .f32⟩
  | 110 => ⟨S120x6x5x6, .f32⟩
  | 111 => ⟨S6, .i32⟩
  | 112 => ⟨S6x1, .i32⟩
  | 113 => ⟨S6, .i32⟩
  | 114 => ⟨S1x6, .i32⟩
  | 115 => ⟨S6x6, .i32⟩
  | 116 => ⟨S6x6, .i32⟩
  | 117 => ⟨S6x6, .i1⟩
  | 118 => ⟨S6x1x6, .i1⟩
  | 119 => ⟨S_, .f32⟩
  | 120 => ⟨S_, .f32⟩
  | 121 => ⟨S120x6x5x6, .i1⟩
  | 122 => ⟨S120x6x5x6, .f32⟩
  | 123 => ⟨S120x6x5x6, .f32⟩
  | 124 => ⟨S_, .f32⟩
  | 125 => ⟨S120x6x5x128, .f32⟩
  | 126 => ⟨S_, .f32⟩
  | 127 => ⟨S120x6x5, .f32⟩
  | _ => ⟨S120x6x20x64, .bf16⟩

abbrev hbmTy0_1 (i : Nat) : BufTy := match i % 128 with
  | 0 => ⟨S_, .f32⟩
  | 1 => ⟨S120x6x5, .f32⟩
  | 2 => ⟨S120x6x5, .f32⟩
  | 3 => ⟨S120x6x5x1x1, .f32⟩
  | 4 => ⟨S120x6x5x128x16, .f32⟩
  | 5 => ⟨S120x6x5x128x16, .f32⟩
  | 6 => ⟨S120x6x5x128x16, .f32⟩
  | 7 => ⟨S120x6x5x1, .f32⟩
  | 8 => ⟨S120x6x5x6, .f32⟩
  | 9 => ⟨S120x6x5x6, .f32⟩
  | 10 => ⟨S120x6x5x6, .f32⟩
  | 11 => ⟨S_, .f32⟩
  | 12 => ⟨S120x6x5x128, .f32⟩
  | 13 => ⟨S_, .f32⟩
  | 14 => ⟨S120x6x5, .f32⟩
  | 15 => ⟨S_, .f32⟩
  | 16 => ⟨S120x6x5, .f32⟩
  | 17 => ⟨S120x6x5, .f32⟩
  | 18 => ⟨S_, .f32⟩
  | 19 => ⟨S120x6x5, .f32⟩
  | 20 => ⟨S120x6x5, .f32⟩
  | 21 => ⟨S120x6x5x1x1, .f32⟩
  | 22 => ⟨S120x6x5x128x16, .f32⟩
  | 23 => ⟨S120x6x5x128x16, .f32⟩
  | 24 => ⟨S120x6x5x128x16, .bf16⟩
  | 25 => ⟨S120x6x5x1, .f32⟩
  | 26 => ⟨S120x6x5x6, .f32⟩
  | 27 => ⟨S120x6x5x6, .f32⟩
  | 28 => ⟨S120x6x5x6, .bf16⟩
  | 29 => ⟨S120x6x5x64, .f32⟩
  | 30 => ⟨S120x6x5x64, .f32⟩
  | 31 => ⟨S120x6x5x64, .f32⟩
  | 32 => ⟨S120x6x5x64, .bf16⟩
  | _ => ⟨S120x6x20x64, .bf16⟩

abbrev hbmTy (i : Nat) : BufTy := match i / 128 with
  | 0 => hbmTy0_0 i
  | 1 => hbmTy0_1 i
  | _ => ⟨S120x6x20x64, .bf16⟩

abbrev bufTy : (tb : Table) → Fin (tcTables nBuf tb) → BufTy
  | .hbm, ⟨i, _⟩ => hbmTy i
  | _, _ => ⟨S120x6x20x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_0 : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_3 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_4 : Ref sig .tc := ⟨.hbm, 61, rfl⟩
abbrev main_v48 : Ref sig .tc := ⟨.hbm, 62, rfl⟩
abbrev main_v49 : Ref sig .tc := ⟨.hbm, 63, rfl⟩
abbrev main_c_5 : Ref sig .tc := ⟨.hbm, 64, rfl⟩
abbrev main_v50 : Ref sig .tc := ⟨.hbm, 65, rfl⟩
abbrev main_v51 : Ref sig .tc := ⟨.hbm, 66, rfl⟩
abbrev main_c_6 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_c_7 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_c_8 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_9 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_v83 : Ref sig .tc := ⟨.hbm, 106, rfl⟩
abbrev main_v84 : Ref sig .tc := ⟨.hbm, 107, rfl⟩
abbrev main_cst_10 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_11 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_v95 : Ref sig .tc := ⟨.hbm, 123, rfl⟩
abbrev main_cst_12 : Ref sig .tc := ⟨.hbm, 124, rfl⟩
abbrev main_v96 : Ref sig .tc := ⟨.hbm, 125, rfl⟩
abbrev main_cst_13 : Ref sig .tc := ⟨.hbm, 126, rfl⟩
abbrev main_v97 : Ref sig .tc := ⟨.hbm, 127, rfl⟩
abbrev main_cst_14 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_15 : Ref sig .tc := ⟨.hbm, 139, rfl⟩
abbrev main_v108 : Ref sig .tc := ⟨.hbm, 140, rfl⟩
abbrev main_cst_16 : Ref sig .tc := ⟨.hbm, 141, rfl⟩
abbrev main_v109 : Ref sig .tc := ⟨.hbm, 142, rfl⟩
abbrev main_cst_17 : Ref sig .tc := ⟨.hbm, 143, rfl⟩
abbrev main_v110 : Ref sig .tc := ⟨.hbm, 144, rfl⟩
abbrev main_v111 : Ref sig .tc := ⟨.hbm, 145, rfl⟩
abbrev main_cst_18 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩

abbrev nD : Nat := 1
abbrev τ : Topo := Topo.v7x

variable {F : FTy → Type} [FloatOps F]
-- ==== Kernel2.lean ====
abbrev S120x6x20x64 : Shape := ⟨4, ![120, 6, 20, 64]⟩
abbrev S120x6x4x64 : Shape := ⟨4, ![120, 6, 4, 64]⟩
abbrev S15360x128 : Shape := ⟨2, ![15360, 128]⟩
abbrev S61440x128 : Shape := ⟨2, ![61440, 128]⟩
abbrev S120 : Shape := ⟨1, ![120]⟩
abbrev S120x4x128 : Shape := ⟨3, ![120, 4, 128]⟩
abbrev S4x120x128 : Shape := ⟨3, ![4, 120, 128]⟩
abbrev S120x6x4x5x64 : Shape := ⟨5, ![120, 6, 4, 5, 64]⟩
abbrev S120x6x4x5x2x8x2x2 : Shape := ⟨8, ![120, 6, 4, 5, 2, 8, 2, 2]⟩
abbrev S120x6x4x5x2x2x8x2 : Shape := ⟨8, ![120, 6, 4, 5, 2, 2, 8, 2]⟩
abbrev S4x120x6x5x64 : Shape := ⟨5, ![4, 120, 6, 5, 64]⟩
abbrev S4x120x30x64 : Shape := ⟨4, ![4, 120, 30, 64]⟩
abbrev S_ : Shape := ⟨0, ![]⟩
abbrev S4x120x32x64 : Shape := ⟨4, ![4, 120, 32, 64]⟩
abbrev S120x6x4x2x8x2x2 : Shape := ⟨7, ![120, 6, 4, 2, 8, 2, 2]⟩
abbrev S120x6x4x2x2x8x2 : Shape := ⟨7, ![120, 6, 4, 2, 2, 8, 2]⟩
abbrev S120x8x4x64 : Shape := ⟨4, ![120, 8, 4, 64]⟩
abbrev S4x64x120x8 : Shape := ⟨4, ![4, 64, 120, 8]⟩
abbrev S4x64x960 : Shape := ⟨3, ![4, 64, 960]⟩
abbrev S4x64x1024 : Shape := ⟨3, ![4, 64, 1024]⟩
abbrev S120x6x4x8x2x4 : Shape := ⟨6, ![120, 6, 4, 8, 2, 4]⟩
abbrev S120x6x4x4x8x2 : Shape := ⟨6, ![120, 6, 4, 4, 8, 2]⟩
abbrev S1x120x32x64 : Shape := ⟨4, ![1, 120, 32, 64]⟩
abbrev S1024x128 : Shape := ⟨2, ![1024, 128]⟩
abbrev S1x8x128 : Shape := ⟨3, ![1, 8, 128]⟩
abbrev S1x8x32x64 : Shape := ⟨4, ![1, 8, 32, 64]⟩
abbrev S1x64x128 : Shape := ⟨3, ![1, 64, 128]⟩
abbrev S64x128 : Shape := ⟨2, ![64, 128]⟩
abbrev S8x128 : Shape := ⟨2, ![8, 128]⟩
abbrev S32x128 : Shape := ⟨2, ![32, 128]⟩
abbrev S1x1x128 : Shape := ⟨3, ![1, 1, 128]⟩
abbrev S1x128 : Shape := ⟨2, ![1, 128]⟩
abbrev S1 : Shape := ⟨1, ![1]⟩
abbrev S128x128 : Shape := ⟨2, ![128, 128]⟩
abbrev S1x1x32x64 : Shape := ⟨4, ![1, 1, 32, 64]⟩
abbrev S32x64 : Shape := ⟨2, ![32, 64]⟩
abbrev S16x128 : Shape := ⟨2, ![16, 128]⟩
abbrev S64x256 : Shape := ⟨2, ![64, 256]⟩
abbrev S32x256 : Shape := ⟨2, ![32, 256]⟩
abbrev S32 : Shape := ⟨1, ![32]⟩
abbrev S32x1 : Shape := ⟨2, ![32, 1]⟩
abbrev S32x2176 : Shape := ⟨2, ![32, 2176]⟩
abbrev S64x2176 : Shape := ⟨2, ![64, 2176]⟩
abbrev S1x120x30x64 : Shape := ⟨4, ![1, 120, 30, 64]⟩
abbrev S1x120x30x4x8x2 : Shape := ⟨6, ![1, 120, 30, 4, 8, 2]⟩
abbrev S1x120x30x8x2x4 : Shape := ⟨6, ![1, 120, 30, 8, 2, 4]⟩
abbrev S1x120x6x5x64 : Shape := ⟨5, ![1, 120, 6, 5, 64]⟩
abbrev S120x6x1x5x64 : Shape := ⟨5, ![120, 6, 1, 5, 64]⟩
abbrev S120x6x5x64 : Shape := ⟨4, ![120, 6, 5, 64]⟩

abbrev nBuf : Space → Nat
  | .hbm => 47
  | .vmem => 17
  | .smem => 1
  | _ => 0

abbrev bufTy : (tb : Table) → Fin (tcTables nBuf tb) → BufTy
  | .hbm, ⟨0, _⟩ => ⟨S120x6x20x64, .bf16⟩
  | .hbm, ⟨1, _⟩ => ⟨S120x6x4x64, .bf16⟩
  | .hbm, ⟨2, _⟩ => ⟨S120x6x4x64, .bf16⟩
  | .hbm, ⟨3, _⟩ => ⟨S15360x128, .i32⟩
  | .hbm, ⟨4, _⟩ => ⟨S15360x128, .i32⟩
  | .hbm, ⟨5, _⟩ => ⟨S61440x128, .i32⟩
  | .hbm, ⟨6, _⟩ => ⟨S120x4x128, .i32⟩
  | .hbm, ⟨7, _⟩ => ⟨S4x120x128, .i32⟩
  | .hbm, ⟨8, _⟩ => ⟨S120x6x4x5x64, .bf16⟩
  | .hbm, ⟨9, _⟩ => ⟨S120x6x4x5x2x8x2x2, .bf16⟩
  | .hbm, ⟨10, _⟩ => ⟨S120x6x4x5x2x2x8x2, .bf16⟩
  | .hbm, ⟨11, _⟩ => ⟨S120x6x4x5x64, .bf16⟩
  | .hbm, ⟨12, _⟩ => ⟨S4x120x6x5x64, .bf16⟩
  | .hbm, ⟨13, _⟩ => ⟨S4x120x30x64, .bf16⟩
  | .hbm, ⟨14, _⟩ => ⟨S_, .i32⟩
  | .hbm, ⟨15, _⟩ => ⟨S_, .bf16⟩
  | .hbm, ⟨16, _⟩ => ⟨S4x120x32x64, .bf16⟩
  | .hbm, ⟨17, _⟩ => ⟨S120x6x4x2x8x2x2, .bf16⟩
  | .hbm, ⟨18, _⟩ => ⟨S120x6x4x2x2x8x2, .bf16⟩
  | .hbm, ⟨19, _⟩ => ⟨S120x6x4x64, .bf16⟩
  | .hbm, ⟨20, _⟩ => ⟨S_, .i32⟩
  | .hbm, ⟨21, _⟩ => ⟨S_, .bf16⟩
  | .hbm, ⟨22, _⟩ => ⟨S120x8x4x64, .bf16⟩
  | .hbm, ⟨23, _⟩ => ⟨S4x64x120x8, .bf16⟩
  | .hbm, ⟨24, _⟩ => ⟨S4x64x960, .bf16⟩
  | .hbm, ⟨25, _⟩ => ⟨S_, .i32⟩
  | .hbm, ⟨26, _⟩ => ⟨S_, .bf16⟩
  | .hbm, ⟨27, _⟩ => ⟨S4x64x1024, .bf16⟩
  | .hbm, ⟨28, _⟩ => ⟨S120x6x4x8x2x4, .bf16⟩
  | .hbm, ⟨29, _⟩ => ⟨S120x6x4x4x8x2, .bf16⟩
  | .hbm, ⟨30, _⟩ => ⟨S120x6x4x64, .bf16⟩
  | .hbm, ⟨31, _⟩ => ⟨S_, .i32⟩
  | .hbm, ⟨32, _⟩ => ⟨S_, .bf16⟩
  | .hbm, ⟨33, _⟩ => ⟨S120x8x4x64, .bf16⟩
  | .hbm, ⟨34, _⟩ => ⟨S4x64x120x8, .bf16⟩
  | .hbm, ⟨35, _⟩ => ⟨S4x64x960, .bf16⟩
  | .hbm, ⟨36, _⟩ => ⟨S_, .i32⟩
  | .hbm, ⟨37, _⟩ => ⟨S_, .bf16⟩
  | .hbm, ⟨38, _⟩ => ⟨S4x64x1024, .bf16⟩
  | .hbm, ⟨39, _⟩ => ⟨S1x120x32x64, .bf16⟩
  | .hbm, ⟨40, _⟩ => ⟨S1x120x30x64, .bf16⟩
  | .hbm, ⟨41, _⟩ => ⟨S1x120x30x4x8x2, .bf16⟩
  | .hbm, ⟨42, _⟩ => ⟨S1x120x30x8x2x4, .bf16⟩
  | .hbm, ⟨43, _⟩ => ⟨S1x120x30x64, .bf16⟩
  | .hbm, ⟨44, _⟩ => ⟨S1x120x6x5x64, .bf16⟩
  | .hbm, ⟨45, _⟩ => ⟨S120x6x1x5x64, .bf16⟩
  | .hbm, ⟨46, _⟩ => ⟨S120x6x5x64, .bf16⟩
  | .local _ .vmem, ⟨0, _⟩ => ⟨S1024x128, .i32⟩
  | .local _ .vmem, ⟨1, _⟩ => ⟨S1024x128, .i32⟩
  | .local _ .vmem, ⟨2, _⟩ => ⟨S1024x128, .i32⟩
  | .local _ .vmem, ⟨3, _⟩ => ⟨S1024x128, .i32⟩
  | .local _ .vmem, ⟨4, _⟩ => ⟨S1024x128, .i32⟩
  | .local _ .vmem, ⟨5, _⟩ => ⟨S1024x128, .i32⟩
  | .local _ .vmem, ⟨6, _⟩ => ⟨S1x8x128, .i32⟩
  | .local _ .vmem, ⟨7, _⟩ => ⟨S1x8x128, .i32⟩
  | .local _ .vmem, ⟨8, _⟩ => ⟨S1x8x32x64, .bf16⟩
  | .local _ .vmem, ⟨9, _⟩ => ⟨S1x8x32x64, .bf16⟩
  | .local _ .vmem, ⟨10, _⟩ => ⟨S1x64x128, .bf16⟩
  | .local _ .vmem, ⟨11, _⟩ => ⟨S1x64x128, .bf16⟩
  | .local _ .vmem, ⟨12, _⟩ => ⟨S1x64x128, .bf16⟩
  | .local _ .vmem, ⟨13, _⟩ => ⟨S1x64x128, .bf16⟩
  | .local _ .vmem, ⟨14, _⟩ => ⟨S1x8x32x64, .bf16⟩
  | .local _ .vmem, ⟨15, _⟩ => ⟨S1x8x32x64, .bf16⟩
  | .local _ .vmem, ⟨16, _⟩ => ⟨S64x128, .i32⟩
  | .local _ .smem, ⟨0, _⟩ => ⟨S120, .i32⟩
  | _, _ => ⟨S120x6x20x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_call3_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_call4_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![15], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_off1 (k0_t1 : Fin k0_t1_loop.trips) : Fin 3 → Nat :=
  let c0 : Index := 0#32
  let c0_i32 : BitVec 32 := 0#32
  let c1_i32 : BitVec 32 := 1#32
  let arg11 : BitVec 32 := Scf.iv c0_i32 c1_i32 k0_t1
  let v6 : Index := Scalar.indexCast arg11
  let c0_2 : Index := 0#32
  ![0, v6.toNat, 0]
def k0_off2 (i : grid0.Coords) (k0_t1 : Fin k0_t1_loop.trips) : Fin 1 → Nat :=
  let arg0 : BitVec 32 := BitVec.ofNat 32 (i 0).val
  let c8_i32_1 : BitVec 32 := 8#32
  let v4 : BitVec 32 := Scalar.muli arg0 c8_i32_1
  let c0_i32 : BitVec 32 := 0#32
  let c1_i32 : BitVec 32 := 1#32
  let arg11 : BitVec 32 := Scf.iv c0_i32 c1_i32 k0_t1
  let v5 : BitVec 32 := Scalar.addi v4 arg11
  let v11 : Index := Scalar.indexCast v5
  ![v11.toNat]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v21 : BitVec 32 := Scalar.muli arg11 c128_i32
  let v22 : Index := Scalar.indexCast v21
  let c0_5 : Index := 0#32
  ![v22.toNat, 0]
def k0_off4 (k0_t1 : Fin k0_t1_loop.trips) : Fin 4 → Nat :=
  let c0_11 : Index := 0#32
  let c0_i32 : BitVec 32 := 0#32
  let c1_i32 : BitVec 32 := 1#32
  let arg11 : BitVec 32 := Scf.iv c0_i32 c1_i32 k0_t1
  let v39 : Index := Scalar.indexCast arg11
  let c0_12 : Index := 0#32
  let c0_13 : Index := 0#32
  ![0, v39.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c30_i32 : BitVec 32 := 30#32
  let v0 : BitVec 32 := Scalar.addi c30_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.muli arg0 c8_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let c0_i32_4 : BitVec 32 := 0#32
  let c0_i32_5 : BitVec 32 := 0#32
  ![c2_i32.toNat, c0_i32_4.toNat, v17.toNat]

def cc0_transform_6 (i : grid0.Coords) : Fin 3 → Nat :=
  let arg0 : BitVec 32 := BitVec.ofNat 32 (i 0).val
  let c8_i32 : BitVec 32 := 8#32
  let v0 : BitVec 32 := Scalar.muli arg0 c8_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let c0_i32_4 : BitVec 32 := 0#32
  let c0_i32_5 : BitVec 32 := 0#32
  ![c2_i32.toNat, c0_i32_4.toNat, v17.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x32x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x32x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel2Ideal.lean ====
abbrev S120x6x20x64 : Shape := ⟨4, ![120, 6, 20, 64]⟩
abbrev S120x6x4x64 : Shape := ⟨4, ![120, 6, 4, 64]⟩
abbrev S15360x128 : Shape := ⟨2, ![15360, 128]⟩
abbrev S61440x128 : Shape := ⟨2, ![61440, 128]⟩
abbrev S120 : Shape := ⟨1, ![120]⟩
abbrev S120x4x128 : Shape := ⟨3, ![120, 4, 128]⟩
abbrev S4x120x128 : Shape := ⟨3, ![4, 120, 128]⟩
abbrev S120x6x4x5x64 : Shape := ⟨5, ![120, 6, 4, 5, 64]⟩
abbrev S120x6x4x5x2x8x2x2 : Shape := ⟨8, ![120, 6, 4, 5, 2, 8, 2, 2]⟩
abbrev S120x6x4x5x2x2x8x2 : Shape := ⟨8, ![120, 6, 4, 5, 2, 2, 8, 2]⟩
abbrev S4x120x6x5x64 : Shape := ⟨5, ![4, 120, 6, 5, 64]⟩
abbrev S4x120x30x64 : Shape := ⟨4, ![4, 120, 30, 64]⟩
abbrev S_ : Shape := ⟨0, ![]⟩
abbrev S4x120x32x64 : Shape := ⟨4, ![4, 120, 32, 64]⟩
abbrev S120x6x4x2x8x2x2 : Shape := ⟨7, ![120, 6, 4, 2, 8, 2, 2]⟩
abbrev S120x6x4x2x2x8x2 : Shape := ⟨7, ![120, 6, 4, 2, 2, 8, 2]⟩
abbrev S120x8x4x64 : Shape := ⟨4, ![120, 8, 4, 64]⟩
abbrev S4x64x120x8 : Shape := ⟨4, ![4, 64, 120, 8]⟩
abbrev S4x64x960 : Shape := ⟨3, ![4, 64, 960]⟩
abbrev S4x64x1024 : Shape := ⟨3, ![4, 64, 1024]⟩
abbrev S120x6x4x8x2x4 : Shape := ⟨6, ![120, 6, 4, 8, 2, 4]⟩
abbrev S120x6x4x4x8x2 : Shape := ⟨6, ![120, 6, 4, 4, 8, 2]⟩
abbrev S1x120x32x64 : Shape := ⟨4, ![1, 120, 32, 64]⟩
abbrev S1024x128 : Shape := ⟨2, ![1024, 128]⟩
abbrev S1x8x128 : Shape := ⟨3, ![1, 8, 128]⟩
abbrev S1x8x32x64 : Shape := ⟨4, ![1, 8, 32, 64]⟩
abbrev S1x64x128 : Shape := ⟨3, ![1, 64, 128]⟩
abbrev S64x128 : Shape := ⟨2, ![64, 128]⟩
abbrev S8x128 : Shape := ⟨2, ![8, 128]⟩
abbrev S32x128 : Shape := ⟨2, ![32, 128]⟩
abbrev S1x1x128 : Shape := ⟨3, ![1, 1, 128]⟩
abbrev S1x128 : Shape := ⟨2, ![1, 128]⟩
abbrev S1 : Shape := ⟨1, ![1]⟩
abbrev S128x128 : Shape := ⟨2, ![128, 128]⟩
abbrev S1x1x32x64 : Shape := ⟨4, ![1, 1, 32, 64]⟩
abbrev S32x64 : Shape := ⟨2, ![32, 64]⟩
abbrev S16x128 : Shape := ⟨2, ![16, 128]⟩
abbrev S64x256 : Shape := ⟨2, ![64, 256]⟩
abbrev S32x256 : Shape := ⟨2, ![32, 256]⟩
abbrev S32 : Shape := ⟨1, ![32]⟩
abbrev S32x1 : Shape := ⟨2, ![32, 1]⟩
abbrev S32x2176 : Shape := ⟨2, ![32, 2176]⟩
abbrev S64x2176 : Shape := ⟨2, ![64, 2176]⟩
abbrev S1x120x30x64 : Shape := ⟨4, ![1, 120, 30, 64]⟩
abbrev S1x120x30x4x8x2 : Shape := ⟨6, ![1, 120, 30, 4, 8, 2]⟩
abbrev S1x120x30x8x2x4 : Shape := ⟨6, ![1, 120, 30, 8, 2, 4]⟩
abbrev S1x120x6x5x64 : Shape := ⟨5, ![1, 120, 6, 5, 64]⟩
abbrev S120x6x1x5x64 : Shape := ⟨5, ![120, 6, 1, 5, 64]⟩
abbrev S120x6x5x64 : Shape := ⟨4, ![120, 6, 5, 64]⟩

abbrev nBuf : Space → Nat
  | .hbm => 47
  | .vmem => 17
  | .smem => 1
  | _ => 0

abbrev bufTy : (tb : Table) → Fin (tcTables nBuf tb) → BufTy
  | .hbm, ⟨0, _⟩ => ⟨S120x6x20x64, .bf16⟩
  | .hbm, ⟨1, _⟩ => ⟨S120x6x4x64, .bf16⟩
  | .hbm, ⟨2, _⟩ => ⟨S120x6x4x64, .bf16⟩
  | .hbm, ⟨3, _⟩ => ⟨S15360x128, .i32⟩
  | .hbm, ⟨4, _⟩ => ⟨S15360x128, .i32⟩
  | .hbm, ⟨5, _⟩ => ⟨S61440x128, .i32⟩
  | .hbm, ⟨6, _⟩ => ⟨S120x4x128, .i32⟩
  | .hbm, ⟨7, _⟩ => ⟨S4x120x128, .i32⟩
  | .hbm, ⟨8, _⟩ => ⟨S120x6x4x5x64, .bf16⟩
  | .hbm, ⟨9, _⟩ => ⟨S120x6x4x5x2x8x2x2, .bf16⟩
  | .hbm, ⟨10, _⟩ => ⟨S120x6x4x5x2x2x8x2, .bf16⟩
  | .hbm, ⟨11, _⟩ => ⟨S120x6x4x5x64, .bf16⟩
  | .hbm, ⟨12, _⟩ => ⟨S4x120x6x5x64, .bf16⟩
  | .hbm, ⟨13, _⟩ => ⟨S4x120x30x64, .bf16⟩
  | .hbm, ⟨14, _⟩ => ⟨S_, .i32⟩
  | .hbm, ⟨15, _⟩ => ⟨S_, .bf16⟩
  | .hbm, ⟨16, _⟩ => ⟨S4x120x32x64, .bf16⟩
  | .hbm, ⟨17, _⟩ => ⟨S120x6x4x2x8x2x2, .bf16⟩
  | .hbm, ⟨18, _⟩ => ⟨S120x6x4x2x2x8x2, .bf16⟩
  | .hbm, ⟨19, _⟩ => ⟨S120x6x4x64, .bf16⟩
  | .hbm, ⟨20, _⟩ => ⟨S_, .i32⟩
  | .hbm, ⟨21, _⟩ => ⟨S_, .bf16⟩
  | .hbm, ⟨22, _⟩ => ⟨S120x8x4x64, .bf16⟩
  | .hbm, ⟨23, _⟩ => ⟨S4x64x120x8, .bf16⟩
  | .hbm, ⟨24, _⟩ => ⟨S4x64x960, .bf16⟩
  | .hbm, ⟨25, _⟩ => ⟨S_, .i32⟩
  | .hbm, ⟨26, _⟩ => ⟨S_, .bf16⟩
  | .hbm, ⟨27, _⟩ => ⟨S4x64x1024, .bf16⟩
  | .hbm, ⟨28, _⟩ => ⟨S120x6x4x8x2x4, .bf16⟩
  | .hbm, ⟨29, _⟩ => ⟨S120x6x4x4x8x2, .bf16⟩
  | .hbm, ⟨30, _⟩ => ⟨S120x6x4x64, .bf16⟩
  | .hbm, ⟨31, _⟩ => ⟨S_, .i32⟩
  | .hbm, ⟨32, _⟩ => ⟨S_, .bf16⟩
  | .hbm, ⟨33, _⟩ => ⟨S120x8x4x64, .bf16⟩
  | .hbm, ⟨34, _⟩ => ⟨S4x64x120x8, .bf16⟩
  | .hbm, ⟨35, _⟩ => ⟨S4x64x960, .bf16⟩
  | .hbm, ⟨36, _⟩ => ⟨S_, .i32⟩
  | .hbm, ⟨37, _⟩ => ⟨S_, .bf16⟩
  | .hbm, ⟨38, _⟩ => ⟨S4x64x1024, .bf16⟩
  | .hbm, ⟨39, _⟩ => ⟨S1x120x32x64, .bf16⟩
  | .hbm, ⟨40, _⟩ => ⟨S1x120x30x64, .bf16⟩
  | .hbm, ⟨41, _⟩ => ⟨S1x120x30x4x8x2, .bf16⟩
  | .hbm, ⟨42, _⟩ => ⟨S1x120x30x8x2x4, .bf16⟩
  | .hbm, ⟨43, _⟩ => ⟨S1x120x30x64, .bf16⟩
  | .hbm, ⟨44, _⟩ => ⟨S1x120x6x5x64, .bf16⟩
  | .hbm, ⟨45, _⟩ => ⟨S120x6x1x5x64, .bf16⟩
  | .hbm, ⟨46, _⟩ => ⟨S120x6x5x64, .bf16⟩
  | .local _ .vmem, ⟨0, _⟩ => ⟨S1024x128, .i32⟩
  | .local _ .vmem, ⟨1, _⟩ => ⟨S1024x128, .i32⟩
  | .local _ .vmem, ⟨2, _⟩ => ⟨S1024x128, .i32⟩
  | .local _ .vmem, ⟨3, _⟩ => ⟨S1024x128, .i32⟩
  | .local _ .vmem, ⟨4, _⟩ => ⟨S1024x128, .i32⟩
  | .local _ .vmem, ⟨5, _⟩ => ⟨S1024x128, .i32⟩
  | .local _ .vmem, ⟨6, _⟩ => ⟨S1x8x128, .i32⟩
  | .local _ .vmem, ⟨7, _⟩ => ⟨S1x8x128, .i32⟩
  | .local _ .vmem, ⟨8, _⟩ => ⟨S1x8x32x64, .bf16⟩
  | .local _ .vmem, ⟨9, _⟩ => ⟨S1x8x32x64, .bf16⟩
  | .local _ .vmem, ⟨10, _⟩ => ⟨S1x64x128, .bf16⟩
  | .local _ .vmem, ⟨11, _⟩ => ⟨S1x64x128, .bf16⟩
  | .local _ .vmem, ⟨12, _⟩ => ⟨S1x64x128, .bf16⟩
  | .local _ .vmem, ⟨13, _⟩ => ⟨S1x64x128, .bf16⟩
  | .local _ .vmem, ⟨14, _⟩ => ⟨S1x8x32x64, .bf16⟩
  | .local _ .vmem, ⟨15, _⟩ => ⟨S1x8x32x64, .bf16⟩
  | .local _ .vmem, ⟨16, _⟩ => ⟨S64x128, .i32⟩
  | .local _ .smem, ⟨0, _⟩ => ⟨S120, .i32⟩
  | _, _ => ⟨S120x6x20x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_call3_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_call4_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "log2e_8" => some (((8 * (Real.log 2))⁻¹ : ℝ) : EReal)
  | _ => none

abbrev grid0 : Pipeline.Grid := ⟨1, ![15], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_off1 (k0_t1 : Fin k0_t1_loop.trips) : Fin 3 → Nat :=
  let c0 : Index := 0#32
  let c0_i32 : BitVec 32 := 0#32
  let c1_i32 : BitVec 32 := 1#32
  let arg11 : BitVec 32 := Scf.iv c0_i32 c1_i32 k0_t1
  let v6 : Index := Scalar.indexCast arg11
  let c0_2 : Index := 0#32
  ![0, v6.toNat, 0]
def k0_off2 (i : grid0.Coords) (k0_t1 : Fin k0_t1_loop.trips) : Fin 1 → Nat :=
  let arg0 : BitVec 32 := BitVec.ofNat 32 (i 0).val
  let c8_i32_1 : BitVec 32 := 8#32
  let v4 : BitVec 32 := Scalar.muli arg0 c8_i32_1
  let c0_i32 : BitVec 32 := 0#32
  let c1_i32 : BitVec 32 := 1#32
  let arg11 : BitVec 32 := Scf.iv c0_i32 c1_i32 k0_t1
  let v5 : BitVec 32 := Scalar.addi v4 arg11
  let v11 : Index := Scalar.indexCast v5
  ![v11.toNat]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v21 : BitVec 32 := Scalar.muli arg11 c128_i32
  let v22 : Index := Scalar.indexCast v21
  let c0_5 : Index := 0#32
  ![v22.toNat, 0]
def k0_off4 (k0_t1 : Fin k0_t1_loop.trips) : Fin 4 → Nat :=
  let c0_11 : Index := 0#32
  let c0_i32 : BitVec 32 := 0#32
  let c1_i32 : BitVec 32 := 1#32
  let arg11 : BitVec 32 := Scf.iv c0_i32 c1_i32 k0_t1
  let v39 : Index := Scalar.indexCast arg11
  let c0_12 : Index := 0#32
  let c0_13 : Index := 0#32
  ![0, v39.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c30_i32 : BitVec 32 := 30#32
  let v0 : BitVec 32 := Scalar.addi c30_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.muli arg0 c8_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let c0_i32_4 : BitVec 32 := 0#32
  let c0_i32_5 : BitVec 32 := 0#32
  ![c2_i32.toNat, c0_i32_4.toNat, v17.toNat]

def cc0_transform_6 (i : grid0.Coords) : Fin 3 → Nat :=
  let arg0 : BitVec 32 := BitVec.ofNat 32 (i 0).val
  let c8_i32 : BitVec 32 := 8#32
  let v0 : BitVec 32 := Scalar.muli arg0 c8_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let c0_i32_4 : BitVec 32 := 0#32
  let c0_i32_5 : BitVec 32 := 0#32
  ![c2_i32.toNat, c0_i32_4.toNat, v17.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x32x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x32x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S120x6x20x64 : Shape := ⟨4, ![120, 6, 20, 64]⟩
abbrev S120x6x4x64 : Shape := ⟨4, ![120, 6, 4, 64]⟩
abbrev S15360x128 : Shape := ⟨2, ![15360, 128]⟩
abbrev S61440x128 : Shape := ⟨2, ![61440, 128]⟩
abbrev S120 : Shape := ⟨1, ![120]⟩
abbrev S120x4x128 : Shape := ⟨3, ![120, 4, 128]⟩
abbrev S120x6x4x5x64 : Shape := ⟨5, ![120, 6, 4, 5, 64]⟩
abbrev S120x6x1x5x64 : Shape := ⟨5, ![120, 6, 1, 5, 64]⟩
abbrev S120x6x5x64 : Shape := ⟨4, ![120, 6, 5, 64]⟩
abbrev S120x6x1x64 : Shape := ⟨4, ![120, 6, 1, 64]⟩
abbrev S120x6x64 : Shape := ⟨3, ![120, 6, 64]⟩
abbrev S120x1x128 : Shape := ⟨3, ![120, 1, 128]⟩
abbrev S120x128 : Shape := ⟨2, ![120, 128]⟩
abbrev S15360x64 : Shape := ⟨2, ![15360, 64]⟩
abbrev S120x128x2x16x2 : Shape := ⟨5, ![120, 128, 2, 16, 2]⟩
abbrev S120x128x8x16 : Shape := ⟨4, ![120, 128, 8, 16]⟩
abbrev S120x128x8x16x1 : Shape := ⟨5, ![120, 128, 8, 16, 1]⟩
abbrev S8 : Shape := ⟨1, ![8]⟩
abbrev S_ : Shape := ⟨0, ![]⟩
abbrev S1x1x1x1x8 : Shape := ⟨5, ![1, 1, 1, 1, 8]⟩
abbrev S120x128x8x16x8 : Shape := ⟨5, ![120, 128, 8, 16, 8]⟩
abbrev S120x128x8x16x4x2 : Shape := ⟨6, ![120, 128, 8, 16, 4, 2]⟩
abbrev S120x128x8x2x16x4 : Shape := ⟨6, ![120, 128, 8, 2, 16, 4]⟩
abbrev S120x128x16x2x32 : Shape := ⟨5, ![120, 128, 16, 2, 32]⟩
abbrev S120x128x1x16x2 : Shape := ⟨5, ![120, 128, 1, 16, 2]⟩
abbrev S120x128x16x2 : Shape := ⟨4, ![120, 128, 16, 2]⟩
abbrev S120x128x16x2x1 : Shape := ⟨5, ![120, 128, 16, 2, 1]⟩
abbrev S120x128x16x64 : Shape := ⟨4, ![120, 128, 16, 64]⟩
abbrev S120x128x16x8 : Shape := ⟨4, ![120, 128, 16, 8]⟩
abbrev S120x128x16x8x1 : Shape := ⟨5, ![120, 128, 16, 8, 1]⟩
abbrev S120x128x16x8x8 : Shape := ⟨5, ![120, 128, 16, 8, 8]⟩
abbrev S120x6x5x128x16 : Shape := ⟨5, ![120, 6, 5, 128, 16]⟩
abbrev S120x1 : Shape := ⟨2, ![120, 1]⟩
abbrev S120x128x1 : Shape := ⟨3, ![120, 128, 1]⟩
abbrev S16 : Shape := ⟨1, ![16]⟩
abbrev S1x1x16 : Shape := ⟨3, ![1, 1, 16]⟩
abbrev S120x128x16 : Shape := ⟨3, ![120, 128, 16]⟩
abbrev S120x1x1x128x16 : Shape := ⟨5, ![120, 1, 1, 128, 16]⟩
abbrev S120x6x5x6 : Shape := ⟨4, ![120, 6, 5, 6]⟩
abbrev S6 : Shape := ⟨1, ![6]⟩
abbrev S6x1 : Shape := ⟨2, ![6, 1]⟩
abbrev S1x6 : Shape := ⟨2, ![1, 6]⟩
abbrev S6x6 : Shape := ⟨2, ![6, 6]⟩
abbrev S6x1x6 : Shape := ⟨3, ![6, 1, 6]⟩
abbrev S120x6x5x128 : Shape := ⟨4, ![120, 6, 5, 128]⟩
abbrev S120x6x5 : Shape := ⟨3, ![120, 6, 5]⟩
abbrev S120x6x5x1x1 : Shape := ⟨5, ![120, 6, 5, 1, 1]⟩
abbrev S120x6x5x1 : Shape := ⟨4, ![120, 6, 5, 1]⟩

abbrev nBuf : Space → Nat
  | .hbm => 161
  | .vmem => 0
  | .smem => 0
  | _ => 0

abbrev hbmTy0_0 (i : Nat) : BufTy := match i % 128 with
  | 0 => ⟨S120x6x20x64, .bf16⟩
  | 1 => ⟨S120x6x4x64, .bf16⟩
  | 2 => ⟨S120x6x4x64, .bf16⟩
  | 3 => ⟨S15360x128, .i32⟩
  | 4 => ⟨S15360x128, .i32⟩
  | 5 => ⟨S61440x128, .i32⟩
  | 6 => ⟨S120, .i32⟩
  | 7 => ⟨S120x4x128, .i32⟩
  | 8 => ⟨S120x6x4x5x64, .bf16⟩
  | 9 => ⟨S120x6x1x5x64, .bf16⟩
  | 10 => ⟨S120x6x5x64, .bf16⟩
  | 11 => ⟨S120x6x1x64, .bf16⟩
  | 12 => ⟨S120x6x64, .bf16⟩
  | 13 => ⟨S120x6x1x64, .bf16⟩
  | 14 => ⟨S120x6x64, .bf16⟩
  | 15 => ⟨S120x1x128, .i32⟩
  | 16 => ⟨S120x128, .i32⟩
  | 17 => ⟨S15360x64, .i32⟩
  | 18 => ⟨S15360x64, .i16⟩
  | 19 => ⟨S15360x64, .bf16⟩
  | 20 => ⟨S120x128x2x16x2, .bf16⟩
  | 21 => ⟨S120x128x8x16, .i32⟩
  | 22 => ⟨S120x128x8x16x1, .i32⟩
  | 23 => ⟨S8, .i32⟩
  | 24 => ⟨S_, .i32⟩
  | 25 => ⟨S8, .i32⟩
  | 26 => ⟨S8, .i32⟩
  | 27 => ⟨S1x1x1x1x8, .i32⟩
  | 28 => ⟨S120x128x8x16x8, .i32⟩
  | 29 => ⟨S120x128x8x16x8, .i32⟩
  | 30 => ⟨S120x128x8x16x8, .i32⟩
  | 31 => ⟨S_, .i32⟩
  | 32 => ⟨S120x128x8x16x8, .i32⟩
  | 33 => ⟨S120x128x8x16x8, .i32⟩
  | 34 => ⟨S_, .i32⟩
  | 35 => ⟨S120x128x8x16x8, .i32⟩
  | 36 => ⟨S120x128x8x16x8, .i1⟩
  | 37 => ⟨S_, .i32⟩
  | 38 => ⟨S120x128x8x16x8, .i32⟩
  | 39 => ⟨S120x128x8x16x8, .i32⟩
  | 40 => ⟨S120x128x8x16x8, .i32⟩
  | 41 => ⟨S120x128x8x16x8, .bf16⟩
  | 42 => ⟨S120x128x8x16x4x2, .bf16⟩
  | 43 => ⟨S120x128x8x2x16x4, .bf16⟩
  | 44 => ⟨S120x128x16x2x32, .bf16⟩
  | 45 => ⟨S120x128x1x16x2, .bf16⟩
  | 46 => ⟨S120x128x16x2, .bf16⟩
  | 47 => ⟨S120x128x16x2x1, .bf16⟩
  | 48 => ⟨S120x128x16x2x32, .bf16⟩
  | 49 => ⟨S120x128x16x2x32, .bf16⟩
  | 50 => ⟨S120x128x16x64, .bf16⟩
  | 51 => ⟨S120x128x16x8, .i32⟩
  | 52 => ⟨S120x128x16x8x1, .i32⟩
  | 53 => ⟨S8, .i32⟩
  | 54 => ⟨S_, .i32⟩
  | 55 => ⟨S8, .i32⟩
  | 56 => ⟨S8, .i32⟩
  | 57 => ⟨S1x1x1x1x8, .i32⟩
  | 58 => ⟨S120x128x16x8x8, .i32⟩
  | 59 => ⟨S120x128x16x8x8, .i32⟩
  | 60 => ⟨S120x128x16x8x8, .i32⟩
  | 61 => ⟨S_, .i32⟩
  | 62 => ⟨S120x128x16x8x8, .i32⟩
  | 63 => ⟨S120x128x16x8x8, .i32⟩
  | 64 => ⟨S_, .i32⟩
  | 65 => ⟨S120x128x16x8x8, .i32⟩
  | 66 => ⟨S120x128x16x8x8, .i1⟩
  | 67 => ⟨S_, .i32⟩
  | 68 => ⟨S120x128x16x8x8, .i32⟩
  | 69 => ⟨S120x128x16x8x8, .i32⟩
  | 70 => ⟨S120x128x16x8x8, .i32⟩
  | 71 => ⟨S120x128x16x8x8, .bf16⟩
  | 72 => ⟨S120x128x16x2x32, .bf16⟩
  | 73 => ⟨S120x128x1x16x2, .bf16⟩
  | 74 => ⟨S120x128x16x2, .bf16⟩
  | 75 => ⟨S120x128x16x2x1, .bf16⟩
  | 76 => ⟨S120x128x16x2x32, .bf16⟩
  | 77 => ⟨S120x128x16x2x32, .bf16⟩
  | 78 => ⟨S120x128x16x64, .bf16⟩
  | 79 => ⟨S120x6x5x128x16, .f32⟩
  | 80 => ⟨S_, .f32⟩
  | 81 => ⟨S120x6x5x128x16, .f32⟩
  | 82 => ⟨S120x6x5x128x16, .f32⟩
  | 83 => ⟨S120x1, .i32⟩
  | 84 => ⟨S_, .i32⟩
  | 85 => ⟨S120x128, .i32⟩
  | 86 => ⟨S120x128, .i32⟩
  | 87 => ⟨S120x128, .i32⟩
  | 88 => ⟨S120x128, .i32⟩
  | 89 => ⟨S_, .i32⟩
  | 90 => ⟨S120x128, .i32⟩
  | 91 => ⟨S120x128, .i1⟩
  | 92 => ⟨S120x128x1, .i1⟩
  | 93 => ⟨S120x128x1, .i32⟩
  | 94 => ⟨S16, .i32⟩
  | 95 => ⟨S1x1x16, .i32⟩
  | 96 => ⟨S120x128x16, .i32⟩
  | 97 => ⟨S120x128x16, .i32⟩
  | 98 => ⟨S120x128x16, .i1⟩
  | 99 => ⟨S120x128x16, .i1⟩
  | 100 => ⟨S120x128x16, .i1⟩
  | 101 => ⟨S120x1x1x128x16, .i1⟩
  | 102 => ⟨S_, .f32⟩
  | 103 => ⟨S_, .f32⟩
  | 104 => ⟨S120x6x5x128x16, .i1⟩
  | 105 => ⟨S120x6x5x128x16, .f32⟩
  | 106 => ⟨S120x6x5x128x16, .f32⟩
  | 107 => ⟨S120x6x5x6, .f32⟩
  | 108 => ⟨S_, .f32⟩
  | 109 => ⟨S120x6x5x6, .f32⟩
  | 110 => ⟨S120x6x5x6, .f32⟩
  | 111 => ⟨S6, .i32⟩
  | 112 => ⟨S6x1, .i32⟩
  | 113 => ⟨S6, .i32⟩
  | 114 => ⟨S1x6, .i32⟩
  | 115 => ⟨S6x6, .i32⟩
  | 116 => ⟨S6x6, .i32⟩
  | 117 => ⟨S6x6, .i1⟩
  | 118 => ⟨S6x1x6, .i1⟩
  | 119 => ⟨S_, .f32⟩
  | 120 => ⟨S_, .f32⟩
  | 121 => ⟨S120x6x5x6, .i1⟩
  | 122 => ⟨S120x6x5x6, .f32⟩
  | 123 => ⟨S120x6x5x6, .f32⟩
  | 124 => ⟨S_, .f32⟩
  | 125 => ⟨S120x6x5x128, .f32⟩
  | 126 => ⟨S_, .f32⟩
  | 127 => ⟨S120x6x5, .f32⟩
  | _ => ⟨S120x6x20x64, .bf16⟩

abbrev hbmTy0_1 (i : Nat) : BufTy := match i % 128 with
  | 0 => ⟨S_, .f32⟩
  | 1 => ⟨S120x6x5, .f32⟩
  | 2 => ⟨S120x6x5, .f32⟩
  | 3 => ⟨S120x6x5x1x1, .f32⟩
  | 4 => ⟨S120x6x5x128x16, .f32⟩
  | 5 => ⟨S120x6x5x128x16, .f32⟩
  | 6 => ⟨S120x6x5x128x16, .f32⟩
  | 7 => ⟨S120x6x5x1, .f32⟩
  | 8 => ⟨S120x6x5x6, .f32⟩
  | 9 => ⟨S120x6x5x6, .f32⟩
  | 10 => ⟨S120x6x5x6, .f32⟩
  | 11 => ⟨S_, .f32⟩
  | 12 => ⟨S120x6x5x128, .f32⟩
  | 13 => ⟨S_, .f32⟩
  | 14 => ⟨S120x6x5, .f32⟩
  | 15 => ⟨S_, .f32⟩
  | 16 => ⟨S120x6x5, .f32⟩
  | 17 => ⟨S120x6x5, .f32⟩
  | 18 => ⟨S_, .f32⟩
  | 19 => ⟨S120x6x5, .f32⟩
  | 20 => ⟨S120x6x5, .f32⟩
  | 21 => ⟨S120x6x5x1x1, .f32⟩
  | 22 => ⟨S120x6x5x128x16, .f32⟩
  | 23 => ⟨S120x6x5x128x16, .f32⟩
  | 24 => ⟨S120x6x5x128x16, .bf16⟩
  | 25 => ⟨S120x6x5x1, .f32⟩
  | 26 => ⟨S120x6x5x6, .f32⟩
  | 27 => ⟨S120x6x5x6, .f32⟩
  | 28 => ⟨S120x6x5x6, .bf16⟩
  | 29 => ⟨S120x6x5x64, .f32⟩
  | 30 => ⟨S120x6x5x64, .f32⟩
  | 31 => ⟨S120x6x5x64, .f32⟩
  | 32 => ⟨S120x6x5x64, .bf16⟩
  | _ => ⟨S120x6x20x64, .bf16⟩

abbrev hbmTy (i : Nat) : BufTy := match i / 128 with
  | 0 => hbmTy0_0 i
  | 1 => hbmTy0_1 i
  | _ => ⟨S120x6x20x64, .bf16⟩

abbrev bufTy : (tb : Table) → Fin (tcTables nBuf tb) → BufTy
  | .hbm, ⟨i, _⟩ => hbmTy i
  | _, _ => ⟨S120x6x20x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_0 : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_3 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_4 : Ref sig .tc := ⟨.hbm, 61, rfl⟩
abbrev main_v48 : Ref sig .tc := ⟨.hbm, 62, rfl⟩
abbrev main_v49 : Ref sig .tc := ⟨.hbm, 63, rfl⟩
abbrev main_c_5 : Ref sig .tc := ⟨.hbm, 64, rfl⟩
abbrev main_v50 : Ref sig .tc := ⟨.hbm, 65, rfl⟩
abbrev main_v51 : Ref sig .tc := ⟨.hbm, 66, rfl⟩
abbrev main_c_6 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_c_7 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_c_8 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_9 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_v83 : Ref sig .tc := ⟨.hbm, 106, rfl⟩
abbrev main_v84 : Ref sig .tc := ⟨.hbm, 107, rfl⟩
abbrev main_cst_10 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_11 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_v95 : Ref sig .tc := ⟨.hbm, 123, rfl⟩
abbrev main_cst_12 : Ref sig .tc := ⟨.hbm, 124, rfl⟩
abbrev main_v96 : Ref sig .tc := ⟨.hbm, 125, rfl⟩
abbrev main_cst_13 : Ref sig .tc := ⟨.hbm, 126, rfl⟩
abbrev main_v97 : Ref sig .tc := ⟨.hbm, 127, rfl⟩
abbrev main_cst_14 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_15 : Ref sig .tc := ⟨.hbm, 139, rfl⟩
abbrev main_v108 : Ref sig .tc := ⟨.hbm, 140, rfl⟩
abbrev main_cst_16 : Ref sig .tc := ⟨.hbm, 141, rfl⟩
abbrev main_v109 : Ref sig .tc := ⟨.hbm, 142, rfl⟩
abbrev main_cst_17 : Ref sig .tc := ⟨.hbm, 143, rfl⟩
abbrev main_v110 : Ref sig .tc := ⟨.hbm, 144, rfl⟩
abbrev main_v111 : Ref sig .tc := ⟨.hbm, 145, rfl⟩
abbrev main_cst_18 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩

abbrev nD : Nat := 1
abbrev τ : Topo := Topo.v7x

variable {F : FTy → Type} [FloatOps F]
-- ==== Kernel3.lean ====
abbrev S120x6x20x64 : Shape := ⟨4, ![120, 6, 20, 64]⟩
abbrev S120x6x4x64 : Shape := ⟨4, ![120, 6, 4, 64]⟩
abbrev S15360x128 : Shape := ⟨2, ![15360, 128]⟩
abbrev S61440x128 : Shape := ⟨2, ![61440, 128]⟩
abbrev S120 : Shape := ⟨1, ![120]⟩
abbrev S120x4x128 : Shape := ⟨3, ![120, 4, 128]⟩
abbrev S4x120x128 : Shape := ⟨3, ![4, 120, 128]⟩
abbrev S120x6x4x5x64 : Shape := ⟨5, ![120, 6, 4, 5, 64]⟩
abbrev S120x6x4x5x2x8x2x2 : Shape := ⟨8, ![120, 6, 4, 5, 2, 8, 2, 2]⟩
abbrev S120x6x4x5x2x2x8x2 : Shape := ⟨8, ![120, 6, 4, 5, 2, 2, 8, 2]⟩
abbrev S4x120x6x5x64 : Shape := ⟨5, ![4, 120, 6, 5, 64]⟩
abbrev S4x120x30x64 : Shape := ⟨4, ![4, 120, 30, 64]⟩
abbrev S_ : Shape := ⟨0, ![]⟩
abbrev S4x120x32x64 : Shape := ⟨4, ![4, 120, 32, 64]⟩
abbrev S120x6x4x2x8x2x2 : Shape := ⟨7, ![120, 6, 4, 2, 8, 2, 2]⟩
abbrev S120x6x4x2x2x8x2 : Shape := ⟨7, ![120, 6, 4, 2, 2, 8, 2]⟩
abbrev S120x8x4x64 : Shape := ⟨4, ![120, 8, 4, 64]⟩
abbrev S4x64x120x8 : Shape := ⟨4, ![4, 64, 120, 8]⟩
abbrev S4x64x960 : Shape := ⟨3, ![4, 64, 960]⟩
abbrev S4x64x1024 : Shape := ⟨3, ![4, 64, 1024]⟩
abbrev S120x6x4x8x2x4 : Shape := ⟨6, ![120, 6, 4, 8, 2, 4]⟩
abbrev S120x6x4x4x8x2 : Shape := ⟨6, ![120, 6, 4, 4, 8, 2]⟩
abbrev S1x120x32x64 : Shape := ⟨4, ![1, 120, 32, 64]⟩
abbrev S1024x128 : Shape := ⟨2, ![1024, 128]⟩
abbrev S1x8x128 : Shape := ⟨3, ![1, 8, 128]⟩
abbrev S1x8x32x64 : Shape := ⟨4, ![1, 8, 32, 64]⟩
abbrev S1x64x128 : Shape := ⟨3, ![1, 64, 128]⟩
abbrev S64x128 : Shape := ⟨2, ![64, 128]⟩
abbrev S8x128 : Shape := ⟨2, ![8, 128]⟩
abbrev S32x128 : Shape := ⟨2, ![32, 128]⟩
abbrev S1x1x128 : Shape := ⟨3, ![1, 1, 128]⟩
abbrev S1x128 : Shape := ⟨2, ![1, 128]⟩
abbrev S1 : Shape := ⟨1, ![1]⟩
abbrev S128x128 : Shape := ⟨2, ![128, 128]⟩
abbrev S1x1x32x64 : Shape := ⟨4, ![1, 1, 32, 64]⟩
abbrev S32x64 : Shape := ⟨2, ![32, 64]⟩
abbrev S16x128 : Shape := ⟨2, ![16, 128]⟩
abbrev S64x256 : Shape := ⟨2, ![64, 256]⟩
abbrev S32x256 : Shape := ⟨2, ![32, 256]⟩
abbrev S32 : Shape := ⟨1, ![32]⟩
abbrev S32x1 : Shape := ⟨2, ![32, 1]⟩
abbrev S32x2176 : Shape := ⟨2, ![32, 2176]⟩
abbrev S64x2176 : Shape := ⟨2, ![64, 2176]⟩
abbrev S1x120x30x64 : Shape := ⟨4, ![1, 120, 30, 64]⟩
abbrev S1x120x30x4x8x2 : Shape := ⟨6, ![1, 120, 30, 4, 8, 2]⟩
abbrev S1x120x30x8x2x4 : Shape := ⟨6, ![1, 120, 30, 8, 2, 4]⟩
abbrev S1x120x6x5x64 : Shape := ⟨5, ![1, 120, 6, 5, 64]⟩
abbrev S120x6x1x5x64 : Shape := ⟨5, ![120, 6, 1, 5, 64]⟩
abbrev S120x6x5x64 : Shape := ⟨4, ![120, 6, 5, 64]⟩

abbrev nBuf : Space → Nat
  | .hbm => 47
  | .vmem => 17
  | .smem => 1
  | _ => 0

abbrev bufTy : (tb : Table) → Fin (tcTables nBuf tb) → BufTy
  | .hbm, ⟨0, _⟩ => ⟨S120x6x20x64, .bf16⟩
  | .hbm, ⟨1, _⟩ => ⟨S120x6x4x64, .bf16⟩
  | .hbm, ⟨2, _⟩ => ⟨S120x6x4x64, .bf16⟩
  | .hbm, ⟨3, _⟩ => ⟨S15360x128, .i32⟩
  | .hbm, ⟨4, _⟩ => ⟨S15360x128, .i32⟩
  | .hbm, ⟨5, _⟩ => ⟨S61440x128, .i32⟩
  | .hbm, ⟨6, _⟩ => ⟨S120x4x128, .i32⟩
  | .hbm, ⟨7, _⟩ => ⟨S4x120x128, .i32⟩
  | .hbm, ⟨8, _⟩ => ⟨S120x6x4x5x64, .bf16⟩
  | .hbm, ⟨9, _⟩ => ⟨S120x6x4x5x2x8x2x2, .bf16⟩
  | .hbm, ⟨10, _⟩ => ⟨S120x6x4x5x2x2x8x2, .bf16⟩
  | .hbm, ⟨11, _⟩ => ⟨S120x6x4x5x64, .bf16⟩
  | .hbm, ⟨12, _⟩ => ⟨S4x120x6x5x64, .bf16⟩
  | .hbm, ⟨13, _⟩ => ⟨S4x120x30x64, .bf16⟩
  | .hbm, ⟨14, _⟩ => ⟨S_, .i32⟩
  | .hbm, ⟨15, _⟩ => ⟨S_, .bf16⟩
  | .hbm, ⟨16, _⟩ => ⟨S4x120x32x64, .bf16⟩
  | .hbm, ⟨17, _⟩ => ⟨S120x6x4x2x8x2x2, .bf16⟩
  | .hbm, ⟨18, _⟩ => ⟨S120x6x4x2x2x8x2, .bf16⟩
  | .hbm, ⟨19, _⟩ => ⟨S120x6x4x64, .bf16⟩
  | .hbm, ⟨20, _⟩ => ⟨S_, .i32⟩
  | .hbm, ⟨21, _⟩ => ⟨S_, .bf16⟩
  | .hbm, ⟨22, _⟩ => ⟨S120x8x4x64, .bf16⟩
  | .hbm, ⟨23, _⟩ => ⟨S4x64x120x8, .bf16⟩
  | .hbm, ⟨24, _⟩ => ⟨S4x64x960, .bf16⟩
  | .hbm, ⟨25, _⟩ => ⟨S_, .i32⟩
  | .hbm, ⟨26, _⟩ => ⟨S_, .bf16⟩
  | .hbm, ⟨27, _⟩ => ⟨S4x64x1024, .bf16⟩
  | .hbm, ⟨28, _⟩ => ⟨S120x6x4x8x2x4, .bf16⟩
  | .hbm, ⟨29, _⟩ => ⟨S120x6x4x4x8x2, .bf16⟩
  | .hbm, ⟨30, _⟩ => ⟨S120x6x4x64, .bf16⟩
  | .hbm, ⟨31, _⟩ => ⟨S_, .i32⟩
  | .hbm, ⟨32, _⟩ => ⟨S_, .bf16⟩
  | .hbm, ⟨33, _⟩ => ⟨S120x8x4x64, .bf16⟩
  | .hbm, ⟨34, _⟩ => ⟨S4x64x120x8, .bf16⟩
  | .hbm, ⟨35, _⟩ => ⟨S4x64x960, .bf16⟩
  | .hbm, ⟨36, _⟩ => ⟨S_, .i32⟩
  | .hbm, ⟨37, _⟩ => ⟨S_, .bf16⟩
  | .hbm, ⟨38, _⟩ => ⟨S4x64x1024, .bf16⟩
  | .hbm, ⟨39, _⟩ => ⟨S1x120x32x64, .bf16⟩
  | .hbm, ⟨40, _⟩ => ⟨S1x120x30x64, .bf16⟩
  | .hbm, ⟨41, _⟩ => ⟨S1x120x30x4x8x2, .bf16⟩
  | .hbm, ⟨42, _⟩ => ⟨S1x120x30x8x2x4, .bf16⟩
  | .hbm, ⟨43, _⟩ => ⟨S1x120x30x64, .bf16⟩
  | .hbm, ⟨44, _⟩ => ⟨S1x120x6x5x64, .bf16⟩
  | .hbm, ⟨45, _⟩ => ⟨S120x6x1x5x64, .bf16⟩
  | .hbm, ⟨46, _⟩ => ⟨S120x6x5x64, .bf16⟩
  | .local _ .vmem, ⟨0, _⟩ => ⟨S1024x128, .i32⟩
  | .local _ .vmem, ⟨1, _⟩ => ⟨S1024x128, .i32⟩
  | .local _ .vmem, ⟨2, _⟩ => ⟨S1024x128, .i32⟩
  | .local _ .vmem, ⟨3, _⟩ => ⟨S1024x128, .i32⟩
  | .local _ .vmem, ⟨4, _⟩ => ⟨S1024x128, .i32⟩
  | .local _ .vmem, ⟨5, _⟩ => ⟨S1024x128, .i32⟩
  | .local _ .vmem, ⟨6, _⟩ => ⟨S1x8x128, .i32⟩
  | .local _ .vmem, ⟨7, _⟩ => ⟨S1x8x128, .i32⟩
  | .local _ .vmem, ⟨8, _⟩ => ⟨S1x8x32x64, .bf16⟩
  | .local _ .vmem, ⟨9, _⟩ => ⟨S1x8x32x64, .bf16⟩
  | .local _ .vmem, ⟨10, _⟩ => ⟨S1x64x128, .bf16⟩
  | .local _ .vmem, ⟨11, _⟩ => ⟨S1x64x128, .bf16⟩
  | .local _ .vmem, ⟨12, _⟩ => ⟨S1x64x128, .bf16⟩
  | .local _ .vmem, ⟨13, _⟩ => ⟨S1x64x128, .bf16⟩
  | .local _ .vmem, ⟨14, _⟩ => ⟨S1x8x32x64, .bf16⟩
  | .local _ .vmem, ⟨15, _⟩ => ⟨S1x8x32x64, .bf16⟩
  | .local _ .vmem, ⟨16, _⟩ => ⟨S64x128, .i32⟩
  | .local _ .smem, ⟨0, _⟩ => ⟨S120, .i32⟩
  | _, _ => ⟨S120x6x20x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_call3_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_call4_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![15], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_off1 (k0_t1 : Fin k0_t1_loop.trips) : Fin 3 → Nat :=
  let c0 : Index := 0#32
  let c0_i32 : BitVec 32 := 0#32
  let c1_i32 : BitVec 32 := 1#32
  let arg11 : BitVec 32 := Scf.iv c0_i32 c1_i32 k0_t1
  let v6 : Index := Scalar.indexCast arg11
  let c0_2 : Index := 0#32
  ![0, v6.toNat, 0]
def k0_off2 (i : grid0.Coords) (k0_t1 : Fin k0_t1_loop.trips) : Fin 1 → Nat :=
  let arg0 : BitVec 32 := BitVec.ofNat 32 (i 0).val
  let c8_i32_1 : BitVec 32 := 8#32
  let v4 : BitVec 32 := Scalar.muli arg0 c8_i32_1
  let c0_i32 : BitVec 32 := 0#32
  let c1_i32 : BitVec 32 := 1#32
  let arg11 : BitVec 32 := Scf.iv c0_i32 c1_i32 k0_t1
  let v5 : BitVec 32 := Scalar.addi v4 arg11
  let v11 : Index := Scalar.indexCast v5
  ![v11.toNat]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v21 : BitVec 32 := Scalar.muli arg11 c128_i32
  let v22 : Index := Scalar.indexCast v21
  let c0_5 : Index := 0#32
  ![v22.toNat, 0]
def k0_off4 (k0_t1 : Fin k0_t1_loop.trips) : Fin 4 → Nat :=
  let c0_11 : Index := 0#32
  let c0_i32 : BitVec 32 := 0#32
  let c1_i32 : BitVec 32 := 1#32
  let arg11 : BitVec 32 := Scf.iv c0_i32 c1_i32 k0_t1
  let v39 : Index := Scalar.indexCast arg11
  let c0_12 : Index := 0#32
  let c0_13 : Index := 0#32
  ![0, v39.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c45_i32 : BitVec 32 := 45#32
  let v0 : BitVec 32 := Scalar.addi c45_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.muli arg0 c8_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let c0_i32_4 : BitVec 32 := 0#32
  let c0_i32_5 : BitVec 32 := 0#32
  ![c3_i32.toNat, c0_i32_4.toNat, v17.toNat]

def cc0_transform_6 (i : grid0.Coords) : Fin 3 → Nat :=
  let arg0 : BitVec 32 := BitVec.ofNat 32 (i 0).val
  let c8_i32 : BitVec 32 := 8#32
  let v0 : BitVec 32 := Scalar.muli arg0 c8_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let c0_i32_4 : BitVec 32 := 0#32
  let c0_i32_5 : BitVec 32 := 0#32
  ![c3_i32.toNat, c0_i32_4.toNat, v17.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x32x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x32x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel3Ideal.lean ====
variable {F : FTy → Type} [FloatOps F] [Named F]
def κ : String → Option EReal := fun
  | "log2e_8" => some (((8 * (Real.log 2))⁻¹ : ℝ) : EReal)
  | _ => none
-- ==== Reference3Ideal.lean ====
abbrev S120x6x20x64 : Shape := ⟨4, ![120, 6, 20, 64]⟩
abbrev S120x6x4x64 : Shape := ⟨4, ![120, 6, 4, 64]⟩
abbrev S15360x128 : Shape := ⟨2, ![15360, 128]⟩
abbrev S61440x128 : Shape := ⟨2, ![61440, 128]⟩
abbrev S120 : Shape := ⟨1, ![120]⟩
abbrev S120x4x128 : Shape := ⟨3, ![120, 4, 128]⟩
abbrev S120x6x4x5x64 : Shape := ⟨5, ![120, 6, 4, 5, 64]⟩
abbrev S120x6x1x5x64 : Shape := ⟨5, ![120, 6, 1, 5, 64]⟩
abbrev S120x6x5x64 : Shape := ⟨4, ![120, 6, 5, 64]⟩
abbrev S120x6x1x64 : Shape := ⟨4, ![120, 6, 1, 64]⟩
abbrev S120x6x64 : Shape := ⟨3, ![120, 6, 64]⟩
abbrev S120x1x128 : Shape := ⟨3, ![120, 1, 128]⟩
abbrev S120x128 : Shape := ⟨2, ![120, 128]⟩
abbrev S15360x64 : Shape := ⟨2, ![15360, 64]⟩
abbrev S120x128x2x16x2 : Shape := ⟨5, ![120, 128, 2, 16, 2]⟩
abbrev S120x128x8x16 : Shape := ⟨4, ![120, 128, 8, 16]⟩
abbrev S120x128x8x16x1 : Shape := ⟨5, ![120, 128, 8, 16, 1]⟩
abbrev S8 : Shape := ⟨1, ![8]⟩
abbrev S_ : Shape := ⟨0, ![]⟩
abbrev S1x1x1x1x8 : Shape := ⟨5, ![1, 1, 1, 1, 8]⟩
abbrev S120x128x8x16x8 : Shape := ⟨5, ![120, 128, 8, 16, 8]⟩
abbrev S120x128x8x16x4x2 : Shape := ⟨6, ![120, 128, 8, 16, 4, 2]⟩
abbrev S120x128x8x2x16x4 : Shape := ⟨6, ![120, 128, 8, 2, 16, 4]⟩
abbrev S120x128x16x2x32 : Shape := ⟨5, ![120, 128, 16, 2, 32]⟩
abbrev S120x128x1x16x2 : Shape := ⟨5, ![120, 128, 1, 16, 2]⟩
abbrev S120x128x16x2 : Shape := ⟨4, ![120, 128, 16, 2]⟩
abbrev S120x128x16x2x1 : Shape := ⟨5, ![120, 128, 16, 2, 1]⟩
abbrev S120x128x16x64 : Shape := ⟨4, ![120, 128, 16, 64]⟩
abbrev S120x128x16x8 : Shape := ⟨4, ![120, 128, 16, 8]⟩
abbrev S120x128x16x8x1 : Shape := ⟨5, ![120, 128, 16, 8, 1]⟩
abbrev S120x128x16x8x8 : Shape := ⟨5, ![120, 128, 16, 8, 8]⟩
abbrev S120x6x5x128x16 : Shape := ⟨5, ![120, 6, 5, 128, 16]⟩
abbrev S120x1 : Shape := ⟨2, ![120, 1]⟩
abbrev S120x128x1 : Shape := ⟨3, ![120, 128, 1]⟩
abbrev S16 : Shape := ⟨1, ![16]⟩
abbrev S1x1x16 : Shape := ⟨3, ![1, 1, 16]⟩
abbrev S120x128x16 : Shape := ⟨3, ![120, 128, 16]⟩
abbrev S120x1x1x128x16 : Shape := ⟨5, ![120, 1, 1, 128, 16]⟩
abbrev S120x6x5x6 : Shape := ⟨4, ![120, 6, 5, 6]⟩
abbrev S6 : Shape := ⟨1, ![6]⟩
abbrev S6x1 : Shape := ⟨2, ![6, 1]⟩
abbrev S1x6 : Shape := ⟨2, ![1, 6]⟩
abbrev S6x6 : Shape := ⟨2, ![6, 6]⟩
abbrev S6x1x6 : Shape := ⟨3, ![6, 1, 6]⟩
abbrev S120x6x5x128 : Shape := ⟨4, ![120, 6, 5, 128]⟩
abbrev S120x6x5 : Shape := ⟨3, ![120, 6, 5]⟩
abbrev S120x6x5x1x1 : Shape := ⟨5, ![120, 6, 5, 1, 1]⟩
abbrev S120x6x5x1 : Shape := ⟨4, ![120, 6, 5, 1]⟩

abbrev nBuf : Space → Nat
  | .hbm => 161
  | .vmem => 0
  | .smem => 0
  | _ => 0

abbrev hbmTy0_0 (i : Nat) : BufTy := match i % 128 with
  | 0 => ⟨S120x6x20x64, .bf16⟩
  | 1 => ⟨S120x6x4x64, .bf16⟩
  | 2 => ⟨S120x6x4x64, .bf16⟩
  | 3 => ⟨S15360x128, .i32⟩
  | 4 => ⟨S15360x128, .i32⟩
  | 5 => ⟨S61440x128, .i32⟩
  | 6 => ⟨S120, .i32⟩
  | 7 => ⟨S120x4x128, .i32⟩
  | 8 => ⟨S120x6x4x5x64, .bf16⟩
  | 9 => ⟨S120x6x1x5x64, .bf16⟩
  | 10 => ⟨S120x6x5x64, .bf16⟩
  | 11 => ⟨S120x6x1x64, .bf16⟩
  | 12 => ⟨S120x6x64, .bf16⟩
  | 13 => ⟨S120x6x1x64, .bf16⟩
  | 14 => ⟨S120x6x64, .bf16⟩
  | 15 => ⟨S120x1x128, .i32⟩
  | 16 => ⟨S120x128, .i32⟩
  | 17 => ⟨S15360x64, .i32⟩
  | 18 => ⟨S15360x64, .i16⟩
  | 19 => ⟨S15360x64, .bf16⟩
  | 20 => ⟨S120x128x2x16x2, .bf16⟩
  | 21 => ⟨S120x128x8x16, .i32⟩
  | 22 => ⟨S120x128x8x16x1, .i32⟩
  | 23 => ⟨S8, .i32⟩
  | 24 => ⟨S_, .i32⟩
  | 25 => ⟨S8, .i32⟩
  | 26 => ⟨S8, .i32⟩
  | 27 => ⟨S1x1x1x1x8, .i32⟩
  | 28 => ⟨S120x128x8x16x8, .i32⟩
  | 29 => ⟨S120x128x8x16x8, .i32⟩
  | 30 => ⟨S120x128x8x16x8, .i32⟩
  | 31 => ⟨S_, .i32⟩
  | 32 => ⟨S120x128x8x16x8, .i32⟩
  | 33 => ⟨S120x128x8x16x8, .i32⟩
  | 34 => ⟨S_, .i32⟩
  | 35 => ⟨S120x128x8x16x8, .i32⟩
  | 36 => ⟨S120x128x8x16x8, .i1⟩
  | 37 => ⟨S_, .i32⟩
  | 38 => ⟨S120x128x8x16x8, .i32⟩
  | 39 => ⟨S120x128x8x16x8, .i32⟩
  | 40 => ⟨S120x128x8x16x8, .i32⟩
  | 41 => ⟨S120x128x8x16x8, .bf16⟩
  | 42 => ⟨S120x128x8x16x4x2, .bf16⟩
  | 43 => ⟨S120x128x8x2x16x4, .bf16⟩
  | 44 => ⟨S120x128x16x2x32, .bf16⟩
  | 45 => ⟨S120x128x1x16x2, .bf16⟩
  | 46 => ⟨S120x128x16x2, .bf16⟩
  | 47 => ⟨S120x128x16x2x1, .bf16⟩
  | 48 => ⟨S120x128x16x2x32, .bf16⟩
  | 49 => ⟨S120x128x16x2x32, .bf16⟩
  | 50 => ⟨S120x128x16x64, .bf16⟩
  | 51 => ⟨S120x128x16x8, .i32⟩
  | 52 => ⟨S120x128x16x8x1, .i32⟩
  | 53 => ⟨S8, .i32⟩
  | 54 => ⟨S_, .i32⟩
  | 55 => ⟨S8, .i32⟩
  | 56 => ⟨S8, .i32⟩
  | 57 => ⟨S1x1x1x1x8, .i32⟩
  | 58 => ⟨S120x128x16x8x8, .i32⟩
  | 59 => ⟨S120x128x16x8x8, .i32⟩
  | 60 => ⟨S120x128x16x8x8, .i32⟩
  | 61 => ⟨S_, .i32⟩
  | 62 => ⟨S120x128x16x8x8, .i32⟩
  | 63 => ⟨S120x128x16x8x8, .i32⟩
  | 64 => ⟨S_, .i32⟩
  | 65 => ⟨S120x128x16x8x8, .i32⟩
  | 66 => ⟨S120x128x16x8x8, .i1⟩
  | 67 => ⟨S_, .i32⟩
  | 68 => ⟨S120x128x16x8x8, .i32⟩
  | 69 => ⟨S120x128x16x8x8, .i32⟩
  | 70 => ⟨S120x128x16x8x8, .i32⟩
  | 71 => ⟨S120x128x16x8x8, .bf16⟩
  | 72 => ⟨S120x128x16x2x32, .bf16⟩
  | 73 => ⟨S120x128x1x16x2, .bf16⟩
  | 74 => ⟨S120x128x16x2, .bf16⟩
  | 75 => ⟨S120x128x16x2x1, .bf16⟩
  | 76 => ⟨S120x128x16x2x32, .bf16⟩
  | 77 => ⟨S120x128x16x2x32, .bf16⟩
  | 78 => ⟨S120x128x16x64, .bf16⟩
  | 79 => ⟨S120x6x5x128x16, .f32⟩
  | 80 => ⟨S_, .f32⟩
  | 81 => ⟨S120x6x5x128x16, .f32⟩
  | 82 => ⟨S120x6x5x128x16, .f32⟩
  | 83 => ⟨S120x1, .i32⟩
  | 84 => ⟨S_, .i32⟩
  | 85 => ⟨S120x128, .i32⟩
  | 86 => ⟨S120x128, .i32⟩
  | 87 => ⟨S120x128, .i32⟩
  | 88 => ⟨S120x128, .i32⟩
  | 89 => ⟨S_, .i32⟩
  | 90 => ⟨S120x128, .i32⟩
  | 91 => ⟨S120x128, .i1⟩
  | 92 => ⟨S120x128x1, .i1⟩
  | 93 => ⟨S120x128x1, .i32⟩
  | 94 => ⟨S16, .i32⟩
  | 95 => ⟨S1x1x16, .i32⟩
  | 96 => ⟨S120x128x16, .i32⟩
  | 97 => ⟨S120x128x16, .i32⟩
  | 98 => ⟨S120x128x16, .i1⟩
  | 99 => ⟨S120x128x16, .i1⟩
  | 100 => ⟨S120x128x16, .i1⟩
  | 101 => ⟨S120x1x1x128x16, .i1⟩
  | 102 => ⟨S_, .f32⟩
  | 103 => ⟨S_, .f32⟩
  | 104 => ⟨S120x6x5x128x16, .i1⟩
  | 105 => ⟨S120x6x5x128x16, .f32⟩
  | 106 => ⟨S120x6x5x128x16, .f32⟩
  | 107 => ⟨S120x6x5x6, .f32⟩
  | 108 => ⟨S_, .f32⟩
  | 109 => ⟨S120x6x5x6, .f32⟩
  | 110 => ⟨S120x6x5x6, .f32⟩
  | 111 => ⟨S6, .i32⟩
  | 112 => ⟨S6x1, .i32⟩
  | 113 => ⟨S6, .i32⟩
  | 114 => ⟨S1x6, .i32⟩
  | 115 => ⟨S6x6, .i32⟩
  | 116 => ⟨S6x6, .i32⟩
  | 117 => ⟨S6x6, .i1⟩
  | 118 => ⟨S6x1x6, .i1⟩
  | 119 => ⟨S_, .f32⟩
  | 120 => ⟨S_, .f32⟩
  | 121 => ⟨S120x6x5x6, .i1⟩
  | 122 => ⟨S120x6x5x6, .f32⟩
  | 123 => ⟨S120x6x5x6, .f32⟩
  | 124 => ⟨S_, .f32⟩
  | 125 => ⟨S120x6x5x128, .f32⟩
  | 126 => ⟨S_, .f32⟩
  | 127 => ⟨S120x6x5, .f32⟩
  | _ => ⟨S120x6x20x64, .bf16⟩

abbrev hbmTy0_1 (i : Nat) : BufTy := match i % 128 with
  | 0 => ⟨S_, .f32⟩
  | 1 => ⟨S120x6x5, .f32⟩
  | 2 => ⟨S120x6x5, .f32⟩
  | 3 => ⟨S120x6x5x1x1, .f32⟩
  | 4 => ⟨S120x6x5x128x16, .f32⟩
  | 5 => ⟨S120x6x5x128x16, .f32⟩
  | 6 => ⟨S120x6x5x128x16, .f32⟩
  | 7 => ⟨S120x6x5x1, .f32⟩
  | 8 => ⟨S120x6x5x6, .f32⟩
  | 9 => ⟨S120x6x5x6, .f32⟩
  | 10 => ⟨S120x6x5x6, .f32⟩
  | 11 => ⟨S_, .f32⟩
  | 12 => ⟨S120x6x5x128, .f32⟩
  | 13 => ⟨S_, .f32⟩
  | 14 => ⟨S120x6x5, .f32⟩
  | 15 => ⟨S_, .f32⟩
  | 16 => ⟨S120x6x5, .f32⟩
  | 17 => ⟨S120x6x5, .f32⟩
  | 18 => ⟨S_, .f32⟩
  | 19 => ⟨S120x6x5, .f32⟩
  | 20 => ⟨S120x6x5, .f32⟩
  | 21 => ⟨S120x6x5x1x1, .f32⟩
  | 22 => ⟨S120x6x5x128x16, .f32⟩
  | 23 => ⟨S120x6x5x128x16, .f32⟩
  | 24 => ⟨S120x6x5x128x16, .bf16⟩
  | 25 => ⟨S120x6x5x1, .f32⟩
  | 26 => ⟨S120x6x5x6, .f32⟩
  | 27 => ⟨S120x6x5x6, .f32⟩
  | 28 => ⟨S120x6x5x6, .bf16⟩
  | 29 => ⟨S120x6x5x64, .f32⟩
  | 30 => ⟨S120x6x5x64, .f32⟩
  | 31 => ⟨S120x6x5x64, .f32⟩
  | 32 => ⟨S120x6x5x64, .bf16⟩
  | _ => ⟨S120x6x20x64, .bf16⟩

abbrev hbmTy (i : Nat) : BufTy := match i / 128 with
  | 0 => hbmTy0_0 i
  | 1 => hbmTy0_1 i
  | _ => ⟨S120x6x20x64, .bf16⟩

abbrev bufTy : (tb : Table) → Fin (tcTables nBuf tb) → BufTy
  | .hbm, ⟨i, _⟩ => hbmTy i
  | _, _ => ⟨S120x6x20x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_0 : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_3 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_4 : Ref sig .tc := ⟨.hbm, 61, rfl⟩
abbrev main_v48 : Ref sig .tc := ⟨.hbm, 62, rfl⟩
abbrev main_v49 : Ref sig .tc := ⟨.hbm, 63, rfl⟩
abbrev main_c_5 : Ref sig .tc := ⟨.hbm, 64, rfl⟩
abbrev main_v50 : Ref sig .tc := ⟨.hbm, 65, rfl⟩
abbrev main_v51 : Ref sig .tc := ⟨.hbm, 66, rfl⟩
abbrev main_c_6 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_c_7 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_c_8 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_9 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_v83 : Ref sig .tc := ⟨.hbm, 106, rfl⟩
abbrev main_v84 : Ref sig .tc := ⟨.hbm, 107, rfl⟩
abbrev main_cst_10 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_11 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_v95 : Ref sig .tc := ⟨.hbm, 123, rfl⟩
abbrev main_cst_12 : Ref sig .tc := ⟨.hbm, 124, rfl⟩
abbrev main_v96 : Ref sig .tc := ⟨.hbm, 125, rfl⟩
abbrev main_cst_13 : Ref sig .tc := ⟨.hbm, 126, rfl⟩
abbrev main_v97 : Ref sig .tc := ⟨.hbm, 127, rfl⟩
abbrev main_cst_14 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_15 : Ref sig .tc := ⟨.hbm, 139, rfl⟩
abbrev main_v108 : Ref sig .tc := ⟨.hbm, 140, rfl⟩
abbrev main_cst_16 : Ref sig .tc := ⟨.hbm, 141, rfl⟩
abbrev main_v109 : Ref sig .tc := ⟨.hbm, 142, rfl⟩
abbrev main_cst_17 : Ref sig .tc := ⟨.hbm, 143, rfl⟩
abbrev main_v110 : Ref sig .tc := ⟨.hbm, 144, rfl⟩
abbrev main_v111 : Ref sig .tc := ⟨.hbm, 145, rfl⟩
abbrev main_cst_18 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩

abbrev nD : Nat := 1
abbrev τ : Topo := Topo.v7x

variable {F : FTy → Type} [FloatOps F]
-- ==== Proof.KTrip.lean ====
module

public import proofs.«01_k».proof.Proof.Gen.Kernel.Skeleton
public import Idealize.ShloMosaic.Lib.Exec
public import Idealize.ShloMosaic.Lib.Tactic
public import Idealize.ShloMosaic.Lib.Pipeline.Kit

@[expose] public section

set_option maxRecDepth 8192
set_option maxHeartbeats 4000000

noncomputable section

/-!
# One trip of the attention kernel's loop

The table of cache lengths is held at half a share, as the pipeline hands it to the body.
-/

namespace Cert.Kernel.Body
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- What one trip holds: what it reads (arg1 at half a share, arg2 to arg8) at its contents, what it writes
   (arg9, arg10) at any. -/
abbrev Trip (c : Dev nD) (arg1 : Memref sig .tc .smem S120 .i32) (arg2 : Memref sig .tc .vmem S1024x128 .i32) (arg3 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg8 : Memref sig .tc .vmem S1x64x128 .bf16) (arg9 : Memref sig .tc .vmem S1x8x32x64 .bf16) (arg10 : Memref sig .tc .vmem S64x128 .i32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (f_arg9 : BufTy.Contents (Elt F) arg9.view.ty) (f_arg10 : BufTy.Contents (Elt F) arg10.view.ty) : sProp 𝕄G :=
  iprop((arg1.view.loc (c : Thread nD τ) ↦[arg1.view.set]{fullShare.right} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} f_arg9) ∗ (arg10.view.loc (c : Thread nD τ) ↦[arg10.view.set]{fullShare} f_arg10))

/-- One trip of the loop at a symbolic `k`: the pieces it writes into arg9 and arg10, found by running it. -/
@[irreducible] def trip (𝒱 : Variants) (c : Dev nD) (bd : Option 𝒱.V) (i : grid0.Coords) (arg1 : Memref sig .tc .smem S120 .i32) (harg1 : arg1.IsWhole) (arg2 : Memref sig .tc .vmem S1024x128 .i32) (harg2 : arg2.IsWhole) (arg3 : Memref sig .tc .vmem S1024x128 .i32) (harg3 : arg3.IsWhole) (arg4 : Memref sig .tc .vmem S1024x128 .i32) (harg4 : arg4.IsWhole) (arg5 : Memref sig .tc .vmem S1x8x128 .i32) (harg5 : arg5.IsWhole) (arg6 : Memref sig .tc .vmem S1x8x32x64 .bf16) (harg6 : arg6.IsWhole) (arg7 : Memref sig .tc .vmem S1x64x128 .bf16) (harg7 : arg7.IsWhole) (arg8 : Memref sig .tc .vmem S1x64x128 .bf16) (harg8 : arg8.IsWhole) (arg9 : Memref sig .tc .vmem S1x8x32x64 .bf16) (harg9 : arg9.IsWhole) (arg10 : Memref sig .tc .vmem S64x128 .i32) (harg10 : arg10.IsWhole) (arg0 : BitVec 32) (v0 : IVec S8x128 32) (v1 : IVec S32x128 32) (v2 : IVec S32x128 32) (cst : F .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) :
    Σ' (L_arg9 : (BufTy.Contents (Elt F) arg9.view.ty → BufTy.Contents (Elt F) arg10.view.ty → List (View.Piece (Elt F) S1x8x32x64 .bf16))) , { L_arg10 : (BufTy.Contents (Elt F) arg9.view.ty → BufTy.Contents (Elt F) arg10.view.ty → List (View.Piece (Elt F) S64x128 .i32)) // ∀ (E : Set ℕ) (f_arg9 : BufTy.Contents (Elt F) arg9.view.ty) (f_arg10 : BufTy.Contents (Elt F) arg10.view.ty),
      Trip (F := F) c arg1 arg2 arg3 arg4 arg5 arg6 arg7 arg8 arg9 arg10 X_arg1 X_arg2 X_arg3 X_arg4 X_arg5 X_arg6 X_arg7 X_arg8 f_arg9 f_arg10
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg0 v0 v1 v2 cst k PUnit.unit)
          (fun _ => Trip (F := F) c arg1 arg2 arg3 arg4 arg5 arg6 arg7 arg8 arg9 arg10 X_arg1 X_arg2 X_arg3 X_arg4 X_arg5 X_arg6 X_arg7 X_arg8 (arg9.view.writes (Elt F) f_arg9 (L_arg9 f_arg9 f_arg10)) (arg10.view.writes (Elt F) f_arg10 (L_arg10 f_arg9 f_arg10))) } := by
  have hk : k.val < 8 := Nat.lt_of_lt_of_le k.isLt k0_t1_abs.2.1
  refine ⟨?_, ?_, fun E f_arg9 f_arg10 => ?run⟩
  case run =>
    unfold k0_t1_body
    iintro ⟨HR_arg1, HR_arg2, HR_arg3, HR_arg4, HR_arg5, HR_arg6, HR_arg7, HR_arg8, HW_arg9, HW_arg10⟩
    sl_exec
    sl_step
    sl_close

end Cert.Kernel.Body
end
-- ==== Proof.KTile.lean ====
module

public import proofs.«01_k».proof.Proof.Gen.Kernel.Skeleton
public import Idealize.ShloMosaic.Lib.Exec
public import Idealize.ShloMosaic.Lib.Pipeline.Kit
public import Idealize.ShloMosaic.Lib.Pipeline.ReadBack

@[expose] public section

set_option maxRecDepth 8192

noncomputable section

/-!
# One sequence of the attention kernel, as a function

What one trip of the kernel's loop computes, written once for all sixteen token positions of a page:
`one` is the block of attention outputs of one sequence as a function of the words, scales, query and new tokens it
loads. A word holds eight signed four-bit codes; `nib` decodes the two codes in the low four bits of its halves.
-/

namespace Cert.Kernel.Tile
open Cert.Kernel Cert.Kernel.Gen
open Idealize.ShloMosaic Idealize.ShloMosaic.TcCoe
variable {F : FTy → Type} [FloatOps F]

theorem wordSlices (r : Fin 16) : S128x128.Slices ![8 * r.val, 0] S8x128 :=
  ⟨rfl, fun a => by
    match a with
    | 0 => have := r.isLt; show 8 * r.val + 8 ≤ 128; omega
    | 1 => exact Nat.le_refl 128⟩

theorem rowInb (i : Fin 64) : ∀ a, (![i.val, 0] : Fin 2 → ℕ) a + S1x128.size a ≤ S64x128.size a := fun a => by
  match a with
  | 0 => exact i.isLt
  | 1 => exact Nat.le_refl 128

/-- The eight word rows of group `r`. -/
def words (x : IVec S128x128 32) (r : Fin 16) : IVec S8x128 32 := extractStridedSlice S8x128 ![8 * r.val, 0] x (wordSlices r)
/-- Row `i` of the scale words. -/
def row (S : IVec S64x128 32) (i : Fin 64) : IVec S1x128 32 := View.ld (Val := fun _ => BitVec 32) (e' := .i32) S (Rect.unit (s := S64x128) ![i.val, 0] S1x128.size (rowInb i))
/-- One row repeated on eight. -/
def spread (r : IVec S1x128 32) : IVec S8x128 32 := broadcastTo S8x128 (shapeCast S1x128 r shapeCasts_S1x128_S1x128) broadcasts_S1x128_S8x128
/-- The two halves of each word as bf16 numbers, on consecutive rows. -/
def halves (x : IVec S8x128 32) : FVec F S16x128 .bf16 := bitcastToFloat .bf16 (bitcast S16x128 16 x bitcasts_S8x128_w32_S16x128_w16)
/-- The signed codes in the low four bits of each half. -/
def nib (x : IVec S8x128 32) : FVec F S16x128 .bf16 :=
  subf (halves (xori (andi x (broadcast S8x128 983055#32)) (broadcast S8x128 1124614920#32))) (broadcast S16x128 (Scalar.ofBits .bf16 0x4308#16))
/-- The words shifted right by `n` bits. -/
def down (x : IVec S8x128 32) (n : BitVec 32) : IVec S8x128 32 := shrui x (broadcast S8x128 n)
def stack4 (a b c d : FVec F S16x128 .bf16) : FVec F S64x128 .bf16 :=
  concatenate S64x128 0 [⟨S16x128, a⟩, ⟨S16x128, b⟩, ⟨S16x128, c⟩, ⟨S16x128, d⟩] concatenates_S16x128_S16x128_S16x128_S16x128_S64x128_d0
/-- The keys of an even token position. -/
def keyLo (w0 w1 : IVec S8x128 32) (r0 r1 : IVec S1x128 32) : FVec F S64x128 .bf16 :=
  stack4 (mulf (nib w0) (halves (spread r0))) (mulf (nib w1) (halves (spread r1)))
    (mulf (nib (down w0 8#32)) (halves (spread r0))) (mulf (nib (down w1 8#32)) (halves (spread r1)))
/-- The keys of an odd token position. -/
def keyHi (w0 w1 : IVec S8x128 32) (r0 r1 : IVec S1x128 32) : FVec F S64x128 .bf16 :=
  stack4 (mulf (nib (down w0 4#32)) (halves (spread r0))) (mulf (nib (down w1 4#32)) (halves (spread r1)))
    (mulf (nib (down w0 12#32)) (halves (spread r0))) (mulf (nib (down w1 12#32)) (halves (spread r1)))
/-- The products of the queries with the keys of two token positions. -/
def pairOf (q : FVec F S32x64 .bf16) (c0 c1 : FVec F S64x128 .bf16) : FVec F S32x256 .f32 :=
  matmul dot_S32x64_S64x256_S32x256_1_0_0_1_n_n none q
    (concatenate S64x256 1 [⟨S64x128, c0⟩, ⟨S64x128, c1⟩] concatenates_S64x128_S64x128_S64x256_d1) (constant S32x256 .f32 0x00000000#32)
/-- The scores of the token positions `2 j` and `2 j + 1`. -/
def pairAt (q : FVec F S32x64 .bf16) (kt : IVec S128x128 32) (S : IVec S64x128 32) (j : Fin 8) : FVec F S32x256 .f32 :=
  pairOf q
    (keyLo (words kt ⟨2 * j.val, by omega⟩) (words kt ⟨2 * j.val + 1, by omega⟩) (row S ⟨4 * j.val, by omega⟩) (row S ⟨4 * j.val + 1, by omega⟩))
    (keyHi (words kt ⟨2 * j.val, by omega⟩) (words kt ⟨2 * j.val + 1, by omega⟩) (row S ⟨4 * j.val + 2, by omega⟩) (row S ⟨4 * j.val + 3, by omega⟩))
/-- The first half of a pair of scores, `-∞` where `left` is at most `n`. -/
def scoreLo (left : IVec S32x128 32) (n : BitVec 32) (t : FVec F S32x256 .f32) : FVec F S32x128 .f32 :=
  select (cmpi .sgt left (broadcast S32x128 n)) (extractStridedSlice S32x128 ![0, 0] t slices_S32x256_o0_0_S32x128)
    (broadcast S32x128 (Scalar.ofBits .f32 0xFF800000#32))
/-- The second half of a pair of scores, `-∞` where `left` is at most `n`. -/
def scoreHi (left : IVec S32x128 32) (n : BitVec 32) (t : FVec F S32x256 .f32) : FVec F S32x128 .f32 :=
  select (cmpi .sgt left (broadcast S32x128 n)) (extractStridedSlice S32x128 ![0, 128] t slices_S32x256_o0_128_S32x128)
    (broadcast S32x128 (Scalar.ofBits .f32 0xFF800000#32))
/-- The seventeen tiles of scores: sixteen token positions and the new tokens. -/
def tile (q : FVec F S32x64 .bf16) (left : IVec S32x128 32) (kt : IVec S128x128 32) (S : IVec S64x128 32) (new : FVec F S32x128 .f32)
    (p : Fin 17) : FVec F S32x128 .f32 :=
  if h : p.val < 16 then
    if p.val % 2 = 0 then scoreLo left (BitVec.ofNat 32 p.val) (pairAt q kt S ⟨p.val / 2, by omega⟩)
    else scoreHi left (BitVec.ofNat 32 p.val) (pairAt q kt S ⟨p.val / 2, by omega⟩)
  else new
/-- The greatest score of a row. -/
def rowMax (t : Fin 17 → FVec F S32x128 .f32) : FVec F S32x1 .f32 :=
  shapeCast S32x1 (multiReduction .maximumf [1] S32
    (maximumf (maximumf (maximumf (maximumf (maximumf (maximumf (maximumf (maximumf (maximumf (maximumf (maximumf (maximumf (maximumf (maximumf (maximumf (maximumf (t 0) (t 1)) (t 2)) (t 3)) (t 4)) (t 5)) (t 6)) (t 7)) (t 8)) (t 9)) (t 10)) (t 11)) (t 12)) (t 13)) (t 14)) (t 15)) (t 16))
    0xFF800000#32 reduces_S32x128_S32 (.inl rfl) rfl) shapeCasts_S32_S32x1
/-- A tile of weights before the division. -/
def expTile (cst : F .f32) (m : FVec F S32x1 .f32) (t : FVec F S32x128 .f32) : FVec F S32x128 .f32 :=
  exp2 (mulf (subf t (broadcastTo S32x128 m broadcasts_S32x1_S32x128)) (broadcast S32x128 cst))
/-- One over a row's sum of weights. -/
def rowInv (t : Fin 17 → FVec F S32x128 .f32) : FVec F S32x1 .f32 :=
  divf (broadcast S32x1 (Scalar.ofBits .f32 0x3F800000#32)) (shapeCast S32x1 (multiReduction .add [1] S32
    (addf (addf (addf (addf (addf (addf (addf (addf (addf (addf (addf (addf (addf (addf (addf (addf (t 0) (t 1)) (t 2)) (t 3)) (t 4)) (t 5)) (t 6)) (t 7)) (t 8)) (t 9)) (t 10)) (t 11)) (t 12)) (t 13)) (t 14)) (t 15)) (t 16))
    0x00000000#32 reduces_S32x128_S32 (.inl rfl) rfl) shapeCasts_S32_S32x1)
/-- A tile of weights. -/
def weight (d : FVec F S32x1 .f32) (e : FVec F S32x128 .f32) : FVec F S32x128 .bf16 :=
  truncf .bf16 (mulf e (broadcastTo S32x128 d broadcasts_S32x1_S32x128)) bitsLt_bf16_f32
def joinP (p : Fin 17 → FVec F S32x128 .bf16) : FVec F S32x2176 .bf16 :=
  concatenate S32x2176 1 [⟨S32x128, p 0⟩, ⟨S32x128, p 1⟩, ⟨S32x128, p 2⟩, ⟨S32x128, p 3⟩, ⟨S32x128, p 4⟩, ⟨S32x128, p 5⟩, ⟨S32x128, p 6⟩, ⟨S32x128, p 7⟩, ⟨S32x128, p 8⟩, ⟨S32x128, p 9⟩, ⟨S32x128, p 10⟩, ⟨S32x128, p 11⟩, ⟨S32x128, p 12⟩, ⟨S32x128, p 13⟩, ⟨S32x128, p 14⟩, ⟨S32x128, p 15⟩, ⟨S32x128, p 16⟩] concatenates_S32x128_S32x128_S32x128_S32x128_S32x128_S32x128_S32x128_S32x128_S32x128_S32x128_S32x128_S32x128_S32x128_S32x128_S32x128_S32x128_S32x128_S32x2176_d1
def joinV (p : Fin 17 → FVec F S64x128 .bf16) : FVec F S64x2176 .bf16 :=
  concatenate S64x2176 1 [⟨S64x128, p 0⟩, ⟨S64x128, p 1⟩, ⟨S64x128, p 2⟩, ⟨S64x128, p 3⟩, ⟨S64x128, p 4⟩, ⟨S64x128, p 5⟩, ⟨S64x128, p 6⟩, ⟨S64x128, p 7⟩, ⟨S64x128, p 8⟩, ⟨S64x128, p 9⟩, ⟨S64x128, p 10⟩, ⟨S64x128, p 11⟩, ⟨S64x128, p 12⟩, ⟨S64x128, p 13⟩, ⟨S64x128, p 14⟩, ⟨S64x128, p 15⟩, ⟨S64x128, p 16⟩] concatenates_S64x128_S64x128_S64x128_S64x128_S64x128_S64x128_S64x128_S64x128_S64x128_S64x128_S64x128_S64x128_S64x128_S64x128_S64x128_S64x128_S64x128_S64x2176_d1
/-- The weights of all seventeen tiles. -/
def weights (cst : F .f32) (t : Fin 17 → FVec F S32x128 .f32) : FVec F S32x2176 .bf16 :=
  joinP fun p => weight (rowInv fun p => expTile cst (rowMax t) (t p)) (expTile cst (rowMax t) (t p))
/-- The values of one token position. -/
def valTile (v0 w : IVec S8x128 32) (r0 r1 : IVec S1x128 32) : FVec F S64x128 .bf16 :=
  stack4 (mulf (nib w) (halves (select (cmpi .slt v0 (broadcast S8x128 4#32)) (spread r0) (spread r1))))
    (mulf (nib (down w 4#32)) (halves (select (cmpi .slt v0 (broadcast S8x128 4#32)) (spread r0) (spread r1))))
    (mulf (nib (down w 8#32)) (halves (select (cmpi .slt v0 (broadcast S8x128 4#32)) (spread r0) (spread r1))))
    (mulf (nib (down w 12#32)) (halves (select (cmpi .slt v0 (broadcast S8x128 4#32)) (spread r0) (spread r1))))
/-- The seventeen tiles of values. -/
def vals (v0 : IVec S8x128 32) (vt : IVec S128x128 32) (S : IVec S64x128 32) (vn : FVec F S64x128 .bf16) (p : Fin 17) : FVec F S64x128 .bf16 :=
  if h : p.val < 16 then valTile v0 (words vt ⟨p.val, h⟩) (row S ⟨32 + 2 * p.val, by omega⟩) (row S ⟨33 + 2 * p.val, by omega⟩) else vn
/-- The attention outputs of one sequence. -/
def one (v0 : IVec S8x128 32) (v1 v2 : IVec S32x128 32) (cst : F .f32) (b len : BitVec 32) (sel : Vec F S1x1x128 .i32) (kw vw sw : Vec F S128x128 .i32)
    (q : Vec F S1x1x32x64 .bf16) (kn vn : Vec F S1x64x128 .bf16) : FVec F S1x1x32x64 .bf16 :=
  k0_pay1 (weights cst (tile (k0_pay8 q) (k0_pay4 (F := F) sel len) (k0_pay5 (F := F) kw) (k0_pay7 (F := F) sel sw) (k0_pay139 v1 v2 b (k0_pay8 q) kn)))
    (joinV (vals v0 (k0_pay6 (F := F) vw) (k0_pay7 (F := F) sel sw) (shapeCast S64x128 vn shapeCasts_S1x64x128_S64x128)))
    (constant S32x64 .f32 0x00000000#32)

end Cert.Kernel.Tile
end
-- ==== Proof.KTripRow.lean ====
module

public import proofs.«01_k».proof.Proof.KTrip
public import proofs.«01_k».proof.Proof.KTile

@[expose] public section

set_option maxRecDepth 8192
set_option maxHeartbeats 1000000

noncomputable section

/-!
# The scale rows a trip reads back

Each of the sixty-four rows read from the scratch buffer is that row of the scale words written there.
-/

namespace Cert.Kernel.Body
open Cert.Kernel Cert.Kernel.Gen
open Idealize.ShloMosaic Idealize.ShloMosaic.TcCoe
variable {F : FTy → Type} [FloatOps F]

theorem row_0 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v44 (F := F) arg4 arg5 arg10 X_arg4 X_arg5 k) = Tile.row (trip.sl.v38 (F := F) arg4 arg5 X_arg4 X_arg5 k) 0 :=
  (View.readCov_fill _ _ _ [] _ (fun a => by match a with | 0 => rfl | 1 => rfl)).trans rfl

theorem row_1 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v48 (F := F) arg4 arg5 arg10 X_arg4 X_arg5 k) = Tile.row (trip.sl.v38 (F := F) arg4 arg5 X_arg4 X_arg5 k) 1 :=
  (View.readCov_fill _ _ _ [] _ (fun a => by match a with | 0 => rfl | 1 => rfl)).trans rfl

theorem row_2 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v89 (F := F) arg4 arg5 arg10 X_arg4 X_arg5 k) = Tile.row (trip.sl.v38 (F := F) arg4 arg5 X_arg4 X_arg5 k) 2 :=
  (View.readCov_fill _ _ _ [] _ (fun a => by match a with | 0 => rfl | 1 => rfl)).trans rfl

theorem row_3 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v93 (F := F) arg4 arg5 arg10 X_arg4 X_arg5 k) = Tile.row (trip.sl.v38 (F := F) arg4 arg5 X_arg4 X_arg5 k) 3 :=
  (View.readCov_fill _ _ _ [] _ (fun a => by match a with | 0 => rfl | 1 => rfl)).trans rfl

theorem row_4 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v152 (F := F) arg4 arg5 arg10 X_arg4 X_arg5 k) = Tile.row (trip.sl.v38 (F := F) arg4 arg5 X_arg4 X_arg5 k) 4 :=
  (View.readCov_fill _ _ _ [] _ (fun a => by match a with | 0 => rfl | 1 => rfl)).trans rfl

theorem row_5 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v156 (F := F) arg4 arg5 arg10 X_arg4 X_arg5 k) = Tile.row (trip.sl.v38 (F := F) arg4 arg5 X_arg4 X_arg5 k) 5 :=
  (View.readCov_fill _ _ _ [] _ (fun a => by match a with | 0 => rfl | 1 => rfl)).trans rfl

theorem row_6 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v197 (F := F) arg4 arg5 arg10 X_arg4 X_arg5 k) = Tile.row (trip.sl.v38 (F := F) arg4 arg5 X_arg4 X_arg5 k) 6 :=
  (View.readCov_fill _ _ _ [] _ (fun a => by match a with | 0 => rfl | 1 => rfl)).trans rfl

theorem row_7 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v201 (F := F) arg4 arg5 arg10 X_arg4 X_arg5 k) = Tile.row (trip.sl.v38 (F := F) arg4 arg5 X_arg4 X_arg5 k) 7 :=
  (View.readCov_fill _ _ _ [] _ (fun a => by match a with | 0 => rfl | 1 => rfl)).trans rfl

theorem row_8 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v260 (F := F) arg4 arg5 arg10 X_arg4 X_arg5 k) = Tile.row (trip.sl.v38 (F := F) arg4 arg5 X_arg4 X_arg5 k) 8 :=
  (View.readCov_fill _ _ _ [] _ (fun a => by match a with | 0 => rfl | 1 => rfl)).trans rfl

theorem row_9 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v264 (F := F) arg4 arg5 arg10 X_arg4 X_arg5 k) = Tile.row (trip.sl.v38 (F := F) arg4 arg5 X_arg4 X_arg5 k) 9 :=
  (View.readCov_fill _ _ _ [] _ (fun a => by match a with | 0 => rfl | 1 => rfl)).trans rfl

theorem row_10 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v305 (F := F) arg4 arg5 arg10 X_arg4 X_arg5 k) = Tile.row (trip.sl.v38 (F := F) arg4 arg5 X_arg4 X_arg5 k) 10 :=
  (View.readCov_fill _ _ _ [] _ (fun a => by match a with | 0 => rfl | 1 => rfl)).trans rfl

theorem row_11 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v309 (F := F) arg4 arg5 arg10 X_arg4 X_arg5 k) = Tile.row (trip.sl.v38 (F := F) arg4 arg5 X_arg4 X_arg5 k) 11 :=
  (View.readCov_fill _ _ _ [] _ (fun a => by match a with | 0 => rfl | 1 => rfl)).trans rfl

theorem row_12 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v368 (F := F) arg4 arg5 arg10 X_arg4 X_arg5 k) = Tile.row (trip.sl.v38 (F := F) arg4 arg5 X_arg4 X_arg5 k) 12 :=
  (View.readCov_fill _ _ _ [] _ (fun a => by match a with | 0 => rfl | 1 => rfl)).trans rfl

theorem row_13 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v372 (F := F) arg4 arg5 arg10 X_arg4 X_arg5 k) = Tile.row (trip.sl.v38 (F := F) arg4 arg5 X_arg4 X_arg5 k) 13 :=
  (View.readCov_fill _ _ _ [] _ (fun a => by match a with | 0 => rfl | 1 => rfl)).trans rfl

theorem row_14 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v413 (F := F) arg4 arg5 arg10 X_arg4 X_arg5 k) = Tile.row (trip.sl.v38 (F := F) arg4 arg5 X_arg4 X_arg5 k) 14 :=
  (View.readCov_fill _ _ _ [] _ (fun a => by match a with | 0 => rfl | 1 => rfl)).trans rfl

theorem row_15 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v417 (F := F) arg4 arg5 arg10 X_arg4 X_arg5 k) = Tile.row (trip.sl.v38 (F := F) arg4 arg5 X_arg4 X_arg5 k) 15 :=
  (View.readCov_fill _ _ _ [] _ (fun a => by match a with | 0 => rfl | 1 => rfl)).trans rfl

theorem row_16 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v476 (F := F) arg4 arg5 arg10 X_arg4 X_arg5 k) = Tile.row (trip.sl.v38 (F := F) arg4 arg5 X_arg4 X_arg5 k) 16 :=
  (View.readCov_fill _ _ _ [] _ (fun a => by match a with | 0 => rfl | 1 => rfl)).trans rfl

theorem row_17 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v480 (F := F) arg4 arg5 arg10 X_arg4 X_arg5 k) = Tile.row (trip.sl.v38 (F := F) arg4 arg5 X_arg4 X_arg5 k) 17 :=
  (View.readCov_fill _ _ _ [] _ (fun a => by match a with | 0 => rfl | 1 => rfl)).trans rfl

theorem row_18 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v521 (F := F) arg4 arg5 arg10 X_arg4 X_arg5 k) = Tile.row (trip.sl.v38 (F := F) arg4 arg5 X_arg4 X_arg5 k) 18 :=
  (View.readCov_fill _ _ _ [] _ (fun a => by match a with | 0 => rfl | 1 => rfl)).trans rfl

theorem row_19 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v525 (F := F) arg4 arg5 arg10 X_arg4 X_arg5 k) = Tile.row (trip.sl.v38 (F := F) arg4 arg5 X_arg4 X_arg5 k) 19 :=
  (View.readCov_fill _ _ _ [] _ (fun a => by match a with | 0 => rfl | 1 => rfl)).trans rfl

theorem row_20 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v584 (F := F) arg4 arg5 arg10 X_arg4 X_arg5 k) = Tile.row (trip.sl.v38 (F := F) arg4 arg5 X_arg4 X_arg5 k) 20 :=
  (View.readCov_fill _ _ _ [] _ (fun a => by match a with | 0 => rfl | 1 => rfl)).trans rfl

theorem row_21 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v588 (F := F) arg4 arg5 arg10 X_arg4 X_arg5 k) = Tile.row (trip.sl.v38 (F := F) arg4 arg5 X_arg4 X_arg5 k) 21 :=
  (View.readCov_fill _ _ _ [] _ (fun a => by match a with | 0 => rfl | 1 => rfl)).trans rfl

theorem row_22 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v629 (F := F) arg4 arg5 arg10 X_arg4 X_arg5 k) = Tile.row (trip.sl.v38 (F := F) arg4 arg5 X_arg4 X_arg5 k) 22 :=
  (View.readCov_fill _ _ _ [] _ (fun a => by match a with | 0 => rfl | 1 => rfl)).trans rfl

theorem row_23 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v633 (F := F) arg4 arg5 arg10 X_arg4 X_arg5 k) = Tile.row (trip.sl.v38 (F := F) arg4 arg5 X_arg4 X_arg5 k) 23 :=
  (View.readCov_fill _ _ _ [] _ (fun a => by match a with | 0 => rfl | 1 => rfl)).trans rfl

theorem row_24 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v692 (F := F) arg4 arg5 arg10 X_arg4 X_arg5 k) = Tile.row (trip.sl.v38 (F := F) arg4 arg5 X_arg4 X_arg5 k) 24 :=
  (View.readCov_fill _ _ _ [] _ (fun a => by match a with | 0 => rfl | 1 => rfl)).trans rfl

theorem row_25 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v696 (F := F) arg4 arg5 arg10 X_arg4 X_arg5 k) = Tile.row (trip.sl.v38 (F := F) arg4 arg5 X_arg4 X_arg5 k) 25 :=
  (View.readCov_fill _ _ _ [] _ (fun a => by match a with | 0 => rfl | 1 => rfl)).trans rfl

theorem row_26 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v737 (F := F) arg4 arg5 arg10 X_arg4 X_arg5 k) = Tile.row (trip.sl.v38 (F := F) arg4 arg5 X_arg4 X_arg5 k) 26 :=
  (View.readCov_fill _ _ _ [] _ (fun a => by match a with | 0 => rfl | 1 => rfl)).trans rfl

theorem row_27 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v741 (F := F) arg4 arg5 arg10 X_arg4 X_arg5 k) = Tile.row (trip.sl.v38 (F := F) arg4 arg5 X_arg4 X_arg5 k) 27 :=
  (View.readCov_fill _ _ _ [] _ (fun a => by match a with | 0 => rfl | 1 => rfl)).trans rfl

theorem row_28 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v800 (F := F) arg4 arg5 arg10 X_arg4 X_arg5 k) = Tile.row (trip.sl.v38 (F := F) arg4 arg5 X_arg4 X_arg5 k) 28 :=
  (View.readCov_fill _ _ _ [] _ (fun a => by match a with | 0 => rfl | 1 => rfl)).trans rfl

theorem row_29 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v804 (F := F) arg4 arg5 arg10 X_arg4 X_arg5 k) = Tile.row (trip.sl.v38 (F := F) arg4 arg5 X_arg4 X_arg5 k) 29 :=
  (View.readCov_fill _ _ _ [] _ (fun a => by match a with | 0 => rfl | 1 => rfl)).trans rfl

theorem row_30 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v845 (F := F) arg4 arg5 arg10 X_arg4 X_arg5 k) = Tile.row (trip.sl.v38 (F := F) arg4 arg5 X_arg4 X_arg5 k) 30 :=
  (View.readCov_fill _ _ _ [] _ (fun a => by match a with | 0 => rfl | 1 => rfl)).trans rfl

theorem row_31 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v849 (F := F) arg4 arg5 arg10 X_arg4 X_arg5 k) = Tile.row (trip.sl.v38 (F := F) arg4 arg5 X_arg4 X_arg5 k) 31 :=
  (View.readCov_fill _ _ _ [] _ (fun a => by match a with | 0 => rfl | 1 => rfl)).trans rfl

theorem row_32 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1102 (F := F) arg4 arg5 arg10 X_arg4 X_arg5 k) = Tile.row (trip.sl.v38 (F := F) arg4 arg5 X_arg4 X_arg5 k) 32 :=
  (View.readCov_fill _ _ _ [] _ (fun a => by match a with | 0 => rfl | 1 => rfl)).trans rfl

theorem row_33 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1105 (F := F) arg4 arg5 arg10 X_arg4 X_arg5 k) = Tile.row (trip.sl.v38 (F := F) arg4 arg5 X_arg4 X_arg5 k) 33 :=
  (View.readCov_fill _ _ _ [] _ (fun a => by match a with | 0 => rfl | 1 => rfl)).trans rfl

theorem row_34 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1152 (F := F) arg4 arg5 arg10 X_arg4 X_arg5 k) = Tile.row (trip.sl.v38 (F := F) arg4 arg5 X_arg4 X_arg5 k) 34 :=
  (View.readCov_fill _ _ _ [] _ (fun a => by match a with | 0 => rfl | 1 => rfl)).trans rfl

theorem row_35 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1155 (F := F) arg4 arg5 arg10 X_arg4 X_arg5 k) = Tile.row (trip.sl.v38 (F := F) arg4 arg5 X_arg4 X_arg5 k) 35 :=
  (View.readCov_fill _ _ _ [] _ (fun a => by match a with | 0 => rfl | 1 => rfl)).trans rfl

theorem row_36 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1202 (F := F) arg4 arg5 arg10 X_arg4 X_arg5 k) = Tile.row (trip.sl.v38 (F := F) arg4 arg5 X_arg4 X_arg5 k) 36 :=
  (View.readCov_fill _ _ _ [] _ (fun a => by match a with | 0 => rfl | 1 => rfl)).trans rfl

theorem row_37 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1205 (F := F) arg4 arg5 arg10 X_arg4 X_arg5 k) = Tile.row (trip.sl.v38 (F := F) arg4 arg5 X_arg4 X_arg5 k) 37 :=
  (View.readCov_fill _ _ _ [] _ (fun a => by match a with | 0 => rfl | 1 => rfl)).trans rfl

theorem row_38 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1252 (F := F) arg4 arg5 arg10 X_arg4 X_arg5 k) = Tile.row (trip.sl.v38 (F := F) arg4 arg5 X_arg4 X_arg5 k) 38 :=
  (View.readCov_fill _ _ _ [] _ (fun a => by match a with | 0 => rfl | 1 => rfl)).trans rfl

theorem row_39 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1255 (F := F) arg4 arg5 arg10 X_arg4 X_arg5 k) = Tile.row (trip.sl.v38 (F := F) arg4 arg5 X_arg4 X_arg5 k) 39 :=
  (View.readCov_fill _ _ _ [] _ (fun a => by match a with | 0 => rfl | 1 => rfl)).trans rfl

theorem row_40 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1302 (F := F) arg4 arg5 arg10 X_arg4 X_arg5 k) = Tile.row (trip.sl.v38 (F := F) arg4 arg5 X_arg4 X_arg5 k) 40 :=
  (View.readCov_fill _ _ _ [] _ (fun a => by match a with | 0 => rfl | 1 => rfl)).trans rfl

theorem row_41 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1305 (F := F) arg4 arg5 arg10 X_arg4 X_arg5 k) = Tile.row (trip.sl.v38 (F := F) arg4 arg5 X_arg4 X_arg5 k) 41 :=
  (View.readCov_fill _ _ _ [] _ (fun a => by match a with | 0 => rfl | 1 => rfl)).trans rfl

theorem row_42 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1352 (F := F) arg4 arg5 arg10 X_arg4 X_arg5 k) = Tile.row (trip.sl.v38 (F := F) arg4 arg5 X_arg4 X_arg5 k) 42 :=
  (View.readCov_fill _ _ _ [] _ (fun a => by match a with | 0 => rfl | 1 => rfl)).trans rfl

theorem row_43 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1355 (F := F) arg4 arg5 arg10 X_arg4 X_arg5 k) = Tile.row (trip.sl.v38 (F := F) arg4 arg5 X_arg4 X_arg5 k) 43 :=
  (View.readCov_fill _ _ _ [] _ (fun a => by match a with | 0 => rfl | 1 => rfl)).trans rfl

theorem row_44 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1402 (F := F) arg4 arg5 arg10 X_arg4 X_arg5 k) = Tile.row (trip.sl.v38 (F := F) arg4 arg5 X_arg4 X_arg5 k) 44 :=
  (View.readCov_fill _ _ _ [] _ (fun a => by match a with | 0 => rfl | 1 => rfl)).trans rfl

theorem row_45 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1405 (F := F) arg4 arg5 arg10 X_arg4 X_arg5 k) = Tile.row (trip.sl.v38 (F := F) arg4 arg5 X_arg4 X_arg5 k) 45 :=
  (View.readCov_fill _ _ _ [] _ (fun a => by match a with | 0 => rfl | 1 => rfl)).trans rfl

theorem row_46 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1452 (F := F) arg4 arg5 arg10 X_arg4 X_arg5 k) = Tile.row (trip.sl.v38 (F := F) arg4 arg5 X_arg4 X_arg5 k) 46 :=
  (View.readCov_fill _ _ _ [] _ (fun a => by match a with | 0 => rfl | 1 => rfl)).trans rfl

theorem row_47 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1455 (F := F) arg4 arg5 arg10 X_arg4 X_arg5 k) = Tile.row (trip.sl.v38 (F := F) arg4 arg5 X_arg4 X_arg5 k) 47 :=
  (View.readCov_fill _ _ _ [] _ (fun a => by match a with | 0 => rfl | 1 => rfl)).trans rfl

theorem row_48 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1502 (F := F) arg4 arg5 arg10 X_arg4 X_arg5 k) = Tile.row (trip.sl.v38 (F := F) arg4 arg5 X_arg4 X_arg5 k) 48 :=
  (View.readCov_fill _ _ _ [] _ (fun a => by match a with | 0 => rfl | 1 => rfl)).trans rfl

theorem row_49 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1505 (F := F) arg4 arg5 arg10 X_arg4 X_arg5 k) = Tile.row (trip.sl.v38 (F := F) arg4 arg5 X_arg4 X_arg5 k) 49 :=
  (View.readCov_fill _ _ _ [] _ (fun a => by match a with | 0 => rfl | 1 => rfl)).trans rfl

theorem row_50 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1552 (F := F) arg4 arg5 arg10 X_arg4 X_arg5 k) = Tile.row (trip.sl.v38 (F := F) arg4 arg5 X_arg4 X_arg5 k) 50 :=
  (View.readCov_fill _ _ _ [] _ (fun a => by match a with | 0 => rfl | 1 => rfl)).trans rfl

theorem row_51 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1555 (F := F) arg4 arg5 arg10 X_arg4 X_arg5 k) = Tile.row (trip.sl.v38 (F := F) arg4 arg5 X_arg4 X_arg5 k) 51 :=
  (View.readCov_fill _ _ _ [] _ (fun a => by match a with | 0 => rfl | 1 => rfl)).trans rfl

theorem row_52 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1602 (F := F) arg4 arg5 arg10 X_arg4 X_arg5 k) = Tile.row (trip.sl.v38 (F := F) arg4 arg5 X_arg4 X_arg5 k) 52 :=
  (View.readCov_fill _ _ _ [] _ (fun a => by match a with | 0 => rfl | 1 => rfl)).trans rfl

theorem row_53 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1605 (F := F) arg4 arg5 arg10 X_arg4 X_arg5 k) = Tile.row (trip.sl.v38 (F := F) arg4 arg5 X_arg4 X_arg5 k) 53 :=
  (View.readCov_fill _ _ _ [] _ (fun a => by match a with | 0 => rfl | 1 => rfl)).trans rfl

theorem row_54 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1652 (F := F) arg4 arg5 arg10 X_arg4 X_arg5 k) = Tile.row (trip.sl.v38 (F := F) arg4 arg5 X_arg4 X_arg5 k) 54 :=
  (View.readCov_fill _ _ _ [] _ (fun a => by match a with | 0 => rfl | 1 => rfl)).trans rfl

theorem row_55 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1655 (F := F) arg4 arg5 arg10 X_arg4 X_arg5 k) = Tile.row (trip.sl.v38 (F := F) arg4 arg5 X_arg4 X_arg5 k) 55 :=
  (View.readCov_fill _ _ _ [] _ (fun a => by match a with | 0 => rfl | 1 => rfl)).trans rfl

theorem row_56 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1702 (F := F) arg4 arg5 arg10 X_arg4 X_arg5 k) = Tile.row (trip.sl.v38 (F := F) arg4 arg5 X_arg4 X_arg5 k) 56 :=
  (View.readCov_fill _ _ _ [] _ (fun a => by match a with | 0 => rfl | 1 => rfl)).trans rfl

theorem row_57 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1705 (F := F) arg4 arg5 arg10 X_arg4 X_arg5 k) = Tile.row (trip.sl.v38 (F := F) arg4 arg5 X_arg4 X_arg5 k) 57 :=
  (View.readCov_fill _ _ _ [] _ (fun a => by match a with | 0 => rfl | 1 => rfl)).trans rfl

theorem row_58 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1752 (F := F) arg4 arg5 arg10 X_arg4 X_arg5 k) = Tile.row (trip.sl.v38 (F := F) arg4 arg5 X_arg4 X_arg5 k) 58 :=
  (View.readCov_fill _ _ _ [] _ (fun a => by match a with | 0 => rfl | 1 => rfl)).trans rfl

theorem row_59 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1755 (F := F) arg4 arg5 arg10 X_arg4 X_arg5 k) = Tile.row (trip.sl.v38 (F := F) arg4 arg5 X_arg4 X_arg5 k) 59 :=
  (View.readCov_fill _ _ _ [] _ (fun a => by match a with | 0 => rfl | 1 => rfl)).trans rfl

theorem row_60 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1802 (F := F) arg4 arg5 arg10 X_arg4 X_arg5 k) = Tile.row (trip.sl.v38 (F := F) arg4 arg5 X_arg4 X_arg5 k) 60 :=
  (View.readCov_fill _ _ _ [] _ (fun a => by match a with | 0 => rfl | 1 => rfl)).trans rfl

theorem row_61 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1805 (F := F) arg4 arg5 arg10 X_arg4 X_arg5 k) = Tile.row (trip.sl.v38 (F := F) arg4 arg5 X_arg4 X_arg5 k) 61 :=
  (View.readCov_fill _ _ _ [] _ (fun a => by match a with | 0 => rfl | 1 => rfl)).trans rfl

theorem row_62 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1852 (F := F) arg4 arg5 arg10 X_arg4 X_arg5 k) = Tile.row (trip.sl.v38 (F := F) arg4 arg5 X_arg4 X_arg5 k) 62 :=
  (View.readCov_fill _ _ _ [] _ (fun a => by match a with | 0 => rfl | 1 => rfl)).trans rfl

theorem row_63 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1855 (F := F) arg4 arg5 arg10 X_arg4 X_arg5 k) = Tile.row (trip.sl.v38 (F := F) arg4 arg5 X_arg4 X_arg5 k) 63 :=
  (View.readCov_fill _ _ _ [] _ (fun a => by match a with | 0 => rfl | 1 => rfl)).trans rfl

end Cert.Kernel.Body
end
-- ==== Proof.KTripScore.lean ====
module

public import proofs.«01_k».proof.Proof.KTripRow

@[expose] public section

set_option maxRecDepth 8192
set_option maxHeartbeats 1000000

noncomputable section

/-!
# The scores of a trip

Each score tile that the run of a trip names is the function `Tile.tile` at that token position.
-/

namespace Cert.Kernel.Body
open Cert.Kernel Cert.Kernel.Gen
open Idealize.ShloMosaic Idealize.ShloMosaic.TcCoe
variable {F : FTy → Type} [FloatOps F]

theorem tile_even (q : FVec F S32x64 .bf16) (left : IVec S32x128 32) (kt : IVec S128x128 32) (S : IVec S64x128 32) (new : FVec F S32x128 .f32)
    (p : Fin 17) (a b : Fin 16) (r0 r1 r2 r3 : Fin 64) (n : BitVec 32) (hp : p.val < 16) (he : p.val % 2 = 0) (hn : n = BitVec.ofNat 32 p.val)
    (ha : a.val = p.val) (hb : b.val = p.val + 1) (h0 : r0.val = 2 * p.val) (h1 : r1.val = 2 * p.val + 1) (h2 : r2.val = 2 * p.val + 2)
    (h3 : r3.val = 2 * p.val + 3) : Tile.tile q left kt S new p = Tile.scoreLo left n (Tile.pairOf q
      (Tile.keyLo (Tile.words kt a) (Tile.words kt b) (Tile.row S r0) (Tile.row S r1))
      (Tile.keyHi (Tile.words kt a) (Tile.words kt b) (Tile.row S r2) (Tile.row S r3))) := by
  unfold Tile.tile Tile.pairAt
  rw [dif_pos hp, if_pos he, hn]
  have e1 : (⟨2 * (p.val / 2), by omega⟩ : Fin 16) = a := Fin.ext (by dsimp only; omega)
  have e2 : (⟨2 * (p.val / 2) + 1, by omega⟩ : Fin 16) = b := Fin.ext (by dsimp only; omega)
  have e3 : (⟨4 * (p.val / 2), by omega⟩ : Fin 64) = r0 := Fin.ext (by dsimp only; omega)
  have e4 : (⟨4 * (p.val / 2) + 1, by omega⟩ : Fin 64) = r1 := Fin.ext (by dsimp only; omega)
  have e5 : (⟨4 * (p.val / 2) + 2, by omega⟩ : Fin 64) = r2 := Fin.ext (by dsimp only; omega)
  have e6 : (⟨4 * (p.val / 2) + 3, by omega⟩ : Fin 64) = r3 := Fin.ext (by dsimp only; omega)
  simp only [e1, e2, e3, e4, e5, e6]

theorem tile_odd (q : FVec F S32x64 .bf16) (left : IVec S32x128 32) (kt : IVec S128x128 32) (S : IVec S64x128 32) (new : FVec F S32x128 .f32)
    (p : Fin 17) (a b : Fin 16) (r0 r1 r2 r3 : Fin 64) (n : BitVec 32) (hp : p.val < 16) (he : p.val % 2 = 1) (hn : n = BitVec.ofNat 32 p.val)
    (ha : a.val + 1 = p.val) (hb : b.val = p.val) (h0 : r0.val + 2 = 2 * p.val) (h1 : r1.val + 1 = 2 * p.val) (h2 : r2.val = 2 * p.val)
    (h3 : r3.val = 2 * p.val + 1) : Tile.tile q left kt S new p = Tile.scoreHi left n (Tile.pairOf q
      (Tile.keyLo (Tile.words kt a) (Tile.words kt b) (Tile.row S r0) (Tile.row S r1))
      (Tile.keyHi (Tile.words kt a) (Tile.words kt b) (Tile.row S r2) (Tile.row S r3))) := by
  unfold Tile.tile Tile.pairAt
  rw [dif_pos hp, if_neg (by omega), hn]
  have e1 : (⟨2 * (p.val / 2), by omega⟩ : Fin 16) = a := Fin.ext (by dsimp only; omega)
  have e2 : (⟨2 * (p.val / 2) + 1, by omega⟩ : Fin 16) = b := Fin.ext (by dsimp only; omega)
  have e3 : (⟨4 * (p.val / 2), by omega⟩ : Fin 64) = r0 := Fin.ext (by dsimp only; omega)
  have e4 : (⟨4 * (p.val / 2) + 1, by omega⟩ : Fin 64) = r1 := Fin.ext (by dsimp only; omega)
  have e5 : (⟨4 * (p.val / 2) + 2, by omega⟩ : Fin 64) = r2 := Fin.ext (by dsimp only; omega)
  have e6 : (⟨4 * (p.val / 2) + 3, by omega⟩ : Fin 64) = r3 := Fin.ext (by dsimp only; omega)
  simp only [e1, e2, e3, e4, e5, e6]

theorem score_0 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.r_11 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 0 := by
  dsimp only [trip.sl.r_11, trip.sl.r_5, trip.sl.r_1, trip.sl.v42, trip.sl.r_2, trip.sl.v43, trip.sl.r_3, trip.sl.r_4, trip.sl.r_6, trip.sl.r_7, trip.sl.r_8, trip.sl.r_9, trip.sl.r_10]
  rw [row_0, row_1, row_2, row_3]
  rw [tile_even _ _ _ _ _ 0 0 1 0 1 2 3 0#32 (by decide) rfl rfl rfl rfl rfl rfl rfl rfl]
  rfl

theorem score_1 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.r_12 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 1 := by
  dsimp only [trip.sl.r_12, trip.sl.r_5, trip.sl.r_1, trip.sl.v42, trip.sl.r_2, trip.sl.v43, trip.sl.r_3, trip.sl.r_4, trip.sl.r_6, trip.sl.r_7, trip.sl.r_8, trip.sl.r_9, trip.sl.r_10]
  rw [row_0, row_1, row_2, row_3]
  rw [tile_odd _ _ _ _ _ 1 0 1 0 1 2 3 1#32 (by decide) rfl rfl rfl rfl rfl rfl rfl rfl]
  rfl

theorem score_2 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.r_23 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 2 := by
  dsimp only [trip.sl.r_23, trip.sl.r_13, trip.sl.r_14, trip.sl.r_19, trip.sl.r_15, trip.sl.r_16, trip.sl.r_17, trip.sl.r_18, trip.sl.cst_57, trip.sl.r_20, trip.sl.r_21, trip.sl.r_22]
  rw [row_4, row_5, row_6, row_7]
  rw [tile_even _ _ _ _ _ 2 2 3 4 5 6 7 2#32 (by decide) rfl rfl rfl rfl rfl rfl rfl rfl]
  rfl

theorem score_3 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.r_24 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 3 := by
  dsimp only [trip.sl.r_24, trip.sl.r_13, trip.sl.r_14, trip.sl.r_19, trip.sl.r_15, trip.sl.r_16, trip.sl.r_17, trip.sl.r_18, trip.sl.cst_57, trip.sl.r_20, trip.sl.r_21, trip.sl.r_22]
  rw [row_4, row_5, row_6, row_7]
  rw [tile_odd _ _ _ _ _ 3 2 3 4 5 6 7 3#32 (by decide) rfl rfl rfl rfl rfl rfl rfl rfl]
  rfl

theorem score_4 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.r_38 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 4 := by
  dsimp only [trip.sl.r_38, trip.sl.r_32, trip.sl.r_27, trip.sl.r_28, trip.sl.r_25, trip.sl.r_29, trip.sl.r_26, trip.sl.r_30, trip.sl.r_31, trip.sl.r_33, trip.sl.r_34, trip.sl.r_35, trip.sl.r_36, trip.sl.r_37]
  rw [row_8, row_9, row_10, row_11]
  rw [tile_even _ _ _ _ _ 4 4 5 8 9 10 11 4#32 (by decide) rfl rfl rfl rfl rfl rfl rfl rfl]
  rfl

theorem score_5 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.r_39 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 5 := by
  dsimp only [trip.sl.r_39, trip.sl.r_32, trip.sl.r_27, trip.sl.r_28, trip.sl.r_25, trip.sl.r_29, trip.sl.r_26, trip.sl.r_30, trip.sl.r_31, trip.sl.r_33, trip.sl.r_34, trip.sl.r_35, trip.sl.r_36, trip.sl.r_37]
  rw [row_8, row_9, row_10, row_11]
  rw [tile_odd _ _ _ _ _ 5 4 5 8 9 10 11 5#32 (by decide) rfl rfl rfl rfl rfl rfl rfl rfl]
  rfl

theorem score_6 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.r_50 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 6 := by
  dsimp only [trip.sl.r_50, trip.sl.r_40, trip.sl.r_41, trip.sl.r_46, trip.sl.r_42, trip.sl.r_43, trip.sl.r_44, trip.sl.r_45, trip.sl.r_47, trip.sl.r_48, trip.sl.r_49]
  rw [row_12, row_13, row_14, row_15]
  rw [tile_even _ _ _ _ _ 6 6 7 12 13 14 15 6#32 (by decide) rfl rfl rfl rfl rfl rfl rfl rfl]
  rfl

theorem score_7 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.r_51 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 7 := by
  dsimp only [trip.sl.r_51, trip.sl.r_40, trip.sl.r_41, trip.sl.r_46, trip.sl.r_42, trip.sl.r_43, trip.sl.r_44, trip.sl.r_45, trip.sl.r_47, trip.sl.r_48, trip.sl.r_49]
  rw [row_12, row_13, row_14, row_15]
  rw [tile_odd _ _ _ _ _ 7 6 7 12 13 14 15 7#32 (by decide) rfl rfl rfl rfl rfl rfl rfl rfl]
  rfl

theorem score_8 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.r_64 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 8 := by
  dsimp only [trip.sl.r_64, trip.sl.r_53, trip.sl.r_59, trip.sl.r_54, trip.sl.r_55, trip.sl.r_56, trip.sl.r_57, trip.sl.r_58, trip.sl.r_60, trip.sl.r_61, trip.sl.r_52, trip.sl.r_62, trip.sl.r_63]
  rw [row_16, row_17, row_18, row_19]
  rw [tile_even _ _ _ _ _ 8 8 9 16 17 18 19 8#32 (by decide) rfl rfl rfl rfl rfl rfl rfl rfl]
  rfl

theorem score_9 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.r_65 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 9 := by
  dsimp only [trip.sl.r_65, trip.sl.r_53, trip.sl.r_59, trip.sl.r_54, trip.sl.r_55, trip.sl.r_56, trip.sl.r_57, trip.sl.r_58, trip.sl.r_60, trip.sl.r_61, trip.sl.r_52, trip.sl.r_62, trip.sl.r_63]
  rw [row_16, row_17, row_18, row_19]
  rw [tile_odd _ _ _ _ _ 9 8 9 16 17 18 19 9#32 (by decide) rfl rfl rfl rfl rfl rfl rfl rfl]
  rfl

theorem score_10 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.r_76 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 10 := by
  dsimp only [trip.sl.r_76, trip.sl.r_66, trip.sl.r_67, trip.sl.r_72, trip.sl.r_68, trip.sl.r_69, trip.sl.r_70, trip.sl.r_71, trip.sl.r_73, trip.sl.r_74, trip.sl.r_75]
  rw [row_20, row_21, row_22, row_23]
  rw [tile_even _ _ _ _ _ 10 10 11 20 21 22 23 10#32 (by decide) rfl rfl rfl rfl rfl rfl rfl rfl]
  rfl

theorem score_11 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.r_79 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 11 := by
  dsimp only [trip.sl.r_79, trip.sl.r_77, trip.sl.r_78, trip.sl.r_66, trip.sl.r_67, trip.sl.r_72, trip.sl.r_68, trip.sl.r_69, trip.sl.r_70, trip.sl.r_71, trip.sl.r_73, trip.sl.r_74, trip.sl.r_75, trip.sl.cst_236]
  rw [row_20, row_21, row_22, row_23]
  rw [tile_odd _ _ _ _ _ 11 10 11 20 21 22 23 11#32 (by decide) rfl rfl rfl rfl rfl rfl rfl rfl]
  rfl

theorem score_12 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.r_93 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 12 := by
  dsimp only [trip.sl.r_93, trip.sl.r_81, trip.sl.r_87, trip.sl.r_82, trip.sl.r_83, trip.sl.r_84, trip.sl.r_85, trip.sl.r_86, trip.sl.r_88, trip.sl.r_89, trip.sl.r_90, trip.sl.r_80, trip.sl.r_91, trip.sl.r_92]
  rw [row_24, row_25, row_26, row_27]
  rw [tile_even _ _ _ _ _ 12 12 13 24 25 26 27 12#32 (by decide) rfl rfl rfl rfl rfl rfl rfl rfl]
  rfl

theorem score_13 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.r_94 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 13 := by
  dsimp only [trip.sl.r_94, trip.sl.r_81, trip.sl.r_87, trip.sl.r_82, trip.sl.r_83, trip.sl.r_84, trip.sl.r_85, trip.sl.r_86, trip.sl.r_88, trip.sl.r_89, trip.sl.r_90, trip.sl.r_80, trip.sl.r_91, trip.sl.r_92]
  rw [row_24, row_25, row_26, row_27]
  rw [tile_odd _ _ _ _ _ 13 12 13 24 25 26 27 13#32 (by decide) rfl rfl rfl rfl rfl rfl rfl rfl]
  rfl

theorem score_14 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.r_105 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 14 := by
  dsimp only [trip.sl.r_105, trip.sl.r_95, trip.sl.r_96, trip.sl.r_100, trip.sl.r_97, trip.sl.r_98, trip.sl.r_99, trip.sl.r_101, trip.sl.r_102, trip.sl.r_103]
  rw [row_28, row_29, row_30, row_31]
  rw [tile_even _ _ _ _ _ 14 14 15 28 29 30 31 14#32 (by decide) rfl rfl rfl rfl rfl rfl rfl rfl]
  rfl

theorem score_15 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.r_107 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 15 := by
  dsimp only [trip.sl.r_107, trip.sl.r_104, trip.sl.r_95, trip.sl.r_96, trip.sl.r_100, trip.sl.r_97, trip.sl.r_98, trip.sl.r_99, trip.sl.r_101, trip.sl.r_102, trip.sl.r_103, trip.sl.r_106]
  rw [row_28, row_29, row_30, row_31]
  rw [tile_odd _ _ _ _ _ 15 14 15 28 29 30 31 15#32 (by decide) rfl rfl rfl rfl rfl rfl rfl rfl]
  rfl

end Cert.Kernel.Body
end
-- ==== Proof.KTripSoft.lean ====
module

public import proofs.«01_k».proof.Proof.KTripScore

@[expose] public section

set_option maxRecDepth 8192
set_option maxHeartbeats 1000000

noncomputable section

/-!
# The weights of a trip

The greatest score, the exponentials and the weights that the run of a trip names are those of `Tile`.
-/

namespace Cert.Kernel.Body
open Cert.Kernel Cert.Kernel.Gen
open Idealize.ShloMosaic Idealize.ShloMosaic.TcCoe
variable {F : FTy → Type} [FloatOps F]

theorem tile_last (q : FVec F S32x64 .bf16) (left : IVec S32x128 32) (kt : IVec S128x128 32) (S : IVec S64x128 32) (new : FVec F S32x128 .f32) :
    Tile.tile q left kt S new 16 = new := by unfold Tile.tile; exact dif_neg (by decide)

/-- The greatest score. -/
theorem max_eq (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.r_109 (F := F) i arg1 arg2 arg4 arg5 arg6 arg7 arg10 arg0 v1 v2 X_arg1 X_arg2 X_arg4 X_arg5 X_arg6 X_arg7 k) = Tile.rowMax (Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) (trip.sl.r_108 (F := F) arg6 arg7 arg0 v1 v2 X_arg6 X_arg7 k)) := by
  unfold Tile.rowMax
  rw [← score_0 (arg10 := arg10), ← score_1 (arg10 := arg10), ← score_2 (arg10 := arg10), ← score_3 (arg10 := arg10), ← score_4 (arg10 := arg10), ← score_5 (arg10 := arg10), ← score_6 (arg10 := arg10), ← score_7 (arg10 := arg10), ← score_8 (arg10 := arg10), ← score_9 (arg10 := arg10), ← score_10 (arg10 := arg10), ← score_11 (arg10 := arg10), ← score_12 (arg10 := arg10), ← score_13 (arg10 := arg10), ← score_14 (arg10 := arg10), ← score_15 (arg10 := arg10), tile_last]
  dsimp only [trip.sl.r_109, trip.sl.r_107, trip.sl.r_108]
  rfl

theorem exp_0 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.r_110 (F := F) i arg1 arg2 arg4 arg5 arg6 arg7 arg10 arg0 v1 v2 cst X_arg1 X_arg2 X_arg4 X_arg5 X_arg6 X_arg7 k) = Tile.expTile cst (trip.sl.r_109 (F := F) i arg1 arg2 arg4 arg5 arg6 arg7 arg10 arg0 v1 v2 X_arg1 X_arg2 X_arg4 X_arg5 X_arg6 X_arg7 k) (trip.sl.r_11 (F := F) i arg1 arg2 arg4 arg5 arg6 arg10 X_arg1 X_arg2 X_arg4 X_arg5 X_arg6 k) := by
  dsimp only [trip.sl.r_110, trip.sl.r_109]
  rfl

theorem exp_1 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.r_112 (F := F) i arg1 arg2 arg4 arg5 arg6 arg7 arg10 arg0 v1 v2 cst X_arg1 X_arg2 X_arg4 X_arg5 X_arg6 X_arg7 k) = Tile.expTile cst (trip.sl.r_109 (F := F) i arg1 arg2 arg4 arg5 arg6 arg7 arg10 arg0 v1 v2 X_arg1 X_arg2 X_arg4 X_arg5 X_arg6 X_arg7 k) (trip.sl.r_12 (F := F) i arg1 arg2 arg4 arg5 arg6 arg10 X_arg1 X_arg2 X_arg4 X_arg5 X_arg6 k) := by
  dsimp only [trip.sl.r_112, trip.sl.r_111, trip.sl.r_109]
  rfl

theorem exp_2 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.r_113 (F := F) i arg1 arg2 arg4 arg5 arg6 arg7 arg10 arg0 v1 v2 cst X_arg1 X_arg2 X_arg4 X_arg5 X_arg6 X_arg7 k) = Tile.expTile cst (trip.sl.r_109 (F := F) i arg1 arg2 arg4 arg5 arg6 arg7 arg10 arg0 v1 v2 X_arg1 X_arg2 X_arg4 X_arg5 X_arg6 X_arg7 k) (trip.sl.r_23 (F := F) i arg1 arg2 arg4 arg5 arg6 arg10 X_arg1 X_arg2 X_arg4 X_arg5 X_arg6 k) := by
  dsimp only [trip.sl.r_113]
  rfl

theorem exp_3 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.r_114 (F := F) i arg1 arg2 arg4 arg5 arg6 arg7 arg10 arg0 v1 v2 cst X_arg1 X_arg2 X_arg4 X_arg5 X_arg6 X_arg7 k) = Tile.expTile cst (trip.sl.r_109 (F := F) i arg1 arg2 arg4 arg5 arg6 arg7 arg10 arg0 v1 v2 X_arg1 X_arg2 X_arg4 X_arg5 X_arg6 X_arg7 k) (trip.sl.r_24 (F := F) i arg1 arg2 arg4 arg5 arg6 arg10 X_arg1 X_arg2 X_arg4 X_arg5 X_arg6 k) := by
  dsimp only [trip.sl.r_114]
  rfl

theorem exp_4 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.r_115 (F := F) i arg1 arg2 arg4 arg5 arg6 arg7 arg10 arg0 v1 v2 cst X_arg1 X_arg2 X_arg4 X_arg5 X_arg6 X_arg7 k) = Tile.expTile cst (trip.sl.r_109 (F := F) i arg1 arg2 arg4 arg5 arg6 arg7 arg10 arg0 v1 v2 X_arg1 X_arg2 X_arg4 X_arg5 X_arg6 X_arg7 k) (trip.sl.r_38 (F := F) i arg1 arg2 arg4 arg5 arg6 arg10 X_arg1 X_arg2 X_arg4 X_arg5 X_arg6 k) := by
  dsimp only [trip.sl.r_115]
  rfl

theorem exp_5 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.r_116 (F := F) i arg1 arg2 arg4 arg5 arg6 arg7 arg10 arg0 v1 v2 cst X_arg1 X_arg2 X_arg4 X_arg5 X_arg6 X_arg7 k) = Tile.expTile cst (trip.sl.r_109 (F := F) i arg1 arg2 arg4 arg5 arg6 arg7 arg10 arg0 v1 v2 X_arg1 X_arg2 X_arg4 X_arg5 X_arg6 X_arg7 k) (trip.sl.r_39 (F := F) i arg1 arg2 arg4 arg5 arg6 arg10 X_arg1 X_arg2 X_arg4 X_arg5 X_arg6 k) := by
  dsimp only [trip.sl.r_116]
  rfl

theorem exp_6 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.r_117 (F := F) i arg1 arg2 arg4 arg5 arg6 arg7 arg10 arg0 v1 v2 cst X_arg1 X_arg2 X_arg4 X_arg5 X_arg6 X_arg7 k) = Tile.expTile cst (trip.sl.r_109 (F := F) i arg1 arg2 arg4 arg5 arg6 arg7 arg10 arg0 v1 v2 X_arg1 X_arg2 X_arg4 X_arg5 X_arg6 X_arg7 k) (trip.sl.r_50 (F := F) i arg1 arg2 arg4 arg5 arg6 arg10 X_arg1 X_arg2 X_arg4 X_arg5 X_arg6 k) := by
  dsimp only [trip.sl.r_117]
  rfl

theorem exp_7 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.r_118 (F := F) i arg1 arg2 arg4 arg5 arg6 arg7 arg10 arg0 v1 v2 cst X_arg1 X_arg2 X_arg4 X_arg5 X_arg6 X_arg7 k) = Tile.expTile cst (trip.sl.r_109 (F := F) i arg1 arg2 arg4 arg5 arg6 arg7 arg10 arg0 v1 v2 X_arg1 X_arg2 X_arg4 X_arg5 X_arg6 X_arg7 k) (trip.sl.r_51 (F := F) i arg1 arg2 arg4 arg5 arg6 arg10 X_arg1 X_arg2 X_arg4 X_arg5 X_arg6 k) := by
  dsimp only [trip.sl.r_118]
  rfl

theorem exp_8 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.r_119 (F := F) i arg1 arg2 arg4 arg5 arg6 arg7 arg10 arg0 v1 v2 cst X_arg1 X_arg2 X_arg4 X_arg5 X_arg6 X_arg7 k) = Tile.expTile cst (trip.sl.r_109 (F := F) i arg1 arg2 arg4 arg5 arg6 arg7 arg10 arg0 v1 v2 X_arg1 X_arg2 X_arg4 X_arg5 X_arg6 X_arg7 k) (trip.sl.r_64 (F := F) i arg1 arg2 arg4 arg5 arg6 arg10 X_arg1 X_arg2 X_arg4 X_arg5 X_arg6 k) := by
  dsimp only [trip.sl.r_119]
  rfl

theorem exp_9 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.r_120 (F := F) i arg1 arg2 arg4 arg5 arg6 arg7 arg10 arg0 v1 v2 cst X_arg1 X_arg2 X_arg4 X_arg5 X_arg6 X_arg7 k) = Tile.expTile cst (trip.sl.r_109 (F := F) i arg1 arg2 arg4 arg5 arg6 arg7 arg10 arg0 v1 v2 X_arg1 X_arg2 X_arg4 X_arg5 X_arg6 X_arg7 k) (trip.sl.r_65 (F := F) i arg1 arg2 arg4 arg5 arg6 arg10 X_arg1 X_arg2 X_arg4 X_arg5 X_arg6 k) := by
  dsimp only [trip.sl.r_120]
  rfl

theorem exp_10 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.r_121 (F := F) i arg1 arg2 arg4 arg5 arg6 arg7 arg10 arg0 v1 v2 cst X_arg1 X_arg2 X_arg4 X_arg5 X_arg6 X_arg7 k) = Tile.expTile cst (trip.sl.r_109 (F := F) i arg1 arg2 arg4 arg5 arg6 arg7 arg10 arg0 v1 v2 X_arg1 X_arg2 X_arg4 X_arg5 X_arg6 X_arg7 k) (trip.sl.r_76 (F := F) i arg1 arg2 arg4 arg5 arg6 arg10 X_arg1 X_arg2 X_arg4 X_arg5 X_arg6 k) := by
  dsimp only [trip.sl.r_121]
  rfl

theorem exp_11 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.r_122 (F := F) i arg1 arg2 arg4 arg5 arg6 arg7 arg10 arg0 v1 v2 cst X_arg1 X_arg2 X_arg4 X_arg5 X_arg6 X_arg7 k) = Tile.expTile cst (trip.sl.r_109 (F := F) i arg1 arg2 arg4 arg5 arg6 arg7 arg10 arg0 v1 v2 X_arg1 X_arg2 X_arg4 X_arg5 X_arg6 X_arg7 k) (trip.sl.r_79 (F := F) i arg1 arg2 arg4 arg5 arg6 arg10 X_arg1 X_arg2 X_arg4 X_arg5 X_arg6 k) := by
  dsimp only [trip.sl.r_122]
  rfl

theorem exp_12 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.r_123 (F := F) i arg1 arg2 arg4 arg5 arg6 arg7 arg10 arg0 v1 v2 cst X_arg1 X_arg2 X_arg4 X_arg5 X_arg6 X_arg7 k) = Tile.expTile cst (trip.sl.r_109 (F := F) i arg1 arg2 arg4 arg5 arg6 arg7 arg10 arg0 v1 v2 X_arg1 X_arg2 X_arg4 X_arg5 X_arg6 X_arg7 k) (trip.sl.r_93 (F := F) i arg1 arg2 arg4 arg5 arg6 arg10 X_arg1 X_arg2 X_arg4 X_arg5 X_arg6 k) := by
  dsimp only [trip.sl.r_123]
  rfl

theorem exp_13 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.r_125 (F := F) i arg1 arg2 arg4 arg5 arg6 arg7 arg10 arg0 v1 v2 cst X_arg1 X_arg2 X_arg4 X_arg5 X_arg6 X_arg7 k) = Tile.expTile cst (trip.sl.r_109 (F := F) i arg1 arg2 arg4 arg5 arg6 arg7 arg10 arg0 v1 v2 X_arg1 X_arg2 X_arg4 X_arg5 X_arg6 X_arg7 k) (trip.sl.r_94 (F := F) i arg1 arg2 arg4 arg5 arg6 arg10 X_arg1 X_arg2 X_arg4 X_arg5 X_arg6 k) := by
  dsimp only [trip.sl.r_125, trip.sl.r_124]
  rfl

theorem exp_14 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.r_126 (F := F) i arg1 arg2 arg4 arg5 arg6 arg7 arg10 arg0 v1 v2 cst X_arg1 X_arg2 X_arg4 X_arg5 X_arg6 X_arg7 k) = Tile.expTile cst (trip.sl.r_109 (F := F) i arg1 arg2 arg4 arg5 arg6 arg7 arg10 arg0 v1 v2 X_arg1 X_arg2 X_arg4 X_arg5 X_arg6 X_arg7 k) (trip.sl.r_105 (F := F) i arg1 arg2 arg4 arg5 arg6 arg10 X_arg1 X_arg2 X_arg4 X_arg5 X_arg6 k) := by
  dsimp only [trip.sl.r_126]
  rfl

theorem exp_15 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.r_127 (F := F) i arg1 arg2 arg4 arg5 arg6 arg7 arg10 arg0 v1 v2 cst X_arg1 X_arg2 X_arg4 X_arg5 X_arg6 X_arg7 k) = Tile.expTile cst (trip.sl.r_109 (F := F) i arg1 arg2 arg4 arg5 arg6 arg7 arg10 arg0 v1 v2 X_arg1 X_arg2 X_arg4 X_arg5 X_arg6 X_arg7 k) (trip.sl.r_107 (F := F) i arg1 arg2 arg4 arg5 arg6 arg10 X_arg1 X_arg2 X_arg4 X_arg5 X_arg6 k) := by
  dsimp only [trip.sl.r_127]
  rfl

theorem exp_16 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.r_128 (F := F) i arg1 arg2 arg4 arg5 arg6 arg7 arg10 arg0 v1 v2 cst X_arg1 X_arg2 X_arg4 X_arg5 X_arg6 X_arg7 k) = Tile.expTile cst (trip.sl.r_109 (F := F) i arg1 arg2 arg4 arg5 arg6 arg7 arg10 arg0 v1 v2 X_arg1 X_arg2 X_arg4 X_arg5 X_arg6 X_arg7 k) (trip.sl.r_108 (F := F) arg6 arg7 arg0 v1 v2 X_arg6 X_arg7 k) := by
  dsimp only [trip.sl.r_128]
  rfl

/-- The weights of all token positions. -/
theorem weights_eq (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.r_138 (F := F) i arg1 arg2 arg4 arg5 arg6 arg7 arg10 arg0 v1 v2 cst X_arg1 X_arg2 X_arg4 X_arg5 X_arg6 X_arg7 k) = Tile.weights cst (Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) (trip.sl.r_108 (F := F) arg6 arg7 arg0 v1 v2 X_arg6 X_arg7 k)) := by
  unfold Tile.weights Tile.joinP Tile.rowInv
  rw [← max_eq]
  beta_reduce
  rw [← score_0 (arg10 := arg10), ← score_1 (arg10 := arg10), ← score_2 (arg10 := arg10), ← score_3 (arg10 := arg10), ← score_4 (arg10 := arg10), ← score_5 (arg10 := arg10), ← score_6 (arg10 := arg10), ← score_7 (arg10 := arg10), ← score_8 (arg10 := arg10), ← score_9 (arg10 := arg10), ← score_10 (arg10 := arg10), ← score_11 (arg10 := arg10), ← score_12 (arg10 := arg10), ← score_13 (arg10 := arg10), ← score_14 (arg10 := arg10), ← score_15 (arg10 := arg10), tile_last]
  rw [← exp_0 i arg1 arg2 arg4 arg5 arg6 arg7 arg10 arg0 v1 v2 cst X_arg1 X_arg2 X_arg4 X_arg5 X_arg6 X_arg7 k, ← exp_1 i arg1 arg2 arg4 arg5 arg6 arg7 arg10 arg0 v1 v2 cst X_arg1 X_arg2 X_arg4 X_arg5 X_arg6 X_arg7 k, ← exp_2 i arg1 arg2 arg4 arg5 arg6 arg7 arg10 arg0 v1 v2 cst X_arg1 X_arg2 X_arg4 X_arg5 X_arg6 X_arg7 k, ← exp_3 i arg1 arg2 arg4 arg5 arg6 arg7 arg10 arg0 v1 v2 cst X_arg1 X_arg2 X_arg4 X_arg5 X_arg6 X_arg7 k, ← exp_4 i arg1 arg2 arg4 arg5 arg6 arg7 arg10 arg0 v1 v2 cst X_arg1 X_arg2 X_arg4 X_arg5 X_arg6 X_arg7 k, ← exp_5 i arg1 arg2 arg4 arg5 arg6 arg7 arg10 arg0 v1 v2 cst X_arg1 X_arg2 X_arg4 X_arg5 X_arg6 X_arg7 k, ← exp_6 i arg1 arg2 arg4 arg5 arg6 arg7 arg10 arg0 v1 v2 cst X_arg1 X_arg2 X_arg4 X_arg5 X_arg6 X_arg7 k, ← exp_7 i arg1 arg2 arg4 arg5 arg6 arg7 arg10 arg0 v1 v2 cst X_arg1 X_arg2 X_arg4 X_arg5 X_arg6 X_arg7 k, ← exp_8 i arg1 arg2 arg4 arg5 arg6 arg7 arg10 arg0 v1 v2 cst X_arg1 X_arg2 X_arg4 X_arg5 X_arg6 X_arg7 k, ← exp_9 i arg1 arg2 arg4 arg5 arg6 arg7 arg10 arg0 v1 v2 cst X_arg1 X_arg2 X_arg4 X_arg5 X_arg6 X_arg7 k, ← exp_10 i arg1 arg2 arg4 arg5 arg6 arg7 arg10 arg0 v1 v2 cst X_arg1 X_arg2 X_arg4 X_arg5 X_arg6 X_arg7 k, ← exp_11 i arg1 arg2 arg4 arg5 arg6 arg7 arg10 arg0 v1 v2 cst X_arg1 X_arg2 X_arg4 X_arg5 X_arg6 X_arg7 k, ← exp_12 i arg1 arg2 arg4 arg5 arg6 arg7 arg10 arg0 v1 v2 cst X_arg1 X_arg2 X_arg4 X_arg5 X_arg6 X_arg7 k, ← exp_13 i arg1 arg2 arg4 arg5 arg6 arg7 arg10 arg0 v1 v2 cst X_arg1 X_arg2 X_arg4 X_arg5 X_arg6 X_arg7 k, ← exp_14 i arg1 arg2 arg4 arg5 arg6 arg7 arg10 arg0 v1 v2 cst X_arg1 X_arg2 X_arg4 X_arg5 X_arg6 X_arg7 k, ← exp_15 i arg1 arg2 arg4 arg5 arg6 arg7 arg10 arg0 v1 v2 cst X_arg1 X_arg2 X_arg4 X_arg5 X_arg6 X_arg7 k, ← exp_16 i arg1 arg2 arg4 arg5 arg6 arg7 arg10 arg0 v1 v2 cst X_arg1 X_arg2 X_arg4 X_arg5 X_arg6 X_arg7 k]
  dsimp only [trip.sl.r_138, trip.sl.r_137, trip.sl.r_136, trip.sl.r_135, trip.sl.r_134, trip.sl.r_133, trip.sl.r_132, trip.sl.r_131, trip.sl.r_130, trip.sl.r_129, trip.sl.r_128, trip.sl.r_127, trip.sl.r_126, trip.sl.r_125]
  rfl

end Cert.Kernel.Body
end
-- ==== Proof.KTripValue.lean ====
module

public import proofs.«01_k».proof.Proof.KTripRow

@[expose] public section

set_option maxRecDepth 8192
set_option maxHeartbeats 1000000

noncomputable section

/-!
# The values of a trip

Each value tile that the run of a trip names is the function `Tile.vals` at that token position.
-/

namespace Cert.Kernel.Body
open Cert.Kernel Cert.Kernel.Gen
open Idealize.ShloMosaic Idealize.ShloMosaic.TcCoe
variable {F : FTy → Type} [FloatOps F]

theorem value_0 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.r_143 (F := F) arg3 arg4 arg5 arg10 v0 X_arg3 X_arg4 X_arg5 k) = Tile.vals v0 (trip.sl.v27 (F := F) arg3 X_arg3 k) (trip.sl.v38 (F := F) arg4 arg5 X_arg4 X_arg5 k) vn 0 := by
  dsimp only [trip.sl.r_143, trip.sl.r_139, trip.sl.r_140, trip.sl.r_141, trip.sl.r_142]
  rw [row_32, row_33]
  rfl

theorem value_1 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.r_147 (F := F) arg3 arg4 arg5 arg10 v0 X_arg3 X_arg4 X_arg5 k) = Tile.vals v0 (trip.sl.v27 (F := F) arg3 X_arg3 k) (trip.sl.v38 (F := F) arg4 arg5 X_arg4 X_arg5 k) vn 1 := by
  dsimp only [trip.sl.r_147, trip.sl.r_144, trip.sl.r_145, trip.sl.r_146]
  rw [row_34, row_35]
  rfl

theorem value_2 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.r_150 (F := F) arg3 arg4 arg5 arg10 v0 X_arg3 X_arg4 X_arg5 k) = Tile.vals v0 (trip.sl.v27 (F := F) arg3 X_arg3 k) (trip.sl.v38 (F := F) arg4 arg5 X_arg4 X_arg5 k) vn 2 := by
  dsimp only [trip.sl.r_150, trip.sl.r_148, trip.sl.r_149]
  rw [row_36, row_37]
  rfl

theorem value_3 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.r_156 (F := F) arg3 arg4 arg5 arg10 v0 X_arg3 X_arg4 X_arg5 k) = Tile.vals v0 (trip.sl.v27 (F := F) arg3 X_arg3 k) (trip.sl.v38 (F := F) arg4 arg5 X_arg4 X_arg5 k) vn 3 := by
  dsimp only [trip.sl.r_156, trip.sl.r_151, trip.sl.r_152, trip.sl.r_153, trip.sl.r_154, trip.sl.r_155]
  rw [row_38, row_39]
  rfl

theorem value_4 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.r_162 (F := F) arg3 arg4 arg5 arg10 v0 X_arg3 X_arg4 X_arg5 k) = Tile.vals v0 (trip.sl.v27 (F := F) arg3 X_arg3 k) (trip.sl.v38 (F := F) arg4 arg5 X_arg4 X_arg5 k) vn 4 := by
  dsimp only [trip.sl.r_162, trip.sl.r_157, trip.sl.r_158, trip.sl.r_159, trip.sl.r_160, trip.sl.r_161]
  rw [row_40, row_41]
  rfl

theorem value_5 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.r_167 (F := F) arg3 arg4 arg5 arg10 v0 X_arg3 X_arg4 X_arg5 k) = Tile.vals v0 (trip.sl.v27 (F := F) arg3 X_arg3 k) (trip.sl.v38 (F := F) arg4 arg5 X_arg4 X_arg5 k) vn 5 := by
  dsimp only [trip.sl.r_167, trip.sl.r_163, trip.sl.r_164, trip.sl.r_165, trip.sl.r_166]
  rw [row_42, row_43]
  rfl

theorem value_6 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.r_172 (F := F) arg3 arg4 arg5 arg10 v0 X_arg3 X_arg4 X_arg5 k) = Tile.vals v0 (trip.sl.v27 (F := F) arg3 X_arg3 k) (trip.sl.v38 (F := F) arg4 arg5 X_arg4 X_arg5 k) vn 6 := by
  dsimp only [trip.sl.r_172, trip.sl.r_168, trip.sl.r_169, trip.sl.r_170, trip.sl.r_171]
  rw [row_44, row_45]
  rfl

theorem value_7 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.r_176 (F := F) arg3 arg4 arg5 arg10 v0 X_arg3 X_arg4 X_arg5 k) = Tile.vals v0 (trip.sl.v27 (F := F) arg3 X_arg3 k) (trip.sl.v38 (F := F) arg4 arg5 X_arg4 X_arg5 k) vn 7 := by
  dsimp only [trip.sl.r_176, trip.sl.r_173, trip.sl.r_174, trip.sl.r_175]
  rw [row_46, row_47]
  rfl

theorem value_8 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.r_179 (F := F) arg3 arg4 arg5 arg10 v0 X_arg3 X_arg4 X_arg5 k) = Tile.vals v0 (trip.sl.v27 (F := F) arg3 X_arg3 k) (trip.sl.v38 (F := F) arg4 arg5 X_arg4 X_arg5 k) vn 8 := by
  dsimp only [trip.sl.r_179, trip.sl.r_177, trip.sl.r_178]
  rw [row_48, row_49]
  rfl

theorem value_9 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.r_185 (F := F) arg3 arg4 arg5 arg10 v0 X_arg3 X_arg4 X_arg5 k) = Tile.vals v0 (trip.sl.v27 (F := F) arg3 X_arg3 k) (trip.sl.v38 (F := F) arg4 arg5 X_arg4 X_arg5 k) vn 9 := by
  dsimp only [trip.sl.r_185, trip.sl.r_180, trip.sl.r_181, trip.sl.r_182, trip.sl.r_183, trip.sl.r_184]
  rw [row_50, row_51]
  rfl

theorem value_10 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.r_191 (F := F) arg3 arg4 arg5 arg10 v0 X_arg3 X_arg4 X_arg5 k) = Tile.vals v0 (trip.sl.v27 (F := F) arg3 X_arg3 k) (trip.sl.v38 (F := F) arg4 arg5 X_arg4 X_arg5 k) vn 10 := by
  dsimp only [trip.sl.r_191, trip.sl.r_186, trip.sl.r_187, trip.sl.r_188, trip.sl.r_189, trip.sl.r_190]
  rw [row_52, row_53]
  rfl

theorem value_11 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.r_196 (F := F) arg3 arg4 arg5 arg10 v0 X_arg3 X_arg4 X_arg5 k) = Tile.vals v0 (trip.sl.v27 (F := F) arg3 X_arg3 k) (trip.sl.v38 (F := F) arg4 arg5 X_arg4 X_arg5 k) vn 11 := by
  dsimp only [trip.sl.r_196, trip.sl.r_192, trip.sl.r_193, trip.sl.r_194, trip.sl.r_195]
  rw [row_54, row_55]
  rfl

theorem value_12 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.r_201 (F := F) arg3 arg4 arg5 arg10 v0 X_arg3 X_arg4 X_arg5 k) = Tile.vals v0 (trip.sl.v27 (F := F) arg3 X_arg3 k) (trip.sl.v38 (F := F) arg4 arg5 X_arg4 X_arg5 k) vn 12 := by
  dsimp only [trip.sl.r_201, trip.sl.r_197, trip.sl.r_198, trip.sl.r_199, trip.sl.r_200]
  rw [row_56, row_57]
  rfl

theorem value_13 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.r_205 (F := F) arg3 arg4 arg5 arg10 v0 X_arg3 X_arg4 X_arg5 k) = Tile.vals v0 (trip.sl.v27 (F := F) arg3 X_arg3 k) (trip.sl.v38 (F := F) arg4 arg5 X_arg4 X_arg5 k) vn 13 := by
  dsimp only [trip.sl.r_205, trip.sl.r_202, trip.sl.r_203, trip.sl.r_204]
  rw [row_58, row_59]
  rfl

theorem value_14 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.r_208 (F := F) arg3 arg4 arg5 arg10 v0 X_arg3 X_arg4 X_arg5 k) = Tile.vals v0 (trip.sl.v27 (F := F) arg3 X_arg3 k) (trip.sl.v38 (F := F) arg4 arg5 X_arg4 X_arg5 k) vn 14 := by
  dsimp only [trip.sl.r_208, trip.sl.r_206, trip.sl.r_207]
  rw [row_60, row_61]
  rfl

theorem value_15 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.v1898 (F := F) arg3 arg4 arg5 arg10 v0 X_arg3 X_arg4 X_arg5 k) = Tile.vals v0 (trip.sl.v27 (F := F) arg3 X_arg3 k) (trip.sl.v38 (F := F) arg4 arg5 X_arg4 X_arg5 k) vn 15 := by
  dsimp only [trip.sl.v1898, trip.sl.r_209, trip.sl.r_210, trip.sl.r_211, trip.sl.r_212, trip.sl.r_213]
  rw [row_62, row_63]
  rfl

end Cert.Kernel.Body
end
-- ==== Proof.KLoop.lean ====
module

public import proofs.«01_k».proof.Proof.KTripSoft
public import proofs.«01_k».proof.Proof.KTripValue
public import Idealize.ShloMosaic.Lib.WritesUnit
public import Idealize.ShloMosaic.Lib.Pointwise.Index

@[expose] public section

set_option maxRecDepth 8192
set_option maxHeartbeats 1000000

noncomputable section

/-!
# The loop over eight sequences

The piece one trip stores is `Tile.one` of what it loads (`piece_eq`). Before trip `k` the output block holds the
attention outputs of the sequences below `k` (`inv`); each trip adds one more.
-/

namespace Cert.Kernel.Body
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄G" => MT nD τ sig Unit (Elt F) ℕ (UR sig nD τ) ℕ

theorem trips_eq : k0_t1_loop.trips = 8 := by decide

theorem off1_eq : ∀ k : Fin k0_t1_loop.trips, k0_off1 k = ![0, k.val, 0] := by decide
theorem off3_eq : ∀ k : Fin k0_t1_loop.trips, k0_off3 k = ![128 * k.val, 0] := by decide
theorem off4_eq : ∀ k : Fin k0_t1_loop.trips, k0_off4 k = ![0, k.val, 0, 0] := by decide

/-- The attention outputs of sequence `k` of a step, from the blocks the step holds. -/
def outAt (i : grid0.Coords) (arg0 : BitVec 32) (v0 : IVec S8x128 32) (v1 : IVec S32x128 32) (v2 : IVec S32x128 32) (cst : F .f32) (T : Vec F S120 .i32) (kw vw sw : Vec F S1024x128 .i32) (sel : Vec F S1x8x128 .i32)
    (q : Vec F S1x8x32x64 .bf16) (kn vn : Vec F S1x64x128 .bf16) (k : Fin k0_t1_loop.trips) : FVec F S1x1x32x64 .bf16 :=
  Tile.one v0 v1 v2 cst (Scalar.addi (Scalar.muli arg0 8#32) (Scf.iv 0#32 1#32 k.val))
    (View.ld (Val := Elt F) (e' := .i32) T (Rect.unit (s := S120) (k0_off2 i k) S1.size (k0_off2_inb i k)) (Shape.Idx.first (s := S1) (by decide)))
    (View.ld (Val := Elt F) (e' := .i32) sel (Rect.unit (s := S1x8x128) (k0_off1 k) S1x1x128.size (k0_off1_inb k)))
    (View.ld (Val := Elt F) (e' := .i32) kw (Rect.unit (s := S1024x128) (k0_off3 k) S128x128.size (k0_off3_inb k)))
    (View.ld (Val := Elt F) (e' := .i32) vw (Rect.unit (s := S1024x128) (k0_off3 k) S128x128.size (k0_off3_inb k)))
    (View.ld (Val := Elt F) (e' := .i32) sw (Rect.unit (s := S1024x128) (k0_off3 k) S128x128.size (k0_off3_inb k)))
    (View.ld (Val := Elt F) (e' := .bf16) q (Rect.unit (s := S1x8x32x64) (k0_off4 k) S1x1x32x64.size (k0_off4_inb k)))
    (View.ld (Val := Elt F) (e' := .bf16) kn (Rect.unit (s := S1x64x128) ![0, 0, 0] S1x64x128.size inb_S1x64x128_S1x64x128_0_0_0))
    (View.ld (Val := Elt F) (e' := .bf16) vn (Rect.unit (s := S1x64x128) ![0, 0, 0] S1x64x128.size inb_S1x64x128_S1x64x128_0_0_0))

/-- The attention outputs of the eight sequences of a step. -/
def outBlk (i : grid0.Coords) (arg0 : BitVec 32) (v0 : IVec S8x128 32) (v1 : IVec S32x128 32) (v2 : IVec S32x128 32) (cst : F .f32) (T : Vec F S120 .i32) (kw vw sw : Vec F S1024x128 .i32) (sel : Vec F S1x8x128 .i32)
    (q : Vec F S1x8x32x64 .bf16) (kn vn : Vec F S1x64x128 .bf16) : Vec F S1x8x32x64 .bf16 := fun y =>
  outAt i arg0 v0 v1 v2 cst T kw vw sw sel q kn vn ⟨(y (1 : Fin 4)).val, by rw [trips_eq]; exact (y (1 : Fin 4)).isLt⟩
    (ix4 (0 : Fin 1) (0 : Fin 1) (⟨(y (2 : Fin 4)).val, (y (2 : Fin 4)).isLt⟩ : Fin 32) (⟨(y (3 : Fin 4)).val, (y (3 : Fin 4)).isLt⟩ : Fin 64))

theorem vals_last (v0 : IVec S8x128 32) (vt : IVec S128x128 32) (S : IVec S64x128 32) (vn : FVec F S64x128 .bf16) :
    Tile.vals v0 vt S vn 16 = vn := by unfold Tile.vals; exact dif_neg (by decide)

/-- The values of all token positions. -/
theorem values_eq (arg3 : Memref sig .tc .vmem S1024x128 .i32) (arg4 : Memref sig .tc .vmem S1024x128 .i32) (arg5 : Memref sig .tc .vmem S1x8x128 .i32) (arg8 : Memref sig .tc .vmem S1x64x128 .bf16) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (X_arg8 : BufTy.Contents (Elt F) arg8.view.ty) (k : Fin k0_t1_loop.trips) :
    (trip.sl.r_214 (F := F) arg3 arg4 arg5 arg8 arg10 v0 X_arg3 X_arg4 X_arg5 X_arg8 k) = Tile.joinV (Tile.vals v0 (trip.sl.v27 (F := F) arg3 X_arg3 k) (trip.sl.v38 (F := F) arg4 arg5 X_arg4 X_arg5 k)
      (shapeCast S64x128 (View.readAt (Elt F) arg8.view (Rect.unit (s := S1x64x128) ![0, 0, 0] S1x64x128.size inb_S1x64x128_S1x64x128_0_0_0).toLoadRect X_arg8) shapeCasts_S1x64x128_S64x128)) := by
  unfold Tile.joinV
  rw [← value_0 (arg10 := arg10), ← value_1 (arg10 := arg10), ← value_2 (arg10 := arg10), ← value_3 (arg10 := arg10), ← value_4 (arg10 := arg10), ← value_5 (arg10 := arg10), ← value_6 (arg10 := arg10), ← value_7 (arg10 := arg10), ← value_8 (arg10 := arg10), ← value_9 (arg10 := arg10), ← value_10 (arg10 := arg10), ← value_11 (arg10 := arg10), ← value_12 (arg10 := arg10), ← value_13 (arg10 := arg10), ← value_14 (arg10 := arg10), ← value_15 (arg10 := arg10), vals_last]
  dsimp only [trip.sl.r_214]
  rfl

/-- The one piece a trip writes into the output block. -/
theorem piece_eq (𝒱 : Variants) (c : Dev nD) (bd : Option 𝒱.V) (i : grid0.Coords) (arg1 : Memref sig .tc .smem S120 .i32) (harg1 : arg1.IsWhole) (arg2 : Memref sig .tc .vmem S1024x128 .i32) (harg2 : arg2.IsWhole) (arg3 : Memref sig .tc .vmem S1024x128 .i32) (harg3 : arg3.IsWhole) (arg4 : Memref sig .tc .vmem S1024x128 .i32) (harg4 : arg4.IsWhole) (arg5 : Memref sig .tc .vmem S1x8x128 .i32) (harg5 : arg5.IsWhole) (arg6 : Memref sig .tc .vmem S1x8x32x64 .bf16) (harg6 : arg6.IsWhole) (arg7 : Memref sig .tc .vmem S1x64x128 .bf16) (harg7 : arg7.IsWhole) (arg8 : Memref sig .tc .vmem S1x64x128 .bf16) (harg8 : arg8.IsWhole) (arg9 : Memref sig .tc .vmem S1x8x32x64 .bf16) (harg9 : arg9.IsWhole) (arg10 : Memref sig .tc .vmem S64x128 .i32) (harg10 : arg10.IsWhole) (arg0 : BitVec 32) (v0 : IVec S8x128 32) (v1 : IVec S32x128 32) (v2 : IVec S32x128 32) (cst : F .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips)
    (f9 : BufTy.Contents (Elt F) arg9.view.ty) (f10 : BufTy.Contents (Elt F) arg10.view.ty) :
    (trip (F := F) 𝒱 c bd i arg1 harg1 arg2 harg2 arg3 harg3 arg4 harg4 arg5 harg5 arg6 harg6 arg7 harg7 arg8 harg8 arg9 harg9 arg10 harg10 arg0 v0 v1 v2 cst X_arg1 X_arg2 X_arg3 X_arg4 X_arg5 X_arg6 X_arg7 X_arg8 k).1 f9 f10
      = [⟨Rect.unit (s := S1x8x32x64) (k0_off4 k) S1x1x32x64.size (k0_off4_inb k), outAt i arg0 v0 v1 v2 cst (arg1.view.read (Elt F) X_arg1) (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) k⟩] := by
  unfold trip
  dsimp only
  rw [weights_eq, values_eq]
  rfl

/-- The output block after one more trip. -/
theorem read_step {κ : Kind} {sp : Space} (v : View sig κ sp S1x8x32x64 .bf16) (f : v.ty.Contents (Elt F)) (k : Fin k0_t1_loop.trips) (w : FVec F S1x1x32x64 .bf16)
    (O : Vec F S1x8x32x64 .bf16) (hO : ∀ y : S1x8x32x64.Idx, (y (1 : Fin 4)).val = k.val →
      O y = w (ix4 (0 : Fin 1) (0 : Fin 1) (⟨(y (2 : Fin 4)).val, (y (2 : Fin 4)).isLt⟩ : Fin 32) (⟨(y (3 : Fin 4)).val, (y (3 : Fin 4)).isLt⟩ : Fin 64)))
    (hf : ∀ y : S1x8x32x64.Idx, (y (1 : Fin 4)).val < k.val → v.read (Elt F) f y = O y) (y : S1x8x32x64.Idx) (hy : (y (1 : Fin 4)).val < k.val + 1) :
    v.read (Elt F) (v.writes (Elt F) f [⟨Rect.unit (s := S1x8x32x64) (k0_off4 k) S1x1x32x64.size (k0_off4_inb k), w⟩]) y = O y := by
  by_cases h : (y (1 : Fin 4)).val = k.val
  · rw [View.read_writes_cons_unit_of_mem v f (k0_off4_inb k) w [] y (ix4 (0 : Fin 1) (0 : Fin 1) (⟨(y (2 : Fin 4)).val, (y (2 : Fin 4)).isLt⟩ : Fin 32) (⟨(y (3 : Fin 4)).val, (y (3 : Fin 4)).isLt⟩ : Fin 64)) (off4_eq k) (fun a => by
        match a with
        | 0 => have := (y (0 : Fin 4)).isLt; have : (y (0 : Fin 4)).val < 1 := this; show (y (0 : Fin 4)).val = 0 + 0; omega
        | 1 => show (y (1 : Fin 4)).val = k.val + 0; omega
        | 2 => show (y (2 : Fin 4)).val = 0 + (y (2 : Fin 4)).val; omega
        | 3 => show (y (3 : Fin 4)).val = 0 + (y (3 : Fin 4)).val; omega)]
    exact (hO y h).symm
  · refine (View.read_writes_cons_unit_of_not_mem v f (k0_off4_inb k) w [] y (off4_eq k) 1 ?_).trans (hf y (by omega))
    left; show (y (1 : Fin 4)).val < k.val; omega

/-- Before trip `k`: the inputs as they are, the output block right below `k`, the scratch at any contents. -/
abbrev inv (c : Dev nD) (i : grid0.Coords) (arg1 : Memref sig .tc .smem S120 .i32) (arg2 : Memref sig .tc .vmem S1024x128 .i32) (arg3 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg8 : Memref sig .tc .vmem S1x64x128 .bf16) (arg9 : Memref sig .tc .vmem S1x8x32x64 .bf16) (arg10 : Memref sig .tc .vmem S64x128 .i32) (arg0 : BitVec 32) (v0 : IVec S8x128 32) (v1 : IVec S32x128 32) (v2 : IVec S32x128 32) (cst : F .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : ℕ) : sProp 𝕄G :=
  iprop((arg1.view.loc (c : Thread nD τ) ↦[arg1.view.set]{fullShare.right} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (∃ f, (arg9.view.loc (c : Thread nD τ) ↦[arg9.view.set]{fullShare} f) ∗ ⌜∀ y : S1x8x32x64.Idx, (y (1 : Fin 4)).val < k → arg9.view.read (Elt F) f y = outBlk i arg0 v0 v1 v2 cst (arg1.view.read (Elt F) X_arg1) (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) y⌝) ∗ (∃ f, (arg10.view.loc (c : Thread nD τ) ↦[arg10.view.set]{fullShare} f)))

set_option warn.classDefReducibility false in
/-- The loop's invariant is kept by every trip. -/
@[sl_loop] def loopInv (𝒱 : Variants) (c : Dev nD) (bd : Option 𝒱.V) (E : Set ℕ) (i : grid0.Coords) (arg1 : Memref sig .tc .smem S120 .i32) (harg1 : arg1.IsWhole) (arg2 : Memref sig .tc .vmem S1024x128 .i32) (harg2 : arg2.IsWhole) (arg3 : Memref sig .tc .vmem S1024x128 .i32) (harg3 : arg3.IsWhole) (arg4 : Memref sig .tc .vmem S1024x128 .i32) (harg4 : arg4.IsWhole) (arg5 : Memref sig .tc .vmem S1x8x128 .i32) (harg5 : arg5.IsWhole) (arg6 : Memref sig .tc .vmem S1x8x32x64 .bf16) (harg6 : arg6.IsWhole) (arg7 : Memref sig .tc .vmem S1x64x128 .bf16) (harg7 : arg7.IsWhole) (arg8 : Memref sig .tc .vmem S1x64x128 .bf16) (harg8 : arg8.IsWhole) (arg9 : Memref sig .tc .vmem S1x8x32x64 .bf16) (harg9 : arg9.IsWhole) (arg10 : Memref sig .tc .vmem S64x128 .i32) (harg10 : arg10.IsWhole) (arg0 : BitVec 32) (v0 : IVec S8x128 32) (v1 : IVec S32x128 32) (v2 : IVec S32x128 32) (cst : F .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) :
    Idealize.ShloMosaic.LoopInv (M := 𝕄G) Idealize.ShloMosaic.frame (wpE (defs₀ (F := F)) 𝒱 (c : Thread nD τ) bd) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg0 v0 v1 v2 cst) where
  inv k _ := inv (F := F) c i arg1 arg2 arg3 arg4 arg5 arg6 arg7 arg8 arg9 arg10 arg0 v0 v1 v2 cst X_arg1 X_arg2 X_arg3 X_arg4 X_arg5 X_arg6 X_arg7 X_arg8 k
  step k acc := by
    iintro ⟨H1, H2, H3, H4, H5, H6, H7, H8, ⟨%f9, H9, %h9⟩, ⟨%f10, H10⟩⟩
    iapply (wp_wand_r Idealize.ShloMosaic.frame (wpE (defs₀ (F := F)) 𝒱 (c : Thread nD τ) bd) E)
    isplitl [H1 H2 H3 H4 H5 H6 H7 H8 H9 H10]
    · iapply ((trip (F := F) 𝒱 c bd i arg1 harg1 arg2 harg2 arg3 harg3 arg4 harg4 arg5 harg5 arg6 harg6 arg7 harg7 arg8 harg8 arg9 harg9 arg10 harg10 arg0 v0 v1 v2 cst X_arg1 X_arg2 X_arg3 X_arg4 X_arg5 X_arg6 X_arg7 X_arg8 k).2.2 E f9 f10)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · iintro %_ ⟨H1, H2, H3, H4, H5, H6, H7, H8, H9, H10⟩
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · iexists _; isplitl [H9]; · iexact H9
        ipureintro
        intro y hy
        rw [piece_eq]
        exact read_step arg9.view f9 k _ _ (fun y h => by
          unfold outBlk
          have e : (⟨(y (1 : Fin 4)).val, by rw [trips_eq]; exact (y (1 : Fin 4)).isLt⟩ : Fin k0_t1_loop.trips) = k := Fin.ext h
          rw [e]) h9 y hy
      iexists _; iexact H10

end Cert.Kernel.Body
end
-- ==== Proof.KBody.lean ====
module

public import proofs.«01_k».proof.Proof.KLoop
public import proofs.«01_k».proof.Proof.Gen.Kernel.Launch
public import Idealize.ShloMosaic.Lib.Pipeline.FrameBody
public import Idealize.ShloMosaic.Lib.Pipeline.FrameSuffix
public import Idealize.ShloMosaic.Lib.Tactic

@[expose] public section

set_option maxRecDepth 16384
set_option maxHeartbeats 1000000

noncomputable section

/-!
# One grid step and the launch

A grid step leaves in its output block the attention outputs of its eight sequences (`sound_kernel`), so the launch
ends with every block at `outBlk` of the blocks its inputs hold (`dats`).
-/

namespace Cert.Kernel.Body
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]
local notation "𝕄G" => MT nD τ sig Unit (Elt F) ℕ (UR sig nD τ) ℕ

/-- The output block of the grid step at `i`, from the table and the seven input blocks. -/
def stepOut (i : grid0.Coords) (T : Vec F S120 .i32) (x2 x3 x4 : Vec F S1024x128 .i32) (x5 : Vec F S1x8x128 .i32) (x6 : Vec F S1x8x32x64 .bf16) (x7 x8 : Vec F S1x64x128 .bf16) : Vec F S1x8x32x64 .bf16 :=
  outBlk i (BitVec.ofNat 32 (i 0).val) (iota .tc S8x128 32 [0] iota_S8x128_d0_w32) (iota .tc S32x128 32 [0] iota_S32x128_d0_w32) (iota .tc S32x128 32 [1] iota_S32x128_d1_w32) (Scalar.ofBits .f32 0x3E38AA3B#32) T x2 x3 x4 x5 x6 x7 x8

/-- The loop from its invariant before the first trip to its invariant after the last. -/
theorem loop_run (c : Dev nD) (i : grid0.Coords) (arg1 : Memref sig .tc .smem S120 .i32) (harg1 : arg1.IsWhole) (arg2 : Memref sig .tc .vmem S1024x128 .i32) (harg2 : arg2.IsWhole) (arg3 : Memref sig .tc .vmem S1024x128 .i32) (harg3 : arg3.IsWhole) (arg4 : Memref sig .tc .vmem S1024x128 .i32) (harg4 : arg4.IsWhole) (arg5 : Memref sig .tc .vmem S1x8x128 .i32) (harg5 : arg5.IsWhole) (arg6 : Memref sig .tc .vmem S1x8x32x64 .bf16) (harg6 : arg6.IsWhole) (arg7 : Memref sig .tc .vmem S1x64x128 .bf16) (harg7 : arg7.IsWhole) (arg8 : Memref sig .tc .vmem S1x64x128 .bf16) (harg8 : arg8.IsWhole) (arg9 : Memref sig .tc .vmem S1x8x32x64 .bf16) (harg9 : arg9.IsWhole) (arg10 : Memref sig .tc .vmem S64x128 .i32) (harg10 : arg10.IsWhole) (arg0 : BitVec 32) (v0 : IVec S8x128 32) (v1 : IVec S32x128 32) (v2 : IVec S32x128 32) (cst : F .f32)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) {β : Type} {kk : PUnit → Prog (TpuEff nD τ sig (Elt F) Λ₀ .tc) β} {Q : β → sProp 𝕄G} :
    inv (F := F) c i arg1 arg2 arg3 arg4 arg5 arg6 arg7 arg8 arg9 arg10 arg0 v0 v1 v2 cst X1 X2 X3 X4 X5 X6 X7 X8 0
      ⊢ iprop((∀ acc, inv (F := F) c i arg1 arg2 arg3 arg4 arg5 arg6 arg7 arg8 arg9 arg10 arg0 v0 v1 v2 cst X1 X2 X3 X4 X5 X6 X7 X8 k0_t1_loop.trips -∗ wp Idealize.ShloMosaic.frame (wpE (defs₀ (F := F)) Variants.none (c : Thread nD τ) none) Set.univ (kk acc) Q)
        -∗ wp Idealize.ShloMosaic.frame (wpE (defs₀ (F := F)) Variants.none (c : Thread nD τ) none) Set.univ (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg0 v0 v1 v2 cst) >>= kk) Q) :=
  exec_loop Idealize.ShloMosaic.frame (wpE (defs₀ (F := F)) Variants.none (c : Thread nD τ) none) Set.univ k0_t1_loop.lb k0_t1_loop.ub k0_t1_loop.st k0_t1_ok _ _
    (loopInv (F := F) Variants.none c none Set.univ i arg1 harg1 arg2 harg2 arg3 harg3 arg4 harg4 arg5 harg5 arg6 harg6 arg7 harg7 arg8 harg8 arg9 harg9 arg10 harg10 arg0 v0 v1 v2 cst X1 X2 X3 X4 X5 X6 X7 X8)

/-- One grid step. -/
theorem sound_kernel (c : Dev nD) (i : grid0.Coords) (arg1 : Memref sig .tc .smem S120 .i32) (harg1 : arg1.IsWhole) (arg2 : Memref sig .tc .vmem S1024x128 .i32) (harg2 : arg2.IsWhole) (arg3 : Memref sig .tc .vmem S1024x128 .i32) (harg3 : arg3.IsWhole) (arg4 : Memref sig .tc .vmem S1024x128 .i32) (harg4 : arg4.IsWhole) (arg5 : Memref sig .tc .vmem S1x8x128 .i32) (harg5 : arg5.IsWhole) (arg6 : Memref sig .tc .vmem S1x8x32x64 .bf16) (harg6 : arg6.IsWhole) (arg7 : Memref sig .tc .vmem S1x64x128 .bf16) (harg7 : arg7.IsWhole) (arg8 : Memref sig .tc .vmem S1x64x128 .bf16) (harg8 : arg8.IsWhole) (arg9 : Memref sig .tc .vmem S1x8x32x64 .bf16) (harg9 : arg9.IsWhole) (arg10 : Memref sig .tc .vmem S64x128 .i32) (harg10 : arg10.IsWhole)
    (X1 : BufTy.Contents (Elt F) arg1.view.ty) (x2 : Vec F S1024x128 .i32) (x3 : Vec F S1024x128 .i32) (x4 : Vec F S1024x128 .i32) (x5 : Vec F S1x8x128 .i32) (x6 : Vec F S1x8x32x64 .bf16) (x7 : Vec F S1x64x128 .bf16) (x8 : Vec F S1x64x128 .bf16) (K : PUnit → sProp 𝕄G) :
    iprop((arg1.view.loc (c : Thread nD τ) ↦[arg1.view.set]{fullShare.right} X1) ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ f, (arg10.view.loc (c : Thread nD τ) ↦[arg10.view.set]{fullShare} f))
        ∗ (iprop((arg1.view.loc (c : Thread nD τ) ↦[arg1.view.set]{fullShare.right} X1) ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (stepOut i (arg1.view.read (Elt F) X1) x2 x3 x4 x5 x6 x7 x8) ∗ (∃ f, (arg10.view.loc (c : Thread nD τ) ↦[arg10.view.set]{fullShare} f))) -∗ K ⟨⟩))
      ⊢ wp Idealize.ShloMosaic.frame (wpE (defs₀ (F := F)) Variants.none (c : Thread nD τ) none) Set.univ (cc0_attend_h0 (F := F) i arg1 harg1 arg2 harg2 arg3 harg3 arg4 harg4 arg5 harg5 arg6 harg6 arg7 harg7 arg8 harg8 arg9 harg9 arg10 harg10) K := by
  simp only [cc0_attend_h0_eq_skeleton]; unfold cc0_attend_h0_skel
  unfold owns
  iintro ⟨H1, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, H10⟩, Hk⟩
  subst hf2 hf3 hf4 hf5 hf6 hf7 hf8
  iapply (loop_run c i arg1 harg1 arg2 harg2 arg3 harg3 arg4 harg4 arg5 harg5 arg6 harg6 arg7 harg7 arg8 harg8 arg9 harg9 arg10 harg10 (BitVec.ofNat 32 (i 0).val) (iota .tc S8x128 32 [0] iota_S8x128_d0_w32) (iota .tc S32x128 32 [0] iota_S32x128_d0_w32) (iota .tc S32x128 32 [1] iota_S32x128_d1_w32) (Scalar.ofBits .f32 0x3E38AA3B#32) X1 f2 f3 f4 f5 f6 f7 f8) $$ [H1 H2 H3 H4 H5 H6 H7 H8 H9 H10]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists f9; isplitl [H9]; · iexact H9
      ipureintro; intro y hy; exact absurd hy (Nat.not_lt_zero _)
    iexists f10; iexact H10
  iintro %acc ⟨H1, H2, H3, H4, H5, H6, H7, H8, ⟨%g9, H9, %h9⟩, ⟨%g10, H10⟩⟩
  sl_step
  iapply Hk
  isplitl [H1]; · iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists g9; isplitr
    · ipureintro; funext y; exact h9 y (lt_of_lt_of_eq (y (1 : Fin 4)).isLt trips_eq.symm)
    iexact H9
  iexists g10; iexact H10

end Cert.Kernel.Body
end
-- ==== Proof.KHeads.lean ====
module

public import proofs.«01_k».proof.Proof.Gen.Kernel.Launch
public import proofs.«01_k».proof.Proof.Gen.Kernel1
public import proofs.«01_k».proof.Proof.Gen.Kernel2
public import proofs.«01_k».proof.Proof.Gen.Kernel3

@[expose] public section

set_option maxRecDepth 16384
set_option maxHeartbeats 1000000

noncomputable section

/-!
# The launch at a head

The four launches differ in their windows' index maps alone. `pcfgH h` is the launch of head `h`.
-/

namespace Cert.Kernel.Body
open Cert.Kernel Cert.Kernel.Gen
open Idealize.ShloMosaic Idealize.ShloMosaic.TcCoe
open Idealize.SL Idealize.SL.Sem
variable {F : FTy → Type} [FloatOps F]

/-- The index maps of head `h`'s windows. -/
def ixH : Fin 4 → pre0.Contents (Elt F) → (w : Fin 8) → grid0.Coords → Fin (spec0 w).shape.rank → Nat
  | 0 => ix0
  | 1 => Cert.Kernel1.ix0
  | 2 => Cert.Kernel2.ix0
  | 3 => Cert.Kernel3.ix0

theorem hreadsH : ∀ (h : Fin 4) (pf : pre0.Contents (Elt F)) w (i i' : grid0.Coords), (∀ a, (spec0 w).reads a = true → i a = i' a) → ixH h pf w i = ixH h pf w i'
  | 0 => hreads0
  | 1 => Cert.Kernel1.hreads0
  | 2 => Cert.Kernel2.hreads0
  | 3 => Cert.Kernel3.hreads0

theorem hinbH : ∀ (h : Fin 4) (pf : pre0.Contents (Elt F)), ok0 pf → ∀ w (i : grid0.Coords) a, (ixH h pf w i a + 1) * (spec0 w).size a ≤ (spec0 w).shape.size a
  | 0 => hinb0
  | 1 => Cert.Kernel1.hinb0
  | 2 => Cert.Kernel2.hinb0
  | 3 => Cert.Kernel3.hinb0

theorem hwxH : ∀ (h : Fin 4) (pf : pre0.Contents (Elt F)) (hok : ok0 pf) w (i : grid0.Coords),
    (spec0 w).elt.bits = 32 ∨ (Rect.block (spec0 w).size (ixH h pf w i) (hinbH h pf hok w i)).WholeWords (spec0 w).elt.packing
  | 0 => hwx0
  | 1 => Cert.Kernel1.hwx0
  | 2 => Cert.Kernel2.hwx0
  | 3 => Cert.Kernel3.hwx0

/-- Head `h`'s launch. -/
abbrev pcfgH (h : Fin 4) : Pipeline.PCfg sig Λ₀ (Elt F) :=
  Pipeline.PCfg.ofSpecs pre0 grid0 hrank0 (fun _ => grid0.bound) (fun _ _ _ => rfl)
    8 spec0 hcount0 Facts.harr0 (ixH h) (hreadsH h) ok0 (hinbH h) (hwxH h) 0 (fun _ _ t s => (t, s))
abbrev pcfgsH (h : Fin 4) : Fin 1 → Pipeline.PCfg sig Λ₀ (Elt F) := fun _ => pcfgH h

/-- The body table of head `h`'s program. -/
abbrev defsH (h : Fin 4) : Defs nD τ sig (Elt F) (Pipeline.Sig Λ₀ (Fin 1) fun p => (pcfgsH (F := F) h p).Adm) := Pipeline.defs (pcfgsH h) defs₀

/-- The four programs' host lines and launch. -/
abbrev mainH (h : Fin 4) : Dev nD → Prog (TpuEff nD τ sig (Elt F) (Pipeline.Sig Λ₀ (Fin 1) fun p => (pcfgsH (F := F) h p).Adm) .tc) PUnit := main

theorem cellOf_injH (h : Fin 4) (a : (p : Fin 1) → (pcfgsH (F := F) h p).Adm) :
    Function.Injective (Pipeline.cellOf (nD := nD) (τ := τ) (Pipeline.pin (pcfgsH (F := F) h) a)) :=
  Pipeline.cellOf_injective_of_table (Pipeline.pin (pcfgsH (F := F) h) a) semTab (fun | 0 => rfl) semsDistinct semsDisjoint

theorem launchH (h : Fin 4) : Pipeline.PLaunchFacts (nD := nD) (τ := τ) (pcfgsH (F := F) h) 0 :=
  ⟨cellOf_injH h, winFacts0, preFacts0, block_pos0, arr_whole0, stage_whole0⟩

theorem main_chainH (h : Fin 4) (c : Dev nD) : mainH (F := F) h c = (Pipeline.chain
  [ StableHlo.seq hostOps0, StableHlo.seq hostOps0_1, StableHlo.seq hostOps0_2, StableHlo.seq hostOps0_3, StableHlo.seq hostOps0_4, StableHlo.seq hostOps0_5,
    StableHlo.seq hostOps0_6, StableHlo.seq hostOps0_7, StableHlo.seq hostOps0_8, StableHlo.seq hostOps0_9,
    Prog.lift (.customCall (Pipeline.entry 0) ()),
    StableHlo.seq hostOps1 ] : Prog (TpuEff nD τ sig (Elt F) (Pipeline.Sig Λ₀ (Fin 1) fun p => (pcfgsH (F := F) h p).Adm) .tc) PUnit) :=
  main_chain c

theorem head1 : pcfgH (F := F) 1 = Cert.Kernel1.pcfg0 := rfl
theorem head2 : pcfgH (F := F) 2 = Cert.Kernel2.pcfg0 := rfl
theorem head3 : pcfgH (F := F) 3 = Cert.Kernel3.pcfg0 := rfl

end Cert.Kernel.Body
end
-- ==== Proof.KRun.lean ====
module

public import proofs.«01_k».proof.Proof.KBody
public import proofs.«01_k».proof.Proof.KHeads
public import Idealize.ShloMosaic.Lib.Pipeline.FrameBody
public import Idealize.ShloMosaic.Lib.Pipeline.FrameSuffix
public import Idealize.ShloMosaic.Lib.Tactic

@[expose] public section

set_option maxRecDepth 16384
set_option maxHeartbeats 1000000

noncomputable section

/-!
# The launch

The host lines lay the arguments out, the launch runs its fifteen steps, the host lines after it lay the result out.
Every buffer's contents at the end are named (`run_main`), and the arguments keep theirs (`quiescent`).
-/

namespace Cert.Kernel.Body
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]
local notation "𝕄G" => MT nD τ sig Unit (Elt F) ℕ (UR sig nD τ) ℕ

variable (h : Fin 4) (m : (ℓ : Loc nD τ sig) → Buf (Elt F) ℓ) (ρ : Dev nD → PrngReg)

/-- A device's buffers when the launch starts: after the host lines before it. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9]) (fun b => m (c, b))
/-- The same at a reference. -/
abbrev V (c : Dev nD) (b : Ref sig .tc) : Buf (Elt F) ((c : Thread nD τ).loc b) := V0 m c (Proc.devRef .tc b)

/-- The table of sequence lengths. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfgH (F := F) h).Adm := ⟨tbl m, trivial⟩
abbrev cfgM : Pipeline.Cfg sig Λ₀ := (pcfgH h).at (adm h m)
/-- The table as the body reads it. -/
abbrev tbl0 : Vec F S120 .i32 := (Memref.whole main_arg6).view.read (Elt F) (tbl m 0)

theorem PhiT_eq (c : Dev nD) : (Pipeline.ΦT pre0 (tbl m) c : sProp 𝕄G)
    = iprop((Memref.whole main_arg6).view.loc (c : Thread nD τ) ↦[(Memref.whole main_arg6).view.set]{fullShare.right} (tbl m 0)) := by
  unfold Pipeline.ΦT Pipeline.prefHeld
  rw [show (Finset.univ : Finset (Fin 1)) = {(0 : Fin 1)} from by decide, bigSep_singleton]
  rw [show (Memref.whole main_arg6).view.set = Finset.univ from View.set_whole _]
  rfl

/-- What a window's block holds when the launch starts. -/
def iblk (c : Dev nD) (w : Fin (cfgM h m).W) (t : Fin (cfgM h m).N) : (((cfgM h m).win w).xblock ((cfgM h m).grid.coords t)).Idx → Elt F ((cfgM h m).win w).elt :=
  (((cfgM h m).win w).blk t).view.read (Elt F) (V m c (Pipeline.arrRef spec0 w))

/-- The proof data: each input block keeps its contents, the output block ends at `stepOut`. -/
def dats (_ : Fin 1) (c : Dev nD) : Dat τ (Elt F) Unit ℕ (UR sig nD τ) ℕ (cfgM h m) c where
  A w := V m c (Pipeline.arrRef spec0 w)
  after w t := match w with
    | ⟨0, _⟩ => iblk h m c 0 t
    | ⟨1, _⟩ => iblk h m c 1 t
    | ⟨2, _⟩ => iblk h m c 2 t
    | ⟨3, _⟩ => iblk h m c 3 t
    | ⟨4, _⟩ => iblk h m c 4 t
    | ⟨5, _⟩ => iblk h m c 5 t
    | ⟨6, _⟩ => iblk h m c 6 t
    | ⟨7, _⟩ => stepOut (grid0.coords t) (tbl0 m) (iblk h m c 0 t) (iblk h m c 1 t) (iblk h m c 2 t) (iblk h m c 3 t) (iblk h m c 4 t) (iblk h m c 5 t) (iblk h m c 6 t)
  Φ _ := iprop(Pipeline.ΦA spec0 c ∗ Pipeline.ΦT pre0 (tbl m) c)
  q _ := fullShare
  owed _ := 0

theorem A_eq (c : Dev nD) (w : Fin (cfgM h m).W) : (dats h m 0 c).A w = V m c (Pipeline.arrRef spec0 w) := rfl
theorem after_0 (c : Dev nD) (t : Fin (cfgM h m).N) : (dats h m 0 c).after 0 t = iblk h m c 0 t := rfl
theorem after_1 (c : Dev nD) (t : Fin (cfgM h m).N) : (dats h m 0 c).after 1 t = iblk h m c 1 t := rfl
theorem after_2 (c : Dev nD) (t : Fin (cfgM h m).N) : (dats h m 0 c).after 2 t = iblk h m c 2 t := rfl
theorem after_3 (c : Dev nD) (t : Fin (cfgM h m).N) : (dats h m 0 c).after 3 t = iblk h m c 3 t := rfl
theorem after_4 (c : Dev nD) (t : Fin (cfgM h m).N) : (dats h m 0 c).after 4 t = iblk h m c 4 t := rfl
theorem after_5 (c : Dev nD) (t : Fin (cfgM h m).N) : (dats h m 0 c).after 5 t = iblk h m c 5 t := rfl
theorem after_6 (c : Dev nD) (t : Fin (cfgM h m).N) : (dats h m 0 c).after 6 t = iblk h m c 6 t := rfl
theorem after_7 (c : Dev nD) (t : Fin (cfgM h m).N) : (dats h m 0 c).after 7 t = stepOut (grid0.coords t) (tbl0 m) (iblk h m c 0 t) (iblk h m c 1 t) (iblk h m c 2 t) (iblk h m c 3 t) (iblk h m c 4 t) (iblk h m c 5 t) (iblk h m c 6 t) := rfl
theorem before_0 (c : Dev nD) (t : Fin (cfgM h m).N) (d) : (dats h m 0 c).before 0 t d = iblk h m c 0 t :=
  ((dats h m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM h m).N) (d) : (dats h m 0 c).before 1 t d = iblk h m c 1 t :=
  ((dats h m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgM h m).N) (d) : (dats h m 0 c).before 2 t d = iblk h m c 2 t :=
  ((dats h m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgM h m).N) (d) : (dats h m 0 c).before 3 t d = iblk h m c 3 t :=
  ((dats h m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgM h m).N) (d) : (dats h m 0 c).before 4 t d = iblk h m c 4 t :=
  ((dats h m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfgM h m).N) (d) : (dats h m 0 c).before 5 t d = iblk h m c 5 t :=
  ((dats h m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin (cfgM h m).N) (d) : (dats h m 0 c).before 6 t d = iblk h m c 6 t :=
  ((dats h m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-- The staging buffer of a window at a step. -/
abbrev st (t : Fin (cfgM h m).N) (w : Fin 8) := (spec0 w).stage ((cfgM h m).slots t w)

theorem sound_body (c : Dev nD) (t : Fin (cfgM h m).N) :
    iprop((dats h m 0 c).Φ t.castSucc ∗ (dats h m 0 c).owesAt () t.castSucc
      ∗ (∃ d, owns (c : Thread nD τ) (st h m t 0) fullShare ((dats h m 0 c).before 0 t d)) ∗ (∃ d, owns (c : Thread nD τ) (st h m t 1) fullShare ((dats h m 0 c).before 1 t d)) ∗ (∃ d, owns (c : Thread nD τ) (st h m t 2) fullShare ((dats h m 0 c).before 2 t d)) ∗ (∃ d, owns (c : Thread nD τ) (st h m t 3) fullShare ((dats h m 0 c).before 3 t d)) ∗ (∃ d, owns (c : Thread nD τ) (st h m t 4) fullShare ((dats h m 0 c).before 4 t d)) ∗ (∃ d, owns (c : Thread nD τ) (st h m t 5) fullShare ((dats h m 0 c).before 5 t d)) ∗ (∃ d, owns (c : Thread nD τ) (st h m t 6) fullShare ((dats h m 0 c).before 6 t d)) ∗ (∃ d, owns (c : Thread nD τ) (st h m t 7) fullShare ((dats h m 0 c).before 7 t d)))
    ⊢ wp Idealize.ShloMosaic.frame (wpE (defs₀ (F := F)) Variants.none (c : Thread nD τ) none) Set.univ ((defs₀ (F := F)) .tc (cfgM h m).body ((cfgM h m).bodyArgs t ((cfgM h m).slots t)))
      (fun _ => iprop((dats h m 0 c).Φ t.succ ∗ (dats h m 0 c).owesAt () t.succ
        ∗ owns (c : Thread nD τ) (st h m t 0) fullShare ((dats h m 0 c).after 0 t) ∗ owns (c : Thread nD τ) (st h m t 1) fullShare ((dats h m 0 c).after 1 t) ∗ owns (c : Thread nD τ) (st h m t 2) fullShare ((dats h m 0 c).after 2 t) ∗ owns (c : Thread nD τ) (st h m t 3) fullShare ((dats h m 0 c).after 3 t) ∗ owns (c : Thread nD τ) (st h m t 4) fullShare ((dats h m 0 c).after 4 t) ∗ owns (c : Thread nD τ) (st h m t 5) fullShare ((dats h m 0 c).after 5 t) ∗ owns (c : Thread nD τ) (st h m t 6) fullShare ((dats h m 0 c).after 6 t) ∗ owns (c : Thread nD τ) (st h m t 7) fullShare ((dats h m 0 c).after 7 t))) := by
  simp only [before_0, before_1, before_2, before_3, before_4, before_5, before_6]
  rw [show (dats h m 0 c).Φ t.succ = (dats h m 0 c).Φ t.castSucc from rfl,
    show (dats h m 0 c).owesAt () t.succ = (dats h m 0 c).owesAt () t.castSucc from rfl,
    after_0, after_1, after_2, after_3, after_4, after_5, after_6, after_7]
  rw [show (dats h m 0 c).Φ t.castSucc = iprop(Pipeline.ΦA spec0 c ∗ Pipeline.ΦT pre0 (tbl m) c) from rfl, PhiT_eq]
  unfold Pipeline.ΦA
  rw [scopedRest0_eq]
  iintro ⟨⟨⟨⟨%f, Hs⟩, Hp⟩, Ht⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c (grid0.coords t) (Memref.whole main_arg6) (Memref.isWhole_whole _) _ _ _ _ _ _ _ _ _ _ _ _ _ _ _ _ (Memref.whole cc0_scratch0) (Memref.isWhole_whole _)
    (tbl m 0) (iblk h m c 0 t) (iblk h m c 1 t) (iblk h m c 2 t) (iblk h m c 3 t) (iblk h m c 4 t) (iblk h m c 5 t) (iblk h m c 6 t) _)
  isplitl [Ht]; · iexact Ht
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hs]; · iexists f; rw [show (Memref.whole cc0_scratch0).view.set = Finset.univ from View.set_whole _]; iexact Hs
  iintro ⟨Ht, H0, H1, H2, H3, H4, H5, H6, H7, ⟨%f', Hs⟩⟩
  isplitl [Ht Hs Hp]
  · isplitl [Hs Hp]
    · isplitl [Hs]
      · iexists f'; rw [show (Memref.whole cc0_scratch0).view.set = Finset.univ from View.set_whole _]; iexact Hs
      iexact Hp
    iexact Ht
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) h m 0 c) (defs₀ (F := F)) Variants.none () Set.univ := fun t => by
  rw [bigSep_W0, bigSep_W0]
  exact sound_body h m c t

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainPK (Ix := Unit) (Name := ℕ) (U := UR sig nD τ) (Lvl := ℕ) (pcfgsH h) 0 defs₀ 𝒱₀ m (mainH (F := F) h) (V m)
      (fun _ => Pipeline.chain ([hostOps1].map StableHlo.seq)) :=
  Pipeline.hmainP_around (pcfgsH h) 0 defs₀ 𝒱₀ m (mainH h) [hostOps0, hostOps0_1, hostOps0_2, hostOps0_3, hostOps0_4, hostOps0_5, hostOps0_6, hostOps0_7, hostOps0_8, hostOps0_9] [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) (main_chainH h)

theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl | rfl
  all_goals intro j; fin_cases j <;> simp only [StableHlo.unary_bufs, StableHlo.reshape_bufs, StableHlo.binary_bufs, StableHlo.nullary_bufs, Finset.mem_insert, Finset.mem_singleton, not_or] <;> and_intros <;> exact StableHlo.devRef_ne_of_ne (by decide)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem sfx_keeps : ∀ ops ∈ ([hostOps1] : List (List (HloOp τ sig (Elt F)))), ∀ op ∈ ops, ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl
  all_goals intro w; fin_cases w <;> simp only [StableHlo.unary_writes, StableHlo.reshape_writes, Finset.mem_singleton] <;> exact StableHlo.devRef_ne_of_ne (by decide)

/-- What a run of @main ends with: every array of the launch as its steps leave it, every other buffer as the host lines leave it. -/
abbrev Post : PUnit × MemSt nD τ sig (Elt F) → Prop :=
  Pipeline.FramePost (Pipeline.pin (pcfgsH h) fun _ => adm h m) (dats h m) 0 (Pipeline.afterTail (pcfgsH h) (fun _ => adm h m) (dats h m) 0 (V0 m) [hostOps1])

set_option backward.isDefEq.respectTransparency.types false in
theorem run_main : θ_run (defsH h) (onTc (τ := τ) (mainH (F := F) h)) ⟨m, fun _ => 0, ρ⟩ (fun r => Post h m r ∧ r.2.sem = fun _ => 0) :=
  Pipeline.θ_run_frameP_around_track (pcfgsH h) (fun _ => adm h m) (dats h m) (0 : Fin 1) (launchH h) defs₀ Variants.none m ρ (mainH h)
    (hbody := fun c => (body_obligation h m c).loose) (hshare := fun c => (dats h m 0 c).share_full fun _ => rfl)
    (howed := fun _ _ => rfl) (V₀ := V0 m) (opss := [hostOps1]) (hsub := sfx_sub) (hfresh := sfx_fresh) (hkeep := sfx_keeps)
    (hmain := hmain h m Variants.none) (hA := A_eq h m) (hpf := V_pre m) (hin := fun c => .rfl)
    (hout := fun c => by
      change iprop(Pipeline.ΦA spec0 c ∗ Pipeline.ΦT pre0 (tbl m) c) ⊢ Pipeline.ΦA spec0 c
      iintro ⟨H, -⟩; iexact H)
    (Q' := fun r => Post h m r ∧ r.2.sem = fun _ => 0) (hQ' := fun _ h => h)

end Cert.Kernel.Body
end
-- ==== Proof.KFrame.lean ====
module

public import proofs.«01_k».proof.Defs
public import proofs.«01_k».proof.Proof.KRun

@[expose] public section

set_option maxRecDepth 8192
set_option maxHeartbeats 1000000

noncomputable section

/-!
# A run leaves its arguments alone

The host lines write none of the arguments (`V_arg`), the launch reads them only, and the lines after the launch write
none of them (`frame_run`).
-/

namespace Cert.Kernel.Body
open Cert.Kernel Cert.Kernel.Gen
open Idealize.ShloMosaic Idealize.ShloMosaic.TcCoe
open Idealize.SL Idealize.SL.Sem
open Idealize.ShloMosaic.Pipeline (Dat)
variable {F : FTy → Type} [FloatOps F]

/-- The buffers that the host lines before the launch write, in order. -/
abbrev headW : List (Ref sig .tc) := [main_v0, main_v1, main_v2, main_v3, main_v4, main_v5, main_v6, main_c, main_call0_v0, main_v7,
  main_v8, main_v9, main_v10, main_c_0, main_call1_v0, main_v11, main_v12, main_v13, main_c_1, main_call2_v0, main_v14,
  main_v15, main_v16, main_v17, main_c_2, main_call3_v0, main_v18, main_v19, main_v20, main_c_3, main_call4_v0, main_v21]
theorem head_writes : (List.flatten [hostOps0, hostOps0_1, hostOps0_2, hostOps0_3, hostOps0_4, hostOps0_5, hostOps0_6, hostOps0_7, hostOps0_8, hostOps0_9] : List (HloOp τ sig (Elt F))).Forall
    fun op => op.writes ⊆ (headW.map (Proc.devRef (τ := τ) .tc)).toFinset :=
  StableHlo.forall_writes_sub_of_map rfl
/-- The buffers that the host lines after the launch write, in order. -/
abbrev tailW : List (Ref sig .tc) := [main_v23, main_v24, main_v25, main_v26, main_v27, main_v28, main_v29]
theorem tail_writes : ((List.flatten [hostOps1]) : List (HloOp τ sig (Elt F))).Forall
    fun op => op.writes ⊆ (tailW.map (Proc.devRef (τ := τ) .tc)).toFinset :=
  StableHlo.forall_writes_sub_of_map rfl

variable (h : Fin 4) (m : (ℓ : Loc nD τ sig) → Buf (Elt F) ℓ) (ρ : Dev nD → PrngReg)

theorem V_arg (c : Dev nD) (r : Ref sig .tc) (hr : r ∉ headW) : V m c r = m ((c : Thread nD τ).loc r) :=
  StableHlo.after_of_writes_sub (r := r) _ _ head_writes hr

/-- An input array of the launch ends as it started. -/
theorem mem_in {r : PUnit × MemSt nD τ sig (Elt F)} (hp : Post h m r) (c : Dev nD) (w : Fin 8) (hin : (spec0 w).isOut = false)
    (hr : Pipeline.arrRef spec0 w ∉ headW) :
    r.2.mem ((c : Thread nD τ).loc (Pipeline.arrRef spec0 w)) = m ((c : Thread nD τ).loc (Pipeline.arrRef spec0 w)) :=
  ((hp c).1 w).trans (((dats h m 0 c).arrAt_in w hin _).trans ((A_eq h m c w).trans (V_arg m c _ hr)))

/-- A buffer that neither the launch nor the host lines write ends as it started. -/
theorem mem_rest {r : PUnit × MemSt nD τ sig (Elt F)} (hp : Post h m r) (c : Dev nD) (b : Ref sig .tc) (hb : b ∈ Pipeline.restRefs sig spec0)
    (ht : b ∉ tailW) (hw : ∀ w, Pipeline.arrRef spec0 w ≠ b) (hr : b ∉ headW) :
    r.2.mem ((c : Thread nD τ).loc b) = m ((c : Thread nD τ).loc b) := by
  refine ((hp c).2 b hb).trans ?_
  unfold Pipeline.afterTail
  rw [StableHlo.after_of_writes_sub (r := b) _ _ tail_writes ht]
  exact (Pipeline.withArrays_of_ne _ c (V0 m c) _ b hw).trans (V_arg m c b hr)

/-- A run of @main leaves every argument as it was, and every semaphore at zero. -/
theorem frame_run : θ_run (defsH h) (onTc (τ := τ) (mainH (F := F) h)) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) ∧ r.2.sem = fun _ => 0) :=
  (θ_run (defsH h) _ _).mono (fun r hp => ⟨fun c =>
    ⟨mem_rest h m hp.1 c main_arg0 (by decide) (by decide) (by decide) (by decide),
     mem_rest h m hp.1 c main_arg1 (by decide) (by decide) (by decide) (by decide),
     mem_rest h m hp.1 c main_arg2 (by decide) (by decide) (by decide) (by decide),
     mem_in h m hp.1 c 0 rfl (by decide), mem_in h m hp.1 c 1 rfl (by decide), mem_in h m hp.1 c 2 rfl (by decide),
     mem_rest h m hp.1 c main_arg6 (by decide) (by decide) (by decide) (by decide),
     mem_rest h m hp.1 c main_arg7 (by decide) (by decide) (by decide) (by decide)⟩, hp.2⟩) (run_main h m ρ)

end Cert.Kernel.Body
end
-- ==== Proof.Trip.lean ====
module

public import proofs.«01_k».proof.Proof.Gen.KernelIdeal.Skeleton
public import Idealize.ShloMosaic.Lib.Exec
public import Idealize.ShloMosaic.Lib.Tactic
public import Idealize.ShloMosaic.Lib.Pipeline.Kit

@[expose] public section

set_option maxRecDepth 8192
set_option maxHeartbeats 4000000

noncomputable section

/-!
# One trip of the attention kernel's loop

The table of cache lengths is held at half a share, as the pipeline hands it to the body.
-/

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄G" => MT nD τ sig Unit (Elt F) ℕ (UR sig nD τ) ℕ

/-- What one trip holds: what it reads (arg1 at half a share, arg2 to arg8) at its contents, what it writes
   (arg9, arg10) at any. -/
abbrev Trip (c : Dev nD) (arg1 : Memref sig .tc .smem S120 .i32) (arg2 : Memref sig .tc .vmem S1024x128 .i32) (arg3 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg8 : Memref sig .tc .vmem S1x64x128 .bf16) (arg9 : Memref sig .tc .vmem S1x8x32x64 .bf16) (arg10 : Memref sig .tc .vmem S64x128 .i32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (f_arg9 : BufTy.Contents (Elt F) arg9.view.ty) (f_arg10 : BufTy.Contents (Elt F) arg10.view.ty) : sProp 𝕄G :=
  iprop((arg1.view.loc (c : Thread nD τ) ↦[arg1.view.set]{fullShare.right} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} f_arg9) ∗ (arg10.view.loc (c : Thread nD τ) ↦[arg10.view.set]{fullShare} f_arg10))

/-- One trip of the loop at a symbolic `k`: the pieces it writes into arg9 and arg10, found by running it. -/
@[irreducible] def trip (𝒱 : Variants) (c : Dev nD) (bd : Option 𝒱.V) (i : grid0.Coords) (arg1 : Memref sig .tc .smem S120 .i32) (harg1 : arg1.IsWhole) (arg2 : Memref sig .tc .vmem S1024x128 .i32) (harg2 : arg2.IsWhole) (arg3 : Memref sig .tc .vmem S1024x128 .i32) (harg3 : arg3.IsWhole) (arg4 : Memref sig .tc .vmem S1024x128 .i32) (harg4 : arg4.IsWhole) (arg5 : Memref sig .tc .vmem S1x8x128 .i32) (harg5 : arg5.IsWhole) (arg6 : Memref sig .tc .vmem S1x8x32x64 .bf16) (harg6 : arg6.IsWhole) (arg7 : Memref sig .tc .vmem S1x64x128 .bf16) (harg7 : arg7.IsWhole) (arg8 : Memref sig .tc .vmem S1x64x128 .bf16) (harg8 : arg8.IsWhole) (arg9 : Memref sig .tc .vmem S1x8x32x64 .bf16) (harg9 : arg9.IsWhole) (arg10 : Memref sig .tc .vmem S64x128 .i32) (harg10 : arg10.IsWhole) (arg0 : BitVec 32) (v0 : IVec S8x128 32) (v1 : IVec S32x128 32) (v2 : IVec S32x128 32) (cst : F .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) :
    Σ' (L_arg9 : (BufTy.Contents (Elt F) arg9.view.ty → BufTy.Contents (Elt F) arg10.view.ty → List (View.Piece (Elt F) S1x8x32x64 .bf16))) , { L_arg10 : (BufTy.Contents (Elt F) arg9.view.ty → BufTy.Contents (Elt F) arg10.view.ty → List (View.Piece (Elt F) S64x128 .i32)) // ∀ (E : Set ℕ) (f_arg9 : BufTy.Contents (Elt F) arg9.view.ty) (f_arg10 : BufTy.Contents (Elt F) arg10.view.ty),
      Trip (F := F) c arg1 arg2 arg3 arg4 arg5 arg6 arg7 arg8 arg9 arg10 X_arg1 X_arg2 X_arg3 X_arg4 X_arg5 X_arg6 X_arg7 X_arg8 f_arg9 f_arg10
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg0 v0 v1 v2 cst k PUnit.unit)
          (fun _ => Trip (F := F) c arg1 arg2 arg3 arg4 arg5 arg6 arg7 arg8 arg9 arg10 X_arg1 X_arg2 X_arg3 X_arg4 X_arg5 X_arg6 X_arg7 X_arg8 (arg9.view.writes (Elt F) f_arg9 (L_arg9 f_arg9 f_arg10)) (arg10.view.writes (Elt F) f_arg10 (L_arg10 f_arg9 f_arg10))) } := by
  have hk : k.val < 8 := Nat.lt_of_lt_of_le k.isLt k0_t1_abs.2.1
  refine ⟨?_, ?_, fun E f_arg9 f_arg10 => ?run⟩
  case run =>
    unfold k0_t1_body
    iintro ⟨HR_arg1, HR_arg2, HR_arg3, HR_arg4, HR_arg5, HR_arg6, HR_arg7, HR_arg8, HW_arg9, HW_arg10⟩
    sl_exec
    sl_step
    sl_close

end Cert.KernelIdeal.Body
end
-- ==== Proof.Tile.lean ====
module

public import proofs.«01_k».proof.Proof.Gen.KernelIdeal.Skeleton
public import Idealize.ShloMosaic.Lib.Exec
public import Idealize.ShloMosaic.Lib.Pipeline.Kit
public import Idealize.ShloMosaic.Lib.Pipeline.ReadBack

@[expose] public section

set_option maxRecDepth 8192

noncomputable section

/-!
# One sequence of the attention kernel, as a function

What one trip of the kernel's loop computes, written once for all sixteen token positions of a page:
`one` is the block of attention outputs of one sequence as a function of the words, scales, query and new tokens it
loads. A word holds eight signed four-bit codes; `nib` decodes the two codes in the low four bits of its halves.
-/

namespace Cert.KernelIdeal.Tile
open Cert.KernelIdeal Cert.KernelIdeal.Gen
open Idealize.ShloMosaic Idealize.ShloMosaic.TcCoe
variable {F : FTy → Type} [FloatOps F]

theorem wordSlices (r : Fin 16) : S128x128.Slices ![8 * r.val, 0] S8x128 :=
  ⟨rfl, fun a => by
    match a with
    | 0 => have := r.isLt; show 8 * r.val + 8 ≤ 128; omega
    | 1 => exact Nat.le_refl 128⟩

theorem rowInb (i : Fin 64) : ∀ a, (![i.val, 0] : Fin 2 → ℕ) a + S1x128.size a ≤ S64x128.size a := fun a => by
  match a with
  | 0 => exact i.isLt
  | 1 => exact Nat.le_refl 128

/-- The eight word rows of group `r`. -/
def words (x : IVec S128x128 32) (r : Fin 16) : IVec S8x128 32 := extractStridedSlice S8x128 ![8 * r.val, 0] x (wordSlices r)
/-- Row `i` of the scale words. -/
def row (S : IVec S64x128 32) (i : Fin 64) : IVec S1x128 32 := View.ld (Val := fun _ => BitVec 32) (e' := .i32) S (Rect.unit (s := S64x128) ![i.val, 0] S1x128.size (rowInb i))
/-- One row repeated on eight. -/
def spread (r : IVec S1x128 32) : IVec S8x128 32 := broadcastTo S8x128 (shapeCast S1x128 r shapeCasts_S1x128_S1x128) broadcasts_S1x128_S8x128
/-- The two halves of each word as bf16 numbers, on consecutive rows. -/
def halves (x : IVec S8x128 32) : FVec F S16x128 .bf16 := bitcastToFloat .bf16 (bitcast S16x128 16 x bitcasts_S8x128_w32_S16x128_w16)
/-- The signed codes in the low four bits of each half. -/
def nib (x : IVec S8x128 32) : FVec F S16x128 .bf16 :=
  subf (halves (xori (andi x (broadcast S8x128 983055#32)) (broadcast S8x128 1124614920#32))) (broadcast S16x128 (Scalar.ofBits .bf16 0x4308#16))
/-- The words shifted right by `n` bits. -/
def down (x : IVec S8x128 32) (n : BitVec 32) : IVec S8x128 32 := shrui x (broadcast S8x128 n)
def stack4 (a b c d : FVec F S16x128 .bf16) : FVec F S64x128 .bf16 :=
  concatenate S64x128 0 [⟨S16x128, a⟩, ⟨S16x128, b⟩, ⟨S16x128, c⟩, ⟨S16x128, d⟩] concatenates_S16x128_S16x128_S16x128_S16x128_S64x128_d0
/-- The keys of an even token position. -/
def keyLo (w0 w1 : IVec S8x128 32) (r0 r1 : IVec S1x128 32) : FVec F S64x128 .bf16 :=
  stack4 (mulf (nib w0) (halves (spread r0))) (mulf (nib w1) (halves (spread r1)))
    (mulf (nib (down w0 8#32)) (halves (spread r0))) (mulf (nib (down w1 8#32)) (halves (spread r1)))
/-- The keys of an odd token position. -/
def keyHi (w0 w1 : IVec S8x128 32) (r0 r1 : IVec S1x128 32) : FVec F S64x128 .bf16 :=
  stack4 (mulf (nib (down w0 4#32)) (halves (spread r0))) (mulf (nib (down w1 4#32)) (halves (spread r1)))
    (mulf (nib (down w0 12#32)) (halves (spread r0))) (mulf (nib (down w1 12#32)) (halves (spread r1)))
/-- The products of the queries with the keys of two token positions. -/
def pairOf (q : FVec F S32x64 .bf16) (c0 c1 : FVec F S64x128 .bf16) : FVec F S32x256 .f32 :=
  matmul dot_S32x64_S64x256_S32x256_1_0_0_1_n_n none q
    (concatenate S64x256 1 [⟨S64x128, c0⟩, ⟨S64x128, c1⟩] concatenates_S64x128_S64x128_S64x256_d1) (constant S32x256 .f32 0x00000000#32)
/-- The scores of the token positions `2 j` and `2 j + 1`. -/
def pairAt (q : FVec F S32x64 .bf16) (kt : IVec S128x128 32) (S : IVec S64x128 32) (j : Fin 8) : FVec F S32x256 .f32 :=
  pairOf q
    (keyLo (words kt ⟨2 * j.val, by omega⟩) (words kt ⟨2 * j.val + 1, by omega⟩) (row S ⟨4 * j.val, by omega⟩) (row S ⟨4 * j.val + 1, by omega⟩))
    (keyHi (words kt ⟨2 * j.val, by omega⟩) (words kt ⟨2 * j.val + 1, by omega⟩) (row S ⟨4 * j.val + 2, by omega⟩) (row S ⟨4 * j.val + 3, by omega⟩))
/-- The first half of a pair of scores, `-∞` where `left` is at most `n`. -/
def scoreLo (left : IVec S32x128 32) (n : BitVec 32) (t : FVec F S32x256 .f32) : FVec F S32x128 .f32 :=
  select (cmpi .sgt left (broadcast S32x128 n)) (extractStridedSlice S32x128 ![0, 0] t slices_S32x256_o0_0_S32x128)
    (broadcast S32x128 (Scalar.ofBits .f32 0xFF800000#32))
/-- The second half of a pair of scores, `-∞` where `left` is at most `n`. -/
def scoreHi (left : IVec S32x128 32) (n : BitVec 32) (t : FVec F S32x256 .f32) : FVec F S32x128 .f32 :=
  select (cmpi .sgt left (broadcast S32x128 n)) (extractStridedSlice S32x128 ![0, 128] t slices_S32x256_o0_128_S32x128)
    (broadcast S32x128 (Scalar.ofBits .f32 0xFF800000#32))
/-- The seventeen tiles of scores: sixteen token positions and the new tokens. -/
def tile (q : FVec F S32x64 .bf16) (left : IVec S32x128 32) (kt : IVec S128x128 32) (S : IVec S64x128 32) (new : FVec F S32x128 .f32)
    (p : Fin 17) : FVec F S32x128 .f32 :=
  if h : p.val < 16 then
    if p.val % 2 = 0 then scoreLo left (BitVec.ofNat 32 p.val) (pairAt q kt S ⟨p.val / 2, by omega⟩)
    else scoreHi left (BitVec.ofNat 32 p.val) (pairAt q kt S ⟨p.val / 2, by omega⟩)
  else new
/-- The greatest score of a row. -/
def rowMax (t : Fin 17 → FVec F S32x128 .f32) : FVec F S32x1 .f32 :=
  shapeCast S32x1 (multiReduction .maximumf [1] S32
    (maximumf (maximumf (maximumf (maximumf (maximumf (maximumf (maximumf (maximumf (maximumf (maximumf (maximumf (maximumf (maximumf (maximumf (maximumf (maximumf (t 0) (t 1)) (t 2)) (t 3)) (t 4)) (t 5)) (t 6)) (t 7)) (t 8)) (t 9)) (t 10)) (t 11)) (t 12)) (t 13)) (t 14)) (t 15)) (t 16))
    0xFF800000#32 reduces_S32x128_S32 (.inl rfl) rfl) shapeCasts_S32_S32x1
/-- A tile of weights before the division. -/
def expTile (cst : F .f32) (m : FVec F S32x1 .f32) (t : FVec F S32x128 .f32) : FVec F S32x128 .f32 :=
  exp2 (mulf (subf t (broadcastTo S32x128 m broadcasts_S32x1_S32x128)) (broadcast S32x128 cst))
/-- One over a row's sum of weights. -/
def rowInv (t : Fin 17 → FVec F S32x128 .f32) : FVec F S32x1 .f32 :=
  divf (broadcast S32x1 (Scalar.ofBits .f32 0x3F800000#32)) (shapeCast S32x1 (multiReduction .add [1] S32
    (addf (addf (addf (addf (addf (addf (addf (addf (addf (addf (addf (addf (addf (addf (addf (addf (t 0) (t 1)) (t 2)) (t 3)) (t 4)) (t 5)) (t 6)) (t 7)) (t 8)) (t 9)) (t 10)) (t 11)) (t 12)) (t 13)) (t 14)) (t 15)) (t 16))
    0x00000000#32 reduces_S32x128_S32 (.inl rfl) rfl) shapeCasts_S32_S32x1)
/-- A tile of weights. -/
def weight (d : FVec F S32x1 .f32) (e : FVec F S32x128 .f32) : FVec F S32x128 .bf16 :=
  truncf .bf16 (mulf e (broadcastTo S32x128 d broadcasts_S32x1_S32x128)) bitsLt_bf16_f32
def joinP (p : Fin 17 → FVec F S32x128 .bf16) : FVec F S32x2176 .bf16 :=
  concatenate S32x2176 1 [⟨S32x128, p 0⟩, ⟨S32x128, p 1⟩, ⟨S32x128, p 2⟩, ⟨S32x128, p 3⟩, ⟨S32x128, p 4⟩, ⟨S32x128, p 5⟩, ⟨S32x128, p 6⟩, ⟨S32x128, p 7⟩, ⟨S32x128, p 8⟩, ⟨S32x128, p 9⟩, ⟨S32x128, p 10⟩, ⟨S32x128, p 11⟩, ⟨S32x128, p 12⟩, ⟨S32x128, p 13⟩, ⟨S32x128, p 14⟩, ⟨S32x128, p 15⟩, ⟨S32x128, p 16⟩] concatenates_S32x128_S32x128_S32x128_S32x128_S32x128_S32x128_S32x128_S32x128_S32x128_S32x128_S32x128_S32x128_S32x128_S32x128_S32x128_S32x128_S32x128_S32x2176_d1
def joinV (p : Fin 17 → FVec F S64x128 .bf16) : FVec F S64x2176 .bf16 :=
  concatenate S64x2176 1 [⟨S64x128, p 0⟩, ⟨S64x128, p 1⟩, ⟨S64x128, p 2⟩, ⟨S64x128, p 3⟩, ⟨S64x128, p 4⟩, ⟨S64x128, p 5⟩, ⟨S64x128, p 6⟩, ⟨S64x128, p 7⟩, ⟨S64x128, p 8⟩, ⟨S64x128, p 9⟩, ⟨S64x128, p 10⟩, ⟨S64x128, p 11⟩, ⟨S64x128, p 12⟩, ⟨S64x128, p 13⟩, ⟨S64x128, p 14⟩, ⟨S64x128, p 15⟩, ⟨S64x128, p 16⟩] concatenates_S64x128_S64x128_S64x128_S64x128_S64x128_S64x128_S64x128_S64x128_S64x128_S64x128_S64x128_S64x128_S64x128_S64x128_S64x128_S64x128_S64x128_S64x2176_d1
/-- The weights of all seventeen tiles. -/
def weights (cst : F .f32) (t : Fin 17 → FVec F S32x128 .f32) : FVec F S32x2176 .bf16 :=
  joinP fun p => weight (rowInv fun p => expTile cst (rowMax t) (t p)) (expTile cst (rowMax t) (t p))
/-- The values of one token position. -/
def valTile (v0 w : IVec S8x128 32) (r0 r1 : IVec S1x128 32) : FVec F S64x128 .bf16 :=
  stack4 (mulf (nib w) (halves (select (cmpi .slt v0 (broadcast S8x128 4#32)) (spread r0) (spread r1))))
    (mulf (nib (down w 4#32)) (halves (select (cmpi .slt v0 (broadcast S8x128 4#32)) (spread r0) (spread r1))))
    (mulf (nib (down w 8#32)) (halves (select (cmpi .slt v0 (broadcast S8x128 4#32)) (spread r0) (spread r1))))
    (mulf (nib (down w 12#32)) (halves (select (cmpi .slt v0 (broadcast S8x128 4#32)) (spread r0) (spread r1))))
/-- The seventeen tiles of values. -/
def vals (v0 : IVec S8x128 32) (vt : IVec S128x128 32) (S : IVec S64x128 32) (vn : FVec F S64x128 .bf16) (p : Fin 17) : FVec F S64x128 .bf16 :=
  if h : p.val < 16 then valTile v0 (words vt ⟨p.val, h⟩) (row S ⟨32 + 2 * p.val, by omega⟩) (row S ⟨33 + 2 * p.val, by omega⟩) else vn
/-- The attention outputs of one sequence. -/
def one (v0 : IVec S8x128 32) (v1 v2 : IVec S32x128 32) (cst : F .f32) (b len : BitVec 32) (sel : Vec F S1x1x128 .i32) (kw vw sw : Vec F S128x128 .i32)
    (q : Vec F S1x1x32x64 .bf16) (kn vn : Vec F S1x64x128 .bf16) : FVec F S1x1x32x64 .bf16 :=
  k0_pay1 (weights cst (tile (k0_pay8 q) (k0_pay4 (F := F) sel len) (k0_pay5 (F := F) kw) (k0_pay7 (F := F) sel sw) (k0_pay139 v1 v2 b (k0_pay8 q) kn)))
    (joinV (vals v0 (k0_pay6 (F := F) vw) (k0_pay7 (F := F) sel sw) (shapeCast S64x128 vn shapeCasts_S1x64x128_S64x128)))
    (constant S32x64 .f32 0x00000000#32)

end Cert.KernelIdeal.Tile
end
-- ==== Proof.TripRow.lean ====
module

public import proofs.«01_k».proof.Proof.Trip
public import proofs.«01_k».proof.Proof.Tile

@[expose] public section

set_option maxRecDepth 8192
set_option maxHeartbeats 1000000

noncomputable section

/-!
# The scale rows a trip reads back

Each of the sixty-four rows read from the scratch buffer is that row of the scale words written there.
-/

namespace Cert.KernelIdeal.Body
open Cert.KernelIdeal Cert.KernelIdeal.Gen
open Idealize.ShloMosaic Idealize.ShloMosaic.TcCoe
variable {F : FTy → Type} [FloatOps F] [Named F]

theorem row_0 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v44 (F := F) arg4 arg5 arg10 X_arg4 X_arg5 k) = Tile.row (trip.sl.v38 (F := F) arg4 arg5 X_arg4 X_arg5 k) 0 :=
  (View.readCov_fill _ _ _ [] _ (fun a => by match a with | 0 => rfl | 1 => rfl)).trans rfl

theorem row_1 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v48 (F := F) arg4 arg5 arg10 X_arg4 X_arg5 k) = Tile.row (trip.sl.v38 (F := F) arg4 arg5 X_arg4 X_arg5 k) 1 :=
  (View.readCov_fill _ _ _ [] _ (fun a => by match a with | 0 => rfl | 1 => rfl)).trans rfl

theorem row_2 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v89 (F := F) arg4 arg5 arg10 X_arg4 X_arg5 k) = Tile.row (trip.sl.v38 (F := F) arg4 arg5 X_arg4 X_arg5 k) 2 :=
  (View.readCov_fill _ _ _ [] _ (fun a => by match a with | 0 => rfl | 1 => rfl)).trans rfl

theorem row_3 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v93 (F := F) arg4 arg5 arg10 X_arg4 X_arg5 k) = Tile.row (trip.sl.v38 (F := F) arg4 arg5 X_arg4 X_arg5 k) 3 :=
  (View.readCov_fill _ _ _ [] _ (fun a => by match a with | 0 => rfl | 1 => rfl)).trans rfl

theorem row_4 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v152 (F := F) arg4 arg5 arg10 X_arg4 X_arg5 k) = Tile.row (trip.sl.v38 (F := F) arg4 arg5 X_arg4 X_arg5 k) 4 :=
  (View.readCov_fill _ _ _ [] _ (fun a => by match a with | 0 => rfl | 1 => rfl)).trans rfl

theorem row_5 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v156 (F := F) arg4 arg5 arg10 X_arg4 X_arg5 k) = Tile.row (trip.sl.v38 (F := F) arg4 arg5 X_arg4 X_arg5 k) 5 :=
  (View.readCov_fill _ _ _ [] _ (fun a => by match a with | 0 => rfl | 1 => rfl)).trans rfl

theorem row_6 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v197 (F := F) arg4 arg5 arg10 X_arg4 X_arg5 k) = Tile.row (trip.sl.v38 (F := F) arg4 arg5 X_arg4 X_arg5 k) 6 :=
  (View.readCov_fill _ _ _ [] _ (fun a => by match a with | 0 => rfl | 1 => rfl)).trans rfl

theorem row_7 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v201 (F := F) arg4 arg5 arg10 X_arg4 X_arg5 k) = Tile.row (trip.sl.v38 (F := F) arg4 arg5 X_arg4 X_arg5 k) 7 :=
  (View.readCov_fill _ _ _ [] _ (fun a => by match a with | 0 => rfl | 1 => rfl)).trans rfl

theorem row_8 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v260 (F := F) arg4 arg5 arg10 X_arg4 X_arg5 k) = Tile.row (trip.sl.v38 (F := F) arg4 arg5 X_arg4 X_arg5 k) 8 :=
  (View.readCov_fill _ _ _ [] _ (fun a => by match a with | 0 => rfl | 1 => rfl)).trans rfl

theorem row_9 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v264 (F := F) arg4 arg5 arg10 X_arg4 X_arg5 k) = Tile.row (trip.sl.v38 (F := F) arg4 arg5 X_arg4 X_arg5 k) 9 :=
  (View.readCov_fill _ _ _ [] _ (fun a => by match a with | 0 => rfl | 1 => rfl)).trans rfl

theorem row_10 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v305 (F := F) arg4 arg5 arg10 X_arg4 X_arg5 k) = Tile.row (trip.sl.v38 (F := F) arg4 arg5 X_arg4 X_arg5 k) 10 :=
  (View.readCov_fill _ _ _ [] _ (fun a => by match a with | 0 => rfl | 1 => rfl)).trans rfl

theorem row_11 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v309 (F := F) arg4 arg5 arg10 X_arg4 X_arg5 k) = Tile.row (trip.sl.v38 (F := F) arg4 arg5 X_arg4 X_arg5 k) 11 :=
  (View.readCov_fill _ _ _ [] _ (fun a => by match a with | 0 => rfl | 1 => rfl)).trans rfl

theorem row_12 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v368 (F := F) arg4 arg5 arg10 X_arg4 X_arg5 k) = Tile.row (trip.sl.v38 (F := F) arg4 arg5 X_arg4 X_arg5 k) 12 :=
  (View.readCov_fill _ _ _ [] _ (fun a => by match a with | 0 => rfl | 1 => rfl)).trans rfl

theorem row_13 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v372 (F := F) arg4 arg5 arg10 X_arg4 X_arg5 k) = Tile.row (trip.sl.v38 (F := F) arg4 arg5 X_arg4 X_arg5 k) 13 :=
  (View.readCov_fill _ _ _ [] _ (fun a => by match a with | 0 => rfl | 1 => rfl)).trans rfl

theorem row_14 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v413 (F := F) arg4 arg5 arg10 X_arg4 X_arg5 k) = Tile.row (trip.sl.v38 (F := F) arg4 arg5 X_arg4 X_arg5 k) 14 :=
  (View.readCov_fill _ _ _ [] _ (fun a => by match a with | 0 => rfl | 1 => rfl)).trans rfl

theorem row_15 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v417 (F := F) arg4 arg5 arg10 X_arg4 X_arg5 k) = Tile.row (trip.sl.v38 (F := F) arg4 arg5 X_arg4 X_arg5 k) 15 :=
  (View.readCov_fill _ _ _ [] _ (fun a => by match a with | 0 => rfl | 1 => rfl)).trans rfl

theorem row_16 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v476 (F := F) arg4 arg5 arg10 X_arg4 X_arg5 k) = Tile.row (trip.sl.v38 (F := F) arg4 arg5 X_arg4 X_arg5 k) 16 :=
  (View.readCov_fill _ _ _ [] _ (fun a => by match a with | 0 => rfl | 1 => rfl)).trans rfl

theorem row_17 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v480 (F := F) arg4 arg5 arg10 X_arg4 X_arg5 k) = Tile.row (trip.sl.v38 (F := F) arg4 arg5 X_arg4 X_arg5 k) 17 :=
  (View.readCov_fill _ _ _ [] _ (fun a => by match a with | 0 => rfl | 1 => rfl)).trans rfl

theorem row_18 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v521 (F := F) arg4 arg5 arg10 X_arg4 X_arg5 k) = Tile.row (trip.sl.v38 (F := F) arg4 arg5 X_arg4 X_arg5 k) 18 :=
  (View.readCov_fill _ _ _ [] _ (fun a => by match a with | 0 => rfl | 1 => rfl)).trans rfl

theorem row_19 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v525 (F := F) arg4 arg5 arg10 X_arg4 X_arg5 k) = Tile.row (trip.sl.v38 (F := F) arg4 arg5 X_arg4 X_arg5 k) 19 :=
  (View.readCov_fill _ _ _ [] _ (fun a => by match a with | 0 => rfl | 1 => rfl)).trans rfl

theorem row_20 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v584 (F := F) arg4 arg5 arg10 X_arg4 X_arg5 k) = Tile.row (trip.sl.v38 (F := F) arg4 arg5 X_arg4 X_arg5 k) 20 :=
  (View.readCov_fill _ _ _ [] _ (fun a => by match a with | 0 => rfl | 1 => rfl)).trans rfl

theorem row_21 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v588 (F := F) arg4 arg5 arg10 X_arg4 X_arg5 k) = Tile.row (trip.sl.v38 (F := F) arg4 arg5 X_arg4 X_arg5 k) 21 :=
  (View.readCov_fill _ _ _ [] _ (fun a => by match a with | 0 => rfl | 1 => rfl)).trans rfl

theorem row_22 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v629 (F := F) arg4 arg5 arg10 X_arg4 X_arg5 k) = Tile.row (trip.sl.v38 (F := F) arg4 arg5 X_arg4 X_arg5 k) 22 :=
  (View.readCov_fill _ _ _ [] _ (fun a => by match a with | 0 => rfl | 1 => rfl)).trans rfl

theorem row_23 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v633 (F := F) arg4 arg5 arg10 X_arg4 X_arg5 k) = Tile.row (trip.sl.v38 (F := F) arg4 arg5 X_arg4 X_arg5 k) 23 :=
  (View.readCov_fill _ _ _ [] _ (fun a => by match a with | 0 => rfl | 1 => rfl)).trans rfl

theorem row_24 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v692 (F := F) arg4 arg5 arg10 X_arg4 X_arg5 k) = Tile.row (trip.sl.v38 (F := F) arg4 arg5 X_arg4 X_arg5 k) 24 :=
  (View.readCov_fill _ _ _ [] _ (fun a => by match a with | 0 => rfl | 1 => rfl)).trans rfl

theorem row_25 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v696 (F := F) arg4 arg5 arg10 X_arg4 X_arg5 k) = Tile.row (trip.sl.v38 (F := F) arg4 arg5 X_arg4 X_arg5 k) 25 :=
  (View.readCov_fill _ _ _ [] _ (fun a => by match a with | 0 => rfl | 1 => rfl)).trans rfl

theorem row_26 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v737 (F := F) arg4 arg5 arg10 X_arg4 X_arg5 k) = Tile.row (trip.sl.v38 (F := F) arg4 arg5 X_arg4 X_arg5 k) 26 :=
  (View.readCov_fill _ _ _ [] _ (fun a => by match a with | 0 => rfl | 1 => rfl)).trans rfl

theorem row_27 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v741 (F := F) arg4 arg5 arg10 X_arg4 X_arg5 k) = Tile.row (trip.sl.v38 (F := F) arg4 arg5 X_arg4 X_arg5 k) 27 :=
  (View.readCov_fill _ _ _ [] _ (fun a => by match a with | 0 => rfl | 1 => rfl)).trans rfl

theorem row_28 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v800 (F := F) arg4 arg5 arg10 X_arg4 X_arg5 k) = Tile.row (trip.sl.v38 (F := F) arg4 arg5 X_arg4 X_arg5 k) 28 :=
  (View.readCov_fill _ _ _ [] _ (fun a => by match a with | 0 => rfl | 1 => rfl)).trans rfl

theorem row_29 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v804 (F := F) arg4 arg5 arg10 X_arg4 X_arg5 k) = Tile.row (trip.sl.v38 (F := F) arg4 arg5 X_arg4 X_arg5 k) 29 :=
  (View.readCov_fill _ _ _ [] _ (fun a => by match a with | 0 => rfl | 1 => rfl)).trans rfl

theorem row_30 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v845 (F := F) arg4 arg5 arg10 X_arg4 X_arg5 k) = Tile.row (trip.sl.v38 (F := F) arg4 arg5 X_arg4 X_arg5 k) 30 :=
  (View.readCov_fill _ _ _ [] _ (fun a => by match a with | 0 => rfl | 1 => rfl)).trans rfl

theorem row_31 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v849 (F := F) arg4 arg5 arg10 X_arg4 X_arg5 k) = Tile.row (trip.sl.v38 (F := F) arg4 arg5 X_arg4 X_arg5 k) 31 :=
  (View.readCov_fill _ _ _ [] _ (fun a => by match a with | 0 => rfl | 1 => rfl)).trans rfl

theorem row_32 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1102 (F := F) arg4 arg5 arg10 X_arg4 X_arg5 k) = Tile.row (trip.sl.v38 (F := F) arg4 arg5 X_arg4 X_arg5 k) 32 :=
  (View.readCov_fill _ _ _ [] _ (fun a => by match a with | 0 => rfl | 1 => rfl)).trans rfl

theorem row_33 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1105 (F := F) arg4 arg5 arg10 X_arg4 X_arg5 k) = Tile.row (trip.sl.v38 (F := F) arg4 arg5 X_arg4 X_arg5 k) 33 :=
  (View.readCov_fill _ _ _ [] _ (fun a => by match a with | 0 => rfl | 1 => rfl)).trans rfl

theorem row_34 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1152 (F := F) arg4 arg5 arg10 X_arg4 X_arg5 k) = Tile.row (trip.sl.v38 (F := F) arg4 arg5 X_arg4 X_arg5 k) 34 :=
  (View.readCov_fill _ _ _ [] _ (fun a => by match a with | 0 => rfl | 1 => rfl)).trans rfl

theorem row_35 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1155 (F := F) arg4 arg5 arg10 X_arg4 X_arg5 k) = Tile.row (trip.sl.v38 (F := F) arg4 arg5 X_arg4 X_arg5 k) 35 :=
  (View.readCov_fill _ _ _ [] _ (fun a => by match a with | 0 => rfl | 1 => rfl)).trans rfl

theorem row_36 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1202 (F := F) arg4 arg5 arg10 X_arg4 X_arg5 k) = Tile.row (trip.sl.v38 (F := F) arg4 arg5 X_arg4 X_arg5 k) 36 :=
  (View.readCov_fill _ _ _ [] _ (fun a => by match a with | 0 => rfl | 1 => rfl)).trans rfl

theorem row_37 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1205 (F := F) arg4 arg5 arg10 X_arg4 X_arg5 k) = Tile.row (trip.sl.v38 (F := F) arg4 arg5 X_arg4 X_arg5 k) 37 :=
  (View.readCov_fill _ _ _ [] _ (fun a => by match a with | 0 => rfl | 1 => rfl)).trans rfl

theorem row_38 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1252 (F := F) arg4 arg5 arg10 X_arg4 X_arg5 k) = Tile.row (trip.sl.v38 (F := F) arg4 arg5 X_arg4 X_arg5 k) 38 :=
  (View.readCov_fill _ _ _ [] _ (fun a => by match a with | 0 => rfl | 1 => rfl)).trans rfl

theorem row_39 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1255 (F := F) arg4 arg5 arg10 X_arg4 X_arg5 k) = Tile.row (trip.sl.v38 (F := F) arg4 arg5 X_arg4 X_arg5 k) 39 :=
  (View.readCov_fill _ _ _ [] _ (fun a => by match a with | 0 => rfl | 1 => rfl)).trans rfl

theorem row_40 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1302 (F := F) arg4 arg5 arg10 X_arg4 X_arg5 k) = Tile.row (trip.sl.v38 (F := F) arg4 arg5 X_arg4 X_arg5 k) 40 :=
  (View.readCov_fill _ _ _ [] _ (fun a => by match a with | 0 => rfl | 1 => rfl)).trans rfl

theorem row_41 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1305 (F := F) arg4 arg5 arg10 X_arg4 X_arg5 k) = Tile.row (trip.sl.v38 (F := F) arg4 arg5 X_arg4 X_arg5 k) 41 :=
  (View.readCov_fill _ _ _ [] _ (fun a => by match a with | 0 => rfl | 1 => rfl)).trans rfl

theorem row_42 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1352 (F := F) arg4 arg5 arg10 X_arg4 X_arg5 k) = Tile.row (trip.sl.v38 (F := F) arg4 arg5 X_arg4 X_arg5 k) 42 :=
  (View.readCov_fill _ _ _ [] _ (fun a => by match a with | 0 => rfl | 1 => rfl)).trans rfl

theorem row_43 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1355 (F := F) arg4 arg5 arg10 X_arg4 X_arg5 k) = Tile.row (trip.sl.v38 (F := F) arg4 arg5 X_arg4 X_arg5 k) 43 :=
  (View.readCov_fill _ _ _ [] _ (fun a => by match a with | 0 => rfl | 1 => rfl)).trans rfl

theorem row_44 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1402 (F := F) arg4 arg5 arg10 X_arg4 X_arg5 k) = Tile.row (trip.sl.v38 (F := F) arg4 arg5 X_arg4 X_arg5 k) 44 :=
  (View.readCov_fill _ _ _ [] _ (fun a => by match a with | 0 => rfl | 1 => rfl)).trans rfl

theorem row_45 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1405 (F := F) arg4 arg5 arg10 X_arg4 X_arg5 k) = Tile.row (trip.sl.v38 (F := F) arg4 arg5 X_arg4 X_arg5 k) 45 :=
  (View.readCov_fill _ _ _ [] _ (fun a => by match a with | 0 => rfl | 1 => rfl)).trans rfl

theorem row_46 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1452 (F := F) arg4 arg5 arg10 X_arg4 X_arg5 k) = Tile.row (trip.sl.v38 (F := F) arg4 arg5 X_arg4 X_arg5 k) 46 :=
  (View.readCov_fill _ _ _ [] _ (fun a => by match a with | 0 => rfl | 1 => rfl)).trans rfl

theorem row_47 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1455 (F := F) arg4 arg5 arg10 X_arg4 X_arg5 k) = Tile.row (trip.sl.v38 (F := F) arg4 arg5 X_arg4 X_arg5 k) 47 :=
  (View.readCov_fill _ _ _ [] _ (fun a => by match a with | 0 => rfl | 1 => rfl)).trans rfl

theorem row_48 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1502 (F := F) arg4 arg5 arg10 X_arg4 X_arg5 k) = Tile.row (trip.sl.v38 (F := F) arg4 arg5 X_arg4 X_arg5 k) 48 :=
  (View.readCov_fill _ _ _ [] _ (fun a => by match a with | 0 => rfl | 1 => rfl)).trans rfl

theorem row_49 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1505 (F := F) arg4 arg5 arg10 X_arg4 X_arg5 k) = Tile.row (trip.sl.v38 (F := F) arg4 arg5 X_arg4 X_arg5 k) 49 :=
  (View.readCov_fill _ _ _ [] _ (fun a => by match a with | 0 => rfl | 1 => rfl)).trans rfl

theorem row_50 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1552 (F := F) arg4 arg5 arg10 X_arg4 X_arg5 k) = Tile.row (trip.sl.v38 (F := F) arg4 arg5 X_arg4 X_arg5 k) 50 :=
  (View.readCov_fill _ _ _ [] _ (fun a => by match a with | 0 => rfl | 1 => rfl)).trans rfl

theorem row_51 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1555 (F := F) arg4 arg5 arg10 X_arg4 X_arg5 k) = Tile.row (trip.sl.v38 (F := F) arg4 arg5 X_arg4 X_arg5 k) 51 :=
  (View.readCov_fill _ _ _ [] _ (fun a => by match a with | 0 => rfl | 1 => rfl)).trans rfl

theorem row_52 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1602 (F := F) arg4 arg5 arg10 X_arg4 X_arg5 k) = Tile.row (trip.sl.v38 (F := F) arg4 arg5 X_arg4 X_arg5 k) 52 :=
  (View.readCov_fill _ _ _ [] _ (fun a => by match a with | 0 => rfl | 1 => rfl)).trans rfl

theorem row_53 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1605 (F := F) arg4 arg5 arg10 X_arg4 X_arg5 k) = Tile.row (trip.sl.v38 (F := F) arg4 arg5 X_arg4 X_arg5 k) 53 :=
  (View.readCov_fill _ _ _ [] _ (fun a => by match a with | 0 => rfl | 1 => rfl)).trans rfl

theorem row_54 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1652 (F := F) arg4 arg5 arg10 X_arg4 X_arg5 k) = Tile.row (trip.sl.v38 (F := F) arg4 arg5 X_arg4 X_arg5 k) 54 :=
  (View.readCov_fill _ _ _ [] _ (fun a => by match a with | 0 => rfl | 1 => rfl)).trans rfl

theorem row_55 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1655 (F := F) arg4 arg5 arg10 X_arg4 X_arg5 k) = Tile.row (trip.sl.v38 (F := F) arg4 arg5 X_arg4 X_arg5 k) 55 :=
  (View.readCov_fill _ _ _ [] _ (fun a => by match a with | 0 => rfl | 1 => rfl)).trans rfl

theorem row_56 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1702 (F := F) arg4 arg5 arg10 X_arg4 X_arg5 k) = Tile.row (trip.sl.v38 (F := F) arg4 arg5 X_arg4 X_arg5 k) 56 :=
  (View.readCov_fill _ _ _ [] _ (fun a => by match a with | 0 => rfl | 1 => rfl)).trans rfl

theorem row_57 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1705 (F := F) arg4 arg5 arg10 X_arg4 X_arg5 k) = Tile.row (trip.sl.v38 (F := F) arg4 arg5 X_arg4 X_arg5 k) 57 :=
  (View.readCov_fill _ _ _ [] _ (fun a => by match a with | 0 => rfl | 1 => rfl)).trans rfl

theorem row_58 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1752 (F := F) arg4 arg5 arg10 X_arg4 X_arg5 k) = Tile.row (trip.sl.v38 (F := F) arg4 arg5 X_arg4 X_arg5 k) 58 :=
  (View.readCov_fill _ _ _ [] _ (fun a => by match a with | 0 => rfl | 1 => rfl)).trans rfl

theorem row_59 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1755 (F := F) arg4 arg5 arg10 X_arg4 X_arg5 k) = Tile.row (trip.sl.v38 (F := F) arg4 arg5 X_arg4 X_arg5 k) 59 :=
  (View.readCov_fill _ _ _ [] _ (fun a => by match a with | 0 => rfl | 1 => rfl)).trans rfl

theorem row_60 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1802 (F := F) arg4 arg5 arg10 X_arg4 X_arg5 k) = Tile.row (trip.sl.v38 (F := F) arg4 arg5 X_arg4 X_arg5 k) 60 :=
  (View.readCov_fill _ _ _ [] _ (fun a => by match a with | 0 => rfl | 1 => rfl)).trans rfl

theorem row_61 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1805 (F := F) arg4 arg5 arg10 X_arg4 X_arg5 k) = Tile.row (trip.sl.v38 (F := F) arg4 arg5 X_arg4 X_arg5 k) 61 :=
  (View.readCov_fill _ _ _ [] _ (fun a => by match a with | 0 => rfl | 1 => rfl)).trans rfl

theorem row_62 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1852 (F := F) arg4 arg5 arg10 X_arg4 X_arg5 k) = Tile.row (trip.sl.v38 (F := F) arg4 arg5 X_arg4 X_arg5 k) 62 :=
  (View.readCov_fill _ _ _ [] _ (fun a => by match a with | 0 => rfl | 1 => rfl)).trans rfl

theorem row_63 (arg4 : Memref sig .tc .vmem S1024x128 .i32) (arg5 : Memref sig .tc .vmem S1x8x128 .i32) (arg10 : Memref sig .tc .vmem S64x128 .i32) (X_arg4 : BufTy.Contents (Elt F) arg4.view.ty) (X_arg5 : BufTy.Contents (Elt F) arg5.view.ty) (k : Fin k0_t1_loop.trips) : (trip.sl.v1855 (F := F) arg4 arg5 arg10 X_arg4 X_arg5 k) = Tile.row (trip.sl.v38 (F := F) arg4 arg5 X_arg4 X_arg5 k) 63 :=
  (View.readCov_fill _ _ _ [] _ (fun a => by match a with | 0 => rfl | 1 => rfl)).trans rfl

end Cert.KernelIdeal.Body
end
-- ==== Proof.TripScore.lean ====
module

public import proofs.«01_k».proof.Proof.TripRow

@[expose] public section

set_option maxRecDepth 8192
set_option maxHeartbeats 1000000

noncomputable section

/-!
# The scores of a trip

Each score tile that the run of a trip names is the function `Tile.tile` at that token position.
-/

namespace Cert.KernelIdeal.Body
open Cert.KernelIdeal Cert.KernelIdeal.Gen
open Idealize.ShloMosaic Idealize.ShloMosaic.TcCoe
variable {F : FTy → Type} [FloatOps F] [Named F]

theorem tile_even (q : FVec F S32x64 .bf16) (left : IVec S32x128 32) (kt : IVec S128x128 32) (S : IVec S64x128 32) (new : FVec F S32x128 .f32)
    (p : Fin 17) (a b : Fin 16) (r0 r1 r2 r3 : Fin 64) (n : BitVec 32) (hp : p.val < 16) (he : p.val % 2 = 0) (hn : n = BitVec.ofNat 32 p.val)
    (ha : a.val = p.val) (hb : b.val = p.val + 1) (h0 : r0.val = 2 * p.val) (h1 : r1.val = 2 * p.val + 1) (h2 : r2.val = 2 * p.val + 2)
    (h3 : r3.val = 2 * p.val + 3) : Tile.tile q left kt S new p = Tile.scoreLo left n (Tile.pairOf q
      (Tile.keyLo (Tile.words kt a) (Tile.words kt b) (Tile.row S r0) (Tile.row S r1))
      (Tile.keyHi (Tile.words kt a) (Tile.words kt b) (Tile.row S r2) (Tile.row S r3))) := by
  unfold Tile.tile Tile.pairAt
  rw [dif_pos hp, if_pos he, hn]
  have e1 : (⟨2 * (p.val / 2), by omega⟩ : Fin 16) = a := Fin.ext (by dsimp only; omega)
  have e2 : (⟨2 * (p.val / 2) + 1, by omega⟩ : Fin 16) = b := Fin.ext (by dsimp only; omega)
  have e3 : (⟨4 * (p.val / 2), by omega⟩ : Fin 64) = r0 := Fin.ext (by dsimp only; omega)
  have e4 : (⟨4 * (p.val / 2) + 1, by omega⟩ : Fin 64) = r1 := Fin.ext (by dsimp only; omega)
  have e5 : (⟨4 * (p.val / 2) + 2, by omega⟩ : Fin 64) = r2 := Fin.ext (by dsimp only; omega)
  have e6 : (⟨4 * (p.val / 2) + 3, by omega⟩ : Fin 64) = r3 := Fin.ext (by dsimp only; omega)
  simp only [e1, e2, e3, e4, e5, e6]

theorem tile_odd (q : FVec F S32x64 .bf16) (left : IVec S32x128 32) (kt : IVec S128x128 32) (S : IVec S64x128 32) (new : FVec F S32x128 .f32)
    (p : Fin 17) (a b : Fin 16) (r0 r1 r2 r3 : Fin 64) (n : BitVec 32) (hp : p.val < 16) (he : p.val % 2 = 1) (hn : n = BitVec.ofNat 32 p.val)
    (ha : a.val + 1 = p.val) (hb : b.val = p.val) (h0 : r0.val + 2 = 2 * p.val) (h1 : r1.val + 1 = 2 * p.val) (h2 : r2.val = 2 * p.val)
    (h3 : r3.val = 2 * p.val + 1) : Tile.tile q left kt S new p = Tile.scoreHi left n (Tile.pairOf q
      (Tile.keyLo (Tile.words kt a) (Tile.words kt b) (Tile.row S r0) (Tile.row S r1))
      (Tile.keyHi (Tile.words kt a) (Tile.words kt b) (Tile.row S r2) (Tile.row S r3))) := by
  unfold Tile.tile Tile.pairAt
  rw [dif_pos hp, if_neg (by omega), hn]
  have e1 : (⟨2 * (p.val / 2), by omega⟩ : Fin 16) = a := Fin.ext (by dsimp only; omega)
  have e2 : (⟨2 * (p.val / 2) + 1, by omega⟩ : Fin 16) = b := Fin.ext (by dsimp only; omega)
  have e3 : (⟨4 * (p.val / 2), by omega⟩ : Fin 64) = r0 := Fin.ext (by dsimp only; omega)
  have e4 : (⟨4 * (p.val / 2) + 1, by omega⟩ : Fin 64) = r1 := Fin.ext (by dsimp only; omega)
  have e5 : (⟨4 * (p.val / 2) + 2, by omega⟩ : Fin 64) = r2 := Fin.ext (by dsimp only; omega)
  have e6 : (⟨4 * (p.val / 2) + 3, by omega⟩ : Fin 64) = r3 := Fin.ext (by dsimp only; omega)
  simp only [e1, e2, e3, e4, e5, e6]

theorem score_0 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.v144 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 0 := by
  dsimp only [trip.sl.v144, trip.sl.v141, trip.sl.v140, trip.sl.v142, trip.sl.v139, trip.sl.v138, trip.sl.v88, trip.sl.v59, trip.sl.v58, trip.sl.v56, trip.sl.v55, trip.sl.v53, trip.sl.v42, trip.sl.v52, trip.sl.v54, trip.sl.v57, trip.sl.cst_17, trip.sl.v47, trip.sl.v46, trip.sl.v45, trip.sl.v67, trip.sl.v66, trip.sl.v64, trip.sl.v63, trip.sl.v61, trip.sl.v43, trip.sl.v51, trip.sl.v50, trip.sl.v49, trip.sl.v77, trip.sl.v76, trip.sl.v74, trip.sl.v73, trip.sl.v71, trip.sl.v69, trip.sl.v68, trip.sl.v87, trip.sl.v86, trip.sl.v84, trip.sl.v83, trip.sl.v81, trip.sl.v79, trip.sl.v137, trip.sl.v106, trip.sl.v105, trip.sl.v103, trip.sl.v102, trip.sl.v100, trip.sl.v98, trip.sl.v97, trip.sl.v92, trip.sl.v91, trip.sl.v90, trip.sl.v116, trip.sl.v115, trip.sl.v113, trip.sl.v112, trip.sl.v110, trip.sl.v108, trip.sl.v96, trip.sl.v95, trip.sl.v94, trip.sl.v126, trip.sl.v125, trip.sl.v123, trip.sl.v122, trip.sl.v120, trip.sl.v118, trip.sl.v117, trip.sl.v136, trip.sl.v135, trip.sl.v133, trip.sl.v132, trip.sl.v130, trip.sl.v128, trip.sl.cst_45, trip.sl.v143, trip.sl.cst_47]
  rw [row_0, row_1, row_2, row_3]
  rw [tile_even _ _ _ _ _ 0 0 1 0 1 2 3 0#32 (by decide) rfl rfl rfl rfl rfl rfl rfl rfl]
  rfl

theorem score_1 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.v149 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 1 := by
  dsimp only [trip.sl.v149, trip.sl.v146, trip.sl.v145, trip.sl.v147, trip.sl.v139, trip.sl.v138, trip.sl.v88, trip.sl.v59, trip.sl.v58, trip.sl.v56, trip.sl.v55, trip.sl.v53, trip.sl.v42, trip.sl.v52, trip.sl.v54, trip.sl.v57, trip.sl.cst_17, trip.sl.v47, trip.sl.v46, trip.sl.v45, trip.sl.v67, trip.sl.v66, trip.sl.v64, trip.sl.v63, trip.sl.v61, trip.sl.v43, trip.sl.v51, trip.sl.v50, trip.sl.v49, trip.sl.v77, trip.sl.v76, trip.sl.v74, trip.sl.v73, trip.sl.v71, trip.sl.v69, trip.sl.v68, trip.sl.v87, trip.sl.v86, trip.sl.v84, trip.sl.v83, trip.sl.v81, trip.sl.v79, trip.sl.v137, trip.sl.v106, trip.sl.v105, trip.sl.v103, trip.sl.v102, trip.sl.v100, trip.sl.v98, trip.sl.v97, trip.sl.v92, trip.sl.v91, trip.sl.v90, trip.sl.v116, trip.sl.v115, trip.sl.v113, trip.sl.v112, trip.sl.v110, trip.sl.v108, trip.sl.v96, trip.sl.v95, trip.sl.v94, trip.sl.v126, trip.sl.v125, trip.sl.v123, trip.sl.v122, trip.sl.v120, trip.sl.v118, trip.sl.v117, trip.sl.v136, trip.sl.v135, trip.sl.v133, trip.sl.v132, trip.sl.v130, trip.sl.v128, trip.sl.cst_45, trip.sl.v143, trip.sl.cst_47]
  rw [row_0, row_1, row_2, row_3]
  rw [tile_odd _ _ _ _ _ 1 0 1 0 1 2 3 1#32 (by decide) rfl rfl rfl rfl rfl rfl rfl rfl]
  rfl

theorem score_2 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.v252 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 2 := by
  dsimp only [trip.sl.v252, trip.sl.v249, trip.sl.v248, trip.sl.v250, trip.sl.v247, trip.sl.v246, trip.sl.v196, trip.sl.v167, trip.sl.v166, trip.sl.v164, trip.sl.v163, trip.sl.v161, trip.sl.v150, trip.sl.v52, trip.sl.v54, trip.sl.v57, trip.sl.cst_17, trip.sl.v155, trip.sl.v154, trip.sl.v153, trip.sl.v175, trip.sl.v174, trip.sl.v172, trip.sl.v171, trip.sl.v169, trip.sl.v151, trip.sl.v159, trip.sl.v158, trip.sl.v157, trip.sl.v185, trip.sl.v184, trip.sl.v182, trip.sl.v181, trip.sl.v179, trip.sl.v177, trip.sl.v68, trip.sl.v195, trip.sl.v194, trip.sl.v192, trip.sl.v191, trip.sl.v189, trip.sl.v187, trip.sl.v245, trip.sl.v214, trip.sl.v213, trip.sl.v211, trip.sl.v210, trip.sl.v208, trip.sl.v206, trip.sl.v97, trip.sl.v200, trip.sl.v199, trip.sl.v198, trip.sl.v224, trip.sl.v223, trip.sl.v221, trip.sl.v220, trip.sl.v218, trip.sl.v216, trip.sl.v204, trip.sl.v203, trip.sl.v202, trip.sl.v234, trip.sl.v233, trip.sl.v231, trip.sl.v230, trip.sl.v228, trip.sl.v226, trip.sl.v117, trip.sl.v244, trip.sl.v243, trip.sl.v241, trip.sl.v240, trip.sl.v238, trip.sl.v236, trip.sl.cst_45, trip.sl.v143, trip.sl.cst_47]
  rw [row_4, row_5, row_6, row_7]
  rw [tile_even _ _ _ _ _ 2 2 3 4 5 6 7 2#32 (by decide) rfl rfl rfl rfl rfl rfl rfl rfl]
  rfl

theorem score_3 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.v257 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 3 := by
  dsimp only [trip.sl.v257, trip.sl.v254, trip.sl.v253, trip.sl.v255, trip.sl.v247, trip.sl.v246, trip.sl.v196, trip.sl.v167, trip.sl.v166, trip.sl.v164, trip.sl.v163, trip.sl.v161, trip.sl.v150, trip.sl.v52, trip.sl.v54, trip.sl.v57, trip.sl.cst_17, trip.sl.v155, trip.sl.v154, trip.sl.v153, trip.sl.v175, trip.sl.v174, trip.sl.v172, trip.sl.v171, trip.sl.v169, trip.sl.v151, trip.sl.v159, trip.sl.v158, trip.sl.v157, trip.sl.v185, trip.sl.v184, trip.sl.v182, trip.sl.v181, trip.sl.v179, trip.sl.v177, trip.sl.v68, trip.sl.v195, trip.sl.v194, trip.sl.v192, trip.sl.v191, trip.sl.v189, trip.sl.v187, trip.sl.v245, trip.sl.v214, trip.sl.v213, trip.sl.v211, trip.sl.v210, trip.sl.v208, trip.sl.v206, trip.sl.v97, trip.sl.v200, trip.sl.v199, trip.sl.v198, trip.sl.v224, trip.sl.v223, trip.sl.v221, trip.sl.v220, trip.sl.v218, trip.sl.v216, trip.sl.v204, trip.sl.v203, trip.sl.v202, trip.sl.v234, trip.sl.v233, trip.sl.v231, trip.sl.v230, trip.sl.v228, trip.sl.v226, trip.sl.v117, trip.sl.v244, trip.sl.v243, trip.sl.v241, trip.sl.v240, trip.sl.v238, trip.sl.v236, trip.sl.cst_45, trip.sl.v143, trip.sl.cst_47]
  rw [row_4, row_5, row_6, row_7]
  rw [tile_odd _ _ _ _ _ 3 2 3 4 5 6 7 3#32 (by decide) rfl rfl rfl rfl rfl rfl rfl rfl]
  rfl

theorem score_4 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.v360 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 4 := by
  dsimp only [trip.sl.v360, trip.sl.v357, trip.sl.v356, trip.sl.v358, trip.sl.v355, trip.sl.v354, trip.sl.v304, trip.sl.v275, trip.sl.v274, trip.sl.v272, trip.sl.v271, trip.sl.v269, trip.sl.v258, trip.sl.v52, trip.sl.v54, trip.sl.v57, trip.sl.cst_17, trip.sl.v263, trip.sl.v262, trip.sl.v261, trip.sl.v283, trip.sl.v282, trip.sl.v280, trip.sl.v279, trip.sl.v277, trip.sl.v259, trip.sl.v267, trip.sl.v266, trip.sl.v265, trip.sl.v293, trip.sl.v292, trip.sl.v290, trip.sl.v289, trip.sl.v287, trip.sl.v285, trip.sl.v68, trip.sl.v303, trip.sl.v302, trip.sl.v300, trip.sl.v299, trip.sl.v297, trip.sl.v295, trip.sl.v353, trip.sl.v322, trip.sl.v321, trip.sl.v319, trip.sl.v318, trip.sl.v316, trip.sl.v314, trip.sl.v97, trip.sl.v308, trip.sl.v307, trip.sl.v306, trip.sl.v332, trip.sl.v331, trip.sl.v329, trip.sl.v328, trip.sl.v326, trip.sl.v324, trip.sl.v312, trip.sl.v311, trip.sl.v310, trip.sl.v342, trip.sl.v341, trip.sl.v339, trip.sl.v338, trip.sl.v336, trip.sl.v334, trip.sl.v117, trip.sl.v352, trip.sl.v351, trip.sl.v349, trip.sl.v348, trip.sl.v346, trip.sl.v344, trip.sl.cst_45, trip.sl.v143, trip.sl.cst_47]
  rw [row_8, row_9, row_10, row_11]
  rw [tile_even _ _ _ _ _ 4 4 5 8 9 10 11 4#32 (by decide) rfl rfl rfl rfl rfl rfl rfl rfl]
  rfl

theorem score_5 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.v365 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 5 := by
  dsimp only [trip.sl.v365, trip.sl.v362, trip.sl.v361, trip.sl.v363, trip.sl.v355, trip.sl.v354, trip.sl.v304, trip.sl.v275, trip.sl.v274, trip.sl.v272, trip.sl.v271, trip.sl.v269, trip.sl.v258, trip.sl.v52, trip.sl.v54, trip.sl.v57, trip.sl.cst_17, trip.sl.v263, trip.sl.v262, trip.sl.v261, trip.sl.v283, trip.sl.v282, trip.sl.v280, trip.sl.v279, trip.sl.v277, trip.sl.v259, trip.sl.v267, trip.sl.v266, trip.sl.v265, trip.sl.v293, trip.sl.v292, trip.sl.v290, trip.sl.v289, trip.sl.v287, trip.sl.v285, trip.sl.v68, trip.sl.v303, trip.sl.v302, trip.sl.v300, trip.sl.v299, trip.sl.v297, trip.sl.v295, trip.sl.v353, trip.sl.v322, trip.sl.v321, trip.sl.v319, trip.sl.v318, trip.sl.v316, trip.sl.v314, trip.sl.v97, trip.sl.v308, trip.sl.v307, trip.sl.v306, trip.sl.v332, trip.sl.v331, trip.sl.v329, trip.sl.v328, trip.sl.v326, trip.sl.v324, trip.sl.v312, trip.sl.v311, trip.sl.v310, trip.sl.v342, trip.sl.v341, trip.sl.v339, trip.sl.v338, trip.sl.v336, trip.sl.v334, trip.sl.v117, trip.sl.v352, trip.sl.v351, trip.sl.v349, trip.sl.v348, trip.sl.v346, trip.sl.v344, trip.sl.cst_45, trip.sl.v143, trip.sl.cst_47]
  rw [row_8, row_9, row_10, row_11]
  rw [tile_odd _ _ _ _ _ 5 4 5 8 9 10 11 5#32 (by decide) rfl rfl rfl rfl rfl rfl rfl rfl]
  rfl

theorem score_6 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.v468 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 6 := by
  dsimp only [trip.sl.v468, trip.sl.v465, trip.sl.v464, trip.sl.v466, trip.sl.v463, trip.sl.v462, trip.sl.v412, trip.sl.v383, trip.sl.v382, trip.sl.v380, trip.sl.v379, trip.sl.v377, trip.sl.v366, trip.sl.v52, trip.sl.v54, trip.sl.v57, trip.sl.cst_17, trip.sl.v371, trip.sl.v370, trip.sl.v369, trip.sl.v391, trip.sl.v390, trip.sl.v388, trip.sl.v387, trip.sl.v385, trip.sl.v367, trip.sl.v375, trip.sl.v374, trip.sl.v373, trip.sl.v401, trip.sl.v400, trip.sl.v398, trip.sl.v397, trip.sl.v395, trip.sl.v393, trip.sl.v68, trip.sl.v411, trip.sl.v410, trip.sl.v408, trip.sl.v407, trip.sl.v405, trip.sl.v403, trip.sl.v461, trip.sl.v430, trip.sl.v429, trip.sl.v427, trip.sl.v426, trip.sl.v424, trip.sl.v422, trip.sl.v97, trip.sl.v416, trip.sl.v415, trip.sl.v414, trip.sl.v440, trip.sl.v439, trip.sl.v437, trip.sl.v436, trip.sl.v434, trip.sl.v432, trip.sl.v420, trip.sl.v419, trip.sl.v418, trip.sl.v450, trip.sl.v449, trip.sl.v447, trip.sl.v446, trip.sl.v444, trip.sl.v442, trip.sl.v117, trip.sl.v460, trip.sl.v459, trip.sl.v457, trip.sl.v456, trip.sl.v454, trip.sl.v452, trip.sl.cst_45, trip.sl.v143, trip.sl.cst_47]
  rw [row_12, row_13, row_14, row_15]
  rw [tile_even _ _ _ _ _ 6 6 7 12 13 14 15 6#32 (by decide) rfl rfl rfl rfl rfl rfl rfl rfl]
  rfl

theorem score_7 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.v473 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 7 := by
  dsimp only [trip.sl.v473, trip.sl.v470, trip.sl.v469, trip.sl.v471, trip.sl.v463, trip.sl.v462, trip.sl.v412, trip.sl.v383, trip.sl.v382, trip.sl.v380, trip.sl.v379, trip.sl.v377, trip.sl.v366, trip.sl.v52, trip.sl.v54, trip.sl.v57, trip.sl.cst_17, trip.sl.v371, trip.sl.v370, trip.sl.v369, trip.sl.v391, trip.sl.v390, trip.sl.v388, trip.sl.v387, trip.sl.v385, trip.sl.v367, trip.sl.v375, trip.sl.v374, trip.sl.v373, trip.sl.v401, trip.sl.v400, trip.sl.v398, trip.sl.v397, trip.sl.v395, trip.sl.v393, trip.sl.v68, trip.sl.v411, trip.sl.v410, trip.sl.v408, trip.sl.v407, trip.sl.v405, trip.sl.v403, trip.sl.v461, trip.sl.v430, trip.sl.v429, trip.sl.v427, trip.sl.v426, trip.sl.v424, trip.sl.v422, trip.sl.v97, trip.sl.v416, trip.sl.v415, trip.sl.v414, trip.sl.v440, trip.sl.v439, trip.sl.v437, trip.sl.v436, trip.sl.v434, trip.sl.v432, trip.sl.v420, trip.sl.v419, trip.sl.v418, trip.sl.v450, trip.sl.v449, trip.sl.v447, trip.sl.v446, trip.sl.v444, trip.sl.v442, trip.sl.v117, trip.sl.v460, trip.sl.v459, trip.sl.v457, trip.sl.v456, trip.sl.v454, trip.sl.v452, trip.sl.cst_45, trip.sl.v143, trip.sl.cst_47]
  rw [row_12, row_13, row_14, row_15]
  rw [tile_odd _ _ _ _ _ 7 6 7 12 13 14 15 7#32 (by decide) rfl rfl rfl rfl rfl rfl rfl rfl]
  rfl

theorem score_8 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.v576 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 8 := by
  dsimp only [trip.sl.v576, trip.sl.v573, trip.sl.v572, trip.sl.v574, trip.sl.v571, trip.sl.v570, trip.sl.v520, trip.sl.v491, trip.sl.v490, trip.sl.v488, trip.sl.v487, trip.sl.v485, trip.sl.v474, trip.sl.v52, trip.sl.v54, trip.sl.v57, trip.sl.cst_17, trip.sl.v479, trip.sl.v478, trip.sl.v477, trip.sl.v499, trip.sl.v498, trip.sl.v496, trip.sl.v495, trip.sl.v493, trip.sl.v475, trip.sl.v483, trip.sl.v482, trip.sl.v481, trip.sl.v509, trip.sl.v508, trip.sl.v506, trip.sl.v505, trip.sl.v503, trip.sl.v501, trip.sl.v68, trip.sl.v519, trip.sl.v518, trip.sl.v516, trip.sl.v515, trip.sl.v513, trip.sl.v511, trip.sl.v569, trip.sl.v538, trip.sl.v537, trip.sl.v535, trip.sl.v534, trip.sl.v532, trip.sl.v530, trip.sl.v97, trip.sl.v524, trip.sl.v523, trip.sl.v522, trip.sl.v548, trip.sl.v547, trip.sl.v545, trip.sl.v544, trip.sl.v542, trip.sl.v540, trip.sl.v528, trip.sl.v527, trip.sl.v526, trip.sl.v558, trip.sl.v557, trip.sl.v555, trip.sl.v554, trip.sl.v552, trip.sl.v550, trip.sl.v117, trip.sl.v568, trip.sl.v567, trip.sl.v565, trip.sl.v564, trip.sl.v562, trip.sl.v560, trip.sl.cst_45, trip.sl.v143, trip.sl.cst_47]
  rw [row_16, row_17, row_18, row_19]
  rw [tile_even _ _ _ _ _ 8 8 9 16 17 18 19 8#32 (by decide) rfl rfl rfl rfl rfl rfl rfl rfl]
  rfl

theorem score_9 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.v581 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 9 := by
  dsimp only [trip.sl.v581, trip.sl.v578, trip.sl.v577, trip.sl.v579, trip.sl.v571, trip.sl.v570, trip.sl.v520, trip.sl.v491, trip.sl.v490, trip.sl.v488, trip.sl.v487, trip.sl.v485, trip.sl.v474, trip.sl.v52, trip.sl.v54, trip.sl.v57, trip.sl.cst_17, trip.sl.v479, trip.sl.v478, trip.sl.v477, trip.sl.v499, trip.sl.v498, trip.sl.v496, trip.sl.v495, trip.sl.v493, trip.sl.v475, trip.sl.v483, trip.sl.v482, trip.sl.v481, trip.sl.v509, trip.sl.v508, trip.sl.v506, trip.sl.v505, trip.sl.v503, trip.sl.v501, trip.sl.v68, trip.sl.v519, trip.sl.v518, trip.sl.v516, trip.sl.v515, trip.sl.v513, trip.sl.v511, trip.sl.v569, trip.sl.v538, trip.sl.v537, trip.sl.v535, trip.sl.v534, trip.sl.v532, trip.sl.v530, trip.sl.v97, trip.sl.v524, trip.sl.v523, trip.sl.v522, trip.sl.v548, trip.sl.v547, trip.sl.v545, trip.sl.v544, trip.sl.v542, trip.sl.v540, trip.sl.v528, trip.sl.v527, trip.sl.v526, trip.sl.v558, trip.sl.v557, trip.sl.v555, trip.sl.v554, trip.sl.v552, trip.sl.v550, trip.sl.v117, trip.sl.v568, trip.sl.v567, trip.sl.v565, trip.sl.v564, trip.sl.v562, trip.sl.v560, trip.sl.cst_45, trip.sl.v143, trip.sl.cst_47]
  rw [row_16, row_17, row_18, row_19]
  rw [tile_odd _ _ _ _ _ 9 8 9 16 17 18 19 9#32 (by decide) rfl rfl rfl rfl rfl rfl rfl rfl]
  rfl

theorem score_10 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.v684 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 10 := by
  dsimp only [trip.sl.v684, trip.sl.v681, trip.sl.v680, trip.sl.v682, trip.sl.v679, trip.sl.v678, trip.sl.v628, trip.sl.v599, trip.sl.v598, trip.sl.v596, trip.sl.v595, trip.sl.v593, trip.sl.v582, trip.sl.v52, trip.sl.v54, trip.sl.v57, trip.sl.cst_17, trip.sl.v587, trip.sl.v586, trip.sl.v585, trip.sl.v607, trip.sl.v606, trip.sl.v604, trip.sl.v603, trip.sl.v601, trip.sl.v583, trip.sl.v591, trip.sl.v590, trip.sl.v589, trip.sl.v617, trip.sl.v616, trip.sl.v614, trip.sl.v613, trip.sl.v611, trip.sl.v609, trip.sl.v68, trip.sl.v627, trip.sl.v626, trip.sl.v624, trip.sl.v623, trip.sl.v621, trip.sl.v619, trip.sl.v677, trip.sl.v646, trip.sl.v645, trip.sl.v643, trip.sl.v642, trip.sl.v640, trip.sl.v638, trip.sl.v97, trip.sl.v632, trip.sl.v631, trip.sl.v630, trip.sl.v656, trip.sl.v655, trip.sl.v653, trip.sl.v652, trip.sl.v650, trip.sl.v648, trip.sl.v636, trip.sl.v635, trip.sl.v634, trip.sl.v666, trip.sl.v665, trip.sl.v663, trip.sl.v662, trip.sl.v660, trip.sl.v658, trip.sl.v117, trip.sl.v676, trip.sl.v675, trip.sl.v673, trip.sl.v672, trip.sl.v670, trip.sl.v668, trip.sl.cst_45, trip.sl.v143, trip.sl.cst_47]
  rw [row_20, row_21, row_22, row_23]
  rw [tile_even _ _ _ _ _ 10 10 11 20 21 22 23 10#32 (by decide) rfl rfl rfl rfl rfl rfl rfl rfl]
  rfl

theorem score_11 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.v689 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 11 := by
  dsimp only [trip.sl.v689, trip.sl.v686, trip.sl.v685, trip.sl.v687, trip.sl.v679, trip.sl.v678, trip.sl.v628, trip.sl.v599, trip.sl.v598, trip.sl.v596, trip.sl.v595, trip.sl.v593, trip.sl.v582, trip.sl.v52, trip.sl.v54, trip.sl.v57, trip.sl.cst_17, trip.sl.v587, trip.sl.v586, trip.sl.v585, trip.sl.v607, trip.sl.v606, trip.sl.v604, trip.sl.v603, trip.sl.v601, trip.sl.v583, trip.sl.v591, trip.sl.v590, trip.sl.v589, trip.sl.v617, trip.sl.v616, trip.sl.v614, trip.sl.v613, trip.sl.v611, trip.sl.v609, trip.sl.v68, trip.sl.v627, trip.sl.v626, trip.sl.v624, trip.sl.v623, trip.sl.v621, trip.sl.v619, trip.sl.v677, trip.sl.v646, trip.sl.v645, trip.sl.v643, trip.sl.v642, trip.sl.v640, trip.sl.v638, trip.sl.v97, trip.sl.v632, trip.sl.v631, trip.sl.v630, trip.sl.v656, trip.sl.v655, trip.sl.v653, trip.sl.v652, trip.sl.v650, trip.sl.v648, trip.sl.v636, trip.sl.v635, trip.sl.v634, trip.sl.v666, trip.sl.v665, trip.sl.v663, trip.sl.v662, trip.sl.v660, trip.sl.v658, trip.sl.v117, trip.sl.v676, trip.sl.v675, trip.sl.v673, trip.sl.v672, trip.sl.v670, trip.sl.v668, trip.sl.cst_45, trip.sl.v143, trip.sl.cst_47]
  rw [row_20, row_21, row_22, row_23]
  rw [tile_odd _ _ _ _ _ 11 10 11 20 21 22 23 11#32 (by decide) rfl rfl rfl rfl rfl rfl rfl rfl]
  rfl

theorem score_12 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.v792 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 12 := by
  dsimp only [trip.sl.v792, trip.sl.v789, trip.sl.v788, trip.sl.v790, trip.sl.v787, trip.sl.v786, trip.sl.v736, trip.sl.v707, trip.sl.v706, trip.sl.v704, trip.sl.v703, trip.sl.v701, trip.sl.v690, trip.sl.v52, trip.sl.v54, trip.sl.v57, trip.sl.cst_17, trip.sl.v695, trip.sl.v694, trip.sl.v693, trip.sl.v715, trip.sl.v714, trip.sl.v712, trip.sl.v711, trip.sl.v709, trip.sl.v691, trip.sl.v699, trip.sl.v698, trip.sl.v697, trip.sl.v725, trip.sl.v724, trip.sl.v722, trip.sl.v721, trip.sl.v719, trip.sl.v717, trip.sl.v68, trip.sl.v735, trip.sl.v734, trip.sl.v732, trip.sl.v731, trip.sl.v729, trip.sl.v727, trip.sl.v785, trip.sl.v754, trip.sl.v753, trip.sl.v751, trip.sl.v750, trip.sl.v748, trip.sl.v746, trip.sl.v97, trip.sl.v740, trip.sl.v739, trip.sl.v738, trip.sl.v764, trip.sl.v763, trip.sl.v761, trip.sl.v760, trip.sl.v758, trip.sl.v756, trip.sl.v744, trip.sl.v743, trip.sl.v742, trip.sl.v774, trip.sl.v773, trip.sl.v771, trip.sl.v770, trip.sl.v768, trip.sl.v766, trip.sl.v117, trip.sl.v784, trip.sl.v783, trip.sl.v781, trip.sl.v780, trip.sl.v778, trip.sl.v776, trip.sl.cst_45, trip.sl.v143, trip.sl.cst_47]
  rw [row_24, row_25, row_26, row_27]
  rw [tile_even _ _ _ _ _ 12 12 13 24 25 26 27 12#32 (by decide) rfl rfl rfl rfl rfl rfl rfl rfl]
  rfl

theorem score_13 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.v797 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 13 := by
  dsimp only [trip.sl.v797, trip.sl.v794, trip.sl.v793, trip.sl.v795, trip.sl.v787, trip.sl.v786, trip.sl.v736, trip.sl.v707, trip.sl.v706, trip.sl.v704, trip.sl.v703, trip.sl.v701, trip.sl.v690, trip.sl.v52, trip.sl.v54, trip.sl.v57, trip.sl.cst_17, trip.sl.v695, trip.sl.v694, trip.sl.v693, trip.sl.v715, trip.sl.v714, trip.sl.v712, trip.sl.v711, trip.sl.v709, trip.sl.v691, trip.sl.v699, trip.sl.v698, trip.sl.v697, trip.sl.v725, trip.sl.v724, trip.sl.v722, trip.sl.v721, trip.sl.v719, trip.sl.v717, trip.sl.v68, trip.sl.v735, trip.sl.v734, trip.sl.v732, trip.sl.v731, trip.sl.v729, trip.sl.v727, trip.sl.v785, trip.sl.v754, trip.sl.v753, trip.sl.v751, trip.sl.v750, trip.sl.v748, trip.sl.v746, trip.sl.v97, trip.sl.v740, trip.sl.v739, trip.sl.v738, trip.sl.v764, trip.sl.v763, trip.sl.v761, trip.sl.v760, trip.sl.v758, trip.sl.v756, trip.sl.v744, trip.sl.v743, trip.sl.v742, trip.sl.v774, trip.sl.v773, trip.sl.v771, trip.sl.v770, trip.sl.v768, trip.sl.v766, trip.sl.v117, trip.sl.v784, trip.sl.v783, trip.sl.v781, trip.sl.v780, trip.sl.v778, trip.sl.v776, trip.sl.cst_45, trip.sl.v143, trip.sl.cst_47]
  rw [row_24, row_25, row_26, row_27]
  rw [tile_odd _ _ _ _ _ 13 12 13 24 25 26 27 13#32 (by decide) rfl rfl rfl rfl rfl rfl rfl rfl]
  rfl

theorem score_14 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.v900 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 14 := by
  dsimp only [trip.sl.v900, trip.sl.v897, trip.sl.v896, trip.sl.v898, trip.sl.v895, trip.sl.v894, trip.sl.v844, trip.sl.v815, trip.sl.v814, trip.sl.v812, trip.sl.v811, trip.sl.v809, trip.sl.v798, trip.sl.v52, trip.sl.v54, trip.sl.v57, trip.sl.cst_17, trip.sl.v803, trip.sl.v802, trip.sl.v801, trip.sl.v823, trip.sl.v822, trip.sl.v820, trip.sl.v819, trip.sl.v817, trip.sl.v799, trip.sl.v807, trip.sl.v806, trip.sl.v805, trip.sl.v833, trip.sl.v832, trip.sl.v830, trip.sl.v829, trip.sl.v827, trip.sl.v825, trip.sl.v68, trip.sl.v843, trip.sl.v842, trip.sl.v840, trip.sl.v839, trip.sl.v837, trip.sl.v835, trip.sl.v893, trip.sl.v862, trip.sl.v861, trip.sl.v859, trip.sl.v858, trip.sl.v856, trip.sl.v854, trip.sl.v97, trip.sl.v848, trip.sl.v847, trip.sl.v846, trip.sl.v872, trip.sl.v871, trip.sl.v869, trip.sl.v868, trip.sl.v866, trip.sl.v864, trip.sl.v852, trip.sl.v851, trip.sl.v850, trip.sl.v882, trip.sl.v881, trip.sl.v879, trip.sl.v878, trip.sl.v876, trip.sl.v874, trip.sl.v117, trip.sl.v892, trip.sl.v891, trip.sl.v889, trip.sl.v888, trip.sl.v886, trip.sl.v884, trip.sl.cst_45, trip.sl.v143, trip.sl.cst_47]
  rw [row_28, row_29, row_30, row_31]
  rw [tile_even _ _ _ _ _ 14 14 15 28 29 30 31 14#32 (by decide) rfl rfl rfl rfl rfl rfl rfl rfl]
  rfl

theorem score_15 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg10 : Memref sig .tc .vmem S64x128 .i32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k0_t1_loop.trips) (new : FVec F S32x128 .f32) :
    (trip.sl.v905 (F := F) i arg1 arg2 arg4 arg5 arg6 arg10 X_arg1 X_arg2 X_arg4 X_arg5 X_arg6 k) = Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) new 15 := by
  dsimp only [trip.sl.v905, trip.sl.v902, trip.sl.v901, trip.sl.v903, trip.sl.v895, trip.sl.v894, trip.sl.v844, trip.sl.v815, trip.sl.v814, trip.sl.v812, trip.sl.v811, trip.sl.v809, trip.sl.v798, trip.sl.v52, trip.sl.v54, trip.sl.v57, trip.sl.cst_17, trip.sl.v803, trip.sl.v802, trip.sl.v801, trip.sl.v823, trip.sl.v822, trip.sl.v820, trip.sl.v819, trip.sl.v817, trip.sl.v799, trip.sl.v807, trip.sl.v806, trip.sl.v805, trip.sl.v833, trip.sl.v832, trip.sl.v830, trip.sl.v829, trip.sl.v827, trip.sl.v825, trip.sl.v68, trip.sl.v843, trip.sl.v842, trip.sl.v840, trip.sl.v839, trip.sl.v837, trip.sl.v835, trip.sl.v893, trip.sl.v862, trip.sl.v861, trip.sl.v859, trip.sl.v858, trip.sl.v856, trip.sl.v854, trip.sl.v97, trip.sl.v848, trip.sl.v847, trip.sl.v846, trip.sl.v872, trip.sl.v871, trip.sl.v869, trip.sl.v868, trip.sl.v866, trip.sl.v864, trip.sl.v852, trip.sl.v851, trip.sl.v850, trip.sl.v882, trip.sl.v881, trip.sl.v879, trip.sl.v878, trip.sl.v876, trip.sl.v874, trip.sl.v117, trip.sl.v892, trip.sl.v891, trip.sl.v889, trip.sl.v888, trip.sl.v886, trip.sl.v884, trip.sl.cst_45, trip.sl.v143, trip.sl.cst_47]
  rw [row_28, row_29, row_30, row_31]
  rw [tile_odd _ _ _ _ _ 15 14 15 28 29 30 31 15#32 (by decide) rfl rfl rfl rfl rfl rfl rfl rfl]
  rfl

end Cert.KernelIdeal.Body
end
-- ==== Proof.TripSoft.lean ====
module

public import proofs.«01_k».proof.Proof.TripScore

@[expose] public section

set_option maxRecDepth 8192
set_option maxHeartbeats 1000000

noncomputable section

/-!
# The weights of a trip

The greatest score, the exponentials and the weights that the run of a trip names are those of `Tile`.
-/

namespace Cert.KernelIdeal.Body
open Cert.KernelIdeal Cert.KernelIdeal.Gen
open Idealize.ShloMosaic Idealize.ShloMosaic.TcCoe
variable {F : FTy → Type} [FloatOps F] [Named F]

theorem tile_last (q : FVec F S32x64 .bf16) (left : IVec S32x128 32) (kt : IVec S128x128 32) (S : IVec S64x128 32) (new : FVec F S32x128 .f32) :
    Tile.tile q left kt S new 16 = new := by unfold Tile.tile; exact dif_neg (by decide)

/-- The scores of the new tokens. -/
theorem new_eq (arg6 : Memref sig .tc .vmem S1x8x32x64 .bf16) (arg7 : Memref sig .tc .vmem S1x64x128 .bf16) (arg0 : BitVec 32) (v1 : IVec S32x128 32) (v2 : IVec S32x128 32) (X_arg6 : BufTy.Contents (Elt F) arg6.view.ty) (X_arg7 : BufTy.Contents (Elt F) arg7.view.ty) (k : Fin k0_t1_loop.trips) :
    (trip.sl.v923 (F := F) arg6 arg7 arg0 v1 v2 X_arg6 X_arg7 k) = (k0_pay139 v1 v2 (trip.sl.v5 arg0 k) (trip.sl.v41 (F := F) arg6 X_arg6 k) (View.readAt (Elt F) arg7.view (Rect.unit (s := S1x64x128) ![0, 0, 0] S1x64x128.size inb_S1x64x128_S1x64x128_0_0_0).toLoadRect X_arg7)) := by
  dsimp only [trip.sl.v923, trip.sl.v918, trip.sl.v914, trip.sl.v911, trip.sl.v909, trip.sl.v908, trip.sl.v907, trip.sl.v906, trip.sl.v140, trip.sl.v913, trip.sl.v464, trip.sl.v917, trip.sl.v916, trip.sl.v361, trip.sl.v921, trip.sl.v920, trip.sl.cst_320, trip.sl.v143, trip.sl.cst_47]
  rfl

/-- The greatest score. -/
theorem max_eq (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.v941 (F := F) i arg1 arg2 arg4 arg5 arg6 arg7 arg10 arg0 v1 v2 X_arg1 X_arg2 X_arg4 X_arg5 X_arg6 X_arg7 k) = Tile.rowMax (Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) (trip.sl.v923 (F := F) arg6 arg7 arg0 v1 v2 X_arg6 X_arg7 k)) := by
  unfold Tile.rowMax
  rw [← score_0 (arg10 := arg10), ← score_1 (arg10 := arg10), ← score_2 (arg10 := arg10), ← score_3 (arg10 := arg10), ← score_4 (arg10 := arg10), ← score_5 (arg10 := arg10), ← score_6 (arg10 := arg10), ← score_7 (arg10 := arg10), ← score_8 (arg10 := arg10), ← score_9 (arg10 := arg10), ← score_10 (arg10 := arg10), ← score_11 (arg10 := arg10), ← score_12 (arg10 := arg10), ← score_13 (arg10 := arg10), ← score_14 (arg10 := arg10), ← score_15 (arg10 := arg10), tile_last]
  dsimp only [trip.sl.v941, trip.sl.v940, trip.sl.v939, trip.sl.v938, trip.sl.v937, trip.sl.v936, trip.sl.v935, trip.sl.v934, trip.sl.v933, trip.sl.v932, trip.sl.v931, trip.sl.v930, trip.sl.v929, trip.sl.v928, trip.sl.v927, trip.sl.v926, trip.sl.v925, trip.sl.v924]

theorem exp_0 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.v946 (F := F) i arg1 arg2 arg4 arg5 arg6 arg7 arg10 arg0 v1 v2 cst X_arg1 X_arg2 X_arg4 X_arg5 X_arg6 X_arg7 k) = Tile.expTile cst (trip.sl.v941 (F := F) i arg1 arg2 arg4 arg5 arg6 arg7 arg10 arg0 v1 v2 X_arg1 X_arg2 X_arg4 X_arg5 X_arg6 X_arg7 k) (trip.sl.v144 (F := F) i arg1 arg2 arg4 arg5 arg6 arg10 X_arg1 X_arg2 X_arg4 X_arg5 X_arg6 k) := by
  dsimp only [trip.sl.v946, trip.sl.v945, trip.sl.v943, trip.sl.v944, trip.sl.v942]
  rfl

theorem exp_1 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.v951 (F := F) i arg1 arg2 arg4 arg5 arg6 arg7 arg10 arg0 v1 v2 cst X_arg1 X_arg2 X_arg4 X_arg5 X_arg6 X_arg7 k) = Tile.expTile cst (trip.sl.v941 (F := F) i arg1 arg2 arg4 arg5 arg6 arg7 arg10 arg0 v1 v2 X_arg1 X_arg2 X_arg4 X_arg5 X_arg6 X_arg7 k) (trip.sl.v149 (F := F) i arg1 arg2 arg4 arg5 arg6 arg10 X_arg1 X_arg2 X_arg4 X_arg5 X_arg6 k) := by
  dsimp only [trip.sl.v951, trip.sl.v950, trip.sl.v948, trip.sl.v944, trip.sl.v942]
  rfl

theorem exp_2 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.v956 (F := F) i arg1 arg2 arg4 arg5 arg6 arg7 arg10 arg0 v1 v2 cst X_arg1 X_arg2 X_arg4 X_arg5 X_arg6 X_arg7 k) = Tile.expTile cst (trip.sl.v941 (F := F) i arg1 arg2 arg4 arg5 arg6 arg7 arg10 arg0 v1 v2 X_arg1 X_arg2 X_arg4 X_arg5 X_arg6 X_arg7 k) (trip.sl.v252 (F := F) i arg1 arg2 arg4 arg5 arg6 arg10 X_arg1 X_arg2 X_arg4 X_arg5 X_arg6 k) := by
  dsimp only [trip.sl.v956, trip.sl.v955, trip.sl.v953, trip.sl.v944, trip.sl.v942]
  rfl

theorem exp_3 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.v961 (F := F) i arg1 arg2 arg4 arg5 arg6 arg7 arg10 arg0 v1 v2 cst X_arg1 X_arg2 X_arg4 X_arg5 X_arg6 X_arg7 k) = Tile.expTile cst (trip.sl.v941 (F := F) i arg1 arg2 arg4 arg5 arg6 arg7 arg10 arg0 v1 v2 X_arg1 X_arg2 X_arg4 X_arg5 X_arg6 X_arg7 k) (trip.sl.v257 (F := F) i arg1 arg2 arg4 arg5 arg6 arg10 X_arg1 X_arg2 X_arg4 X_arg5 X_arg6 k) := by
  dsimp only [trip.sl.v961, trip.sl.v960, trip.sl.v958, trip.sl.v944, trip.sl.v942]
  rfl

theorem exp_4 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.v966 (F := F) i arg1 arg2 arg4 arg5 arg6 arg7 arg10 arg0 v1 v2 cst X_arg1 X_arg2 X_arg4 X_arg5 X_arg6 X_arg7 k) = Tile.expTile cst (trip.sl.v941 (F := F) i arg1 arg2 arg4 arg5 arg6 arg7 arg10 arg0 v1 v2 X_arg1 X_arg2 X_arg4 X_arg5 X_arg6 X_arg7 k) (trip.sl.v360 (F := F) i arg1 arg2 arg4 arg5 arg6 arg10 X_arg1 X_arg2 X_arg4 X_arg5 X_arg6 k) := by
  dsimp only [trip.sl.v966, trip.sl.v965, trip.sl.v963, trip.sl.v944, trip.sl.v942]
  rfl

theorem exp_5 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.v971 (F := F) i arg1 arg2 arg4 arg5 arg6 arg7 arg10 arg0 v1 v2 cst X_arg1 X_arg2 X_arg4 X_arg5 X_arg6 X_arg7 k) = Tile.expTile cst (trip.sl.v941 (F := F) i arg1 arg2 arg4 arg5 arg6 arg7 arg10 arg0 v1 v2 X_arg1 X_arg2 X_arg4 X_arg5 X_arg6 X_arg7 k) (trip.sl.v365 (F := F) i arg1 arg2 arg4 arg5 arg6 arg10 X_arg1 X_arg2 X_arg4 X_arg5 X_arg6 k) := by
  dsimp only [trip.sl.v971, trip.sl.v970, trip.sl.v968, trip.sl.v944, trip.sl.v942]
  rfl

theorem exp_6 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.v976 (F := F) i arg1 arg2 arg4 arg5 arg6 arg7 arg10 arg0 v1 v2 cst X_arg1 X_arg2 X_arg4 X_arg5 X_arg6 X_arg7 k) = Tile.expTile cst (trip.sl.v941 (F := F) i arg1 arg2 arg4 arg5 arg6 arg7 arg10 arg0 v1 v2 X_arg1 X_arg2 X_arg4 X_arg5 X_arg6 X_arg7 k) (trip.sl.v468 (F := F) i arg1 arg2 arg4 arg5 arg6 arg10 X_arg1 X_arg2 X_arg4 X_arg5 X_arg6 k) := by
  dsimp only [trip.sl.v976, trip.sl.v975, trip.sl.v973, trip.sl.v944, trip.sl.v942]
  rfl

theorem exp_7 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.v981 (F := F) i arg1 arg2 arg4 arg5 arg6 arg7 arg10 arg0 v1 v2 cst X_arg1 X_arg2 X_arg4 X_arg5 X_arg6 X_arg7 k) = Tile.expTile cst (trip.sl.v941 (F := F) i arg1 arg2 arg4 arg5 arg6 arg7 arg10 arg0 v1 v2 X_arg1 X_arg2 X_arg4 X_arg5 X_arg6 X_arg7 k) (trip.sl.v473 (F := F) i arg1 arg2 arg4 arg5 arg6 arg10 X_arg1 X_arg2 X_arg4 X_arg5 X_arg6 k) := by
  dsimp only [trip.sl.v981, trip.sl.v980, trip.sl.v978, trip.sl.v944, trip.sl.v942]
  rfl

theorem exp_8 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.v986 (F := F) i arg1 arg2 arg4 arg5 arg6 arg7 arg10 arg0 v1 v2 cst X_arg1 X_arg2 X_arg4 X_arg5 X_arg6 X_arg7 k) = Tile.expTile cst (trip.sl.v941 (F := F) i arg1 arg2 arg4 arg5 arg6 arg7 arg10 arg0 v1 v2 X_arg1 X_arg2 X_arg4 X_arg5 X_arg6 X_arg7 k) (trip.sl.v576 (F := F) i arg1 arg2 arg4 arg5 arg6 arg10 X_arg1 X_arg2 X_arg4 X_arg5 X_arg6 k) := by
  dsimp only [trip.sl.v986, trip.sl.v985, trip.sl.v983, trip.sl.v944, trip.sl.v942]
  rfl

theorem exp_9 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.v991 (F := F) i arg1 arg2 arg4 arg5 arg6 arg7 arg10 arg0 v1 v2 cst X_arg1 X_arg2 X_arg4 X_arg5 X_arg6 X_arg7 k) = Tile.expTile cst (trip.sl.v941 (F := F) i arg1 arg2 arg4 arg5 arg6 arg7 arg10 arg0 v1 v2 X_arg1 X_arg2 X_arg4 X_arg5 X_arg6 X_arg7 k) (trip.sl.v581 (F := F) i arg1 arg2 arg4 arg5 arg6 arg10 X_arg1 X_arg2 X_arg4 X_arg5 X_arg6 k) := by
  dsimp only [trip.sl.v991, trip.sl.v990, trip.sl.v988, trip.sl.v944, trip.sl.v942]
  rfl

theorem exp_10 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.v996 (F := F) i arg1 arg2 arg4 arg5 arg6 arg7 arg10 arg0 v1 v2 cst X_arg1 X_arg2 X_arg4 X_arg5 X_arg6 X_arg7 k) = Tile.expTile cst (trip.sl.v941 (F := F) i arg1 arg2 arg4 arg5 arg6 arg7 arg10 arg0 v1 v2 X_arg1 X_arg2 X_arg4 X_arg5 X_arg6 X_arg7 k) (trip.sl.v684 (F := F) i arg1 arg2 arg4 arg5 arg6 arg10 X_arg1 X_arg2 X_arg4 X_arg5 X_arg6 k) := by
  dsimp only [trip.sl.v996, trip.sl.v995, trip.sl.v993, trip.sl.v944, trip.sl.v942]
  rfl

theorem exp_11 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.v1001 (F := F) i arg1 arg2 arg4 arg5 arg6 arg7 arg10 arg0 v1 v2 cst X_arg1 X_arg2 X_arg4 X_arg5 X_arg6 X_arg7 k) = Tile.expTile cst (trip.sl.v941 (F := F) i arg1 arg2 arg4 arg5 arg6 arg7 arg10 arg0 v1 v2 X_arg1 X_arg2 X_arg4 X_arg5 X_arg6 X_arg7 k) (trip.sl.v689 (F := F) i arg1 arg2 arg4 arg5 arg6 arg10 X_arg1 X_arg2 X_arg4 X_arg5 X_arg6 k) := by
  dsimp only [trip.sl.v1001, trip.sl.v1000, trip.sl.v998, trip.sl.v944, trip.sl.v942]
  rfl

theorem exp_12 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.v1006 (F := F) i arg1 arg2 arg4 arg5 arg6 arg7 arg10 arg0 v1 v2 cst X_arg1 X_arg2 X_arg4 X_arg5 X_arg6 X_arg7 k) = Tile.expTile cst (trip.sl.v941 (F := F) i arg1 arg2 arg4 arg5 arg6 arg7 arg10 arg0 v1 v2 X_arg1 X_arg2 X_arg4 X_arg5 X_arg6 X_arg7 k) (trip.sl.v792 (F := F) i arg1 arg2 arg4 arg5 arg6 arg10 X_arg1 X_arg2 X_arg4 X_arg5 X_arg6 k) := by
  dsimp only [trip.sl.v1006, trip.sl.v1005, trip.sl.v1003, trip.sl.v944, trip.sl.v942]
  rfl

theorem exp_13 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.v1011 (F := F) i arg1 arg2 arg4 arg5 arg6 arg7 arg10 arg0 v1 v2 cst X_arg1 X_arg2 X_arg4 X_arg5 X_arg6 X_arg7 k) = Tile.expTile cst (trip.sl.v941 (F := F) i arg1 arg2 arg4 arg5 arg6 arg7 arg10 arg0 v1 v2 X_arg1 X_arg2 X_arg4 X_arg5 X_arg6 X_arg7 k) (trip.sl.v797 (F := F) i arg1 arg2 arg4 arg5 arg6 arg10 X_arg1 X_arg2 X_arg4 X_arg5 X_arg6 k) := by
  dsimp only [trip.sl.v1011, trip.sl.v1010, trip.sl.v1008, trip.sl.v944, trip.sl.v942]
  rfl

theorem exp_14 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.v1016 (F := F) i arg1 arg2 arg4 arg5 arg6 arg7 arg10 arg0 v1 v2 cst X_arg1 X_arg2 X_arg4 X_arg5 X_arg6 X_arg7 k) = Tile.expTile cst (trip.sl.v941 (F := F) i arg1 arg2 arg4 arg5 arg6 arg7 arg10 arg0 v1 v2 X_arg1 X_arg2 X_arg4 X_arg5 X_arg6 X_arg7 k) (trip.sl.v900 (F := F) i arg1 arg2 arg4 arg5 arg6 arg10 X_arg1 X_arg2 X_arg4 X_arg5 X_arg6 k) := by
  dsimp only [trip.sl.v1016, trip.sl.v1015, trip.sl.v1013, trip.sl.v944, trip.sl.v942]
  rfl

theorem exp_15 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.v1021 (F := F) i arg1 arg2 arg4 arg5 arg6 arg7 arg10 arg0 v1 v2 cst X_arg1 X_arg2 X_arg4 X_arg5 X_arg6 X_arg7 k) = Tile.expTile cst (trip.sl.v941 (F := F) i arg1 arg2 arg4 arg5 arg6 arg7 arg10 arg0 v1 v2 X_arg1 X_arg2 X_arg4 X_arg5 X_arg6 X_arg7 k) (trip.sl.v905 (F := F) i arg1 arg2 arg4 arg5 arg6 arg10 X_arg1 X_arg2 X_arg4 X_arg5 X_arg6 k) := by
  dsimp only [trip.sl.v1021, trip.sl.v1020, trip.sl.v1018, trip.sl.v944, trip.sl.v942]
  rfl

theorem exp_16 (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.v1026 (F := F) i arg1 arg2 arg4 arg5 arg6 arg7 arg10 arg0 v1 v2 cst X_arg1 X_arg2 X_arg4 X_arg5 X_arg6 X_arg7 k) = Tile.expTile cst (trip.sl.v941 (F := F) i arg1 arg2 arg4 arg5 arg6 arg7 arg10 arg0 v1 v2 X_arg1 X_arg2 X_arg4 X_arg5 X_arg6 X_arg7 k) (trip.sl.v923 (F := F) arg6 arg7 arg0 v1 v2 X_arg6 X_arg7 k) := by
  dsimp only [trip.sl.v1026, trip.sl.v1025, trip.sl.v1023, trip.sl.v944, trip.sl.v942]
  rfl

/-- The weights of all token positions. -/
theorem weights_eq (i : grid0.Coords) (arg1 : Memref sig .tc .smem S120 .i32) (arg2 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg10 : Memref sig .tc .vmem S64x128 .i32) (arg0 : BitVec 32) (v1 : IVec S32x128 32) (v2 : IVec S32x128 32) (cst : F .f32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip.sl.v1098 (F := F) i arg1 arg2 arg4 arg5 arg6 arg7 arg10 arg0 v1 v2 cst X_arg1 X_arg2 X_arg4 X_arg5 X_arg6 X_arg7 k) = Tile.weights cst (Tile.tile (trip.sl.v41 (F := F) arg6 X_arg6 k) (trip.sl.v20 (F := F) i arg1 arg5 X_arg1 X_arg5 k) (trip.sl.v24 (F := F) arg2 X_arg2 k) (trip.sl.v38 (F := F) arg4 arg5 X_arg4 X_arg5 k) (trip.sl.v923 (F := F) arg6 arg7 arg0 v1 v2 X_arg6 X_arg7 k)) := by
  unfold Tile.weights Tile.joinP Tile.rowInv
  rw [← max_eq]
  beta_reduce
  rw [← score_0 (arg10 := arg10), ← score_1 (arg10 := arg10), ← score_2 (arg10 := arg10), ← score_3 (arg10 := arg10), ← score_4 (arg10 := arg10), ← score_5 (arg10 := arg10), ← score_6 (arg10 := arg10), ← score_7 (arg10 := arg10), ← score_8 (arg10 := arg10), ← score_9 (arg10 := arg10), ← score_10 (arg10 := arg10), ← score_11 (arg10 := arg10), ← score_12 (arg10 := arg10), ← score_13 (arg10 := arg10), ← score_14 (arg10 := arg10), ← score_15 (arg10 := arg10), tile_last]
  rw [← exp_0 i arg1 arg2 arg4 arg5 arg6 arg7 arg10 arg0 v1 v2 cst X_arg1 X_arg2 X_arg4 X_arg5 X_arg6 X_arg7 k, ← exp_1 i arg1 arg2 arg4 arg5 arg6 arg7 arg10 arg0 v1 v2 cst X_arg1 X_arg2 X_arg4 X_arg5 X_arg6 X_arg7 k, ← exp_2 i arg1 arg2 arg4 arg5 arg6 arg7 arg10 arg0 v1 v2 cst X_arg1 X_arg2 X_arg4 X_arg5 X_arg6 X_arg7 k, ← exp_3 i arg1 arg2 arg4 arg5 arg6 arg7 arg10 arg0 v1 v2 cst X_arg1 X_arg2 X_arg4 X_arg5 X_arg6 X_arg7 k, ← exp_4 i arg1 arg2 arg4 arg5 arg6 arg7 arg10 arg0 v1 v2 cst X_arg1 X_arg2 X_arg4 X_arg5 X_arg6 X_arg7 k, ← exp_5 i arg1 arg2 arg4 arg5 arg6 arg7 arg10 arg0 v1 v2 cst X_arg1 X_arg2 X_arg4 X_arg5 X_arg6 X_arg7 k, ← exp_6 i arg1 arg2 arg4 arg5 arg6 arg7 arg10 arg0 v1 v2 cst X_arg1 X_arg2 X_arg4 X_arg5 X_arg6 X_arg7 k, ← exp_7 i arg1 arg2 arg4 arg5 arg6 arg7 arg10 arg0 v1 v2 cst X_arg1 X_arg2 X_arg4 X_arg5 X_arg6 X_arg7 k, ← exp_8 i arg1 arg2 arg4 arg5 arg6 arg7 arg10 arg0 v1 v2 cst X_arg1 X_arg2 X_arg4 X_arg5 X_arg6 X_arg7 k, ← exp_9 i arg1 arg2 arg4 arg5 arg6 arg7 arg10 arg0 v1 v2 cst X_arg1 X_arg2 X_arg4 X_arg5 X_arg6 X_arg7 k, ← exp_10 i arg1 arg2 arg4 arg5 arg6 arg7 arg10 arg0 v1 v2 cst X_arg1 X_arg2 X_arg4 X_arg5 X_arg6 X_arg7 k, ← exp_11 i arg1 arg2 arg4 arg5 arg6 arg7 arg10 arg0 v1 v2 cst X_arg1 X_arg2 X_arg4 X_arg5 X_arg6 X_arg7 k, ← exp_12 i arg1 arg2 arg4 arg5 arg6 arg7 arg10 arg0 v1 v2 cst X_arg1 X_arg2 X_arg4 X_arg5 X_arg6 X_arg7 k, ← exp_13 i arg1 arg2 arg4 arg5 arg6 arg7 arg10 arg0 v1 v2 cst X_arg1 X_arg2 X_arg4 X_arg5 X_arg6 X_arg7 k, ← exp_14 i arg1 arg2 arg4 arg5 arg6 arg7 arg10 arg0 v1 v2 cst X_arg1 X_arg2 X_arg4 X_arg5 X_arg6 X_arg7 k, ← exp_15 i arg1 arg2 arg4 arg5 arg6 arg7 arg10 arg0 v1 v2 cst X_arg1 X_arg2 X_arg4 X_arg5 X_arg6 X_arg7 k, ← exp_16 i arg1 arg2 arg4 arg5 arg6 arg7 arg10 arg0 v1 v2 cst X_arg1 X_arg2 X_arg4 X_arg5 X_arg6 X_arg7 k]
  dsimp only [trip.sl.v1098, trip.sl.v1049, trip.sl.v1048, trip.sl.v1047, trip.sl.v1046, trip.sl.v1045, trip.sl.cst_324, trip.sl.v1044, trip.sl.v1043, trip.sl.v1042, trip.sl.v1041, trip.sl.v1040, trip.sl.v1039, trip.sl.v1038, trip.sl.v1037, trip.sl.v1036, trip.sl.v1035, trip.sl.v1034, trip.sl.v1033, trip.sl.v1032, trip.sl.v1031, trip.sl.v1030, trip.sl.v1029, trip.sl.v1028, trip.sl.v1027, trip.sl.v1052, trip.sl.v1051, trip.sl.v1055, trip.sl.v1054, trip.sl.v1058, trip.sl.v1057, trip.sl.v1061, trip.sl.v1060, trip.sl.v1064, trip.sl.v1063, trip.sl.v1067, trip.sl.v1066, trip.sl.v1070, trip.sl.v1069, trip.sl.v1073, trip.sl.v1072, trip.sl.v1076, trip.sl.v1075, trip.sl.v1079, trip.sl.v1078, trip.sl.v1082, trip.sl.v1081, trip.sl.v1085, trip.sl.v1084, trip.sl.v1088, trip.sl.v1087, trip.sl.v1091, trip.sl.v1090, trip.sl.v1094, trip.sl.v1093, trip.sl.v1097, trip.sl.v1096]
  rfl

end Cert.KernelIdeal.Body
end
-- ==== Proof.TripValue.lean ====
module

public import proofs.«01_k».proof.Proof.TripRow

@[expose] public section

set_option maxRecDepth 8192
set_option maxHeartbeats 1000000

noncomputable section

/-!
# The values of a trip

Each value tile that the run of a trip names is the function `Tile.vals` at that token position.
-/

namespace Cert.KernelIdeal.Body
open Cert.KernelIdeal Cert.KernelIdeal.Gen
open Idealize.ShloMosaic Idealize.ShloMosaic.TcCoe
variable {F : FTy → Type} [FloatOps F] [Named F]

theorem value_0 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.v1148 (F := F) arg3 arg4 arg5 arg10 v0 X_arg3 X_arg4 X_arg5 k) = Tile.vals v0 (trip.sl.v27 (F := F) arg3 X_arg3 k) (trip.sl.v38 (F := F) arg4 arg5 X_arg4 X_arg5 k) vn 0 := by
  dsimp only [trip.sl.v1148, trip.sl.v1117, trip.sl.v1116, trip.sl.v1114, trip.sl.v1113, trip.sl.v1111, trip.sl.v1099, trip.sl.v52, trip.sl.v54, trip.sl.v57, trip.sl.cst_17, trip.sl.v1109, trip.sl.v1108, trip.sl.v1101, trip.sl.v97, trip.sl.v1104, trip.sl.v1103, trip.sl.v1107, trip.sl.v1106, trip.sl.v1127, trip.sl.v1126, trip.sl.v1124, trip.sl.v1123, trip.sl.v1121, trip.sl.v1119, trip.sl.v1137, trip.sl.v1136, trip.sl.v1134, trip.sl.v1133, trip.sl.v1131, trip.sl.v1129, trip.sl.v68, trip.sl.v1147, trip.sl.v1146, trip.sl.v1144, trip.sl.v1143, trip.sl.v1141, trip.sl.v1139, trip.sl.v117]
  rw [row_32, row_33]
  rfl

theorem value_1 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.v1198 (F := F) arg3 arg4 arg5 arg10 v0 X_arg3 X_arg4 X_arg5 k) = Tile.vals v0 (trip.sl.v27 (F := F) arg3 X_arg3 k) (trip.sl.v38 (F := F) arg4 arg5 X_arg4 X_arg5 k) vn 1 := by
  dsimp only [trip.sl.v1198, trip.sl.v1167, trip.sl.v1166, trip.sl.v1164, trip.sl.v1163, trip.sl.v1161, trip.sl.v1149, trip.sl.v52, trip.sl.v54, trip.sl.v57, trip.sl.cst_17, trip.sl.v1159, trip.sl.v1158, trip.sl.v1101, trip.sl.v97, trip.sl.v1154, trip.sl.v1153, trip.sl.v1157, trip.sl.v1156, trip.sl.v1177, trip.sl.v1176, trip.sl.v1174, trip.sl.v1173, trip.sl.v1171, trip.sl.v1169, trip.sl.v1187, trip.sl.v1186, trip.sl.v1184, trip.sl.v1183, trip.sl.v1181, trip.sl.v1179, trip.sl.v68, trip.sl.v1197, trip.sl.v1196, trip.sl.v1194, trip.sl.v1193, trip.sl.v1191, trip.sl.v1189, trip.sl.v117]
  rw [row_34, row_35]
  rfl

theorem value_2 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.v1248 (F := F) arg3 arg4 arg5 arg10 v0 X_arg3 X_arg4 X_arg5 k) = Tile.vals v0 (trip.sl.v27 (F := F) arg3 X_arg3 k) (trip.sl.v38 (F := F) arg4 arg5 X_arg4 X_arg5 k) vn 2 := by
  dsimp only [trip.sl.v1248, trip.sl.v1217, trip.sl.v1216, trip.sl.v1214, trip.sl.v1213, trip.sl.v1211, trip.sl.v1199, trip.sl.v52, trip.sl.v54, trip.sl.v57, trip.sl.cst_17, trip.sl.v1209, trip.sl.v1208, trip.sl.v1101, trip.sl.v97, trip.sl.v1204, trip.sl.v1203, trip.sl.v1207, trip.sl.v1206, trip.sl.v1227, trip.sl.v1226, trip.sl.v1224, trip.sl.v1223, trip.sl.v1221, trip.sl.v1219, trip.sl.v1237, trip.sl.v1236, trip.sl.v1234, trip.sl.v1233, trip.sl.v1231, trip.sl.v1229, trip.sl.v68, trip.sl.v1247, trip.sl.v1246, trip.sl.v1244, trip.sl.v1243, trip.sl.v1241, trip.sl.v1239, trip.sl.v117]
  rw [row_36, row_37]
  rfl

theorem value_3 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.v1298 (F := F) arg3 arg4 arg5 arg10 v0 X_arg3 X_arg4 X_arg5 k) = Tile.vals v0 (trip.sl.v27 (F := F) arg3 X_arg3 k) (trip.sl.v38 (F := F) arg4 arg5 X_arg4 X_arg5 k) vn 3 := by
  dsimp only [trip.sl.v1298, trip.sl.v1267, trip.sl.v1266, trip.sl.v1264, trip.sl.v1263, trip.sl.v1261, trip.sl.v1249, trip.sl.v52, trip.sl.v54, trip.sl.v57, trip.sl.cst_17, trip.sl.v1259, trip.sl.v1258, trip.sl.v1101, trip.sl.v97, trip.sl.v1254, trip.sl.v1253, trip.sl.v1257, trip.sl.v1256, trip.sl.v1277, trip.sl.v1276, trip.sl.v1274, trip.sl.v1273, trip.sl.v1271, trip.sl.v1269, trip.sl.v1287, trip.sl.v1286, trip.sl.v1284, trip.sl.v1283, trip.sl.v1281, trip.sl.v1279, trip.sl.v68, trip.sl.v1297, trip.sl.v1296, trip.sl.v1294, trip.sl.v1293, trip.sl.v1291, trip.sl.v1289, trip.sl.v117]
  rw [row_38, row_39]
  rfl

theorem value_4 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.v1348 (F := F) arg3 arg4 arg5 arg10 v0 X_arg3 X_arg4 X_arg5 k) = Tile.vals v0 (trip.sl.v27 (F := F) arg3 X_arg3 k) (trip.sl.v38 (F := F) arg4 arg5 X_arg4 X_arg5 k) vn 4 := by
  dsimp only [trip.sl.v1348, trip.sl.v1317, trip.sl.v1316, trip.sl.v1314, trip.sl.v1313, trip.sl.v1311, trip.sl.v1299, trip.sl.v52, trip.sl.v54, trip.sl.v57, trip.sl.cst_17, trip.sl.v1309, trip.sl.v1308, trip.sl.v1101, trip.sl.v97, trip.sl.v1304, trip.sl.v1303, trip.sl.v1307, trip.sl.v1306, trip.sl.v1327, trip.sl.v1326, trip.sl.v1324, trip.sl.v1323, trip.sl.v1321, trip.sl.v1319, trip.sl.v1337, trip.sl.v1336, trip.sl.v1334, trip.sl.v1333, trip.sl.v1331, trip.sl.v1329, trip.sl.v68, trip.sl.v1347, trip.sl.v1346, trip.sl.v1344, trip.sl.v1343, trip.sl.v1341, trip.sl.v1339, trip.sl.v117]
  rw [row_40, row_41]
  rfl

theorem value_5 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.v1398 (F := F) arg3 arg4 arg5 arg10 v0 X_arg3 X_arg4 X_arg5 k) = Tile.vals v0 (trip.sl.v27 (F := F) arg3 X_arg3 k) (trip.sl.v38 (F := F) arg4 arg5 X_arg4 X_arg5 k) vn 5 := by
  dsimp only [trip.sl.v1398, trip.sl.v1367, trip.sl.v1366, trip.sl.v1364, trip.sl.v1363, trip.sl.v1361, trip.sl.v1349, trip.sl.v52, trip.sl.v54, trip.sl.v57, trip.sl.cst_17, trip.sl.v1359, trip.sl.v1358, trip.sl.v1101, trip.sl.v97, trip.sl.v1354, trip.sl.v1353, trip.sl.v1357, trip.sl.v1356, trip.sl.v1377, trip.sl.v1376, trip.sl.v1374, trip.sl.v1373, trip.sl.v1371, trip.sl.v1369, trip.sl.v1387, trip.sl.v1386, trip.sl.v1384, trip.sl.v1383, trip.sl.v1381, trip.sl.v1379, trip.sl.v68, trip.sl.v1397, trip.sl.v1396, trip.sl.v1394, trip.sl.v1393, trip.sl.v1391, trip.sl.v1389, trip.sl.v117]
  rw [row_42, row_43]
  rfl

theorem value_6 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.v1448 (F := F) arg3 arg4 arg5 arg10 v0 X_arg3 X_arg4 X_arg5 k) = Tile.vals v0 (trip.sl.v27 (F := F) arg3 X_arg3 k) (trip.sl.v38 (F := F) arg4 arg5 X_arg4 X_arg5 k) vn 6 := by
  dsimp only [trip.sl.v1448, trip.sl.v1417, trip.sl.v1416, trip.sl.v1414, trip.sl.v1413, trip.sl.v1411, trip.sl.v1399, trip.sl.v52, trip.sl.v54, trip.sl.v57, trip.sl.cst_17, trip.sl.v1409, trip.sl.v1408, trip.sl.v1101, trip.sl.v97, trip.sl.v1404, trip.sl.v1403, trip.sl.v1407, trip.sl.v1406, trip.sl.v1427, trip.sl.v1426, trip.sl.v1424, trip.sl.v1423, trip.sl.v1421, trip.sl.v1419, trip.sl.v1437, trip.sl.v1436, trip.sl.v1434, trip.sl.v1433, trip.sl.v1431, trip.sl.v1429, trip.sl.v68, trip.sl.v1447, trip.sl.v1446, trip.sl.v1444, trip.sl.v1443, trip.sl.v1441, trip.sl.v1439, trip.sl.v117]
  rw [row_44, row_45]
  rfl

theorem value_7 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.v1498 (F := F) arg3 arg4 arg5 arg10 v0 X_arg3 X_arg4 X_arg5 k) = Tile.vals v0 (trip.sl.v27 (F := F) arg3 X_arg3 k) (trip.sl.v38 (F := F) arg4 arg5 X_arg4 X_arg5 k) vn 7 := by
  dsimp only [trip.sl.v1498, trip.sl.v1467, trip.sl.v1466, trip.sl.v1464, trip.sl.v1463, trip.sl.v1461, trip.sl.v1449, trip.sl.v52, trip.sl.v54, trip.sl.v57, trip.sl.cst_17, trip.sl.v1459, trip.sl.v1458, trip.sl.v1101, trip.sl.v97, trip.sl.v1454, trip.sl.v1453, trip.sl.v1457, trip.sl.v1456, trip.sl.v1477, trip.sl.v1476, trip.sl.v1474, trip.sl.v1473, trip.sl.v1471, trip.sl.v1469, trip.sl.v1487, trip.sl.v1486, trip.sl.v1484, trip.sl.v1483, trip.sl.v1481, trip.sl.v1479, trip.sl.v68, trip.sl.v1497, trip.sl.v1496, trip.sl.v1494, trip.sl.v1493, trip.sl.v1491, trip.sl.v1489, trip.sl.v117]
  rw [row_46, row_47]
  rfl

theorem value_8 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.v1548 (F := F) arg3 arg4 arg5 arg10 v0 X_arg3 X_arg4 X_arg5 k) = Tile.vals v0 (trip.sl.v27 (F := F) arg3 X_arg3 k) (trip.sl.v38 (F := F) arg4 arg5 X_arg4 X_arg5 k) vn 8 := by
  dsimp only [trip.sl.v1548, trip.sl.v1517, trip.sl.v1516, trip.sl.v1514, trip.sl.v1513, trip.sl.v1511, trip.sl.v1499, trip.sl.v52, trip.sl.v54, trip.sl.v57, trip.sl.cst_17, trip.sl.v1509, trip.sl.v1508, trip.sl.v1101, trip.sl.v97, trip.sl.v1504, trip.sl.v1503, trip.sl.v1507, trip.sl.v1506, trip.sl.v1527, trip.sl.v1526, trip.sl.v1524, trip.sl.v1523, trip.sl.v1521, trip.sl.v1519, trip.sl.v1537, trip.sl.v1536, trip.sl.v1534, trip.sl.v1533, trip.sl.v1531, trip.sl.v1529, trip.sl.v68, trip.sl.v1547, trip.sl.v1546, trip.sl.v1544, trip.sl.v1543, trip.sl.v1541, trip.sl.v1539, trip.sl.v117]
  rw [row_48, row_49]
  rfl

theorem value_9 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.v1598 (F := F) arg3 arg4 arg5 arg10 v0 X_arg3 X_arg4 X_arg5 k) = Tile.vals v0 (trip.sl.v27 (F := F) arg3 X_arg3 k) (trip.sl.v38 (F := F) arg4 arg5 X_arg4 X_arg5 k) vn 9 := by
  dsimp only [trip.sl.v1598, trip.sl.v1567, trip.sl.v1566, trip.sl.v1564, trip.sl.v1563, trip.sl.v1561, trip.sl.v1549, trip.sl.v52, trip.sl.v54, trip.sl.v57, trip.sl.cst_17, trip.sl.v1559, trip.sl.v1558, trip.sl.v1101, trip.sl.v97, trip.sl.v1554, trip.sl.v1553, trip.sl.v1557, trip.sl.v1556, trip.sl.v1577, trip.sl.v1576, trip.sl.v1574, trip.sl.v1573, trip.sl.v1571, trip.sl.v1569, trip.sl.v1587, trip.sl.v1586, trip.sl.v1584, trip.sl.v1583, trip.sl.v1581, trip.sl.v1579, trip.sl.v68, trip.sl.v1597, trip.sl.v1596, trip.sl.v1594, trip.sl.v1593, trip.sl.v1591, trip.sl.v1589, trip.sl.v117]
  rw [row_50, row_51]
  rfl

theorem value_10 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.v1648 (F := F) arg3 arg4 arg5 arg10 v0 X_arg3 X_arg4 X_arg5 k) = Tile.vals v0 (trip.sl.v27 (F := F) arg3 X_arg3 k) (trip.sl.v38 (F := F) arg4 arg5 X_arg4 X_arg5 k) vn 10 := by
  dsimp only [trip.sl.v1648, trip.sl.v1617, trip.sl.v1616, trip.sl.v1614, trip.sl.v1613, trip.sl.v1611, trip.sl.v1599, trip.sl.v52, trip.sl.v54, trip.sl.v57, trip.sl.cst_17, trip.sl.v1609, trip.sl.v1608, trip.sl.v1101, trip.sl.v97, trip.sl.v1604, trip.sl.v1603, trip.sl.v1607, trip.sl.v1606, trip.sl.v1627, trip.sl.v1626, trip.sl.v1624, trip.sl.v1623, trip.sl.v1621, trip.sl.v1619, trip.sl.v1637, trip.sl.v1636, trip.sl.v1634, trip.sl.v1633, trip.sl.v1631, trip.sl.v1629, trip.sl.v68, trip.sl.v1647, trip.sl.v1646, trip.sl.v1644, trip.sl.v1643, trip.sl.v1641, trip.sl.v1639, trip.sl.v117]
  rw [row_52, row_53]
  rfl

theorem value_11 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.v1698 (F := F) arg3 arg4 arg5 arg10 v0 X_arg3 X_arg4 X_arg5 k) = Tile.vals v0 (trip.sl.v27 (F := F) arg3 X_arg3 k) (trip.sl.v38 (F := F) arg4 arg5 X_arg4 X_arg5 k) vn 11 := by
  dsimp only [trip.sl.v1698, trip.sl.v1667, trip.sl.v1666, trip.sl.v1664, trip.sl.v1663, trip.sl.v1661, trip.sl.v1649, trip.sl.v52, trip.sl.v54, trip.sl.v57, trip.sl.cst_17, trip.sl.v1659, trip.sl.v1658, trip.sl.v1101, trip.sl.v97, trip.sl.v1654, trip.sl.v1653, trip.sl.v1657, trip.sl.v1656, trip.sl.v1677, trip.sl.v1676, trip.sl.v1674, trip.sl.v1673, trip.sl.v1671, trip.sl.v1669, trip.sl.v1687, trip.sl.v1686, trip.sl.v1684, trip.sl.v1683, trip.sl.v1681, trip.sl.v1679, trip.sl.v68, trip.sl.v1697, trip.sl.v1696, trip.sl.v1694, trip.sl.v1693, trip.sl.v1691, trip.sl.v1689, trip.sl.v117]
  rw [row_54, row_55]
  rfl

theorem value_12 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.v1748 (F := F) arg3 arg4 arg5 arg10 v0 X_arg3 X_arg4 X_arg5 k) = Tile.vals v0 (trip.sl.v27 (F := F) arg3 X_arg3 k) (trip.sl.v38 (F := F) arg4 arg5 X_arg4 X_arg5 k) vn 12 := by
  dsimp only [trip.sl.v1748, trip.sl.v1717, trip.sl.v1716, trip.sl.v1714, trip.sl.v1713, trip.sl.v1711, trip.sl.v1699, trip.sl.v52, trip.sl.v54, trip.sl.v57, trip.sl.cst_17, trip.sl.v1709, trip.sl.v1708, trip.sl.v1101, trip.sl.v97, trip.sl.v1704, trip.sl.v1703, trip.sl.v1707, trip.sl.v1706, trip.sl.v1727, trip.sl.v1726, trip.sl.v1724, trip.sl.v1723, trip.sl.v1721, trip.sl.v1719, trip.sl.v1737, trip.sl.v1736, trip.sl.v1734, trip.sl.v1733, trip.sl.v1731, trip.sl.v1729, trip.sl.v68, trip.sl.v1747, trip.sl.v1746, trip.sl.v1744, trip.sl.v1743, trip.sl.v1741, trip.sl.v1739, trip.sl.v117]
  rw [row_56, row_57]
  rfl

theorem value_13 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.v1798 (F := F) arg3 arg4 arg5 arg10 v0 X_arg3 X_arg4 X_arg5 k) = Tile.vals v0 (trip.sl.v27 (F := F) arg3 X_arg3 k) (trip.sl.v38 (F := F) arg4 arg5 X_arg4 X_arg5 k) vn 13 := by
  dsimp only [trip.sl.v1798, trip.sl.v1767, trip.sl.v1766, trip.sl.v1764, trip.sl.v1763, trip.sl.v1761, trip.sl.v1749, trip.sl.v52, trip.sl.v54, trip.sl.v57, trip.sl.cst_17, trip.sl.v1759, trip.sl.v1758, trip.sl.v1101, trip.sl.v97, trip.sl.v1754, trip.sl.v1753, trip.sl.v1757, trip.sl.v1756, trip.sl.v1777, trip.sl.v1776, trip.sl.v1774, trip.sl.v1773, trip.sl.v1771, trip.sl.v1769, trip.sl.v1787, trip.sl.v1786, trip.sl.v1784, trip.sl.v1783, trip.sl.v1781, trip.sl.v1779, trip.sl.v68, trip.sl.v1797, trip.sl.v1796, trip.sl.v1794, trip.sl.v1793, trip.sl.v1791, trip.sl.v1789, trip.sl.v117]
  rw [row_58, row_59]
  rfl

theorem value_14 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.v1848 (F := F) arg3 arg4 arg5 arg10 v0 X_arg3 X_arg4 X_arg5 k) = Tile.vals v0 (trip.sl.v27 (F := F) arg3 X_arg3 k) (trip.sl.v38 (F := F) arg4 arg5 X_arg4 X_arg5 k) vn 14 := by
  dsimp only [trip.sl.v1848, trip.sl.v1817, trip.sl.v1816, trip.sl.v1814, trip.sl.v1813, trip.sl.v1811, trip.sl.v1799, trip.sl.v52, trip.sl.v54, trip.sl.v57, trip.sl.cst_17, trip.sl.v1809, trip.sl.v1808, trip.sl.v1101, trip.sl.v97, trip.sl.v1804, trip.sl.v1803, trip.sl.v1807, trip.sl.v1806, trip.sl.v1827, trip.sl.v1826, trip.sl.v1824, trip.sl.v1823, trip.sl.v1821, trip.sl.v1819, trip.sl.v1837, trip.sl.v1836, trip.sl.v1834, trip.sl.v1833, trip.sl.v1831, trip.sl.v1829, trip.sl.v68, trip.sl.v1847, trip.sl.v1846, trip.sl.v1844, trip.sl.v1843, trip.sl.v1841, trip.sl.v1839, trip.sl.v117]
  rw [row_60, row_61]
  rfl

theorem value_15 (arg3 : Memref sig .tc .vmem S1024x128 .i32) (arg4 : Memref sig .tc .vmem S1024x128 .i32) (arg5 : Memref sig .tc .vmem S1x8x128 .i32) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (k : Fin k0_t1_loop.trips) (vn : FVec F S64x128 .bf16) :
    (trip.sl.v1898 (F := F) arg3 arg4 arg5 arg10 v0 X_arg3 X_arg4 X_arg5 k) = Tile.vals v0 (trip.sl.v27 (F := F) arg3 X_arg3 k) (trip.sl.v38 (F := F) arg4 arg5 X_arg4 X_arg5 k) vn 15 := by
  dsimp only [trip.sl.v1898, trip.sl.v1867, trip.sl.v1866, trip.sl.v1864, trip.sl.v1863, trip.sl.v1861, trip.sl.v1849, trip.sl.v52, trip.sl.v54, trip.sl.v57, trip.sl.cst_17, trip.sl.v1859, trip.sl.v1858, trip.sl.v1101, trip.sl.v97, trip.sl.v1854, trip.sl.v1853, trip.sl.v1857, trip.sl.v1856, trip.sl.v1877, trip.sl.v1876, trip.sl.v1874, trip.sl.v1873, trip.sl.v1871, trip.sl.v1869, trip.sl.v1887, trip.sl.v1886, trip.sl.v1884, trip.sl.v1883, trip.sl.v1881, trip.sl.v1879, trip.sl.v68, trip.sl.v1897, trip.sl.v1896, trip.sl.v1894, trip.sl.v1893, trip.sl.v1891, trip.sl.v1889, trip.sl.v117]
  rw [row_62, row_63]
  rfl

end Cert.KernelIdeal.Body
end
-- ==== Proof.Loop.lean ====
module

public import proofs.«01_k».proof.Proof.TripSoft
public import proofs.«01_k».proof.Proof.TripValue
public import Idealize.ShloMosaic.Lib.WritesUnit
public import Idealize.ShloMosaic.Lib.Pointwise.Index

@[expose] public section

set_option maxRecDepth 8192
set_option maxHeartbeats 1000000

noncomputable section

/-!
# The loop over eight sequences

The piece one trip stores is `Tile.one` of what it loads (`piece_eq`). Before trip `k` the output block holds the
attention outputs of the sequences below `k` (`inv`); each trip adds one more.
-/

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]
local notation "𝕄G" => MT nD τ sig Unit (Elt F) ℕ (UR sig nD τ) ℕ

theorem trips_eq : k0_t1_loop.trips = 8 := by decide

theorem off1_eq : ∀ k : Fin k0_t1_loop.trips, k0_off1 k = ![0, k.val, 0] := by decide
theorem off3_eq : ∀ k : Fin k0_t1_loop.trips, k0_off3 k = ![128 * k.val, 0] := by decide
theorem off4_eq : ∀ k : Fin k0_t1_loop.trips, k0_off4 k = ![0, k.val, 0, 0] := by decide

/-- The attention outputs of sequence `k` of a step, from the blocks the step holds. -/
def outAt (i : grid0.Coords) (arg0 : BitVec 32) (v0 : IVec S8x128 32) (v1 : IVec S32x128 32) (v2 : IVec S32x128 32) (cst : F .f32) (T : Vec F S120 .i32) (kw vw sw : Vec F S1024x128 .i32) (sel : Vec F S1x8x128 .i32)
    (q : Vec F S1x8x32x64 .bf16) (kn vn : Vec F S1x64x128 .bf16) (k : Fin k0_t1_loop.trips) : FVec F S1x1x32x64 .bf16 :=
  Tile.one v0 v1 v2 cst (Scalar.addi (Scalar.muli arg0 8#32) (Scf.iv 0#32 1#32 k.val))
    (View.ld (Val := Elt F) (e' := .i32) T (Rect.unit (s := S120) (k0_off2 i k) S1.size (k0_off2_inb i k)) (Shape.Idx.first (s := S1) (by decide)))
    (View.ld (Val := Elt F) (e' := .i32) sel (Rect.unit (s := S1x8x128) (k0_off1 k) S1x1x128.size (k0_off1_inb k)))
    (View.ld (Val := Elt F) (e' := .i32) kw (Rect.unit (s := S1024x128) (k0_off3 k) S128x128.size (k0_off3_inb k)))
    (View.ld (Val := Elt F) (e' := .i32) vw (Rect.unit (s := S1024x128) (k0_off3 k) S128x128.size (k0_off3_inb k)))
    (View.ld (Val := Elt F) (e' := .i32) sw (Rect.unit (s := S1024x128) (k0_off3 k) S128x128.size (k0_off3_inb k)))
    (View.ld (Val := Elt F) (e' := .bf16) q (Rect.unit (s := S1x8x32x64) (k0_off4 k) S1x1x32x64.size (k0_off4_inb k)))
    (View.ld (Val := Elt F) (e' := .bf16) kn (Rect.unit (s := S1x64x128) ![0, 0, 0] S1x64x128.size inb_S1x64x128_S1x64x128_0_0_0))
    (View.ld (Val := Elt F) (e' := .bf16) vn (Rect.unit (s := S1x64x128) ![0, 0, 0] S1x64x128.size inb_S1x64x128_S1x64x128_0_0_0))

/-- The attention outputs of the eight sequences of a step. -/
def outBlk (i : grid0.Coords) (arg0 : BitVec 32) (v0 : IVec S8x128 32) (v1 : IVec S32x128 32) (v2 : IVec S32x128 32) (cst : F .f32) (T : Vec F S120 .i32) (kw vw sw : Vec F S1024x128 .i32) (sel : Vec F S1x8x128 .i32)
    (q : Vec F S1x8x32x64 .bf16) (kn vn : Vec F S1x64x128 .bf16) : Vec F S1x8x32x64 .bf16 := fun y =>
  outAt i arg0 v0 v1 v2 cst T kw vw sw sel q kn vn ⟨(y (1 : Fin 4)).val, by rw [trips_eq]; exact (y (1 : Fin 4)).isLt⟩
    (ix4 (0 : Fin 1) (0 : Fin 1) (⟨(y (2 : Fin 4)).val, (y (2 : Fin 4)).isLt⟩ : Fin 32) (⟨(y (3 : Fin 4)).val, (y (3 : Fin 4)).isLt⟩ : Fin 64))

theorem vals_last (v0 : IVec S8x128 32) (vt : IVec S128x128 32) (S : IVec S64x128 32) (vn : FVec F S64x128 .bf16) :
    Tile.vals v0 vt S vn 16 = vn := by unfold Tile.vals; exact dif_neg (by decide)

/-- The values of all token positions. -/
theorem values_eq (arg3 : Memref sig .tc .vmem S1024x128 .i32) (arg4 : Memref sig .tc .vmem S1024x128 .i32) (arg5 : Memref sig .tc .vmem S1x8x128 .i32) (arg8 : Memref sig .tc .vmem S1x64x128 .bf16) (arg10 : Memref sig .tc .vmem S64x128 .i32) (v0 : IVec S8x128 32) (X_arg3 : BufTy.Contents (Elt F) arg3.view.ty) (X_arg4 : BufTy.Contents (Elt F) arg4.view.ty) (X_arg5 : BufTy.Contents (Elt F) arg5.view.ty) (X_arg8 : BufTy.Contents (Elt F) arg8.view.ty) (k : Fin k0_t1_loop.trips) :
    (trip.sl.v1901 (F := F) arg3 arg4 arg5 arg8 arg10 v0 X_arg3 X_arg4 X_arg5 X_arg8 k) = Tile.joinV (Tile.vals v0 (trip.sl.v27 (F := F) arg3 X_arg3 k) (trip.sl.v38 (F := F) arg4 arg5 X_arg4 X_arg5 k)
      (shapeCast S64x128 (View.readAt (Elt F) arg8.view (Rect.unit (s := S1x64x128) ![0, 0, 0] S1x64x128.size inb_S1x64x128_S1x64x128_0_0_0).toLoadRect X_arg8) shapeCasts_S1x64x128_S64x128)) := by
  unfold Tile.joinV
  rw [← value_0 (arg10 := arg10), ← value_1 (arg10 := arg10), ← value_2 (arg10 := arg10), ← value_3 (arg10 := arg10), ← value_4 (arg10 := arg10), ← value_5 (arg10 := arg10), ← value_6 (arg10 := arg10), ← value_7 (arg10 := arg10), ← value_8 (arg10 := arg10), ← value_9 (arg10 := arg10), ← value_10 (arg10 := arg10), ← value_11 (arg10 := arg10), ← value_12 (arg10 := arg10), ← value_13 (arg10 := arg10), ← value_14 (arg10 := arg10), ← value_15 (arg10 := arg10), vals_last]
  dsimp only [trip.sl.v1901, trip.sl.v1900]

/-- The one piece a trip writes into the output block. -/
theorem piece_eq (𝒱 : Variants) (c : Dev nD) (bd : Option 𝒱.V) (i : grid0.Coords) (arg1 : Memref sig .tc .smem S120 .i32) (harg1 : arg1.IsWhole) (arg2 : Memref sig .tc .vmem S1024x128 .i32) (harg2 : arg2.IsWhole) (arg3 : Memref sig .tc .vmem S1024x128 .i32) (harg3 : arg3.IsWhole) (arg4 : Memref sig .tc .vmem S1024x128 .i32) (harg4 : arg4.IsWhole) (arg5 : Memref sig .tc .vmem S1x8x128 .i32) (harg5 : arg5.IsWhole) (arg6 : Memref sig .tc .vmem S1x8x32x64 .bf16) (harg6 : arg6.IsWhole) (arg7 : Memref sig .tc .vmem S1x64x128 .bf16) (harg7 : arg7.IsWhole) (arg8 : Memref sig .tc .vmem S1x64x128 .bf16) (harg8 : arg8.IsWhole) (arg9 : Memref sig .tc .vmem S1x8x32x64 .bf16) (harg9 : arg9.IsWhole) (arg10 : Memref sig .tc .vmem S64x128 .i32) (harg10 : arg10.IsWhole) (arg0 : BitVec 32) (v0 : IVec S8x128 32) (v1 : IVec S32x128 32) (v2 : IVec S32x128 32) (cst : F .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips)
    (f9 : BufTy.Contents (Elt F) arg9.view.ty) (f10 : BufTy.Contents (Elt F) arg10.view.ty) :
    (trip (F := F) 𝒱 c bd i arg1 harg1 arg2 harg2 arg3 harg3 arg4 harg4 arg5 harg5 arg6 harg6 arg7 harg7 arg8 harg8 arg9 harg9 arg10 harg10 arg0 v0 v1 v2 cst X_arg1 X_arg2 X_arg3 X_arg4 X_arg5 X_arg6 X_arg7 X_arg8 k).1 f9 f10
      = [⟨Rect.unit (s := S1x8x32x64) (k0_off4 k) S1x1x32x64.size (k0_off4_inb k), outAt i arg0 v0 v1 v2 cst (arg1.view.read (Elt F) X_arg1) (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) k⟩] := by
  unfold trip
  dsimp only
  rw [weights_eq, values_eq, new_eq]
  rfl

/-- The output block after one more trip. -/
theorem read_step {κ : Kind} {sp : Space} (v : View sig κ sp S1x8x32x64 .bf16) (f : v.ty.Contents (Elt F)) (k : Fin k0_t1_loop.trips) (w : FVec F S1x1x32x64 .bf16)
    (O : Vec F S1x8x32x64 .bf16) (hO : ∀ y : S1x8x32x64.Idx, (y (1 : Fin 4)).val = k.val →
      O y = w (ix4 (0 : Fin 1) (0 : Fin 1) (⟨(y (2 : Fin 4)).val, (y (2 : Fin 4)).isLt⟩ : Fin 32) (⟨(y (3 : Fin 4)).val, (y (3 : Fin 4)).isLt⟩ : Fin 64)))
    (hf : ∀ y : S1x8x32x64.Idx, (y (1 : Fin 4)).val < k.val → v.read (Elt F) f y = O y) (y : S1x8x32x64.Idx) (hy : (y (1 : Fin 4)).val < k.val + 1) :
    v.read (Elt F) (v.writes (Elt F) f [⟨Rect.unit (s := S1x8x32x64) (k0_off4 k) S1x1x32x64.size (k0_off4_inb k), w⟩]) y = O y := by
  by_cases h : (y (1 : Fin 4)).val = k.val
  · rw [View.read_writes_cons_unit_of_mem v f (k0_off4_inb k) w [] y (ix4 (0 : Fin 1) (0 : Fin 1) (⟨(y (2 : Fin 4)).val, (y (2 : Fin 4)).isLt⟩ : Fin 32) (⟨(y (3 : Fin 4)).val, (y (3 : Fin 4)).isLt⟩ : Fin 64)) (off4_eq k) (fun a => by
        match a with
        | 0 => have := (y (0 : Fin 4)).isLt; have : (y (0 : Fin 4)).val < 1 := this; show (y (0 : Fin 4)).val = 0 + 0; omega
        | 1 => show (y (1 : Fin 4)).val = k.val + 0; omega
        | 2 => show (y (2 : Fin 4)).val = 0 + (y (2 : Fin 4)).val; omega
        | 3 => show (y (3 : Fin 4)).val = 0 + (y (3 : Fin 4)).val; omega)]
    exact (hO y h).symm
  · refine (View.read_writes_cons_unit_of_not_mem v f (k0_off4_inb k) w [] y (off4_eq k) 1 ?_).trans (hf y (by omega))
    left; show (y (1 : Fin 4)).val < k.val; omega

/-- Before trip `k`: the inputs as they are, the output block right below `k`, the scratch at any contents. -/
abbrev inv (c : Dev nD) (i : grid0.Coords) (arg1 : Memref sig .tc .smem S120 .i32) (arg2 : Memref sig .tc .vmem S1024x128 .i32) (arg3 : Memref sig .tc .vmem S1024x128 .i32) (arg4 : Memref sig .tc .vmem S1024x128 .i32) (arg5 : Memref sig .tc .vmem S1x8x128 .i32) (arg6 : Memref sig .tc .vmem S1x8x32x64 .bf16) (arg7 : Memref sig .tc .vmem S1x64x128 .bf16) (arg8 : Memref sig .tc .vmem S1x64x128 .bf16) (arg9 : Memref sig .tc .vmem S1x8x32x64 .bf16) (arg10 : Memref sig .tc .vmem S64x128 .i32) (arg0 : BitVec 32) (v0 : IVec S8x128 32) (v1 : IVec S32x128 32) (v2 : IVec S32x128 32) (cst : F .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : ℕ) : sProp 𝕄G :=
  iprop((arg1.view.loc (c : Thread nD τ) ↦[arg1.view.set]{fullShare.right} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (∃ f, (arg9.view.loc (c : Thread nD τ) ↦[arg9.view.set]{fullShare} f) ∗ ⌜∀ y : S1x8x32x64.Idx, (y (1 : Fin 4)).val < k → arg9.view.read (Elt F) f y = outBlk i arg0 v0 v1 v2 cst (arg1.view.read (Elt F) X_arg1) (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) y⌝) ∗ (∃ f, (arg10.view.loc (c : Thread nD τ) ↦[arg10.view.set]{fullShare} f)))

set_option warn.classDefReducibility false in
/-- The loop's invariant is kept by every trip. -/
@[sl_loop] def loopInv (𝒱 : Variants) (c : Dev nD) (bd : Option 𝒱.V) (E : Set ℕ) (i : grid0.Coords) (arg1 : Memref sig .tc .smem S120 .i32) (harg1 : arg1.IsWhole) (arg2 : Memref sig .tc .vmem S1024x128 .i32) (harg2 : arg2.IsWhole) (arg3 : Memref sig .tc .vmem S1024x128 .i32) (harg3 : arg3.IsWhole) (arg4 : Memref sig .tc .vmem S1024x128 .i32) (harg4 : arg4.IsWhole) (arg5 : Memref sig .tc .vmem S1x8x128 .i32) (harg5 : arg5.IsWhole) (arg6 : Memref sig .tc .vmem S1x8x32x64 .bf16) (harg6 : arg6.IsWhole) (arg7 : Memref sig .tc .vmem S1x64x128 .bf16) (harg7 : arg7.IsWhole) (arg8 : Memref sig .tc .vmem S1x64x128 .bf16) (harg8 : arg8.IsWhole) (arg9 : Memref sig .tc .vmem S1x8x32x64 .bf16) (harg9 : arg9.IsWhole) (arg10 : Memref sig .tc .vmem S64x128 .i32) (harg10 : arg10.IsWhole) (arg0 : BitVec 32) (v0 : IVec S8x128 32) (v1 : IVec S32x128 32) (v2 : IVec S32x128 32) (cst : F .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) :
    Idealize.ShloMosaic.LoopInv (M := 𝕄G) Idealize.ShloMosaic.frame (wpE (defs₀ (F := F)) 𝒱 (c : Thread nD τ) bd) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg0 v0 v1 v2 cst) where
  inv k _ := inv (F := F) c i arg1 arg2 arg3 arg4 arg5 arg6 arg7 arg8 arg9 arg10 arg0 v0 v1 v2 cst X_arg1 X_arg2 X_arg3 X_arg4 X_arg5 X_arg6 X_arg7 X_arg8 k
  step k acc := by
    iintro ⟨H1, H2, H3, H4, H5, H6, H7, H8, ⟨%f9, H9, %h9⟩, ⟨%f10, H10⟩⟩
    iapply (wp_wand_r Idealize.ShloMosaic.frame (wpE (defs₀ (F := F)) 𝒱 (c : Thread nD τ) bd) E)
    isplitl [H1 H2 H3 H4 H5 H6 H7 H8 H9 H10]
    · iapply ((trip (F := F) 𝒱 c bd i arg1 harg1 arg2 harg2 arg3 harg3 arg4 harg4 arg5 harg5 arg6 harg6 arg7 harg7 arg8 harg8 arg9 harg9 arg10 harg10 arg0 v0 v1 v2 cst X_arg1 X_arg2 X_arg3 X_arg4 X_arg5 X_arg6 X_arg7 X_arg8 k).2.2 E f9 f10)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · iintro %_ ⟨H1, H2, H3, H4, H5, H6, H7, H8, H9, H10⟩
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · iexists _; isplitl [H9]; · iexact H9
        ipureintro
        intro y hy
        rw [piece_eq]
        exact read_step arg9.view f9 k _ _ (fun y h => by
          unfold outBlk
          have e : (⟨(y (1 : Fin 4)).val, by rw [trips_eq]; exact (y (1 : Fin 4)).isLt⟩ : Fin k0_t1_loop.trips) = k := Fin.ext h
          rw [e]) h9 y hy
      iexists _; iexact H10

end Cert.KernelIdeal.Body
end
-- ==== Proof.Body.lean ====
module

public import proofs.«01_k».proof.Proof.Loop
public import proofs.«01_k».proof.Proof.Gen.KernelIdeal.Launch
public import Idealize.ShloMosaic.Lib.Pipeline.FrameBody
public import Idealize.ShloMosaic.Lib.Pipeline.FrameSuffix
public import Idealize.ShloMosaic.Lib.Tactic

@[expose] public section

set_option maxRecDepth 16384
set_option maxHeartbeats 1000000

noncomputable section

/-!
# One grid step and the launch

A grid step leaves in its output block the attention outputs of its eight sequences (`sound_kernel`), so the launch
ends with every block at `outBlk` of the blocks its inputs hold (`dats`).
-/

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F] [Named F]
local notation "𝕄G" => MT nD τ sig Unit (Elt F) ℕ (UR sig nD τ) ℕ

/-- The output block of the grid step at `i`, from the table and the seven input blocks. -/
def stepOut (i : grid0.Coords) (T : Vec F S120 .i32) (x2 x3 x4 : Vec F S1024x128 .i32) (x5 : Vec F S1x8x128 .i32) (x6 : Vec F S1x8x32x64 .bf16) (x7 x8 : Vec F S1x64x128 .bf16) : Vec F S1x8x32x64 .bf16 :=
  outBlk i (BitVec.ofNat 32 (i 0).val) (iota .tc S8x128 32 [0] iota_S8x128_d0_w32) (iota .tc S32x128 32 [0] iota_S32x128_d0_w32) (iota .tc S32x128 32 [1] iota_S32x128_d1_w32) (Named.named κ "log2e_8" 0x3E38AA3B#32) T x2 x3 x4 x5 x6 x7 x8

/-- The loop from its invariant before the first trip to its invariant after the last. -/
theorem loop_run (c : Dev nD) (i : grid0.Coords) (arg1 : Memref sig .tc .smem S120 .i32) (harg1 : arg1.IsWhole) (arg2 : Memref sig .tc .vmem S1024x128 .i32) (harg2 : arg2.IsWhole) (arg3 : Memref sig .tc .vmem S1024x128 .i32) (harg3 : arg3.IsWhole) (arg4 : Memref sig .tc .vmem S1024x128 .i32) (harg4 : arg4.IsWhole) (arg5 : Memref sig .tc .vmem S1x8x128 .i32) (harg5 : arg5.IsWhole) (arg6 : Memref sig .tc .vmem S1x8x32x64 .bf16) (harg6 : arg6.IsWhole) (arg7 : Memref sig .tc .vmem S1x64x128 .bf16) (harg7 : arg7.IsWhole) (arg8 : Memref sig .tc .vmem S1x64x128 .bf16) (harg8 : arg8.IsWhole) (arg9 : Memref sig .tc .vmem S1x8x32x64 .bf16) (harg9 : arg9.IsWhole) (arg10 : Memref sig .tc .vmem S64x128 .i32) (harg10 : arg10.IsWhole) (arg0 : BitVec 32) (v0 : IVec S8x128 32) (v1 : IVec S32x128 32) (v2 : IVec S32x128 32) (cst : F .f32)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) {β : Type} {kk : PUnit → Prog (TpuEff nD τ sig (Elt F) Λ₀ .tc) β} {Q : β → sProp 𝕄G} :
    inv (F := F) c i arg1 arg2 arg3 arg4 arg5 arg6 arg7 arg8 arg9 arg10 arg0 v0 v1 v2 cst X1 X2 X3 X4 X5 X6 X7 X8 0
      ⊢ iprop((∀ acc, inv (F := F) c i arg1 arg2 arg3 arg4 arg5 arg6 arg7 arg8 arg9 arg10 arg0 v0 v1 v2 cst X1 X2 X3 X4 X5 X6 X7 X8 k0_t1_loop.trips -∗ wp Idealize.ShloMosaic.frame (wpE (defs₀ (F := F)) Variants.none (c : Thread nD τ) none) Set.univ (kk acc) Q)
        -∗ wp Idealize.ShloMosaic.frame (wpE (defs₀ (F := F)) Variants.none (c : Thread nD τ) none) Set.univ (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg0 v0 v1 v2 cst) >>= kk) Q) :=
  exec_loop Idealize.ShloMosaic.frame (wpE (defs₀ (F := F)) Variants.none (c : Thread nD τ) none) Set.univ k0_t1_loop.lb k0_t1_loop.ub k0_t1_loop.st k0_t1_ok _ _
    (loopInv (F := F) Variants.none c none Set.univ i arg1 harg1 arg2 harg2 arg3 harg3 arg4 harg4 arg5 harg5 arg6 harg6 arg7 harg7 arg8 harg8 arg9 harg9 arg10 harg10 arg0 v0 v1 v2 cst X1 X2 X3 X4 X5 X6 X7 X8)

/-- One grid step. -/
theorem sound_kernel (c : Dev nD) (i : grid0.Coords) (arg1 : Memref sig .tc .smem S120 .i32) (harg1 : arg1.IsWhole) (arg2 : Memref sig .tc .vmem S1024x128 .i32) (harg2 : arg2.IsWhole) (arg3 : Memref sig .tc .vmem S1024x128 .i32) (harg3 : arg3.IsWhole) (arg4 : Memref sig .tc .vmem S1024x128 .i32) (harg4 : arg4.IsWhole) (arg5 : Memref sig .tc .vmem S1x8x128 .i32) (harg5 : arg5.IsWhole) (arg6 : Memref sig .tc .vmem S1x8x32x64 .bf16) (harg6 : arg6.IsWhole) (arg7 : Memref sig .tc .vmem S1x64x128 .bf16) (harg7 : arg7.IsWhole) (arg8 : Memref sig .tc .vmem S1x64x128 .bf16) (harg8 : arg8.IsWhole) (arg9 : Memref sig .tc .vmem S1x8x32x64 .bf16) (harg9 : arg9.IsWhole) (arg10 : Memref sig .tc .vmem S64x128 .i32) (harg10 : arg10.IsWhole)
    (X1 : BufTy.Contents (Elt F) arg1.view.ty) (x2 : Vec F S1024x128 .i32) (x3 : Vec F S1024x128 .i32) (x4 : Vec F S1024x128 .i32) (x5 : Vec F S1x8x128 .i32) (x6 : Vec F S1x8x32x64 .bf16) (x7 : Vec F S1x64x128 .bf16) (x8 : Vec F S1x64x128 .bf16) (K : PUnit → sProp 𝕄G) :
    iprop((arg1.view.loc (c : Thread nD τ) ↦[arg1.view.set]{fullShare.right} X1) ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ f, (arg10.view.loc (c : Thread nD τ) ↦[arg10.view.set]{fullShare} f))
        ∗ (iprop((arg1.view.loc (c : Thread nD τ) ↦[arg1.view.set]{fullShare.right} X1) ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (stepOut i (arg1.view.read (Elt F) X1) x2 x3 x4 x5 x6 x7 x8) ∗ (∃ f, (arg10.view.loc (c : Thread nD τ) ↦[arg10.view.set]{fullShare} f))) -∗ K ⟨⟩))
      ⊢ wp Idealize.ShloMosaic.frame (wpE (defs₀ (F := F)) Variants.none (c : Thread nD τ) none) Set.univ (cc0_attend_h0 (F := F) i arg1 harg1 arg2 harg2 arg3 harg3 arg4 harg4 arg5 harg5 arg6 harg6 arg7 harg7 arg8 harg8 arg9 harg9 arg10 harg10) K := by
  simp only [cc0_attend_h0_eq_skeleton]; unfold cc0_attend_h0_skel
  unfold owns
  iintro ⟨H1, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, H10⟩, Hk⟩
  subst hf2 hf3 hf4 hf5 hf6 hf7 hf8
  iapply (loop_run c i arg1 harg1 arg2 harg2 arg3 harg3 arg4 harg4 arg5 harg5 arg6 harg6 arg7 harg7 arg8 harg8 arg9 harg9 arg10 harg10 (BitVec.ofNat 32 (i 0).val) (iota .tc S8x128 32 [0] iota_S8x128_d0_w32) (iota .tc S32x128 32 [0] iota_S32x128_d0_w32) (iota .tc S32x128 32 [1] iota_S32x128_d1_w32) (Named.named κ "log2e_8" 0x3E38AA3B#32) X1 f2 f3 f4 f5 f6 f7 f8) $$ [H1 H2 H3 H4 H5 H6 H7 H8 H9 H10]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists f9; isplitl [H9]; · iexact H9
      ipureintro; intro y hy; exact absurd hy (Nat.not_lt_zero _)
    iexists f10; iexact H10
  iintro %acc ⟨H1, H2, H3, H4, H5, H6, H7, H8, ⟨%g9, H9, %h9⟩, ⟨%g10, H10⟩⟩
  sl_step
  iapply Hk
  isplitl [H1]; · iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists g9; isplitr
    · ipureintro; funext y; exact h9 y (lt_of_lt_of_eq (y (1 : Fin 4)).isLt trips_eq.symm)
    iexact H9
  iexists g10; iexact H10

end Cert.KernelIdeal.Body
end
-- ==== Proof.Heads.lean ====
module

public import proofs.«01_k».proof.Proof.Gen.KernelIdeal.Launch
public import proofs.«01_k».proof.Proof.Gen.Kernel1Ideal
public import proofs.«01_k».proof.Proof.Gen.Kernel2Ideal
public import proofs.«01_k».proof.Proof.Gen.Kernel3Ideal

@[expose] public section

set_option maxRecDepth 16384
set_option maxHeartbeats 1000000

noncomputable section

/-!
# The launch at a head

The four launches differ in their windows' index maps alone. `pcfgH h` is the launch of head `h`.
-/

namespace Cert.KernelIdeal.Body
open Cert.KernelIdeal Cert.KernelIdeal.Gen
open Idealize.ShloMosaic Idealize.ShloMosaic.TcCoe
open Idealize.SL Idealize.SL.Sem
variable {F : FTy → Type} [FloatOps F] [Named F]

/-- The index maps of head `h`'s windows. -/
def ixH : Fin 4 → pre0.Contents (Elt F) → (w : Fin 8) → grid0.Coords → Fin (spec0 w).shape.rank → Nat
  | 0 => ix0
  | 1 => Cert.Kernel1Ideal.ix0
  | 2 => Cert.Kernel2Ideal.ix0
  | 3 => Cert.Kernel3Ideal.ix0

theorem hreadsH : ∀ (h : Fin 4) (pf : pre0.Contents (Elt F)) w (i i' : grid0.Coords), (∀ a, (spec0 w).reads a = true → i a = i' a) → ixH h pf w i = ixH h pf w i'
  | 0 => hreads0
  | 1 => Cert.Kernel1Ideal.hreads0
  | 2 => Cert.Kernel2Ideal.hreads0
  | 3 => Cert.Kernel3Ideal.hreads0

theorem hinbH : ∀ (h : Fin 4) (pf : pre0.Contents (Elt F)), ok0 pf → ∀ w (i : grid0.Coords) a, (ixH h pf w i a + 1) * (spec0 w).size a ≤ (spec0 w).shape.size a
  | 0 => hinb0
  | 1 => Cert.Kernel1Ideal.hinb0
  | 2 => Cert.Kernel2Ideal.hinb0
  | 3 => Cert.Kernel3Ideal.hinb0

theorem hwxH : ∀ (h : Fin 4) (pf : pre0.Contents (Elt F)) (hok : ok0 pf) w (i : grid0.Coords),
    (spec0 w).elt.bits = 32 ∨ (Rect.block (spec0 w).size (ixH h pf w i) (hinbH h pf hok w i)).WholeWords (spec0 w).elt.packing
  | 0 => hwx0
  | 1 => Cert.Kernel1Ideal.hwx0
  | 2 => Cert.Kernel2Ideal.hwx0
  | 3 => Cert.Kernel3Ideal.hwx0

/-- Head `h`'s launch. -/
abbrev pcfgH (h : Fin 4) : Pipeline.PCfg sig Λ₀ (Elt F) :=
  Pipeline.PCfg.ofSpecs pre0 grid0 hrank0 (fun _ => grid0.bound) (fun _ _ _ => rfl)
    8 spec0 hcount0 Facts.harr0 (ixH h) (hreadsH h) ok0 (hinbH h) (hwxH h) 0 (fun _ _ t s => (t, s))
abbrev pcfgsH (h : Fin 4) : Fin 1 → Pipeline.PCfg sig Λ₀ (Elt F) := fun _ => pcfgH h

/-- The body table of head `h`'s program. -/
abbrev defsH (h : Fin 4) : Defs nD τ sig (Elt F) (Pipeline.Sig Λ₀ (Fin 1) fun p => (pcfgsH (F := F) h p).Adm) := Pipeline.defs (pcfgsH h) defs₀

/-- The four programs' host lines and launch. -/
abbrev mainH (h : Fin 4) : Dev nD → Prog (TpuEff nD τ sig (Elt F) (Pipeline.Sig Λ₀ (Fin 1) fun p => (pcfgsH (F := F) h p).Adm) .tc) PUnit := main

theorem cellOf_injH (h : Fin 4) (a : (p : Fin 1) → (pcfgsH (F := F) h p).Adm) :
    Function.Injective (Pipeline.cellOf (nD := nD) (τ := τ) (Pipeline.pin (pcfgsH (F := F) h) a)) :=
  Pipeline.cellOf_injective_of_table (Pipeline.pin (pcfgsH (F := F) h) a) semTab (fun | 0 => rfl) semsDistinct semsDisjoint

theorem launchH (h : Fin 4) : Pipeline.PLaunchFacts (nD := nD) (τ := τ) (pcfgsH (F := F) h) 0 :=
  ⟨cellOf_injH h, winFacts0, preFacts0, block_pos0, arr_whole0, stage_whole0⟩

theorem main_chainH (h : Fin 4) (c : Dev nD) : mainH (F := F) h c = (Pipeline.chain
  [ StableHlo.seq hostOps0, StableHlo.seq hostOps0_1, StableHlo.seq hostOps0_2, StableHlo.seq hostOps0_3, StableHlo.seq hostOps0_4, StableHlo.seq hostOps0_5,
    StableHlo.seq hostOps0_6, StableHlo.seq hostOps0_7, StableHlo.seq hostOps0_8, StableHlo.seq hostOps0_9,
    Prog.lift (.customCall (Pipeline.entry 0) ()),
    StableHlo.seq hostOps1 ] : Prog (TpuEff nD τ sig (Elt F) (Pipeline.Sig Λ₀ (Fin 1) fun p => (pcfgsH (F := F) h p).Adm) .tc) PUnit) :=
  main_chain c

theorem head1 : pcfgH (F := F) 1 = Cert.Kernel1Ideal.pcfg0 := rfl
theorem head2 : pcfgH (F := F) 2 = Cert.Kernel2Ideal.pcfg0 := rfl
theorem head3 : pcfgH (F := F) 3 = Cert.Kernel3Ideal.pcfg0 := rfl

end Cert.KernelIdeal.Body
end
-- ==== Proof.Run.lean ====
module

public import proofs.«01_k».proof.Proof.Body
public import proofs.«01_k».proof.Proof.Heads
public import Idealize.ShloMosaic.Lib.Pipeline.FrameBody
public import Idealize.ShloMosaic.Lib.Pipeline.FrameSuffix
public import Idealize.ShloMosaic.Lib.Tactic

@[expose] public section

set_option maxRecDepth 16384
set_option maxHeartbeats 1000000

noncomputable section

/-!
# The launch

The host lines lay the arguments out, the launch runs its fifteen steps, the host lines after it lay the result out.
Every buffer's contents at the end are named (`run_main`), and the arguments keep theirs (`quiescent`).
-/

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F] [Named F]
local notation "𝕄G" => MT nD τ sig Unit (Elt F) ℕ (UR sig nD τ) ℕ

variable (h : Fin 4) (m : (ℓ : Loc nD τ sig) → Buf (Elt F) ℓ) (ρ : Dev nD → PrngReg)

/-- A device's buffers when the launch starts: after the host lines before it. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9]) (fun b => m (c, b))
/-- The same at a reference. -/
abbrev V (c : Dev nD) (b : Ref sig .tc) : Buf (Elt F) ((c : Thread nD τ).loc b) := V0 m c (Proc.devRef .tc b)

/-- The table of sequence lengths. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfgH (F := F) h).Adm := ⟨tbl m, trivial⟩
abbrev cfgM : Pipeline.Cfg sig Λ₀ := (pcfgH h).at (adm h m)
/-- The table as the body reads it. -/
abbrev tbl0 : Vec F S120 .i32 := (Memref.whole main_arg6).view.read (Elt F) (tbl m 0)

theorem PhiT_eq (c : Dev nD) : (Pipeline.ΦT pre0 (tbl m) c : sProp 𝕄G)
    = iprop((Memref.whole main_arg6).view.loc (c : Thread nD τ) ↦[(Memref.whole main_arg6).view.set]{fullShare.right} (tbl m 0)) := by
  unfold Pipeline.ΦT Pipeline.prefHeld
  rw [show (Finset.univ : Finset (Fin 1)) = {(0 : Fin 1)} from by decide, bigSep_singleton]
  rw [show (Memref.whole main_arg6).view.set = Finset.univ from View.set_whole _]
  rfl

/-- What a window's block holds when the launch starts. -/
def iblk (c : Dev nD) (w : Fin (cfgM h m).W) (t : Fin (cfgM h m).N) : (((cfgM h m).win w).xblock ((cfgM h m).grid.coords t)).Idx → Elt F ((cfgM h m).win w).elt :=
  (((cfgM h m).win w).blk t).view.read (Elt F) (V m c (Pipeline.arrRef spec0 w))

/-- The proof data: each input block keeps its contents, the output block ends at `stepOut`. -/
def dats (_ : Fin 1) (c : Dev nD) : Dat τ (Elt F) Unit ℕ (UR sig nD τ) ℕ (cfgM h m) c where
  A w := V m c (Pipeline.arrRef spec0 w)
  after w t := match w with
    | ⟨0, _⟩ => iblk h m c 0 t
    | ⟨1, _⟩ => iblk h m c 1 t
    | ⟨2, _⟩ => iblk h m c 2 t
    | ⟨3, _⟩ => iblk h m c 3 t
    | ⟨4, _⟩ => iblk h m c 4 t
    | ⟨5, _⟩ => iblk h m c 5 t
    | ⟨6, _⟩ => iblk h m c 6 t
    | ⟨7, _⟩ => stepOut (grid0.coords t) (tbl0 m) (iblk h m c 0 t) (iblk h m c 1 t) (iblk h m c 2 t) (iblk h m c 3 t) (iblk h m c 4 t) (iblk h m c 5 t) (iblk h m c 6 t)
  Φ _ := iprop(Pipeline.ΦA spec0 c ∗ Pipeline.ΦT pre0 (tbl m) c)
  q _ := fullShare
  owed _ := 0

theorem A_eq (c : Dev nD) (w : Fin (cfgM h m).W) : (dats h m 0 c).A w = V m c (Pipeline.arrRef spec0 w) := rfl
theorem after_0 (c : Dev nD) (t : Fin (cfgM h m).N) : (dats h m 0 c).after 0 t = iblk h m c 0 t := rfl
theorem after_1 (c : Dev nD) (t : Fin (cfgM h m).N) : (dats h m 0 c).after 1 t = iblk h m c 1 t := rfl
theorem after_2 (c : Dev nD) (t : Fin (cfgM h m).N) : (dats h m 0 c).after 2 t = iblk h m c 2 t := rfl
theorem after_3 (c : Dev nD) (t : Fin (cfgM h m).N) : (dats h m 0 c).after 3 t = iblk h m c 3 t := rfl
theorem after_4 (c : Dev nD) (t : Fin (cfgM h m).N) : (dats h m 0 c).after 4 t = iblk h m c 4 t := rfl
theorem after_5 (c : Dev nD) (t : Fin (cfgM h m).N) : (dats h m 0 c).after 5 t = iblk h m c 5 t := rfl
theorem after_6 (c : Dev nD) (t : Fin (cfgM h m).N) : (dats h m 0 c).after 6 t = iblk h m c 6 t := rfl
theorem after_7 (c : Dev nD) (t : Fin (cfgM h m).N) : (dats h m 0 c).after 7 t = stepOut (grid0.coords t) (tbl0 m) (iblk h m c 0 t) (iblk h m c 1 t) (iblk h m c 2 t) (iblk h m c 3 t) (iblk h m c 4 t) (iblk h m c 5 t) (iblk h m c 6 t) := rfl
theorem before_0 (c : Dev nD) (t : Fin (cfgM h m).N) (d) : (dats h m 0 c).before 0 t d = iblk h m c 0 t :=
  ((dats h m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM h m).N) (d) : (dats h m 0 c).before 1 t d = iblk h m c 1 t :=
  ((dats h m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgM h m).N) (d) : (dats h m 0 c).before 2 t d = iblk h m c 2 t :=
  ((dats h m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgM h m).N) (d) : (dats h m 0 c).before 3 t d = iblk h m c 3 t :=
  ((dats h m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgM h m).N) (d) : (dats h m 0 c).before 4 t d = iblk h m c 4 t :=
  ((dats h m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfgM h m).N) (d) : (dats h m 0 c).before 5 t d = iblk h m c 5 t :=
  ((dats h m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin (cfgM h m).N) (d) : (dats h m 0 c).before 6 t d = iblk h m c 6 t :=
  ((dats h m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-- The staging buffer of a window at a step. -/
abbrev st (t : Fin (cfgM h m).N) (w : Fin 8) := (spec0 w).stage ((cfgM h m).slots t w)

theorem sound_body (c : Dev nD) (t : Fin (cfgM h m).N) :
    iprop((dats h m 0 c).Φ t.castSucc ∗ (dats h m 0 c).owesAt () t.castSucc
      ∗ (∃ d, owns (c : Thread nD τ) (st h m t 0) fullShare ((dats h m 0 c).before 0 t d)) ∗ (∃ d, owns (c : Thread nD τ) (st h m t 1) fullShare ((dats h m 0 c).before 1 t d)) ∗ (∃ d, owns (c : Thread nD τ) (st h m t 2) fullShare ((dats h m 0 c).before 2 t d)) ∗ (∃ d, owns (c : Thread nD τ) (st h m t 3) fullShare ((dats h m 0 c).before 3 t d)) ∗ (∃ d, owns (c : Thread nD τ) (st h m t 4) fullShare ((dats h m 0 c).before 4 t d)) ∗ (∃ d, owns (c : Thread nD τ) (st h m t 5) fullShare ((dats h m 0 c).before 5 t d)) ∗ (∃ d, owns (c : Thread nD τ) (st h m t 6) fullShare ((dats h m 0 c).before 6 t d)) ∗ (∃ d, owns (c : Thread nD τ) (st h m t 7) fullShare ((dats h m 0 c).before 7 t d)))
    ⊢ wp Idealize.ShloMosaic.frame (wpE (defs₀ (F := F)) Variants.none (c : Thread nD τ) none) Set.univ ((defs₀ (F := F)) .tc (cfgM h m).body ((cfgM h m).bodyArgs t ((cfgM h m).slots t)))
      (fun _ => iprop((dats h m 0 c).Φ t.succ ∗ (dats h m 0 c).owesAt () t.succ
        ∗ owns (c : Thread nD τ) (st h m t 0) fullShare ((dats h m 0 c).after 0 t) ∗ owns (c : Thread nD τ) (st h m t 1) fullShare ((dats h m 0 c).after 1 t) ∗ owns (c : Thread nD τ) (st h m t 2) fullShare ((dats h m 0 c).after 2 t) ∗ owns (c : Thread nD τ) (st h m t 3) fullShare ((dats h m 0 c).after 3 t) ∗ owns (c : Thread nD τ) (st h m t 4) fullShare ((dats h m 0 c).after 4 t) ∗ owns (c : Thread nD τ) (st h m t 5) fullShare ((dats h m 0 c).after 5 t) ∗ owns (c : Thread nD τ) (st h m t 6) fullShare ((dats h m 0 c).after 6 t) ∗ owns (c : Thread nD τ) (st h m t 7) fullShare ((dats h m 0 c).after 7 t))) := by
  simp only [before_0, before_1, before_2, before_3, before_4, before_5, before_6]
  rw [show (dats h m 0 c).Φ t.succ = (dats h m 0 c).Φ t.castSucc from rfl,
    show (dats h m 0 c).owesAt () t.succ = (dats h m 0 c).owesAt () t.castSucc from rfl,
    after_0, after_1, after_2, after_3, after_4, after_5, after_6, after_7]
  rw [show (dats h m 0 c).Φ t.castSucc = iprop(Pipeline.ΦA spec0 c ∗ Pipeline.ΦT pre0 (tbl m) c) from rfl, PhiT_eq]
  unfold Pipeline.ΦA
  rw [scopedRest0_eq]
  iintro ⟨⟨⟨⟨%f, Hs⟩, Hp⟩, Ht⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c (grid0.coords t) (Memref.whole main_arg6) (Memref.isWhole_whole _) _ _ _ _ _ _ _ _ _ _ _ _ _ _ _ _ (Memref.whole cc0_scratch0) (Memref.isWhole_whole _)
    (tbl m 0) (iblk h m c 0 t) (iblk h m c 1 t) (iblk h m c 2 t) (iblk h m c 3 t) (iblk h m c 4 t) (iblk h m c 5 t) (iblk h m c 6 t) _)
  isplitl [Ht]; · iexact Ht
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hs]; · iexists f; rw [show (Memref.whole cc0_scratch0).view.set = Finset.univ from View.set_whole _]; iexact Hs
  iintro ⟨Ht, H0, H1, H2, H3, H4, H5, H6, H7, ⟨%f', Hs⟩⟩
  isplitl [Ht Hs Hp]
  · isplitl [Hs Hp]
    · isplitl [Hs]
      · iexists f'; rw [show (Memref.whole cc0_scratch0).view.set = Finset.univ from View.set_whole _]; iexact Hs
      iexact Hp
    iexact Ht
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) h m 0 c) (defs₀ (F := F)) Variants.none () Set.univ := fun t => by
  rw [bigSep_W0, bigSep_W0]
  exact sound_body h m c t

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainPK (Ix := Unit) (Name := ℕ) (U := UR sig nD τ) (Lvl := ℕ) (pcfgsH h) 0 defs₀ 𝒱₀ m (mainH (F := F) h) (V m)
      (fun _ => Pipeline.chain ([hostOps1].map StableHlo.seq)) :=
  Pipeline.hmainP_around (pcfgsH h) 0 defs₀ 𝒱₀ m (mainH h) [hostOps0, hostOps0_1, hostOps0_2, hostOps0_3, hostOps0_4, hostOps0_5, hostOps0_6, hostOps0_7, hostOps0_8, hostOps0_9] [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) (main_chainH h)

theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl | rfl
  all_goals intro j; fin_cases j <;> simp only [StableHlo.unary_bufs, StableHlo.reshape_bufs, StableHlo.binary_bufs, StableHlo.nullary_bufs, Finset.mem_insert, Finset.mem_singleton, not_or] <;> and_intros <;> exact StableHlo.devRef_ne_of_ne (by decide)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem sfx_keeps : ∀ ops ∈ ([hostOps1] : List (List (HloOp τ sig (Elt F)))), ∀ op ∈ ops, ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl
  all_goals intro w; fin_cases w <;> simp only [StableHlo.unary_writes, StableHlo.reshape_writes, Finset.mem_singleton] <;> exact StableHlo.devRef_ne_of_ne (by decide)

/-- What a run of @main ends with: every array of the launch as its steps leave it, every other buffer as the host lines leave it. -/
abbrev Post : PUnit × MemSt nD τ sig (Elt F) → Prop :=
  Pipeline.FramePost (Pipeline.pin (pcfgsH h) fun _ => adm h m) (dats h m) 0 (Pipeline.afterTail (pcfgsH h) (fun _ => adm h m) (dats h m) 0 (V0 m) [hostOps1])

set_option backward.isDefEq.respectTransparency.types false in
theorem run_main : θ_run (defsH h) (onTc (τ := τ) (mainH (F := F) h)) ⟨m, fun _ => 0, ρ⟩ (fun r => Post h m r ∧ r.2.sem = fun _ => 0) :=
  Pipeline.θ_run_frameP_around_track (pcfgsH h) (fun _ => adm h m) (dats h m) (0 : Fin 1) (launchH h) defs₀ Variants.none m ρ (mainH h)
    (hbody := fun c => (body_obligation h m c).loose) (hshare := fun c => (dats h m 0 c).share_full fun _ => rfl)
    (howed := fun _ _ => rfl) (V₀ := V0 m) (opss := [hostOps1]) (hsub := sfx_sub) (hfresh := sfx_fresh) (hkeep := sfx_keeps)
    (hmain := hmain h m Variants.none) (hA := A_eq h m) (hpf := V_pre m) (hin := fun c => .rfl)
    (hout := fun c => by
      change iprop(Pipeline.ΦA spec0 c ∗ Pipeline.ΦT pre0 (tbl m) c) ⊢ Pipeline.ΦA spec0 c
      iintro ⟨H, -⟩; iexact H)
    (Q' := fun r => Post h m r ∧ r.2.sem = fun _ => 0) (hQ' := fun _ h => h)

end Cert.KernelIdeal.Body
end
-- ==== Proof.Frame.lean ====
module

public import proofs.«01_k».proof.Defs
public import proofs.«01_k».proof.Proof.Run

@[expose] public section

set_option maxRecDepth 8192
set_option maxHeartbeats 1000000

noncomputable section

/-!
# A run leaves its arguments alone

The host lines write none of the arguments (`V_arg`), the launch reads them only, and the lines after the launch write
none of them (`frame_run`).
-/

namespace Cert.KernelIdeal.Body
open Cert.KernelIdeal Cert.KernelIdeal.Gen
open Idealize.ShloMosaic Idealize.ShloMosaic.TcCoe
open Idealize.SL Idealize.SL.Sem
open Idealize.ShloMosaic.Pipeline (Dat)
variable {F : FTy → Type} [FloatOps F] [Named F]

/-- The buffers that the host lines before the launch write, in order. -/
abbrev headW : List (Ref sig .tc) := [main_v0, main_v1, main_v2, main_v3, main_v4, main_v5, main_v6, main_c, main_call0_v0, main_v7,
  main_v8, main_v9, main_v10, main_c_0, main_call1_v0, main_v11, main_v12, main_v13, main_c_1, main_call2_v0, main_v14,
  main_v15, main_v16, main_v17, main_c_2, main_call3_v0, main_v18, main_v19, main_v20, main_c_3, main_call4_v0, main_v21]
theorem head_writes : (List.flatten [hostOps0, hostOps0_1, hostOps0_2, hostOps0_3, hostOps0_4, hostOps0_5, hostOps0_6, hostOps0_7, hostOps0_8, hostOps0_9] : List (HloOp τ sig (Elt F))).Forall
    fun op => op.writes ⊆ (headW.map (Proc.devRef (τ := τ) .tc)).toFinset :=
  StableHlo.forall_writes_sub_of_map rfl
/-- The buffers that the host lines after the launch write, in order. -/
abbrev tailW : List (Ref sig .tc) := [main_v23, main_v24, main_v25, main_v26, main_v27, main_v28, main_v29]
theorem tail_writes : ((List.flatten [hostOps1]) : List (HloOp τ sig (Elt F))).Forall
    fun op => op.writes ⊆ (tailW.map (Proc.devRef (τ := τ) .tc)).toFinset :=
  StableHlo.forall_writes_sub_of_map rfl

variable (h : Fin 4) (m : (ℓ : Loc nD τ sig) → Buf (Elt F) ℓ) (ρ : Dev nD → PrngReg)

theorem V_arg (c : Dev nD) (r : Ref sig .tc) (hr : r ∉ headW) : V m c r = m ((c : Thread nD τ).loc r) :=
  StableHlo.after_of_writes_sub (r := r) _ _ head_writes hr

/-- An input array of the launch ends as it started. -/
theorem mem_in {r : PUnit × MemSt nD τ sig (Elt F)} (hp : Post h m r) (c : Dev nD) (w : Fin 8) (hin : (spec0 w).isOut = false)
    (hr : Pipeline.arrRef spec0 w ∉ headW) :
    r.2.mem ((c : Thread nD τ).loc (Pipeline.arrRef spec0 w)) = m ((c : Thread nD τ).loc (Pipeline.arrRef spec0 w)) :=
  ((hp c).1 w).trans (((dats h m 0 c).arrAt_in w hin _).trans ((A_eq h m c w).trans (V_arg m c _ hr)))

/-- A buffer that neither the launch nor the host lines write ends as it started. -/
theorem mem_rest {r : PUnit × MemSt nD τ sig (Elt F)} (hp : Post h m r) (c : Dev nD) (b : Ref sig .tc) (hb : b ∈ Pipeline.restRefs sig spec0)
    (ht : b ∉ tailW) (hw : ∀ w, Pipeline.arrRef spec0 w ≠ b) (hr : b ∉ headW) :
    r.2.mem ((c : Thread nD τ).loc b) = m ((c : Thread nD τ).loc b) := by
  refine ((hp c).2 b hb).trans ?_
  unfold Pipeline.afterTail
  rw [StableHlo.after_of_writes_sub (r := b) _ _ tail_writes ht]
  exact (Pipeline.withArrays_of_ne _ c (V0 m c) _ b hw).trans (V_arg m c b hr)

/-- A run of @main leaves every argument as it was, and every semaphore at zero. -/
theorem frame_run : θ_run (defsH h) (onTc (τ := τ) (mainH (F := F) h)) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) ∧ r.2.sem = fun _ => 0) :=
  (θ_run (defsH h) _ _).mono (fun r hp => ⟨fun c =>
    ⟨mem_rest h m hp.1 c main_arg0 (by decide) (by decide) (by decide) (by decide),
     mem_rest h m hp.1 c main_arg1 (by decide) (by decide) (by decide) (by decide),
     mem_rest h m hp.1 c main_arg2 (by decide) (by decide) (by decide) (by decide),
     mem_in h m hp.1 c 0 rfl (by decide), mem_in h m hp.1 c 1 rfl (by decide), mem_in h m hp.1 c 2 rfl (by decide),
     mem_rest h m hp.1 c main_arg6 (by decide) (by decide) (by decide) (by decide),
     mem_rest h m hp.1 c main_arg7 (by decide) (by decide) (by decide) (by decide)⟩, hp.2⟩) (run_main h m ρ)

end Cert.KernelIdeal.Body
end
-- ==== Proof.KSame1.lean ====
module

public import proofs.«01_k».proof.Proof.Gen.Kernel1
public import proofs.«01_k».proof.Proof.KHeads

@[expose] public section

set_option maxRecDepth 16384
set_option maxHeartbeats 2000000

noncomputable section

/-!
# Head 1's program against head 0's

The two have the same host lines and the same body; they differ in the windows' index maps alone.
-/

namespace Cert.Kernel1.Same
open Idealize.ShloMosaic Idealize.ShloMosaic.TcCoe
open Idealize.SL Idealize.SL.Sem
variable {F : FTy → Type} [FloatOps F]

theorem main_eq : Cert.Kernel1.main (F := F) = Cert.Kernel.main (F := F) := rfl

theorem body_eq : Cert.Kernel1.cc0_attend_h1 (F := F) = Cert.Kernel.cc0_attend_h0 (F := F) := rfl

theorem defs_eq : Cert.Kernel1.defs₀ (F := F) = Cert.Kernel.defs₀ (F := F) := by
  unfold Cert.Kernel1.defs₀ Cert.Kernel.defs₀
  rewrite [body_eq (F := F)]
  refine congrArg Defs.onTc (funext fun l => funext fun a => ?_)
  match l, a with
  | 0, (t, s) => rfl

/-- A run of head 0's program at head 1's index maps is one of head 1's. -/
theorem run_of (s : MemSt Cert.Kernel.nD Cert.Kernel.τ Cert.Kernel.sig (Elt F)) (Q : PUnit × MemSt Cert.Kernel.nD Cert.Kernel.τ Cert.Kernel.sig (Elt F) → Prop)
    (H : θ_run (Cert.Kernel.Body.defsH (F := F) 1) (onTc (τ := Cert.Kernel.τ) (Cert.Kernel.Body.mainH (F := F) 1)) s Q) :
    θ_run (Cert.Kernel1.defs (F := F)) (onTc (τ := Cert.Kernel1.τ) (Cert.Kernel1.main (F := F))) s Q := by
  unfold Cert.Kernel1.defs
  rewrite [defs_eq (F := F), main_eq (F := F)]
  exact H

end Cert.Kernel1.Same
-- ==== Proof.Same1.lean ====
module

public import proofs.«01_k».proof.Proof.Gen.Kernel1Ideal
public import proofs.«01_k».proof.Proof.Heads

@[expose] public section

set_option maxRecDepth 16384
set_option maxHeartbeats 2000000

noncomputable section

/-!
# Head 1's program against head 0's

The two have the same host lines and the same body; they differ in the windows' index maps alone.
-/

namespace Cert.Kernel1Ideal.Same
open Idealize.ShloMosaic Idealize.ShloMosaic.TcCoe
open Idealize.SL Idealize.SL.Sem
variable {F : FTy → Type} [FloatOps F] [Named F]

theorem main_eq : Cert.Kernel1Ideal.main (F := F) = Cert.KernelIdeal.main (F := F) := rfl

theorem body_eq : Cert.Kernel1Ideal.cc0_attend_h1 (F := F) = Cert.KernelIdeal.cc0_attend_h0 (F := F) := rfl

theorem defs_eq : Cert.Kernel1Ideal.defs₀ (F := F) = Cert.KernelIdeal.defs₀ (F := F) := by
  unfold Cert.Kernel1Ideal.defs₀ Cert.KernelIdeal.defs₀
  rewrite [body_eq (F := F)]
  refine congrArg Defs.onTc (funext fun l => funext fun a => ?_)
  match l, a with
  | 0, (t, s) => rfl

/-- A run of head 0's program at head 1's index maps is one of head 1's. -/
theorem run_of (s : MemSt Cert.KernelIdeal.nD Cert.KernelIdeal.τ Cert.KernelIdeal.sig (Elt F)) (Q : PUnit × MemSt Cert.KernelIdeal.nD Cert.KernelIdeal.τ Cert.KernelIdeal.sig (Elt F) → Prop)
    (H : θ_run (Cert.KernelIdeal.Body.defsH (F := F) 1) (onTc (τ := Cert.KernelIdeal.τ) (Cert.KernelIdeal.Body.mainH (F := F) 1)) s Q) :
    θ_run (Cert.Kernel1Ideal.defs (F := F)) (onTc (τ := Cert.Kernel1Ideal.τ) (Cert.Kernel1Ideal.main (F := F))) s Q := by
  unfold Cert.Kernel1Ideal.defs
  rewrite [defs_eq (F := F), main_eq (F := F)]
  exact H

end Cert.Kernel1Ideal.Same
-- ==== Proof.KSame2.lean ====
module

public import proofs.«01_k».proof.Proof.Gen.Kernel2
public import proofs.«01_k».proof.Proof.KHeads

@[expose] public section

set_option maxRecDepth 16384
set_option maxHeartbeats 2000000

noncomputable section

/-!
# Head 2's program against head 0's

The two have the same host lines and the same body; they differ in the windows' index maps alone.
-/

namespace Cert.Kernel2.Same
open Idealize.ShloMosaic Idealize.ShloMosaic.TcCoe
open Idealize.SL Idealize.SL.Sem
variable {F : FTy → Type} [FloatOps F]

theorem main_eq : Cert.Kernel2.main (F := F) = Cert.Kernel.main (F := F) := rfl

theorem body_eq : Cert.Kernel2.cc0_attend_h2 (F := F) = Cert.Kernel.cc0_attend_h0 (F := F) := rfl

theorem defs_eq : Cert.Kernel2.defs₀ (F := F) = Cert.Kernel.defs₀ (F := F) := by
  unfold Cert.Kernel2.defs₀ Cert.Kernel.defs₀
  rewrite [body_eq (F := F)]
  refine congrArg Defs.onTc (funext fun l => funext fun a => ?_)
  match l, a with
  | 0, (t, s) => rfl

/-- A run of head 0's program at head 2's index maps is one of head 2's. -/
theorem run_of (s : MemSt Cert.Kernel.nD Cert.Kernel.τ Cert.Kernel.sig (Elt F)) (Q : PUnit × MemSt Cert.Kernel.nD Cert.Kernel.τ Cert.Kernel.sig (Elt F) → Prop)
    (H : θ_run (Cert.Kernel.Body.defsH (F := F) 2) (onTc (τ := Cert.Kernel.τ) (Cert.Kernel.Body.mainH (F := F) 2)) s Q) :
    θ_run (Cert.Kernel2.defs (F := F)) (onTc (τ := Cert.Kernel2.τ) (Cert.Kernel2.main (F := F))) s Q := by
  unfold Cert.Kernel2.defs
  rewrite [defs_eq (F := F), main_eq (F := F)]
  exact H

end Cert.Kernel2.Same
-- ==== Proof.Same2.lean ====
module

public import proofs.«01_k».proof.Proof.Gen.Kernel2Ideal
public import proofs.«01_k».proof.Proof.Heads

@[expose] public section

set_option maxRecDepth 16384
set_option maxHeartbeats 2000000

noncomputable section

/-!
# Head 2's program against head 0's

The two have the same host lines and the same body; they differ in the windows' index maps alone.
-/

namespace Cert.Kernel2Ideal.Same
open Idealize.ShloMosaic Idealize.ShloMosaic.TcCoe
open Idealize.SL Idealize.SL.Sem
variable {F : FTy → Type} [FloatOps F] [Named F]

theorem main_eq : Cert.Kernel2Ideal.main (F := F) = Cert.KernelIdeal.main (F := F) := rfl

theorem body_eq : Cert.Kernel2Ideal.cc0_attend_h2 (F := F) = Cert.KernelIdeal.cc0_attend_h0 (F := F) := rfl

theorem defs_eq : Cert.Kernel2Ideal.defs₀ (F := F) = Cert.KernelIdeal.defs₀ (F := F) := by
  unfold Cert.Kernel2Ideal.defs₀ Cert.KernelIdeal.defs₀
  rewrite [body_eq (F := F)]
  refine congrArg Defs.onTc (funext fun l => funext fun a => ?_)
  match l, a with
  | 0, (t, s) => rfl

/-- A run of head 0's program at head 2's index maps is one of head 2's. -/
theorem run_of (s : MemSt Cert.KernelIdeal.nD Cert.KernelIdeal.τ Cert.KernelIdeal.sig (Elt F)) (Q : PUnit × MemSt Cert.KernelIdeal.nD Cert.KernelIdeal.τ Cert.KernelIdeal.sig (Elt F) → Prop)
    (H : θ_run (Cert.KernelIdeal.Body.defsH (F := F) 2) (onTc (τ := Cert.KernelIdeal.τ) (Cert.KernelIdeal.Body.mainH (F := F) 2)) s Q) :
    θ_run (Cert.Kernel2Ideal.defs (F := F)) (onTc (τ := Cert.Kernel2Ideal.τ) (Cert.Kernel2Ideal.main (F := F))) s Q := by
  unfold Cert.Kernel2Ideal.defs
  rewrite [defs_eq (F := F), main_eq (F := F)]
  exact H

end Cert.Kernel2Ideal.Same
-- ==== Proof.KSame3.lean ====
module

public import proofs.«01_k».proof.Proof.Gen.Kernel3
public import proofs.«01_k».proof.Proof.KHeads

@[expose] public section

set_option maxRecDepth 16384
set_option maxHeartbeats 2000000

noncomputable section

/-!
# Head 3's program against head 0's

The two have the same host lines and the same body; they differ in the windows' index maps alone.
-/

namespace Cert.Kernel3.Same
open Idealize.ShloMosaic Idealize.ShloMosaic.TcCoe
open Idealize.SL Idealize.SL.Sem
variable {F : FTy → Type} [FloatOps F]

theorem main_eq : Cert.Kernel3.main (F := F) = Cert.Kernel.main (F := F) := rfl

theorem body_eq : Cert.Kernel3.cc0_attend_h3 (F := F) = Cert.Kernel.cc0_attend_h0 (F := F) := rfl

theorem defs_eq : Cert.Kernel3.defs₀ (F := F) = Cert.Kernel.defs₀ (F := F) := by
  unfold Cert.Kernel3.defs₀ Cert.Kernel.defs₀
  rewrite [body_eq (F := F)]
  refine congrArg Defs.onTc (funext fun l => funext fun a => ?_)
  match l, a with
  | 0, (t, s) => rfl

/-- A run of head 0's program at head 3's index maps is one of head 3's. -/
theorem run_of (s : MemSt Cert.Kernel.nD Cert.Kernel.τ Cert.Kernel.sig (Elt F)) (Q : PUnit × MemSt Cert.Kernel.nD Cert.Kernel.τ Cert.Kernel.sig (Elt F) → Prop)
    (H : θ_run (Cert.Kernel.Body.defsH (F := F) 3) (onTc (τ := Cert.Kernel.τ) (Cert.Kernel.Body.mainH (F := F) 3)) s Q) :
    θ_run (Cert.Kernel3.defs (F := F)) (onTc (τ := Cert.Kernel3.τ) (Cert.Kernel3.main (F := F))) s Q := by
  unfold Cert.Kernel3.defs
  rewrite [defs_eq (F := F), main_eq (F := F)]
  exact H

end Cert.Kernel3.Same
-- ==== Proof.Same3.lean ====
module

public import proofs.«01_k».proof.Proof.Gen.Kernel3Ideal
public import proofs.«01_k».proof.Proof.Heads

@[expose] public section

set_option maxRecDepth 16384
set_option maxHeartbeats 2000000

noncomputable section

/-!
# Head 3's program against head 0's

The two have the same host lines and the same body; they differ in the windows' index maps alone.
-/

namespace Cert.Kernel3Ideal.Same
open Idealize.ShloMosaic Idealize.ShloMosaic.TcCoe
open Idealize.SL Idealize.SL.Sem
variable {F : FTy → Type} [FloatOps F] [Named F]

theorem main_eq : Cert.Kernel3Ideal.main (F := F) = Cert.KernelIdeal.main (F := F) := rfl

theorem body_eq : Cert.Kernel3Ideal.cc0_attend_h3 (F := F) = Cert.KernelIdeal.cc0_attend_h0 (F := F) := rfl

theorem defs_eq : Cert.Kernel3Ideal.defs₀ (F := F) = Cert.KernelIdeal.defs₀ (F := F) := by
  unfold Cert.Kernel3Ideal.defs₀ Cert.KernelIdeal.defs₀
  rewrite [body_eq (F := F)]
  refine congrArg Defs.onTc (funext fun l => funext fun a => ?_)
  match l, a with
  | 0, (t, s) => rfl

/-- A run of head 0's program at head 3's index maps is one of head 3's. -/
theorem run_of (s : MemSt Cert.KernelIdeal.nD Cert.KernelIdeal.τ Cert.KernelIdeal.sig (Elt F)) (Q : PUnit × MemSt Cert.KernelIdeal.nD Cert.KernelIdeal.τ Cert.KernelIdeal.sig (Elt F) → Prop)
    (H : θ_run (Cert.KernelIdeal.Body.defsH (F := F) 3) (onTc (τ := Cert.KernelIdeal.τ) (Cert.KernelIdeal.Body.mainH (F := F) 3)) s Q) :
    θ_run (Cert.Kernel3Ideal.defs (F := F)) (onTc (τ := Cert.Kernel3Ideal.τ) (Cert.Kernel3Ideal.main (F := F))) s Q := by
  unfold Cert.Kernel3Ideal.defs
  rewrite [defs_eq (F := F), main_eq (F := F)]
  exact H

end Cert.Kernel3Ideal.Same
-- ==== Proof.RefStage.lean ====
module

public import proofs.«01_k».proof.Proof.Gen.ReferenceIdeal.Run
public import Idealize.ShloMosaic.Lib.Pointwise

@[expose] public section

set_option maxRecDepth 16384

noncomputable section

/-!
# The reference in stages

The reference's result as a composition of named stages: keys, values, scores, the greatest score, the exponentials,
one over their sum, and the weighted sum of the values.
-/

namespace Cert.ReferenceIdeal.Stage
open Cert.ReferenceIdeal Cert.ReferenceIdeal.Gen
open Idealize.ShloMosaic Idealize.ShloMosaic.TcCoe Idealize.SL.Sem Idealize.ShloMosaic.StableHlo

/-- The keys of the pages, decoded and scaled. -/
def keysOf (KR : IVec S15360x128 32) (S : IVec S15360x64 32) : FVec Ideal S120x128x16x64 .bf16 :=
  shapeCast S120x128x16x64 (mulf (shapeCast S120x128x16x2x32 (transpose S120x128x8x2x16x4 [0, 1, 2, 5, 3, 4] (shapeCast S120x128x8x16x4x2 (sitofp .bf16 (select (cmpi .sge (andi (Host.shrsi (broadcastInDim S120x128x8x16x8 ![0, 1, 2, 3, 4] bcast_S120x128x8x16x1_S120x128x8x16x8_0_1_2_3_4 (broadcastInDim S120x128x8x16x1 ![0, 1, 2, 3] bcast_S120x128x8x16_S120x128x8x16x1_0_1_2_3 (shapeCast S120x128x8x16 KR shapeCasts_S15360x128_S120x128x8x16))) (broadcastInDim S120x128x8x16x8 ![0, 1, 2, 3, 4] bcast_S1x1x1x1x8_S120x128x8x16x8_0_1_2_3_4 (broadcastInDim S1x1x1x1x8 ![4] bcast_S8_S1x1x1x1x8_4 (muli (broadcastInDim S8 ![] bcast_S_S8 (constantI S_ 32 4#32)) (iotaInDim S8 32 0))))) (broadcastInDim S120x128x8x16x8 ![] bcast_S_S120x128x8x16x8 (constantI S_ 32 15#32))) (broadcastInDim S120x128x8x16x8 ![] bcast_S_S120x128x8x16x8 (constantI S_ 32 8#32))) (subi (andi (Host.shrsi (broadcastInDim S120x128x8x16x8 ![0, 1, 2, 3, 4] bcast_S120x128x8x16x1_S120x128x8x16x8_0_1_2_3_4 (broadcastInDim S120x128x8x16x1 ![0, 1, 2, 3] bcast_S120x128x8x16_S120x128x8x16x1_0_1_2_3 (shapeCast S120x128x8x16 KR shapeCasts_S15360x128_S120x128x8x16))) (broadcastInDim S120x128x8x16x8 ![0, 1, 2, 3, 4] bcast_S1x1x1x1x8_S120x128x8x16x8_0_1_2_3_4 (broadcastInDim S1x1x1x1x8 ![4] bcast_S8_S1x1x1x1x8_4 (muli (broadcastInDim S8 ![] bcast_S_S8 (constantI S_ 32 4#32)) (iotaInDim S8 32 0))))) (broadcastInDim S120x128x8x16x8 ![] bcast_S_S120x128x8x16x8 (constantI S_ 32 15#32))) (broadcastInDim S120x128x8x16x8 ![] bcast_S_S120x128x8x16x8 (constantI S_ 32 16#32))) (andi (Host.shrsi (broadcastInDim S120x128x8x16x8 ![0, 1, 2, 3, 4] bcast_S120x128x8x16x1_S120x128x8x16x8_0_1_2_3_4 (broadcastInDim S120x128x8x16x1 ![0, 1, 2, 3] bcast_S120x128x8x16_S120x128x8x16x1_0_1_2_3 (shapeCast S120x128x8x16 KR shapeCasts_S15360x128_S120x128x8x16))) (broadcastInDim S120x128x8x16x8 ![0, 1, 2, 3, 4] bcast_S1x1x1x1x8_S120x128x8x16x8_0_1_2_3_4 (broadcastInDim S1x1x1x1x8 ![4] bcast_S8_S1x1x1x1x8_4 (muli (broadcastInDim S8 ![] bcast_S_S8 (constantI S_ 32 4#32)) (iotaInDim S8 32 0))))) (broadcastInDim S120x128x8x16x8 ![] bcast_S_S120x128x8x16x8 (constantI S_ 32 15#32))))) shapeCasts_S120x128x8x16x8_S120x128x8x16x4x2) transposes_S120x128x8x16x4x2_S120x128x8x2x16x4_0_1_2_5_3_4) shapeCasts_S120x128x8x2x16x4_S120x128x16x2x32) (broadcastInDim S120x128x16x2x32 ![0, 1, 2, 3, 4] bcast_S120x128x16x2x1_S120x128x16x2x32_0_1_2_3_4 (broadcastInDim S120x128x16x2x1 ![0, 1, 2, 3] bcast_S120x128x16x2_S120x128x16x2x1_0_1_2_3 (shapeCast S120x128x16x2 (extractStridedSlice S120x128x1x16x2 ![0, 0, 0, 0, 0] (shapeCast S120x128x2x16x2 (bitcastToFloat .bf16 (trunci 16 S natLt_16_32)) shapeCasts_S15360x64_S120x128x2x16x2) slices_S120x128x2x16x2_S120x128x1x16x2_0_0_0_0_0) shapeCasts_S120x128x1x16x2_S120x128x16x2)))) shapeCasts_S120x128x16x2x32_S120x128x16x64
/-- The same, of the first head's rows of the scale words. -/
def keys (KR : IVec S15360x128 32) (SR : IVec S61440x128 32) : FVec Ideal S120x128x16x64 .bf16 :=
  keysOf KR (extractStridedSlice S15360x64 ![0, 0] SR slices_S61440x128_S15360x64_0_0)
/-- The values of the pages, decoded and scaled. -/
def valuesOf (VR : IVec S15360x128 32) (S : IVec S15360x64 32) : FVec Ideal S120x128x16x64 .bf16 :=
  shapeCast S120x128x16x64 (mulf (shapeCast S120x128x16x2x32 (sitofp .bf16 (select (cmpi .sge (andi (Host.shrsi (broadcastInDim S120x128x16x8x8 ![0, 1, 2, 3, 4] bcast_S120x128x16x8x1_S120x128x16x8x8_0_1_2_3_4 (broadcastInDim S120x128x16x8x1 ![0, 1, 2, 3] bcast_S120x128x16x8_S120x128x16x8x1_0_1_2_3 (shapeCast S120x128x16x8 VR shapeCasts_S15360x128_S120x128x16x8))) (broadcastInDim S120x128x16x8x8 ![0, 1, 2, 3, 4] bcast_S1x1x1x1x8_S120x128x16x8x8_0_1_2_3_4 (broadcastInDim S1x1x1x1x8 ![4] bcast_S8_S1x1x1x1x8_4 (muli (broadcastInDim S8 ![] bcast_S_S8 (constantI S_ 32 4#32)) (iotaInDim S8 32 0))))) (broadcastInDim S120x128x16x8x8 ![] bcast_S_S120x128x16x8x8 (constantI S_ 32 15#32))) (broadcastInDim S120x128x16x8x8 ![] bcast_S_S120x128x16x8x8 (constantI S_ 32 8#32))) (subi (andi (Host.shrsi (broadcastInDim S120x128x16x8x8 ![0, 1, 2, 3, 4] bcast_S120x128x16x8x1_S120x128x16x8x8_0_1_2_3_4 (broadcastInDim S120x128x16x8x1 ![0, 1, 2, 3] bcast_S120x128x16x8_S120x128x16x8x1_0_1_2_3 (shapeCast S120x128x16x8 VR shapeCasts_S15360x128_S120x128x16x8))) (broadcastInDim S120x128x16x8x8 ![0, 1, 2, 3, 4] bcast_S1x1x1x1x8_S120x128x16x8x8_0_1_2_3_4 (broadcastInDim S1x1x1x1x8 ![4] bcast_S8_S1x1x1x1x8_4 (muli (broadcastInDim S8 ![] bcast_S_S8 (constantI S_ 32 4#32)) (iotaInDim S8 32 0))))) (broadcastInDim S120x128x16x8x8 ![] bcast_S_S120x128x16x8x8 (constantI S_ 32 15#32))) (broadcastInDim S120x128x16x8x8 ![] bcast_S_S120x128x16x8x8 (constantI S_ 32 16#32))) (andi (Host.shrsi (broadcastInDim S120x128x16x8x8 ![0, 1, 2, 3, 4] bcast_S120x128x16x8x1_S120x128x16x8x8_0_1_2_3_4 (broadcastInDim S120x128x16x8x1 ![0, 1, 2, 3] bcast_S120x128x16x8_S120x128x16x8x1_0_1_2_3 (shapeCast S120x128x16x8 VR shapeCasts_S15360x128_S120x128x16x8))) (broadcastInDim S120x128x16x8x8 ![0, 1, 2, 3, 4] bcast_S1x1x1x1x8_S120x128x16x8x8_0_1_2_3_4 (broadcastInDim S1x1x1x1x8 ![4] bcast_S8_S1x1x1x1x8_4 (muli (broadcastInDim S8 ![] bcast_S_S8 (constantI S_ 32 4#32)) (iotaInDim S8 32 0))))) (broadcastInDim S120x128x16x8x8 ![] bcast_S_S120x128x16x8x8 (constantI S_ 32 15#32))))) shapeCasts_S120x128x16x8x8_S120x128x16x2x32) (broadcastInDim S120x128x16x2x32 ![0, 1, 2, 3, 4] bcast_S120x128x16x2x1_S120x128x16x2x32_0_1_2_3_4 (broadcastInDim S120x128x16x2x1 ![0, 1, 2, 3] bcast_S120x128x16x2_S120x128x16x2x1_0_1_2_3 (shapeCast S120x128x16x2 (extractStridedSlice S120x128x1x16x2 ![0, 0, 1, 0, 0] (shapeCast S120x128x2x16x2 (bitcastToFloat .bf16 (trunci 16 S natLt_16_32)) shapeCasts_S15360x64_S120x128x2x16x2) slices_S120x128x2x16x2_S120x128x1x16x2_0_0_1_0_0) shapeCasts_S120x128x1x16x2_S120x128x16x2)))) shapeCasts_S120x128x16x2x32_S120x128x16x64
/-- The same, of the first head's rows of the scale words. -/
def values (VR : IVec S15360x128 32) (SR : IVec S61440x128 32) : FVec Ideal S120x128x16x64 .bf16 :=
  valuesOf VR (extractStridedSlice S15360x64 ![0, 0] SR slices_S61440x128_S15360x64_0_0)
/-- The scaled scores of the tokens of the pages, `-∞` where there is no token. -/
def cacheScoresOf (Q : FVec Ideal S120x6x1x5x64 .bf16) (K : FVec Ideal S120x128x16x64 .bf16) (LEN : IVec S120 32) (P : IVec S120x1x128 32) : FVec Ideal S120x6x5x128x16 .f32 :=
  select (broadcastInDim S120x6x5x128x16 ![0, 1, 2, 3, 4] bcast_S120x1x1x128x16_S120x6x5x128x16_0_1_2_3_4 (broadcastInDim S120x1x1x128x16 ![0, 3, 4] bcast_S120x128x16_S120x1x1x128x16_0_3_4 (andi (broadcastInDim S120x128x16 ![0, 1, 2] bcast_S120x128x1_S120x128x16_0_1_2 (broadcastInDim S120x128x1 ![0, 1] bcast_S120x128_S120x128x1_0_1 (cmpi .sge (shapeCast S120x128 P shapeCasts_S120x1x128_S120x128) (broadcastInDim S120x128 ![] bcast_S_S120x128 (constantI S_ 32 0#32))))) (cmpi .sgt (broadcastInDim S120x128x16 ![0, 1, 2] bcast_S120x128x1_S120x128x16_0_1_2 (broadcastInDim S120x128x1 ![0, 1] bcast_S120x128_S120x128x1_0_1 (subi (broadcastInDim S120x128 ![0, 1] bcast_S120x1_S120x128_0_1 (broadcastInDim S120x1 ![0] bcast_S120_S120x1_0 LEN)) (muli (shapeCast S120x128 P shapeCasts_S120x1x128_S120x128) (broadcastInDim S120x128 ![] bcast_S_S120x128 (constantI S_ 32 16#32)))))) (broadcastInDim S120x128x16 ![0, 1, 2] bcast_S1x1x16_S120x128x16_0_1_2 (broadcastInDim S1x1x16 ![2] bcast_S16_S1x1x16_2 (iotaInDim S16 32 0))))))) (mulf (Host.dotGeneral dot_S120x6x5x64_S120x128x16x64_S120x6x5x128x16_3_3_12_12_0_0 none (shapeCast S120x6x5x64 Q shapeCasts_S120x6x1x5x64_S120x6x5x64) K) (broadcastInDim S120x6x5x128x16 ![] bcast_S_S120x6x5x128x16 (constant S_ .f32 0x3E000000#32))) (broadcastInDim S120x6x5x128x16 ![] bcast_S_S120x6x5x128x16 (constant S_ .f32 0xFF800000#32))
/-- The same, of the first head's queries and pages. -/
def cacheScores (X : FVec Ideal S120x6x20x64 .bf16) (K : FVec Ideal S120x128x16x64 .bf16) (LEN : IVec S120 32) (SEL : IVec S120x4x128 32) : FVec Ideal S120x6x5x128x16 .f32 :=
  cacheScoresOf (extractStridedSlice S120x6x1x5x64 ![0, 0, 0, 0, 0] (shapeCast S120x6x4x5x64 X shapeCasts_S120x6x20x64_S120x6x4x5x64) slices_S120x6x4x5x64_S120x6x1x5x64_0_0_0_0_0) K LEN (extractStridedSlice S120x1x128 ![0, 0, 0] SEL slices_S120x4x128_S120x1x128_0_0_0)
/-- The scaled scores of the new tokens, `-∞` for later ones. -/
def newScoresOf (Q : FVec Ideal S120x6x1x5x64 .bf16) (N : FVec Ideal S120x6x1x64 .bf16) : FVec Ideal S120x6x5x6 .f32 :=
  select (broadcastInDim S120x6x5x6 ![1, 2, 3] bcast_S6x1x6_S120x6x5x6_1_2_3 (broadcastInDim S6x1x6 ![0, 2] bcast_S6x6_S6x1x6_0_2 (cmpi .sge (broadcastInDim S6x6 ![0, 1] bcast_S6x1_S6x6_0_1 (broadcastInDim S6x1 ![0] bcast_S6_S6x1_0 (iotaInDim S6 32 0))) (broadcastInDim S6x6 ![0, 1] bcast_S1x6_S6x6_0_1 (broadcastInDim S1x6 ![1] bcast_S6_S1x6_1 (iotaInDim S6 32 0)))))) (mulf (Host.dotGeneral dot_S120x6x5x64_S120x6x64_S120x6x5x6_3_2_12_1_0_0 none (shapeCast S120x6x5x64 Q shapeCasts_S120x6x1x5x64_S120x6x5x64) (shapeCast S120x6x64 N shapeCasts_S120x6x1x64_S120x6x64)) (broadcastInDim S120x6x5x6 ![] bcast_S_S120x6x5x6 (constant S_ .f32 0x3E000000#32))) (broadcastInDim S120x6x5x6 ![] bcast_S_S120x6x5x6 (constant S_ .f32 0xFF800000#32))
/-- The same, of the first head's queries and new keys. -/
def newScores (X : FVec Ideal S120x6x20x64 .bf16) (KN : FVec Ideal S120x6x4x64 .bf16) : FVec Ideal S120x6x5x6 .f32 :=
  newScoresOf (extractStridedSlice S120x6x1x5x64 ![0, 0, 0, 0, 0] (shapeCast S120x6x4x5x64 X shapeCasts_S120x6x20x64_S120x6x4x5x64) slices_S120x6x4x5x64_S120x6x1x5x64_0_0_0_0_0) (extractStridedSlice S120x6x1x64 ![0, 0, 0, 0] KN slices_S120x6x4x64_S120x6x1x64_0_0_0_0)
/-- The greatest score of a query. -/
def rowMax (s : FVec Ideal S120x6x5x128x16 .f32) (n : FVec Ideal S120x6x5x6 .f32) : FVec Ideal S120x6x5 .f32 :=
  maximumf (Host.reduce FloatOps.maximumf (Host.reduce FloatOps.maximumf s (constant S_ .f32 0xFF800000#32) reducesTo_S120x6x5x128x16_S120x6x5x128_d4 h_S_) (constant S_ .f32 0xFF800000#32) reducesTo_S120x6x5x128_S120x6x5_d3 h_S_) (Host.reduce FloatOps.maximumf n (constant S_ .f32 0xFF800000#32) reducesTo_S120x6x5x6_S120x6x5_d3 h_S_)
/-- The exponentials of the pages' tokens. -/
def cacheExp (s : FVec Ideal S120x6x5x128x16 .f32) (M : FVec Ideal S120x6x5 .f32) : FVec Ideal S120x6x5x128x16 .f32 :=
  Host.exp (subf s (broadcastInDim S120x6x5x128x16 ![0, 1, 2, 3, 4] bcast_S120x6x5x1x1_S120x6x5x128x16_0_1_2_3_4 (broadcastInDim S120x6x5x1x1 ![0, 1, 2] bcast_S120x6x5_S120x6x5x1x1_0_1_2 M)))
/-- The exponentials of the new tokens. -/
def newExp (n : FVec Ideal S120x6x5x6 .f32) (M : FVec Ideal S120x6x5 .f32) : FVec Ideal S120x6x5x6 .f32 :=
  Host.exp (subf n (broadcastInDim S120x6x5x6 ![0, 1, 2, 3] bcast_S120x6x5x1_S120x6x5x6_0_1_2_3 (broadcastInDim S120x6x5x1 ![0, 1, 2] bcast_S120x6x5_S120x6x5x1_0_1_2 M)))
/-- One over the sum of the exponentials. -/
def rowInv (e : FVec Ideal S120x6x5x128x16 .f32) (f : FVec Ideal S120x6x5x6 .f32) : FVec Ideal S120x6x5 .f32 :=
  Host.divf (broadcastInDim S120x6x5 ![] bcast_S_S120x6x5 (constant S_ .f32 0x3F800000#32)) (addf (Host.reduceAdd (Host.reduceAdd e (constant S_ .f32 0x00000000#32) reducesTo_S120x6x5x128x16_S120x6x5x128_d4 h_S_) (constant S_ .f32 0x00000000#32) reducesTo_S120x6x5x128_S120x6x5_d3 h_S_) (Host.reduceAdd f (constant S_ .f32 0x00000000#32) reducesTo_S120x6x5x6_S120x6x5_d3 h_S_))
/-- The weighted sum of the values. -/
def outputOf (e : FVec Ideal S120x6x5x128x16 .f32) (f : FVec Ideal S120x6x5x6 .f32) (d : FVec Ideal S120x6x5 .f32) (V : FVec Ideal S120x128x16x64 .bf16) (N : FVec Ideal S120x6x1x64 .bf16) : FVec Ideal S120x6x5x64 .bf16 :=
  truncf .bf16 (addf (Host.dotGeneral dot_S120x6x5x128x16_S120x128x16x64_S120x6x5x64_43_21_12_3_0_0 none (truncf .bf16 (mulf e (broadcastInDim S120x6x5x128x16 ![0, 1, 2, 3, 4] bcast_S120x6x5x1x1_S120x6x5x128x16_0_1_2_3_4 (broadcastInDim S120x6x5x1x1 ![0, 1, 2] bcast_S120x6x5_S120x6x5x1x1_0_1_2 d))) bitsLt_bf16_f32) V) (Host.dotGeneral dot_S120x6x5x6_S120x6x64_S120x6x5x64_3_1_12_2_0_0 none (truncf .bf16 (mulf f (broadcastInDim S120x6x5x6 ![0, 1, 2, 3] bcast_S120x6x5x1_S120x6x5x6_0_1_2_3 (broadcastInDim S120x6x5x1 ![0, 1, 2] bcast_S120x6x5_S120x6x5x1_0_1_2 d))) bitsLt_bf16_f32) (shapeCast S120x6x64 N shapeCasts_S120x6x1x64_S120x6x64))) bitsLt_bf16_f32
/-- The same, of the first head's new values. -/
def output (e : FVec Ideal S120x6x5x128x16 .f32) (f : FVec Ideal S120x6x5x6 .f32) (d : FVec Ideal S120x6x5 .f32) (V : FVec Ideal S120x128x16x64 .bf16) (VN : FVec Ideal S120x6x4x64 .bf16) : FVec Ideal S120x6x5x64 .bf16 :=
  outputOf e f d V (extractStridedSlice S120x6x1x64 ![0, 0, 0, 0] VN slices_S120x6x4x64_S120x6x1x64_0_0_0_0)

/-- The whole reference as a function of its arguments. -/
def whole (X : FVec Ideal S120x6x20x64 .bf16) (KN VN : FVec Ideal S120x6x4x64 .bf16) (KR VR : IVec S15360x128 32) (SR : IVec S61440x128 32) (LEN : IVec S120 32) (SEL : IVec S120x4x128 32) : FVec Ideal S120x6x5x64 .bf16 :=
  let s := cacheScores X (keys KR SR) LEN SEL
  let n := newScores X KN
  let M := rowMax s n
  output (cacheExp s M) (newExp n M) (rowInv (cacheExp s M) (newExp n M)) (values VR SR) VN

/-- The whole reference as a function of one head's arrays. -/
def wholeOf (Q : FVec Ideal S120x6x1x5x64 .bf16) (KN VN : FVec Ideal S120x6x1x64 .bf16) (S : IVec S15360x64 32) (P : IVec S120x1x128 32) (KR VR : IVec S15360x128 32) (LEN : IVec S120 32) : FVec Ideal S120x6x5x64 .bf16 :=
  let s := cacheScoresOf Q (keysOf KR S) LEN P
  let n := newScoresOf Q KN
  let M := rowMax s n
  outputOf (cacheExp s M) (newExp n M) (rowInv (cacheExp s M) (newExp n M)) (valuesOf VR S) VN

end Cert.ReferenceIdeal.Stage
-- ==== Proof.RefHeads.lean ====
module

public import proofs.«01_k».proof.Proof.RefStage
public import proofs.«01_k».proof.Proof.Gen.Reference1Ideal.Run
public import proofs.«01_k».proof.Proof.Gen.Reference2Ideal.Run
public import proofs.«01_k».proof.Proof.Gen.Reference3Ideal.Run

@[expose] public section

set_option maxRecDepth 16384
set_option maxHeartbeats 1000000

noncomputable section

/-!
# The reference of each head

Head `h`'s reference is the first head's (`whole`) on the arrays whose heads are moved round so that head `h` comes first.
-/

namespace Cert.ReferenceIdeal.Stage
open Cert.ReferenceIdeal Cert.ReferenceIdeal.Gen
open Idealize.ShloMosaic Idealize.ShloMosaic.TcCoe Idealize.SL.Sem Idealize.ShloMosaic.StableHlo

/-- The queries, head `h`'s first. -/
def moveX (h : Fin 4) (X : FVec Ideal S120x6x20x64 .bf16) : FVec Ideal S120x6x20x64 .bf16 :=
  fun j => X (ix4 (⟨(j 0).val, (j 0).isLt⟩ : Fin 120) (⟨(j 1).val, (j 1).isLt⟩ : Fin 6) (⟨(h.val * 5 + (j 2).val) % 20, by omega⟩ : Fin 20) (⟨(j 3).val, (j 3).isLt⟩ : Fin 64))
/-- The new keys or values, head `h`'s first. -/
def moveN (h : Fin 4) (Y : FVec Ideal S120x6x4x64 .bf16) : FVec Ideal S120x6x4x64 .bf16 :=
  fun j => Y (ix4 (⟨(j 0).val, (j 0).isLt⟩ : Fin 120) (⟨(j 1).val, (j 1).isLt⟩ : Fin 6) (⟨(h.val + (j 2).val) % 4, by omega⟩ : Fin 4) (⟨(j 3).val, (j 3).isLt⟩ : Fin 64))
/-- The scale words, head `h`'s first. -/
def moveS (h : Fin 4) (SR : IVec S61440x128 32) : IVec S61440x128 32 :=
  fun j => SR (ix2 (⟨(h.val * 15360 + (j 0).val) % 61440, by omega⟩ : Fin 61440) (⟨(j 1).val, (j 1).isLt⟩ : Fin 128))
/-- The selected pages, head `h`'s first. -/
def moveP (h : Fin 4) (SEL : IVec S120x4x128 32) : IVec S120x4x128 32 :=
  fun j => SEL (ix3 (⟨(j 0).val, (j 0).isLt⟩ : Fin 120) (⟨(h.val + (j 1).val) % 4, by omega⟩ : Fin 4) (⟨(j 2).val, (j 2).isLt⟩ : Fin 128))

theorem slice_X (h : Fin 4) (X : FVec Ideal S120x6x20x64 .bf16) (hs : S120x6x4x5x64.Slices ![0, 0, h.val, 0, 0] S120x6x1x5x64) :
    extractStridedSlice S120x6x1x5x64 ![0, 0, h.val, 0, 0] (shapeCast S120x6x4x5x64 X shapeCasts_S120x6x20x64_S120x6x4x5x64) hs
      = extractStridedSlice S120x6x1x5x64 ![0, 0, 0, 0, 0] (shapeCast S120x6x4x5x64 (moveX h X) shapeCasts_S120x6x20x64_S120x6x4x5x64) slices_S120x6x4x5x64_S120x6x1x5x64_0_0_0_0_0 := by
  funext j
  obtain ⟨b, s, z, g, e, rfl⟩ : ∃ (b : Fin 120) (s : Fin 6) (z : Fin 1) (g : Fin 5) (e : Fin 64), j = ix5 b s z g e :=
    ⟨⟨(j 0).val, (j 0).isLt⟩, ⟨(j 1).val, (j 1).isLt⟩, ⟨(j 2).val, (j 2).isLt⟩, ⟨(j 3).val, (j 3).isLt⟩, ⟨(j 4).val, (j 4).isLt⟩, by
      funext a
      match a with
      | ⟨0, _⟩ => rfl
      | ⟨1, _⟩ => rfl
      | ⟨2, _⟩ => rfl
      | ⟨3, _⟩ => rfl
      | ⟨4, _⟩ => rfl⟩
  pointwise [moveX]
  congr 2
  apply Fin.ext
  dsimp only
  omega

theorem slice_N (h : Fin 4) (Y : FVec Ideal S120x6x4x64 .bf16) (hs : S120x6x4x64.Slices ![0, 0, h.val, 0] S120x6x1x64) :
    extractStridedSlice S120x6x1x64 ![0, 0, h.val, 0] Y hs = extractStridedSlice S120x6x1x64 ![0, 0, 0, 0] (moveN h Y) slices_S120x6x4x64_S120x6x1x64_0_0_0_0 := by
  funext j
  obtain ⟨b, s, z, e, rfl⟩ : ∃ (b : Fin 120) (s : Fin 6) (z : Fin 1) (e : Fin 64), j = ix4 b s z e :=
    ⟨⟨(j 0).val, (j 0).isLt⟩, ⟨(j 1).val, (j 1).isLt⟩, ⟨(j 2).val, (j 2).isLt⟩, ⟨(j 3).val, (j 3).isLt⟩, by
      funext a
      match a with
      | ⟨0, _⟩ => rfl
      | ⟨1, _⟩ => rfl
      | ⟨2, _⟩ => rfl
      | ⟨3, _⟩ => rfl⟩
  pointwise [moveN]
  congr 2
  apply Fin.ext
  dsimp only
  omega

theorem slice_S (h : Fin 4) (SR : IVec S61440x128 32) (hs : S61440x128.Slices ![h.val * 15360, 0] S15360x64) :
    extractStridedSlice S15360x64 ![h.val * 15360, 0] SR hs = extractStridedSlice S15360x64 ![0, 0] (moveS h SR) slices_S61440x128_S15360x64_0_0 := by
  funext j
  obtain ⟨r, i, rfl⟩ : ∃ (r : Fin 15360) (i : Fin 64), j = ix2 r i :=
    ⟨⟨(j 0).val, (j 0).isLt⟩, ⟨(j 1).val, (j 1).isLt⟩, by
      funext a
      match a with
      | ⟨0, _⟩ => rfl
      | ⟨1, _⟩ => rfl⟩
  pointwise [moveS]
  congr 2
  apply Fin.ext
  dsimp only
  omega

theorem slice_P (h : Fin 4) (SEL : IVec S120x4x128 32) (hs : S120x4x128.Slices ![0, h.val, 0] S120x1x128) :
    extractStridedSlice S120x1x128 ![0, h.val, 0] SEL hs = extractStridedSlice S120x1x128 ![0, 0, 0] (moveP h SEL) slices_S120x4x128_S120x1x128_0_0_0 := by
  funext j
  obtain ⟨b, z, t, rfl⟩ : ∃ (b : Fin 120) (z : Fin 1) (t : Fin 128), j = ix3 b z t :=
    ⟨⟨(j 0).val, (j 0).isLt⟩, ⟨(j 1).val, (j 1).isLt⟩, ⟨(j 2).val, (j 2).isLt⟩, by
      funext a
      match a with
      | ⟨0, _⟩ => rfl
      | ⟨1, _⟩ => rfl
      | ⟨2, _⟩ => rfl⟩
  pointwise [moveP]
  congr 2
  apply Fin.ext
  dsimp only
  omega

/-- Head `h`'s reference as a function of its arguments. -/
def wholeH (h : Fin 4) (X : FVec Ideal S120x6x20x64 .bf16) (KN VN : FVec Ideal S120x6x4x64 .bf16) (KR VR : IVec S15360x128 32) (SR : IVec S61440x128 32) (LEN : IVec S120 32) (SEL : IVec S120x4x128 32) : FVec Ideal S120x6x5x64 .bf16 :=
  whole (moveX h X) (moveN h KN) (moveN h VN) KR VR (moveS h SR) LEN (moveP h SEL)

theorem wholeH_congr (h : Fin 4) {X X' : FVec Ideal S120x6x20x64 .bf16} {KN KN' VN VN' : FVec Ideal S120x6x4x64 .bf16} {KR KR' VR VR' : IVec S15360x128 32} {SR SR' : IVec S61440x128 32} {LEN LEN' : IVec S120 32} {SEL SEL' : IVec S120x4x128 32}
    (h0 : X = X') (h1 : KN = KN') (h2 : VN = VN') (h3 : KR = KR') (h4 : VR = VR') (h5 : SR = SR') (h6 : LEN = LEN') (h7 : SEL = SEL') :
    wholeH h X KN VN KR VR SR LEN SEL = wholeH h X' KN' VN' KR' VR' SR' LEN' SEL' := by
  rw [h0, h1, h2, h3, h4, h5, h6, h7]

theorem wholeH_eq (h : Fin 4) (X : FVec Ideal S120x6x20x64 .bf16) (KN VN : FVec Ideal S120x6x4x64 .bf16) (KR VR : IVec S15360x128 32) (SR : IVec S61440x128 32) (LEN : IVec S120 32) (SEL : IVec S120x4x128 32)
    (hX : S120x6x4x5x64.Slices ![0, 0, h.val, 0, 0] S120x6x1x5x64) (hN : S120x6x4x64.Slices ![0, 0, h.val, 0] S120x6x1x64)
    (hS : S61440x128.Slices ![h.val * 15360, 0] S15360x64) (hP : S120x4x128.Slices ![0, h.val, 0] S120x1x128) :
    wholeOf (extractStridedSlice S120x6x1x5x64 ![0, 0, h.val, 0, 0] (shapeCast S120x6x4x5x64 X shapeCasts_S120x6x20x64_S120x6x4x5x64) hX)
      (extractStridedSlice S120x6x1x64 ![0, 0, h.val, 0] KN hN) (extractStridedSlice S120x6x1x64 ![0, 0, h.val, 0] VN hN)
      (extractStridedSlice S15360x64 ![h.val * 15360, 0] SR hS) (extractStridedSlice S120x1x128 ![0, h.val, 0] SEL hP) KR VR LEN
      = wholeH h X KN VN KR VR SR LEN SEL := by
  rw [slice_X, slice_N, slice_N, slice_S, slice_P]
  rfl

theorem result_eq0 (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v125 m c = wholeH 0 (m ((c.tc : Thread nD τ).loc Cert.ReferenceIdeal.main_arg0)) (m ((c.tc : Thread nD τ).loc Cert.ReferenceIdeal.main_arg1)) (m ((c.tc : Thread nD τ).loc Cert.ReferenceIdeal.main_arg2)) (m ((c.tc : Thread nD τ).loc Cert.ReferenceIdeal.main_arg3))
      (m ((c.tc : Thread nD τ).loc Cert.ReferenceIdeal.main_arg4)) (m ((c.tc : Thread nD τ).loc Cert.ReferenceIdeal.main_arg5)) (m ((c.tc : Thread nD τ).loc Cert.ReferenceIdeal.main_arg6)) (m ((c.tc : Thread nD τ).loc Cert.ReferenceIdeal.main_arg7)) := by
  refine Eq.trans ?_ (wholeH_eq 0 _ _ _ _ _ _ _ _ (by decide) (by decide) (by decide) (by decide))
  unfold Cert.ReferenceIdeal.Value.res_main_v125 wholeOf
  dsimp only [outputOf, rowInv, cacheExp, newExp, rowMax, newScoresOf, cacheScoresOf, valuesOf, keysOf]
  rfl

theorem result_eq1 (m : (ℓ : Loc Cert.Reference1Ideal.nD Cert.Reference1Ideal.τ Cert.Reference1Ideal.sig) → Buf (Elt Ideal) ℓ) (c : Dev Cert.Reference1Ideal.nD) :
    Cert.Reference1Ideal.Value.res_main_v125 m c = wholeH 1 (m ((c.tc : Thread nD τ).loc Cert.Reference1Ideal.main_arg0)) (m ((c.tc : Thread nD τ).loc Cert.Reference1Ideal.main_arg1)) (m ((c.tc : Thread nD τ).loc Cert.Reference1Ideal.main_arg2)) (m ((c.tc : Thread nD τ).loc Cert.Reference1Ideal.main_arg3))
      (m ((c.tc : Thread nD τ).loc Cert.Reference1Ideal.main_arg4)) (m ((c.tc : Thread nD τ).loc Cert.Reference1Ideal.main_arg5)) (m ((c.tc : Thread nD τ).loc Cert.Reference1Ideal.main_arg6)) (m ((c.tc : Thread nD τ).loc Cert.Reference1Ideal.main_arg7)) := by
  refine Eq.trans ?_ (wholeH_eq 1 _ _ _ _ _ _ _ _ (by decide) (by decide) (by decide) (by decide))
  unfold Cert.Reference1Ideal.Value.res_main_v125 wholeOf
  dsimp only [outputOf, rowInv, cacheExp, newExp, rowMax, newScoresOf, cacheScoresOf, valuesOf, keysOf]
  rfl

theorem result_eq2 (m : (ℓ : Loc Cert.Reference2Ideal.nD Cert.Reference2Ideal.τ Cert.Reference2Ideal.sig) → Buf (Elt Ideal) ℓ) (c : Dev Cert.Reference2Ideal.nD) :
    Cert.Reference2Ideal.Value.res_main_v125 m c = wholeH 2 (m ((c.tc : Thread nD τ).loc Cert.Reference2Ideal.main_arg0)) (m ((c.tc : Thread nD τ).loc Cert.Reference2Ideal.main_arg1)) (m ((c.tc : Thread nD τ).loc Cert.Reference2Ideal.main_arg2)) (m ((c.tc : Thread nD τ).loc Cert.Reference2Ideal.main_arg3))
      (m ((c.tc : Thread nD τ).loc Cert.Reference2Ideal.main_arg4)) (m ((c.tc : Thread nD τ).loc Cert.Reference2Ideal.main_arg5)) (m ((c.tc : Thread nD τ).loc Cert.Reference2Ideal.main_arg6)) (m ((c.tc : Thread nD τ).loc Cert.Reference2Ideal.main_arg7)) := by
  refine Eq.trans ?_ (wholeH_eq 2 _ _ _ _ _ _ _ _ (by decide) (by decide) (by decide) (by decide))
  unfold Cert.Reference2Ideal.Value.res_main_v125 wholeOf
  dsimp only [outputOf, rowInv, cacheExp, newExp, rowMax, newScoresOf, cacheScoresOf, valuesOf, keysOf]
  rfl

theorem result_eq3 (m : (ℓ : Loc Cert.Reference3Ideal.nD Cert.Reference3Ideal.τ Cert.Reference3Ideal.sig) → Buf (Elt Ideal) ℓ) (c : Dev Cert.Reference3Ideal.nD) :
    Cert.Reference3Ideal.Value.res_main_v125 m c = wholeH 3 (m ((c.tc : Thread nD τ).loc Cert.Reference3Ideal.main_arg0)) (m ((c.tc : Thread nD τ).loc Cert.Reference3Ideal.main_arg1)) (m ((c.tc : Thread nD τ).loc Cert.Reference3Ideal.main_arg2)) (m ((c.tc : Thread nD τ).loc Cert.Reference3Ideal.main_arg3))
      (m ((c.tc : Thread nD τ).loc Cert.Reference3Ideal.main_arg4)) (m ((c.tc : Thread nD τ).loc Cert.Reference3Ideal.main_arg5)) (m ((c.tc : Thread nD τ).loc Cert.Reference3Ideal.main_arg6)) (m ((c.tc : Thread nD τ).loc Cert.Reference3Ideal.main_arg7)) := by
  refine Eq.trans ?_ (wholeH_eq 3 _ _ _ _ _ _ _ _ (by decide) (by decide) (by decide) (by decide))
  unfold Cert.Reference3Ideal.Value.res_main_v125 wholeOf
  dsimp only [outputOf, rowInv, cacheExp, newExp, rowMax, newScoresOf, cacheScoresOf, valuesOf, keysOf]
  rfl

end Cert.ReferenceIdeal.Stage
-- ==== Proof.Codes.lean ====
module

public import Idealize.ShloMosaic.Lib.Pointwise

@[expose] public section

set_option maxRecDepth 16384

noncomputable section

/-!
# Signed four-bit codes

A word holds eight four-bit codes. The reference takes one by a shift, a mask and a subtraction of 16 above 7; the
kernel masks one code in each half of the word, flips bits so that the half is a bfloat16 near 136, and subtracts 136.
Both are the code read as a signed number.
-/

namespace Cert.Attn
open Idealize.ShloMosaic

/-- A four-bit code as a signed number. -/
def code (x : BitVec 4) : EReal := ((x.toInt : ℝ) : EReal)

theorem code_cases : ∀ x : BitVec 4,
    (Scalar.select (IntOp.cmpi .sge (x.setWidth 32) 8#32) (IntOp.subi (x.setWidth 32) 16#32) (x.setWidth 32)).toInt = x.toInt := by
  decide

theorem shift_word (w : BitVec 32) (n : ℕ) (hn : n < 8) :
    IntOp.andi (IntOp.shrsi .host w (IntOp.muli (4#32) (BitVec.ofNat 32 n))) 15#32 = (w.extractLsb' (4 * n) 4).setWidth 32 := by
  have e : IntOp.shrsi .host w (IntOp.muli (4#32) (BitVec.ofNat 32 n)) = w.sshiftRight (4 * n) := by
    have h : (IntOp.muli (4#32) (BitVec.ofNat 32 n)).toNat = 4 * n := by
      simp only [IntOp.muli, BitVec.toNat_mul, BitVec.toNat_ofNat]; omega
    unfold IntOp.shrsi
    rw [h, if_pos (by omega), BitVec.sshiftRight', h]
  rw [e]
  unfold IntOp.andi
  apply BitVec.eq_of_getLsbD_eq
  intro i hi
  simp only [BitVec.getLsbD_and, BitVec.getLsbD_sshiftRight, BitVec.getLsbD_setWidth, BitVec.getLsbD_extractLsb', hi]
  by_cases h4 : i < 4
  · have : (15#32).getLsbD i = true := by interval_cases i <;> rfl
    simp [this, h4, show 4 * n + i < 32 by omega]
    exact fun _ => hi
  · have : (15#32).getLsbD i = false := by
      interval_cases i <;> first | omega | rfl
    simp [this, h4]

/-- The reference's decoding. -/
theorem decode_ref (w : BitVec 32) (n : ℕ) (hn : n < 8) :
    FloatOps.sitofp (F := Ideal) FTy.bf16
        (Scalar.select
          (IntOp.cmpi CmpIPredicate.sge (IntOp.andi (IntOp.shrsi ArithUnit.host w (IntOp.muli (4#32) (BitVec.ofNat 32 n))) 15#32) 8#32)
          (IntOp.subi (IntOp.andi (IntOp.shrsi ArithUnit.host w (IntOp.muli (4#32) (BitVec.ofNat 32 n))) 15#32) 16#32)
          (IntOp.andi (IntOp.shrsi ArithUnit.host w (IntOp.muli (4#32) (BitVec.ofNat 32 n))) 15#32))
      = code (w.extractLsb' (4 * n) 4) := by
  rw [shift_word w n hn]
  show ((((Scalar.select _ _ _ : BitVec 32).toInt : ℝ)) : EReal) = _
  rw [code_cases]; rfl

theorem bits_136 : Ideal.ofBits .bf16 0x4308#16 = ((136 : ℝ) : EReal) := by simp [Ideal.ofBits, Ideal.ieee, -EReal.coe_mul]
theorem bits_137 : Ideal.ofBits .bf16 0x4309#16 = ((137 : ℝ) : EReal) := by simp [Ideal.ofBits, Ideal.ieee, -EReal.coe_mul]
theorem bits_138 : Ideal.ofBits .bf16 0x430A#16 = ((138 : ℝ) : EReal) := by simp [Ideal.ofBits, Ideal.ieee, -EReal.coe_mul]
theorem bits_139 : Ideal.ofBits .bf16 0x430B#16 = ((139 : ℝ) : EReal) := by simp [Ideal.ofBits, Ideal.ieee, -EReal.coe_mul]
theorem bits_140 : Ideal.ofBits .bf16 0x430C#16 = ((140 : ℝ) : EReal) := by simp [Ideal.ofBits, Ideal.ieee, -EReal.coe_mul]
theorem bits_141 : Ideal.ofBits .bf16 0x430D#16 = ((141 : ℝ) : EReal) := by simp [Ideal.ofBits, Ideal.ieee, -EReal.coe_mul]
theorem bits_142 : Ideal.ofBits .bf16 0x430E#16 = ((142 : ℝ) : EReal) := by simp [Ideal.ofBits, Ideal.ieee, -EReal.coe_mul]
theorem bits_143 : Ideal.ofBits .bf16 0x430F#16 = ((143 : ℝ) : EReal) := by simp [Ideal.ofBits, Ideal.ieee, -EReal.coe_mul]
theorem bits_128 : Ideal.ofBits .bf16 0x4300#16 = ((128 : ℝ) : EReal) := by simp [Ideal.ofBits, Ideal.ieee, -EReal.coe_mul]
theorem bits_129 : Ideal.ofBits .bf16 0x4301#16 = ((129 : ℝ) : EReal) := by simp [Ideal.ofBits, Ideal.ieee, -EReal.coe_mul]
theorem bits_130 : Ideal.ofBits .bf16 0x4302#16 = ((130 : ℝ) : EReal) := by simp [Ideal.ofBits, Ideal.ieee, -EReal.coe_mul]
theorem bits_131 : Ideal.ofBits .bf16 0x4303#16 = ((131 : ℝ) : EReal) := by simp [Ideal.ofBits, Ideal.ieee, -EReal.coe_mul]
theorem bits_132 : Ideal.ofBits .bf16 0x4304#16 = ((132 : ℝ) : EReal) := by simp [Ideal.ofBits, Ideal.ieee, -EReal.coe_mul]
theorem bits_133 : Ideal.ofBits .bf16 0x4305#16 = ((133 : ℝ) : EReal) := by simp [Ideal.ofBits, Ideal.ieee, -EReal.coe_mul]
theorem bits_134 : Ideal.ofBits .bf16 0x4306#16 = ((134 : ℝ) : EReal) := by simp [Ideal.ofBits, Ideal.ieee, -EReal.coe_mul]
theorem bits_135 : Ideal.ofBits .bf16 0x4307#16 = ((135 : ℝ) : EReal) := by simp [Ideal.ofBits, Ideal.ieee, -EReal.coe_mul]

theorem half_value (b : BitVec 16) (v : ℝ) (n : ℤ) (h : Ideal.ofBits .bf16 b = (v : EReal)) (hv : v - 136 = (n : ℝ)) :
    Ideal.ofBits .bf16 b - Ideal.ofBits .bf16 0x4308#16 = ((n : ℝ) : EReal) := by
  rw [h, bits_136, ← EReal.coe_sub, hv]

theorem half_cases (x : BitVec 4) : Ideal.ofBits .bf16 (x.setWidth 16 ^^^ 0x4308#16) - Ideal.ofBits .bf16 0x4308#16 = code x := by
  obtain ⟨x⟩ := x
  fin_cases x
  · exact half_value 0x4308#16 136 (0) bits_136 (by norm_num)
  · exact half_value 0x4309#16 137 (1) bits_137 (by norm_num)
  · exact half_value 0x430A#16 138 (2) bits_138 (by norm_num)
  · exact half_value 0x430B#16 139 (3) bits_139 (by norm_num)
  · exact half_value 0x430C#16 140 (4) bits_140 (by norm_num)
  · exact half_value 0x430D#16 141 (5) bits_141 (by norm_num)
  · exact half_value 0x430E#16 142 (6) bits_142 (by norm_num)
  · exact half_value 0x430F#16 143 (7) bits_143 (by norm_num)
  · exact half_value 0x4300#16 128 (-8) bits_128 (by norm_num)
  · exact half_value 0x4301#16 129 (-7) bits_129 (by norm_num)
  · exact half_value 0x4302#16 130 (-6) bits_130 (by norm_num)
  · exact half_value 0x4303#16 131 (-5) bits_131 (by norm_num)
  · exact half_value 0x4304#16 132 (-4) bits_132 (by norm_num)
  · exact half_value 0x4305#16 133 (-3) bits_133 (by norm_num)
  · exact half_value 0x4306#16 134 (-2) bits_134 (by norm_num)
  · exact half_value 0x4307#16 135 (-1) bits_135 (by norm_num)

theorem half_word (w : BitVec 32) (s h : ℕ) (hs : s = 0 ∨ s = 4 ∨ s = 8 ∨ s = 12) (hh : h < 2) :
    ((((w >>> s) &&& 983055#32) ^^^ 1124614920#32).extractLsb' (16 * h) 16) = (w.extractLsb' (16 * h + s) 4).setWidth 16 ^^^ 0x4308#16 := by
  apply BitVec.eq_of_getLsbD_eq
  intro i hi
  have hm : ∀ h < 2, ∀ i < 16, (983055#32).getLsbD (16 * h + i) = decide (i < 4) ∧ (1124614920#32).getLsbD (16 * h + i) = (0x4308#16).getLsbD i := by decide
  obtain ⟨h1, h2⟩ := hm h hh i hi
  simp only [BitVec.getLsbD_xor, BitVec.getLsbD_and, BitVec.getLsbD_ushiftRight, BitVec.getLsbD_setWidth, BitVec.getLsbD_extractLsb', hi, h1, h2]
  by_cases h4 : i < 4
  · have e : s + (16 * h + i) = 16 * h + s + i := by omega
    simp [h4, e]
  · simp [h4]

/-- The kernel's decoding. -/
theorem decode_half (w : BitVec 32) (s h : ℕ) (hs : s = 0 ∨ s = 4 ∨ s = 8 ∨ s = 12) (hh : h < 2) :
    Ideal.ofBits .bf16 ((((w >>> s) &&& 983055#32) ^^^ 1124614920#32).extractLsb' (16 * h) 16) - Ideal.ofBits .bf16 0x4308#16
      = code (w.extractLsb' (16 * h + s) 4) := by
  rw [half_word w s h hs hh]
  exact half_cases _

end Cert.Attn
-- ==== Proof.Fold.lean ====
module

public import Idealize.ShloMosaic.Lib.Pointwise
public import Idealize.ShloMosaic.Lib.IdealHost

@[expose] public section

noncomputable section

/-!
# Greatest elements and sums over pairs and disjoint unions

The fold of `max` from `-∞` is the least upper bound; a bound or a sum over pairs, or over a disjoint union, taken in two steps.
-/

namespace Cert.Attn
open Idealize.ShloMosaic

theorem bits_bot : Ideal.ofBits .f32 0xFF800000#32 = (⊥ : EReal) := by simp [Ideal.ofBits, Ideal.ieee]

theorem bits_eighth : Ideal.ofBits .f32 0x3E000000#32 = ((8⁻¹ : ℝ) : EReal) := by
  simp [Ideal.ofBits, Ideal.ieee, -EReal.coe_mul]; norm_num

theorem fold_eq_sup {I : Type} (S : Finset I) (f : I → EReal) : S.fold max (Ideal.ofBits .f32 0xFF800000#32) f = S.sup f := by
  rw [bits_bot]; rfl

theorem sup_pair {A B : Type} [Fintype A] [Fintype B] (f : A → B → EReal) :
    (Finset.univ.sup fun a => Finset.univ.sup fun b => f a b) = (Finset.univ : Finset (A × B)).sup fun x => f x.1 x.2 := by
  apply le_antisymm
  · exact Finset.sup_le fun a _ => Finset.sup_le fun b _ => Finset.le_sup (f := fun x : A × B => f x.1 x.2) (Finset.mem_univ (a, b))
  · exact Finset.sup_le fun x _ => (Finset.le_sup (f := fun b => f x.1 b) (Finset.mem_univ x.2)).trans
      (Finset.le_sup (f := fun a => Finset.univ.sup fun b => f a b) (Finset.mem_univ x.1))

theorem sup_pair_swap {A B : Type} [Fintype A] [Fintype B] (f : A → B → EReal) :
    (Finset.univ.sup fun b => Finset.univ.sup fun a => f a b) = (Finset.univ : Finset (A × B)).sup fun x => f x.1 x.2 := by
  apply le_antisymm
  · exact Finset.sup_le fun b _ => Finset.sup_le fun a _ => Finset.le_sup (f := fun x : A × B => f x.1 x.2) (Finset.mem_univ (a, b))
  · exact Finset.sup_le fun x _ => (Finset.le_sup (f := fun a => f a x.2) (Finset.mem_univ x.1)).trans
      (Finset.le_sup (f := fun b => Finset.univ.sup fun a => f a b) (Finset.mem_univ x.2))

theorem sup_sum {A B : Type} [Fintype A] [Fintype B] (f : A ⊕ B → EReal) :
    max (Finset.univ.sup fun a => f (.inl a)) (Finset.univ.sup fun b => f (.inr b)) = Finset.univ.sup f := by
  apply le_antisymm
  · exact max_le (Finset.sup_le fun a _ => Finset.le_sup (Finset.mem_univ _)) (Finset.sup_le fun a _ => Finset.le_sup (Finset.mem_univ _))
  · refine Finset.sup_le fun x _ => ?_
    rcases x with a | b
    · exact (Finset.le_sup (f := fun a => f (.inl a)) (Finset.mem_univ a)).trans (le_max_left _ _)
    · exact (Finset.le_sup (f := fun b => f (.inr b)) (Finset.mem_univ b)).trans (le_max_right _ _)

/-- The greatest of seventeen, one after the other. -/
theorem max17 (t : Fin 17 → EReal) :
    max (max (max (max (max (max (max (max (max (max (max (max (max (max (max (max (t 0) (t 1)) (t 2)) (t 3)) (t 4)) (t 5)) (t 6)) (t 7)) (t 8)) (t 9)) (t 10)) (t 11)) (t 12)) (t 13)) (t 14)) (t 15)) (t 16)
      = Finset.univ.sup t := by
  apply le_antisymm
  · simp only [max_le_iff]
    simp only [Finset.le_sup (Finset.mem_univ _), and_self]
  · refine Finset.sup_le fun p _ => ?_
    fin_cases p <;> simp only [le_max_iff, le_refl, true_or, or_true, Fin.reduceFinMk, Fin.zero_eta, Fin.mk_one]

/-- The sum of seventeen, one after the other. -/
theorem sum17 (t : Fin 17 → EReal) :
    t 0 + t 1 + t 2 + t 3 + t 4 + t 5 + t 6 + t 7 + t 8 + t 9 + t 10 + t 11 + t 12 + t 13 + t 14 + t 15 + t 16 = ∑ p, t p := by
  simp only [Fin.sum_univ_succ, Fin.sum_univ_zero, add_zero]
  simp only [← add_assoc]
  rfl

end Cert.Attn
-- ==== Proof.TileKeys.lean ====
module

public import proofs.«01_k».proof.Proof.Tile
public import proofs.«01_k».proof.Proof.Codes
public import proofs.«01_k».proof.Proof.Fold
public import Idealize.ShloMosaic.Lib.Pointwise
public import Idealize.ShloMosaic.Lib.BitcastPair

@[expose] public section

set_option maxRecDepth 16384

noncomputable section

/-!
# The kernel's keys, values and scores read at an index
-/

namespace Cert.KernelIdeal.Tile
open Cert.KernelIdeal Cert.KernelIdeal.Gen Cert.Attn
open Idealize.ShloMosaic Idealize.ShloMosaic.TcCoe

theorem halves_at (x : IVec S8x128 32) (r : Fin 16) (l : Fin 128) :
    halves (F := Ideal) x (ix2 r l) = Ideal.ofBits .bf16 ((x (ix2 (⟨r.val / 2, by omega⟩ : Fin 8) l)).extractLsb' (16 * (r.val % 2)) 16) := by
  unfold halves
  rw [bitcastToFloat_apply, Idealize.ShloMosaic.Ideal.ofBits_def, bitcast_32_16]
  congr 2
  congr 1
  funext a
  match a with
  | ⟨0, _⟩ => rfl
  | ⟨1, _⟩ => rfl

theorem nib_at (x : IVec S8x128 32) (r : Fin 16) (l : Fin 128) :
    nib (F := Ideal) x (ix2 r l) = code ((x (ix2 (⟨r.val / 2, by omega⟩ : Fin 8) l)).extractLsb' (16 * (r.val % 2)) 4) := by
  have h := decode_half (x (ix2 (⟨r.val / 2, by omega⟩ : Fin 8) l)) 0 (r.val % 2) (.inl rfl) (by omega)
  rw [BitVec.ushiftRight_zero] at h
  rw [Nat.add_zero] at h
  rw [← h]
  exact congrArg (· - Ideal.ofBits .bf16 0x4308#16) (halves_at _ r l)

theorem nib_down_at (x : IVec S8x128 32) (s : ℕ) (hs : s = 0 ∨ s = 4 ∨ s = 8 ∨ s = 12) (r : Fin 16) (l : Fin 128) :
    nib (F := Ideal) (down x (BitVec.ofNat 32 s)) (ix2 r l) = code ((x (ix2 (⟨r.val / 2, by omega⟩ : Fin 8) l)).extractLsb' (16 * (r.val % 2) + s) 4) := by
  rw [← decode_half _ s _ hs (by omega)]
  refine (congrArg (· - Ideal.ofBits .bf16 0x4308#16) (halves_at _ r l)).trans ?_
  have e : down x (BitVec.ofNat 32 s) (ix2 (⟨r.val / 2, by omega⟩ : Fin 8) l) = x (ix2 (⟨r.val / 2, by omega⟩ : Fin 8) l) >>> s := by
    show IntOp.shrui .vector _ _ = _
    have h : (BitVec.ofNat 32 s).toNat = s := by rw [BitVec.toNat_ofNat]; omega
    unfold IntOp.shrui
    show (if (BitVec.ofNat 32 s).toNat < 32 then _ >>> (BitVec.ofNat 32 s) else _) = _
    rw [h, if_pos (by omega)]
    rw [BitVec.ushiftRight_eq', h]
  show Ideal.ofBits .bf16 ((((down x (BitVec.ofNat 32 s) (ix2 (⟨r.val / 2, by omega⟩ : Fin 8) l)) &&& 983055#32) ^^^ 1124614920#32).extractLsb' _ 16) - _ = _
  rw [e]

theorem words_at (x : IVec S128x128 32) (g : Fin 16) (r : Fin 8) (l : Fin 128) :
    words x g (ix2 r l) = x (ix2 (⟨8 * g.val + r.val, by omega⟩ : Fin 128) l) := by
  pointwise [words]

theorem row_at (x : IVec S64x128 32) (i : Fin 64) (r : Fin 8) (l : Fin 128) : spread (row x i) (ix2 r l) = x (ix2 i l) := by
  pointwise [spread, row]

/-- The word a channel of the keys is decoded from. -/
def keyAt (kt : IVec S128x128 32) (S : IVec S64x128 32) (p : Fin 16) (k : Fin 64) (l : Fin 128) : EReal :=
  code ((kt (ix2 (⟨16 * (p.val / 2) + k.val % 32 / 2, by omega⟩ : Fin 128) l)).extractLsb' (16 * (k.val % 2) + (8 * (k.val / 32) + 4 * (p.val % 2))) 4)
    * Ideal.ofBits .bf16 ((S (ix2 (⟨2 * p.val + k.val / 16 % 2, by omega⟩ : Fin 64) l)).extractLsb' (16 * (k.val % 2)) 16)

theorem stack4_at (a b c d : FVec Ideal S16x128 .bf16) (k : Fin 64) (l : Fin 128) :
    stack4 a b c d (ix2 k l) = (if h : k.val < 16 then a (ix2 ⟨k.val, h⟩ l)
    else if h : k.val < 32 then b (ix2 ⟨k.val - 16, by omega⟩ l)
      else if h : k.val < 48 then c (ix2 ⟨k.val - 32, by omega⟩ l) else d (ix2 ⟨k.val - 48, by omega⟩ l)) := by
  pointwise [stack4]
  by_cases h1 : k.val < 16
  · simp only [dif_pos h1]
  · by_cases h2 : k.val < 32
    · simp only [dif_neg h1, dif_pos h2, dif_pos (show k.val - 16 < 16 by omega)]
    · by_cases h3 : k.val < 48
      · simp only [dif_neg h1, dif_neg h2, dif_pos h3, dif_neg (show ¬ k.val - 16 < 16 by omega), dif_pos (show k.val - 16 - 16 < 16 by omega)]
        rfl
      · simp only [dif_neg h1, dif_neg h2, dif_neg h3, dif_neg (show ¬ k.val - 16 < 16 by omega), dif_neg (show ¬ k.val - 16 - 16 < 16 by omega)]
        rfl

theorem piece_at (kt : IVec S128x128 32) (S : IVec S64x128 32) (w : Fin 16) (i : Fin 64) (s : ℕ) (hs : s = 0 ∨ s = 4 ∨ s = 8 ∨ s = 12) (r : Fin 16) (l : Fin 128) :
    mulf (nib (F := Ideal) (down (words kt w) (BitVec.ofNat 32 s))) (halves (spread (row S i))) (ix2 r l)
      = code ((kt (ix2 (⟨8 * w.val + r.val / 2, by omega⟩ : Fin 128) l)).extractLsb' (16 * (r.val % 2) + s) 4)
        * Ideal.ofBits .bf16 ((S (ix2 i l)).extractLsb' (16 * (r.val % 2)) 16) := by
  show nib (F := Ideal) (down (words kt w) (BitVec.ofNat 32 s)) (ix2 r l) * halves (F := Ideal) (spread (row S i)) (ix2 r l) = _
  rw [nib_down_at _ _ hs, halves_at, words_at, row_at]

theorem piece0_at (kt : IVec S128x128 32) (S : IVec S64x128 32) (w : Fin 16) (i : Fin 64) (r : Fin 16) (l : Fin 128) :
    mulf (nib (F := Ideal) (words kt w)) (halves (spread (row S i))) (ix2 r l)
      = code ((kt (ix2 (⟨8 * w.val + r.val / 2, by omega⟩ : Fin 128) l)).extractLsb' (16 * (r.val % 2)) 4)
        * Ideal.ofBits .bf16 ((S (ix2 i l)).extractLsb' (16 * (r.val % 2)) 16) := by
  show nib (F := Ideal) (words kt w) (ix2 r l) * halves (F := Ideal) (spread (row S i)) (ix2 r l) = _
  rw [nib_at, halves_at, words_at, row_at]

/-- Two products of a code and a scale agree when the places they are read from do. -/
theorem product_congr (kt : IVec S128x128 32) (S : IVec S64x128 32) (l : Fin 128) {a a' : Fin 128} {i i' : Fin 64} {n n' s s' : ℕ}
    (ha : a.val = a'.val) (hi : i.val = i'.val) (hn : n = n') (hs : s = s') :
    code ((kt (ix2 a l)).extractLsb' n 4) * Ideal.ofBits .bf16 ((S (ix2 i l)).extractLsb' s 16)
      = code ((kt (ix2 a' l)).extractLsb' n' 4) * Ideal.ofBits .bf16 ((S (ix2 i' l)).extractLsb' s' 16) := by
  have := Fin.ext ha; have := Fin.ext hi
  subst_vars; rfl

theorem keyLo_at (kt : IVec S128x128 32) (S : IVec S64x128 32) (j : Fin 8) (k : Fin 64) (l : Fin 128) :
    keyLo (F := Ideal) (words kt ⟨2 * j.val, by omega⟩) (words kt ⟨2 * j.val + 1, by omega⟩) (row S ⟨4 * j.val, by omega⟩) (row S ⟨4 * j.val + 1, by omega⟩) (ix2 k l)
      = keyAt kt S ⟨2 * j.val, by omega⟩ k l := by
  unfold keyLo
  rw [stack4_at]
  by_cases h1 : k.val < 16
  · rw [dif_pos h1, piece0_at]
    refine product_congr kt S l ?_ ?_ ?_ ?_ <;> dsimp only <;> omega
  · rw [dif_neg h1]
    by_cases h2 : k.val < 32
    · rw [dif_pos h2, piece0_at]
      refine product_congr kt S l ?_ ?_ ?_ ?_ <;> dsimp only <;> omega
    · rw [dif_neg h2]
      by_cases h3 : k.val < 48
      · rw [dif_pos h3, piece_at _ _ _ _ 8 (by omega)]
        refine product_congr kt S l ?_ ?_ ?_ ?_ <;> dsimp only <;> omega
      · rw [dif_neg h3, piece_at _ _ _ _ 8 (by omega)]
        refine product_congr kt S l ?_ ?_ ?_ ?_ <;> dsimp only <;> omega

theorem keyHi_at (kt : IVec S128x128 32) (S : IVec S64x128 32) (j : Fin 8) (k : Fin 64) (l : Fin 128) :
    keyHi (F := Ideal) (words kt ⟨2 * j.val, by omega⟩) (words kt ⟨2 * j.val + 1, by omega⟩) (row S ⟨4 * j.val + 2, by omega⟩) (row S ⟨4 * j.val + 3, by omega⟩) (ix2 k l)
      = keyAt kt S ⟨2 * j.val + 1, by omega⟩ k l := by
  unfold keyHi
  rw [stack4_at]
  by_cases h1 : k.val < 16
  · rw [dif_pos h1, piece_at _ _ _ _ 4 (by omega)]
    refine product_congr kt S l ?_ ?_ ?_ ?_ <;> dsimp only <;> omega
  · rw [dif_neg h1]
    by_cases h2 : k.val < 32
    · rw [dif_pos h2, piece_at _ _ _ _ 4 (by omega)]
      refine product_congr kt S l ?_ ?_ ?_ ?_ <;> dsimp only <;> omega
    · rw [dif_neg h2]
      by_cases h3 : k.val < 48
      · rw [dif_pos h3, piece_at _ _ _ _ 12 (by omega)]
        refine product_congr kt S l ?_ ?_ ?_ ?_ <;> dsimp only <;> omega
      · rw [dif_neg h3, piece_at _ _ _ _ 12 (by omega)]
        refine product_congr kt S l ?_ ?_ ?_ ?_ <;> dsimp only <;> omega

theorem pairLo_at (q : FVec Ideal S32x64 .bf16) (c0 c1 : FVec Ideal S64x128 .bf16) (r : Fin 32) (l : Fin 128) :
    pairOf q c0 c1 (ix2 r (⟨l.val, by omega⟩ : Fin 256)) = ∑ k : Fin 64, q (ix2 r k) * c0 (ix2 k l) := by
  pointwise [pairOf]

theorem pairHi_at (q : FVec Ideal S32x64 .bf16) (c0 c1 : FVec Ideal S64x128 .bf16) (r : Fin 32) (l : Fin 128) :
    pairOf q c0 c1 (ix2 r (⟨128 + l.val, by omega⟩ : Fin 256)) = ∑ k : Fin 64, q (ix2 r k) * c1 (ix2 k l) := by
  pointwise [pairOf]

theorem scoreLo_at (left : IVec S32x128 32) (n : BitVec 32) (t : FVec Ideal S32x256 .f32) (r : Fin 32) (l : Fin 128) :
    scoreLo left n t (ix2 r l) = Scalar.select (IntOp.cmpi CmpIPredicate.sgt (left (ix2 r l)) n) (t (ix2 r (⟨l.val, by omega⟩ : Fin 256))) ⊥ := by
  pointwise [scoreLo]
  rw [bits_bot]

theorem scoreHi_at (left : IVec S32x128 32) (n : BitVec 32) (t : FVec Ideal S32x256 .f32) (r : Fin 32) (l : Fin 128) :
    scoreHi left n t (ix2 r l) = Scalar.select (IntOp.cmpi CmpIPredicate.sgt (left (ix2 r l)) n) (t (ix2 r (⟨128 + l.val, by omega⟩ : Fin 256))) ⊥ := by
  pointwise [scoreHi]
  rw [bits_bot]

/-- A score of a page's token. -/
theorem tile_at (q : FVec Ideal S32x64 .bf16) (left : IVec S32x128 32) (kt : IVec S128x128 32) (S : IVec S64x128 32) (new : FVec Ideal S32x128 .f32)
    (p : Fin 16) (r : Fin 32) (l : Fin 128) :
    tile q left kt S new p.castSucc (ix2 r l)
      = Scalar.select (IntOp.cmpi CmpIPredicate.sgt (left (ix2 r l)) (BitVec.ofNat 32 p.val)) (∑ k : Fin 64, q (ix2 r k) * keyAt kt S p k l) ⊥ := by
  unfold tile
  have hp := p.isLt
  simp only [Fin.val_castSucc]
  rw [dif_pos hp]
  by_cases h : p.val % 2 = 0
  · rw [if_pos h, scoreLo_at]
    unfold pairAt
    rw [pairLo_at]
    have e : (⟨2 * (p.val / 2), by omega⟩ : Fin 16) = p := Fin.ext (by dsimp only; omega)
    congr 1
    refine Finset.sum_congr rfl fun k _ => ?_
    have h := keyLo_at kt S ⟨p.val / 2, by omega⟩ k l
    dsimp only at h
    refine congrArg (q (ix2 r k) * ·) (h.trans ?_)
    rw [e]
  · rw [if_neg h, scoreHi_at]
    unfold pairAt
    rw [pairHi_at]
    have e : (⟨2 * (p.val / 2) + 1, by omega⟩ : Fin 16) = p := Fin.ext (by dsimp only; omega)
    congr 1
    refine Finset.sum_congr rfl fun k _ => ?_
    have h := keyHi_at kt S ⟨p.val / 2, by omega⟩ k l
    dsimp only at h
    refine congrArg (q (ix2 r k) * ·) (h.trans ?_)
    rw [e]

theorem tile_new (q : FVec Ideal S32x64 .bf16) (left : IVec S32x128 32) (kt : IVec S128x128 32) (S : IVec S64x128 32) (new : FVec Ideal S32x128 .f32) :
    tile q left kt S new (Fin.last 16) = new := by
  unfold tile; exact dif_neg (by decide)

/-- A channel of the values, decoded. -/
def valAt (vt : IVec S128x128 32) (S : IVec S64x128 32) (p : Fin 16) (k : Fin 64) (l : Fin 128) : EReal :=
  code ((vt (ix2 (⟨8 * p.val + k.val % 16 / 2, by omega⟩ : Fin 128) l)).extractLsb' (16 * (k.val % 2) + 4 * (k.val / 16)) 4)
    * Ideal.ofBits .bf16 ((S (ix2 (⟨32 + 2 * p.val + k.val % 16 / 8, by omega⟩ : Fin 64) l)).extractLsb' (16 * (k.val % 2)) 16)

theorem slt_four : ∀ r : Fin 8, IntOp.cmpi .slt (BitVec.ofNat 32 r.val) 4#32 = BitVec.ofBool (decide (r.val < 4)) := by decide

theorem valScale_at (S : IVec S64x128 32) (i i' : Fin 64) (r : Fin 16) (l : Fin 128) :
    halves (F := Ideal) (select (cmpi .slt (iota .tc S8x128 32 [0] iota_S8x128_d0_w32) (broadcast S8x128 4#32)) (spread (row S i)) (spread (row S i'))) (ix2 r l)
      = Ideal.ofBits .bf16 ((S (ix2 (if r.val < 8 then i else i') l)).extractLsb' (16 * (r.val % 2)) 16) := by
  rw [halves_at]
  congr 2
  pointwise
  rw [row_at, row_at]
  by_cases h : r.val < 8
  · rw [if_pos h, slt_four ⟨r.val / 2, by omega⟩]
    simp [Scalar.select, show r.val / 2 < 4 by omega]
  · rw [if_neg h, slt_four ⟨r.val / 2, by omega⟩]
    simp [Scalar.select, show ¬ r.val / 2 < 4 by omega]

theorem valPiece_at (vt : IVec S128x128 32) (S : IVec S64x128 32) (p : Fin 16) (s : ℕ) (hs : s = 0 ∨ s = 4 ∨ s = 8 ∨ s = 12) (r : Fin 16) (l : Fin 128) (x : FVec Ideal S16x128 .bf16)
    (hx : x (ix2 r l) = code ((words vt p (ix2 (⟨r.val / 2, by omega⟩ : Fin 8) l)).extractLsb' (16 * (r.val % 2) + s) 4)) :
    mulf x (halves (select (cmpi .slt (iota .tc S8x128 32 [0] iota_S8x128_d0_w32) (broadcast S8x128 4#32)) (spread (row S ⟨32 + 2 * p.val, by omega⟩)) (spread (row S ⟨33 + 2 * p.val, by omega⟩)))) (ix2 r l)
      = valAt vt S p ⟨4 * s + r.val, by omega⟩ l := by
  show x (ix2 r l) * halves (F := Ideal) _ (ix2 r l) = _
  rw [valScale_at, hx, words_at]
  by_cases h : r.val < 8
  · rw [if_pos h]
    refine product_congr vt S l ?_ ?_ ?_ ?_ <;> dsimp only <;> omega
  · rw [if_neg h]
    refine product_congr vt S l ?_ ?_ ?_ ?_ <;> dsimp only <;> omega

theorem vals_at (vt : IVec S128x128 32) (S : IVec S64x128 32) (vn : FVec Ideal S64x128 .bf16) (p : Fin 16) (k : Fin 64) (l : Fin 128) :
    vals (iota .tc S8x128 32 [0] iota_S8x128_d0_w32) vt S vn p.castSucc (ix2 k l) = valAt vt S p k l := by
  unfold vals
  rw [dif_pos (show p.castSucc.val < 16 from p.isLt)]
  unfold valTile
  rw [stack4_at]
  by_cases h1 : k.val < 16
  · rw [dif_pos h1]
    refine (valPiece_at vt S p 0 (by omega) ⟨k.val, h1⟩ l _ (nib_at _ _ _)).trans ?_
    congr 1; exact Fin.ext (by dsimp only; omega)
  · rw [dif_neg h1]
    by_cases h2 : k.val < 32
    · rw [dif_pos h2]
      refine (valPiece_at vt S p 4 (by omega) ⟨k.val - 16, by omega⟩ l _ (nib_down_at _ 4 (by omega) _ _)).trans ?_
      congr 1; exact Fin.ext (by dsimp only; omega)
    · rw [dif_neg h2]
      by_cases h3 : k.val < 48
      · rw [dif_pos h3]
        refine (valPiece_at vt S p 8 (by omega) ⟨k.val - 32, by omega⟩ l _ (nib_down_at _ 8 (by omega) _ _)).trans ?_
        congr 1; exact Fin.ext (by dsimp only; omega)
      · rw [dif_neg h3]
        refine (valPiece_at vt S p 12 (by omega) ⟨k.val - 48, by omega⟩ l _ (nib_down_at _ 12 (by omega) _ _)).trans ?_
        congr 1; exact Fin.ext (by dsimp only; omega)

theorem vals_new (v0 : IVec S8x128 32) (vt : IVec S128x128 32) (S : IVec S64x128 32) (vn : FVec Ideal S64x128 .bf16) :
    vals v0 vt S vn (Fin.last 16) = vn := by
  unfold vals; exact dif_neg (by decide)

end Cert.KernelIdeal.Tile
-- ==== Proof.Softmax.lean ====
module

public import Idealize.ShloMosaic.Lib.Pointwise
public import Idealize.ShloMosaic.Lib.IdealHost

@[expose] public section

noncomputable section

/-!
# Two spellings of a softmax average

Scores scaled before the greatest is subtracted, or the constant folded into the exponent of two; and places whose
score is `-∞` left out or kept: the weighted average of the values is the same, on all extended reals.
-/

namespace Cert.Attn
open Idealize.ShloMosaic

/-- One over eight times the natural logarithm of two. -/
abbrev kap : EReal := (((8 * Real.log 2)⁻¹ : ℝ) : EReal)
/-- One eighth. -/
abbrev eighth : EReal := ((8⁻¹ : ℝ) : EReal)

theorem sub_mul_eighth (x y : EReal) : x * eighth - y * eighth = (x - y) * eighth := by
  have h := EReal.right_distrib_of_nonneg_of_ne_top (x := eighth) (by rw [← EReal.coe_zero, EReal.coe_le_coe_iff]; norm_num) (EReal.coe_ne_top _) x (-y)
  rw [sub_eq_add_neg, sub_eq_add_neg, h, EReal.neg_mul]

theorem exp2_kap (x : EReal) : Ideal.exp2 (x * kap) = Ideal.exp (x * eighth) := by
  have hp : (0 : ℝ) < (8 * Real.log 2)⁻¹ := by
    have := Real.log_pos (show (1 : ℝ) < 2 by norm_num)
    positivity
  induction x with
  | bot => rw [EReal.bot_mul_coe_of_pos hp, EReal.bot_mul_coe_of_pos (by norm_num)]; rfl
  | top => rw [EReal.top_mul_coe_of_pos hp, EReal.top_mul_coe_of_pos (by norm_num)]; rfl
  | coe r =>
    rw [← EReal.coe_mul, ← EReal.coe_mul]
    show ((Real.rpow 2 _ : ℝ) : EReal) = ((Real.exp _ : ℝ) : EReal)
    rw [EReal.coe_eq_coe_iff]
    rw [Real.rpow_eq_pow, Real.rpow_def_of_pos (by norm_num)]
    congr 1
    have : Real.log 2 ≠ 0 := (Real.log_pos (show (1 : ℝ) < 2 by norm_num)).ne'
    field_simp

theorem sup_mul_eighth {J : Type} [Fintype J] (f : J → EReal) :
    (Finset.univ.sup fun j => f j * eighth) = Finset.univ.sup f * eighth := by
  refine (Finset.comp_sup_eq_sup_comp_of_is_total (fun x : EReal => x * eighth) ?_ ?_).symm
  · intro a b h
    exact mul_le_mul_of_nonneg_right h (by rw [← EReal.coe_zero, EReal.coe_le_coe_iff]; norm_num)
  · exact EReal.bot_mul_coe_of_pos (by norm_num)

theorem sup_of_bot {I J : Type} [Fintype I] [Fintype J] (ι : J → I) (x : I → EReal) (hx : ∀ i, i ∉ Set.range ι → x i = ⊥) :
    Finset.univ.sup (fun j => x (ι j)) = Finset.univ.sup x := by
  apply le_antisymm
  · exact Finset.sup_le fun j _ => Finset.le_sup (f := x) (Finset.mem_univ _)
  · refine Finset.sup_le fun i _ => ?_
    by_cases h : i ∈ Set.range ι
    · obtain ⟨j, rfl⟩ := h
      exact Finset.le_sup (f := fun j => x (ι j)) (Finset.mem_univ j)
    · rw [hx i h]; exact bot_le

theorem weight_bot (M : EReal) : Ideal.exp2 ((⊥ - M) * kap) = 0 := by
  rw [EReal.bot_sub, exp2_kap, EReal.bot_mul_coe_of_pos (by norm_num)]; rfl

theorem softmax_eq {I J : Type} [Fintype I] [Fintype J] (ι : J → I) (hι : Function.Injective ι) (x v : I → EReal) (y w : J → EReal)
    (hx : ∀ i, i ∉ Set.range ι → x i = ⊥) (hy : ∀ j, y j = x (ι j) * eighth) (hw : ∀ j, x (ι j) = ⊥ ∨ v (ι j) = w j) :
    ∑ i, Ideal.exp2 ((x i - Finset.univ.sup x) * kap) * Ideal.div 1 (∑ k, Ideal.exp2 ((x k - Finset.univ.sup x) * kap)) * v i
      = ∑ j, Ideal.exp (y j - Finset.univ.sup y) * Ideal.div 1 (∑ k, Ideal.exp (y k - Finset.univ.sup y)) * w j := by
  have hN : Finset.univ.sup y = Finset.univ.sup x * eighth := by
    rw [← sup_of_bot ι x hx, ← sup_mul_eighth]
    exact Finset.sup_congr rfl fun j _ => hy j
  have he : ∀ j, Ideal.exp (y j - Finset.univ.sup y) = Ideal.exp2 ((x (ι j) - Finset.univ.sup x) * kap) := fun j => by
    rw [hN, hy, sub_mul_eighth, exp2_kap]
  have hs : (∑ k, Ideal.exp (y k - Finset.univ.sup y)) = ∑ k, Ideal.exp2 ((x k - Finset.univ.sup x) * kap) :=
    Fintype.sum_of_injective ι hι _ _ (fun i hi => by rw [hx i hi, weight_bot]) he
  rw [hs]
  symm
  refine Fintype.sum_of_injective ι hι _ _ (fun i hi => by rw [hx i hi, weight_bot, zero_mul, zero_mul]) fun j => ?_
  rw [he j]
  rcases hw j with h | h
  · rw [h, weight_bot, zero_mul, zero_mul, zero_mul]
  · rw [h]

end Cert.Attn
-- ==== Proof.TileSum.lean ====
module

public import proofs.«01_k».proof.Proof.Tile
public import proofs.«01_k».proof.Proof.Fold
public import proofs.«01_k».proof.Proof.Softmax
public import Idealize.ShloMosaic.Lib.Pointwise
public import Idealize.ShloMosaic.Lib.Pipeline.Value

@[expose] public section

set_option maxRecDepth 16384

noncomputable section

/-!
# The kernel's softmax average read at an index
-/

namespace Cert.KernelIdeal.Tile
open Cert.KernelIdeal Cert.KernelIdeal.Gen Cert.Attn
open Idealize.ShloMosaic Idealize.ShloMosaic.TcCoe

theorem rowMax_at (t : Fin 17 → FVec Ideal S32x128 .f32) (r : Fin 32) :
    rowMax t (ix2 r (0 : Fin 1)) = (Finset.univ : Finset (Fin 17 × Fin 128)).sup fun i => t i.1 (ix2 r i.2) := by
  pointwise [rowMax]
  rw [fold_eq_sup, ← sup_pair_swap fun (p : Fin 17) (l : Fin 128) => t p (ix2 r l)]
  exact Finset.sup_congr rfl fun l _ => max17 fun p => t p (ix2 r l)

theorem rowInv_at (t : Fin 17 → FVec Ideal S32x128 .f32) (r : Fin 32) :
    rowInv t (ix2 r (0 : Fin 1)) = Ideal.div 1 (∑ i : Fin 17 × Fin 128, t i.1 (ix2 r i.2)) := by
  pointwise [rowInv]
  rw [Fintype.sum_prod_type, Finset.sum_comm]
  congr 1
  exact Finset.sum_congr rfl fun l _ => sum17 fun p => t p (ix2 r l)

theorem exp_at (m : FVec Ideal S32x1 .f32) (t : FVec Ideal S32x128 .f32) (r : Fin 32) (l : Fin 128) :
    expTile (F := Ideal) kap m t (ix2 r l) = Ideal.exp2 ((t (ix2 r l) - m (ix2 r (0 : Fin 1))) * kap) := by
  pointwise [expTile]
  rfl

theorem weight_at (d : FVec Ideal S32x1 .f32) (t : FVec Ideal S32x128 .f32) (r : Fin 32) (l : Fin 128) :
    weight d t (ix2 r l) = t (ix2 r l) * d (ix2 r (0 : Fin 1)) := by
  pointwise [weight]

theorem joinP_at (w : Fin 17 → FVec Ideal S32x128 .bf16) (r : Fin 32) (p : Fin 17) (l : Fin 128) :
    joinP w (ix2 r (⟨p.val * 128 + l.val, by omega⟩ : Fin 2176)) = w p (ix2 r l) := by
  unfold joinP
  exact concatenate_ofFn_apply (t := S32x2176) (s₁ := S32x128) (1 : Fin 2) (N := 17) w _ rfl 128 rfl _ p
    (by show (p.val * 128 + l.val) / 128 = p.val; omega) (ix2 r l)
    (by show l.val = (p.val * 128 + l.val) % 128; omega)
    (fun b hb => by
      match b with
      | ⟨0, _⟩ => rfl
      | ⟨1, _⟩ => exact absurd rfl hb)

theorem joinV_at (v : Fin 17 → FVec Ideal S64x128 .bf16) (r : Fin 64) (p : Fin 17) (l : Fin 128) :
    joinV v (ix2 r (⟨p.val * 128 + l.val, by omega⟩ : Fin 2176)) = v p (ix2 r l) := by
  unfold joinV
  exact concatenate_ofFn_apply (t := S64x2176) (s₁ := S64x128) (1 : Fin 2) (N := 17) v _ rfl 128 rfl _ p
    (by show (p.val * 128 + l.val) / 128 = p.val; omega) (ix2 r l)
    (by show l.val = (p.val * 128 + l.val) % 128; omega)
    (fun b hb => by
      match b with
      | ⟨0, _⟩ => rfl
      | ⟨1, _⟩ => exact absurd rfl hb)

theorem product_at (w : FVec Ideal S32x2176 .bf16) (v : FVec Ideal S64x2176 .bf16) (r : Fin 32) (d : Fin 64) :
    k0_pay1 w v (constant S32x64 .f32 0x00000000#32) (ix4 (0 : Fin 1) (0 : Fin 1) r d) = ∑ x : Fin 2176, w (ix2 r x) * v (ix2 d x) := by
  pointwise [k0_pay1]

/-- The average over seventeen tiles of 128 places. -/
theorem average_at (t : Fin 17 → FVec Ideal S32x128 .f32) (v : Fin 17 → FVec Ideal S64x128 .bf16) (r : Fin 32) (d : Fin 64) :
    k0_pay1 (weights (F := Ideal) kap t) (joinV v) (constant S32x64 .f32 0x00000000#32) (ix4 (0 : Fin 1) (0 : Fin 1) r d)
      = ∑ i : Fin 17 × Fin 128,
          Ideal.exp2 ((t i.1 (ix2 r i.2) - (Finset.univ : Finset (Fin 17 × Fin 128)).sup fun i => t i.1 (ix2 r i.2)) * kap)
            * Ideal.div 1 (∑ k : Fin 17 × Fin 128, Ideal.exp2 ((t k.1 (ix2 r k.2) - (Finset.univ : Finset (Fin 17 × Fin 128)).sup fun i => t i.1 (ix2 r i.2)) * kap))
            * v i.1 (ix2 d i.2) := by
  rw [product_at, Fin.sum_univ_tiles 17 128 rfl, Fintype.sum_prod_type]
  refine Finset.sum_congr rfl fun p _ => Finset.sum_congr rfl fun l _ => ?_
  have hw : weights (F := Ideal) kap t (ix2 r (⟨p.val * 128 + l.val, by omega⟩ : Fin 2176))
      = Ideal.exp2 ((t p (ix2 r l) - (Finset.univ : Finset (Fin 17 × Fin 128)).sup fun i => t i.1 (ix2 r i.2)) * kap)
        * Ideal.div 1 (∑ k : Fin 17 × Fin 128, Ideal.exp2 ((t k.1 (ix2 r k.2) - (Finset.univ : Finset (Fin 17 × Fin 128)).sup fun i => t i.1 (ix2 r i.2)) * kap)) := by
    unfold weights
    rw [joinP_at, weight_at, rowInv_at, exp_at, rowMax_at]
    simp only [exp_at, rowMax_at]
  exact congrArg₂ (· * ·) hw (joinV_at v d p l)

theorem new_at (v1 v2 : IVec S32x128 32) (b : BitVec 32) (q : FVec Ideal S32x64 .bf16) (kn : Vec Ideal S1x64x128 .bf16) (r : Fin 32) (l : Fin 128) :
    k0_pay139 (F := Ideal) v1 v2 b q kn (ix2 r l) = Scalar.select
      (IntOp.andi
        (IntOp.andi
          (IntOp.cmpi CmpIPredicate.sge (IntOp.subi (v2 (ix2 r l)) (Scalar.muli (8#32) (Scalar.andi b 15#32))) 0#32)
          (IntOp.cmpi CmpIPredicate.slt (IntOp.subi (v2 (ix2 r l)) (Scalar.muli (8#32) (Scalar.andi b 15#32))) 6#32))
        (IntOp.cmpi CmpIPredicate.sle
          (IntOp.muli (IntOp.subi (v2 (ix2 r l)) (Scalar.muli (8#32) (Scalar.andi b 15#32))) 5#32) (v1 (ix2 r l))))
      (∑ x : Fin 64, q (ix2 r x) * (show EReal from kn (ix3 (0 : Fin 1) x l))) ⊥ := by
  pointwise [k0_pay139]
  rw [bits_bot]

theorem left_at (sel : Vec Ideal S1x1x128 .i32) (len : BitVec 32) (r : Fin 32) (l : Fin 128) :
    k0_pay4 (F := Ideal) sel len (ix2 r l) = Scalar.select (IntOp.cmpi CmpIPredicate.sge (sel (ix3 (0 : Fin 1) (0 : Fin 1) l)) 0#32)
      (IntOp.subi len (IntOp.muli (sel (ix3 (0 : Fin 1) (0 : Fin 1) l)) 16#32)) 0#32 := by
  pointwise [k0_pay4, k0_pay3, k0_pay2]

theorem scales_at (sel : Vec Ideal S1x1x128 .i32) (sw : Vec Ideal S128x128 .i32) (i : Fin 64) (l : Fin 128) :
    k0_pay7 (F := Ideal) sel sw (ix2 i l) = Scalar.select (IntOp.cmpi CmpIPredicate.sge (sel (ix3 (0 : Fin 1) (0 : Fin 1) l)) 0#32)
      (sw (ix2 l (⟨i.val, by omega⟩ : Fin 128))) 0#32 := by
  pointwise [k0_pay7, k0_pay3, k0_pay2]

theorem pay5_at (kw : Vec Ideal S128x128 .i32) (i l : Fin 128) : k0_pay5 (F := Ideal) kw (ix2 i l) = kw (ix2 l i) := by
  pointwise [k0_pay5]

theorem pay6_at (kw : Vec Ideal S128x128 .i32) (i l : Fin 128) : k0_pay6 (F := Ideal) kw (ix2 i l) = kw (ix2 l i) := by
  pointwise [k0_pay6]

theorem pay8_at (q : Vec Ideal S1x1x32x64 .bf16) (r : Fin 32) (k : Fin 64) : k0_pay8 (F := Ideal) q (ix2 r k) = q (ix4 (0 : Fin 1) (0 : Fin 1) r k) := by
  pointwise [k0_pay8]

end Cert.KernelIdeal.Tile
-- ==== Proof.RefRead.lean ====
module

public import proofs.«01_k».proof.Proof.RefStage
public import proofs.«01_k».proof.Proof.Codes
public import proofs.«01_k».proof.Proof.Fold
public import proofs.«01_k».proof.Proof.Softmax

@[expose] public section

set_option maxRecDepth 16384

noncomputable section

/-!
# The reference read at an index

Each stage of the reference at an index, and the whole as a softmax average (`whole_at`).
-/

namespace Cert.ReferenceIdeal.Stage
open Cert.ReferenceIdeal Cert.ReferenceIdeal.Gen Cert.Attn
open Idealize.ShloMosaic Idealize.ShloMosaic.TcCoe Idealize.SL.Sem Idealize.ShloMosaic.StableHlo

theorem keys_at (KR : IVec S15360x128 32) (SR : IVec S61440x128 32) (b : Fin 120) (t : Fin 128) (p : Fin 16) (d : Fin 64) :
    keys KR SR (ix4 b t p d)
      = code ((KR (ix2 ⟨b.val * 128 + t.val, by omega⟩ ⟨p.val / 2 * 16 + (d.val / 32 * 8 + d.val % 32 / 4), by omega⟩)).extractLsb' (4 * (d.val % 32 % 4 * 2 + p.val % 2)) 4)
        * Ideal.ofBits FTy.bf16 ((SR (ix2 ⟨b.val * 128 + t.val, by omega⟩ ⟨p.val * 2 + d.val / 32, by omega⟩)).setWidth 16) := by
  pointwise [keys, keysOf]
  rw [decode_ref _ _ (by omega)]

theorem values_at (VR : IVec S15360x128 32) (SR : IVec S61440x128 32) (b : Fin 120) (t : Fin 128) (p : Fin 16) (d : Fin 64) :
    values VR SR (ix4 b t p d)
      = code ((VR (ix2 ⟨b.val * 128 + t.val, by omega⟩ ⟨p.val * 8 + (d.val / 32 * 4 + d.val % 32 / 8), by omega⟩)).extractLsb' (4 * (d.val % 32 % 8)) 4)
        * Ideal.ofBits FTy.bf16 ((SR (ix2 ⟨b.val * 128 + t.val, by omega⟩ ⟨32 + p.val * 2 + d.val / 32, by omega⟩)).setWidth 16) := by
  pointwise [values, valuesOf]
  rw [decode_ref _ _ (by omega)]

theorem cacheScores_at (X : FVec Ideal S120x6x20x64 .bf16) (K : FVec Ideal S120x128x16x64 .bf16) (LEN : IVec S120 32) (SEL : IVec S120x4x128 32) (b : Fin 120) (s : Fin 6) (g : Fin 5) (t : Fin 128) (p : Fin 16) :
    cacheScores X K LEN SEL (ix5 b s g t p)
      = Scalar.select (IntOp.andi (IntOp.cmpi CmpIPredicate.sge (SEL (ix3 b (0 : Fin 4) t)) 0#32)
          (IntOp.cmpi CmpIPredicate.sgt (IntOp.subi (LEN (ix1 b)) (IntOp.muli (SEL (ix3 b (0 : Fin 4) t)) 16#32)) (BitVec.ofNat 32 p.val)))
        ((∑ x : Fin 64, X (ix4 b s (⟨g.val, by omega⟩ : Fin 20) x) * K (ix4 b t p x)) * eighth) ⊥ := by
  pointwise [cacheScores, cacheScoresOf]
  rw [bits_bot, bits_eighth]

theorem newScores_at (X : FVec Ideal S120x6x20x64 .bf16) (KN : FVec Ideal S120x6x4x64 .bf16) (b : Fin 120) (s : Fin 6) (g : Fin 5) (t : Fin 6) :
    newScores X KN (ix4 b s g t)
      = Scalar.select (IntOp.cmpi CmpIPredicate.sge (BitVec.ofNat 32 s.val) (BitVec.ofNat 32 t.val))
        ((∑ x : Fin 64, X (ix4 b s (⟨g.val, by omega⟩ : Fin 20) x) * KN (ix4 b t (0 : Fin 4) x)) * eighth) ⊥ := by
  pointwise [newScores, newScoresOf]
  rw [bits_bot, bits_eighth]

theorem rowMax_at (x : FVec Ideal S120x6x5x128x16 .f32) (y : FVec Ideal S120x6x5x6 .f32) (b : Fin 120) (s : Fin 6) (g : Fin 5) :
    rowMax x y (ix3 b s g) = max (Finset.univ.sup fun t : Fin 128 => Finset.univ.sup fun p : Fin 16 => x (ix5 b s g t p)) (Finset.univ.sup fun t : Fin 6 => y (ix4 b s g t)) := by
  pointwise [rowMax]
  simp only [fold_eq_sup]

theorem rowInv_at (x : FVec Ideal S120x6x5x128x16 .f32) (y : FVec Ideal S120x6x5x6 .f32) (b : Fin 120) (s : Fin 6) (g : Fin 5) :
    rowInv x y (ix3 b s g) = Ideal.div 1 ((∑ t : Fin 128, ∑ p : Fin 16, x (ix5 b s g t p)) + ∑ t : Fin 6, y (ix4 b s g t)) := by
  pointwise [rowInv]

theorem cacheExp_at (x : FVec Ideal S120x6x5x128x16 .f32) (M : FVec Ideal S120x6x5 .f32) (b : Fin 120) (s : Fin 6) (g : Fin 5) (t : Fin 128) (p : Fin 16) :
    cacheExp x M (ix5 b s g t p) = Ideal.exp (x (ix5 b s g t p) - M (ix3 b s g)) := by
  pointwise [cacheExp]

theorem newExp_at (y : FVec Ideal S120x6x5x6 .f32) (M : FVec Ideal S120x6x5 .f32) (b : Fin 120) (s : Fin 6) (g : Fin 5) (t : Fin 6) :
    newExp y M (ix4 b s g t) = Ideal.exp (y (ix4 b s g t) - M (ix3 b s g)) := by
  pointwise [newExp]

theorem output_at (x : FVec Ideal S120x6x5x128x16 .f32) (y : FVec Ideal S120x6x5x6 .f32) (d : FVec Ideal S120x6x5 .f32) (V : FVec Ideal S120x128x16x64 .bf16) (VN : FVec Ideal S120x6x4x64 .bf16) (b : Fin 120) (s : Fin 6) (g : Fin 5) (e : Fin 64) :
    output x y d V VN (ix4 b s g e) = (∑ p : Fin 16, ∑ t : Fin 128, x (ix5 b s g t p) * d (ix3 b s g) * V (ix4 b t p e)) + ∑ t : Fin 6, y (ix4 b s g t) * d (ix3 b s g) * VN (ix4 b t (0 : Fin 4) e) := by
  pointwise [output, outputOf]

/-- The places a query attends to: a page of the sequence and a position in it, or a new token. -/
abbrev Place : Type := (Fin 128 × Fin 16) ⊕ Fin 6

/-- The scaled scores of a query. -/
def score (X : FVec Ideal S120x6x20x64 .bf16) (KN : FVec Ideal S120x6x4x64 .bf16) (KR : IVec S15360x128 32) (SR : IVec S61440x128 32) (LEN : IVec S120 32) (SEL : IVec S120x4x128 32) (b : Fin 120) (s : Fin 6) (g : Fin 5) : Place → EReal
  | .inl tp => cacheScores X (keys KR SR) LEN SEL (ix5 b s g tp.1 tp.2)
  | .inr t => newScores X KN (ix4 b s g t)

/-- A channel of the values. -/
def value (VN : FVec Ideal S120x6x4x64 .bf16) (VR : IVec S15360x128 32) (SR : IVec S61440x128 32) (b : Fin 120) (e : Fin 64) : Place → EReal
  | .inl tp => values VR SR (ix4 b tp.1 tp.2 e)
  | .inr t => VN (ix4 b t (0 : Fin 4) e)

theorem whole_at (X : FVec Ideal S120x6x20x64 .bf16) (KN VN : FVec Ideal S120x6x4x64 .bf16) (KR VR : IVec S15360x128 32) (SR : IVec S61440x128 32) (LEN : IVec S120 32) (SEL : IVec S120x4x128 32) (b : Fin 120) (s : Fin 6) (g : Fin 5) (e : Fin 64) :
    whole X KN VN KR VR SR LEN SEL (ix4 b s g e)
      = ∑ j, Ideal.exp (score X KN KR SR LEN SEL b s g j - Finset.univ.sup (score X KN KR SR LEN SEL b s g))
          * Ideal.div 1 (∑ k, Ideal.exp (score X KN KR SR LEN SEL b s g k - Finset.univ.sup (score X KN KR SR LEN SEL b s g)))
          * value VN VR SR b e j := by
  have hM : rowMax (cacheScores X (keys KR SR) LEN SEL) (newScores X KN) (ix3 b s g) = Finset.univ.sup (score X KN KR SR LEN SEL b s g) := by
    rw [rowMax_at, sup_pair, ← sup_sum]; rfl
  unfold whole
  rw [output_at, rowInv_at]
  simp only [cacheExp_at, newExp_at, hM]
  rw [Finset.sum_comm]
  simp only [Fintype.sum_sum_type, Fintype.sum_prod_type]
  rfl

end Cert.ReferenceIdeal.Stage
-- ==== Proof.Match.lean ====
module

public import proofs.«01_k».proof.Proof.TileKeys
public import proofs.«01_k».proof.Proof.TileSum
public import proofs.«01_k».proof.Proof.RefRead

@[expose] public section

set_option maxRecDepth 16384

noncomputable section

/-!
# One sequence: the kernel's average is the reference's

For a sequence `b`, blocks that hold the sequence's rows give the reference's softmax average (`one_eq`). The kernel
holds channels in another order, `chanK` for keys and queries and `chanV` for values and results.
-/

namespace Cert.Attn
open Cert.KernelIdeal Cert.KernelIdeal.Gen
open Cert.ReferenceIdeal.Stage (Place keys values cacheScores newScores score value whole whole_at keys_at values_at cacheScores_at newScores_at)
open Idealize.ShloMosaic Idealize.ShloMosaic.TcCoe

/-- The channel of a key or query in row `k` of the kernel's layout. -/
def chanK (k : Fin 64) : Fin 64 := ⟨k.val / 16 % 2 * 32 + 4 * (k.val % 16 / 2) + 2 * (k.val % 2) + k.val / 32, by omega⟩
/-- The channel of a value or result in row `k` of the kernel's layout. -/
def chanV (k : Fin 64) : Fin 64 := ⟨8 * (k.val % 16 / 2) + 4 * (k.val % 2) + k.val / 16, by omega⟩

theorem chanK_bijective : Function.Bijective chanK := by decide +kernel

theorem chanK_parts : ∀ k : Fin 64, (chanK k).val / 32 = k.val / 16 % 2 ∧ (chanK k).val / 32 * 8 + (chanK k).val % 32 / 4 = k.val % 32 / 2
    ∧ (chanK k).val % 32 % 4 = 2 * (k.val % 2) + k.val / 32 := by decide +kernel

/-- The lane at which new token `t` of sequence `b` stands in its block of new tokens. -/
def lane (b : Fin 120) (t : Fin 6) : Fin 128 := ⟨8 * (b.val % 16) + t.val, by omega⟩

/-- Where the kernel holds a place the query attends to. -/
def spot (b : Fin 120) : Place → Fin 17 × Fin 128
  | .inl tp => (tp.2.castSucc, tp.1)
  | .inr t => (Fin.last 16, lane b t)

theorem spot_injective (b : Fin 120) : Function.Injective (spot b) := by
  rintro (⟨t, p⟩ | t) (⟨t', p'⟩ | t') h
  · obtain ⟨h1, h2⟩ := Prod.mk.inj h
    exact congrArg Sum.inl (Prod.ext h2 (Fin.castSucc_injective _ h1))
  · exact absurd (Prod.mk.inj h).1 (Fin.castSucc_lt_last p).ne
  · exact absurd (Prod.mk.inj h).1 (Fin.castSucc_lt_last p').ne'
  · have h2 : 8 * (b.val % 16) + t.val = 8 * (b.val % 16) + t'.val := congrArg Fin.val (Prod.mk.inj h).2
    exact congrArg Sum.inr (Fin.ext (by omega))

theorem first_lane : ∀ b : Fin 120, Scalar.muli (8#32) (Scalar.andi (BitVec.ofNat 32 b.val) 15#32) = BitVec.ofNat 32 (8 * (b.val % 16)) := by decide +kernel

theorem in_lanes : ∀ (c : Fin 16) (l : Fin 128),
    IntOp.andi (IntOp.cmpi CmpIPredicate.sge (IntOp.subi (BitVec.ofNat 32 l.val) (BitVec.ofNat 32 (8 * c.val))) 0#32)
      (IntOp.cmpi CmpIPredicate.slt (IntOp.subi (BitVec.ofNat 32 l.val) (BitVec.ofNat 32 (8 * c.val))) 6#32)
      = BitVec.ofBool (decide (8 * c.val ≤ l.val ∧ l.val < 8 * c.val + 6)) := by decide +kernel

theorem lane_sub : ∀ (c : Fin 16) (t : Fin 6),
    IntOp.subi (BitVec.ofNat 32 (8 * c.val + t.val)) (BitVec.ofNat 32 (8 * c.val)) = BitVec.ofNat 32 t.val := by decide +kernel

theorem causal : ∀ (t s : Fin 6) (g : Fin 5),
    IntOp.cmpi CmpIPredicate.sle (IntOp.muli (BitVec.ofNat 32 t.val) 5#32) (BitVec.ofNat 32 (s.val * 5 + g.val))
      = IntOp.cmpi CmpIPredicate.sge (BitVec.ofNat 32 s.val) (BitVec.ofNat 32 t.val) := by decide +kernel

theorem not_past : ∀ p : Fin 16, IntOp.cmpi CmpIPredicate.sgt 0#32 (BitVec.ofNat 32 p.val) = 0#1 := by decide

theorem bit_cases (c : BitVec 1) : c = 0#1 ∨ c = 1#1 := by
  revert c; decide
theorem and_one (c : BitVec 1) : IntOp.andi 1#1 c = c := by
  revert c; decide
theorem and_zero (c : BitVec 1) : IntOp.andi 0#1 c = 0#1 := by
  revert c; decide
theorem select_one {α : Type} (a b : α) : Scalar.select 1#1 a b = a := rfl
theorem select_zero {α : Type} (a b : α) : Scalar.select 0#1 a b = b := rfl

theorem select_eighth (c : BitVec 1) (a : EReal) : Scalar.select c (a * eighth) ⊥ = Scalar.select c a ⊥ * eighth := by
  rcases bit_cases c with rfl | rfl
  · rw [select_zero, select_zero, EReal.bot_mul_coe_of_pos (by norm_num)]
  · rw [select_one, select_one]

section
variable (X : FVec Ideal S120x6x20x64 .bf16) (KN VN : FVec Ideal S120x6x4x64 .bf16) (KR VR : IVec S15360x128 32) (SR : IVec S61440x128 32) (LEN : IVec S120 32) (SEL : IVec S120x4x128 32)
variable (b : Fin 120) (bw len : BitVec 32) (sel : Vec Ideal S1x1x128 .i32) (kw vw sw : Vec Ideal S128x128 .i32) (q : Vec Ideal S1x1x32x64 .bf16) (kn vn : Vec Ideal S1x64x128 .bf16)

/-- The blocks hold the rows of sequence `b`. -/
structure Holds : Prop where
  number : bw = BitVec.ofNat 32 b.val
  length : len = LEN (ix1 b)
  pages : ∀ t : Fin 128, sel (ix3 (0 : Fin 1) (0 : Fin 1) t) = SEL (ix3 b (0 : Fin 4) t)
  keyWords : ∀ t i : Fin 128, kw (ix2 t i) = KR (ix2 (⟨b.val * 128 + t.val, by omega⟩ : Fin 15360) i)
  valueWords : ∀ t i : Fin 128, vw (ix2 t i) = VR (ix2 (⟨b.val * 128 + t.val, by omega⟩ : Fin 15360) i)
  scaleWords : ∀ t i : Fin 128, sw (ix2 t i) = SR (ix2 (⟨b.val * 128 + t.val, by omega⟩ : Fin 61440) i)
  query : ∀ (s : Fin 6) (g : Fin 5) (k : Fin 64), q (ix4 (0 : Fin 1) (0 : Fin 1) (⟨s.val * 5 + g.val, by omega⟩ : Fin 32) k) = X (ix4 b s (⟨g.val, by omega⟩ : Fin 20) (chanK k))
  newKey : ∀ (t : Fin 6) (k : Fin 64), kn (ix3 (0 : Fin 1) k (lane b t)) = KN (ix4 b t (0 : Fin 4) (chanK k))
  newValue : ∀ (t : Fin 6) (k : Fin 64), vn (ix3 (0 : Fin 1) k (lane b t)) = VN (ix4 b t (0 : Fin 4) (chanV k))

/-- Each scale word of a page selected by the sequence holds its scale in both halves. -/
def Twice : Prop := ∀ (t : Fin 128) (i : Fin 64) (h : ℕ), IntOp.cmpi CmpIPredicate.sge (SEL (ix3 b (0 : Fin 4) t)) 0#32 = 1#1 → h < 2 →
  (SR (ix2 (⟨b.val * 128 + t.val, by omega⟩ : Fin 61440) (⟨i.val, by omega⟩ : Fin 128))).extractLsb' (16 * h) 16
    = (SR (ix2 (⟨b.val * 128 + t.val, by omega⟩ : Fin 61440) (⟨i.val, by omega⟩ : Fin 128))).setWidth 16

theorem factors (w w' : BitVec 32) (i i' j j' : ℕ) (u u' : BitVec 16) (hw : w = w') (hi : i = i') (hu : u = u') :
    code (w.extractLsb' i 4) * Ideal.ofBits .bf16 u = code (w'.extractLsb' i' 4) * Ideal.ofBits .bf16 u' := by
  rw [hw, hi, hu]

theorem key_eq (H : Holds X KN VN KR VR SR LEN SEL b bw len sel kw vw sw q kn vn) (D : Twice SR SEL b) (t : Fin 128) (p : Fin 16) (k : Fin 64)
    (hs : IntOp.cmpi CmpIPredicate.sge (SEL (ix3 b (0 : Fin 4) t)) 0#32 = 1#1) :
    Tile.keyAt (k0_pay5 (F := Ideal) kw) (k0_pay7 (F := Ideal) sel sw) p k t = keys KR SR (ix4 b t p (chanK k)) := by
  rw [keys_at]
  obtain ⟨h1, h2, h3⟩ := chanK_parts k
  unfold Tile.keyAt
  rw [Tile.pay5_at, Tile.scales_at, H.pages, hs, select_one, H.keyWords, H.scaleWords]
  refine factors _ _ _ _ 0 0 _ _ ?_ ?_ ?_
  · congr 3
    omega
  · omega
  · refine (D t ⟨2 * p.val + k.val / 16 % 2, by omega⟩ _ hs (by omega)).trans ?_
    congr 3
    apply Fin.ext; dsimp only; omega

theorem value_eq (H : Holds X KN VN KR VR SR LEN SEL b bw len sel kw vw sw q kn vn) (D : Twice SR SEL b) (t : Fin 128) (p : Fin 16) (k : Fin 64)
    (hs : IntOp.cmpi CmpIPredicate.sge (SEL (ix3 b (0 : Fin 4) t)) 0#32 = 1#1) :
    Tile.valAt (k0_pay6 (F := Ideal) vw) (k0_pay7 (F := Ideal) sel sw) p k t = values VR SR (ix4 b t p (chanV k)) := by
  rw [values_at]
  unfold Tile.valAt
  rw [Tile.pay6_at, Tile.scales_at, H.pages, hs, select_one, H.valueWords, H.scaleWords]
  refine factors _ _ _ _ 0 0 _ _ ?_ ?_ ?_
  · congr 3
    simp only [chanV]; omega
  · simp only [chanV]; omega
  · refine (D t ⟨32 + 2 * p.val + k.val % 16 / 8, by omega⟩ _ hs (by omega)).trans ?_
    congr 3
    simp only [chanV]; apply Fin.ext; dsimp only; omega

/-- The kernel's scores. -/
abbrev scores (bw len : BitVec 32) (sel : Vec Ideal S1x1x128 .i32) (kw sw : Vec Ideal S128x128 .i32) (q : Vec Ideal S1x1x32x64 .bf16) (kn : Vec Ideal S1x64x128 .bf16) : Fin 17 → FVec Ideal S32x128 .f32 :=
  Tile.tile (k0_pay8 q) (k0_pay4 (F := Ideal) sel len) (k0_pay5 (F := Ideal) kw) (k0_pay7 (F := Ideal) sel sw)
    (k0_pay139 (iota .tc S32x128 32 [0] iota_S32x128_d0_w32) (iota .tc S32x128 32 [1] iota_S32x128_d1_w32) bw (k0_pay8 q) kn)

/-- The kernel's values. -/
abbrev vvals (sel : Vec Ideal S1x1x128 .i32) (vw sw : Vec Ideal S128x128 .i32) (vn : Vec Ideal S1x64x128 .bf16) : Fin 17 → FVec Ideal S64x128 .bf16 :=
  Tile.vals (iota .tc S8x128 32 [0] iota_S8x128_d0_w32) (k0_pay6 (F := Ideal) vw) (k0_pay7 (F := Ideal) sel sw) (shapeCast S64x128 vn shapeCasts_S1x64x128_S64x128)

theorem cache_dead (H : Holds X KN VN KR VR SR LEN SEL b bw len sel kw vw sw q kn vn) (r : Fin 32) (t : Fin 128) (p : Fin 16)
    (hs : IntOp.cmpi CmpIPredicate.sge (SEL (ix3 b (0 : Fin 4) t)) 0#32 = 0#1) : scores bw len sel kw sw q kn p.castSucc (ix2 r t) = ⊥ := by
  unfold scores
  rw [Tile.tile_at, Tile.left_at, H.pages, hs, select_zero, not_past, select_zero]

theorem cache_score (H : Holds X KN VN KR VR SR LEN SEL b bw len sel kw vw sw q kn vn) (D : Twice SR SEL b) (s : Fin 6) (g : Fin 5) (t : Fin 128) (p : Fin 16) :
    cacheScores X (keys KR SR) LEN SEL (ix5 b s g t p) = scores bw len sel kw sw q kn p.castSucc (ix2 (⟨s.val * 5 + g.val, by omega⟩ : Fin 32) t) * eighth := by
  rw [cacheScores_at, select_eighth]
  congr 1
  rcases bit_cases (IntOp.cmpi CmpIPredicate.sge (SEL (ix3 b (0 : Fin 4) t)) 0#32) with hs | hs
  · rw [cache_dead X KN VN KR VR SR LEN SEL b bw len sel kw vw sw q kn vn H _ t p hs, hs, and_zero, select_zero]
  · unfold scores
    rw [Tile.tile_at, Tile.left_at, H.pages, hs, select_one, and_one, H.length]
    congr 1
    refine (Function.Bijective.sum_comp chanK_bijective fun x => X (ix4 b s (⟨g.val, by omega⟩ : Fin 20) x) * keys KR SR (ix4 b t p x)).symm.trans ?_
    refine Finset.sum_congr rfl fun k _ => ?_
    rw [Tile.pay8_at, H.query, key_eq X KN VN KR VR SR LEN SEL b bw len sel kw vw sw q kn vn H D t p k hs]

theorem new_scores (H : Holds X KN VN KR VR SR LEN SEL b bw len sel kw vw sw q kn vn) (r : Fin 32) (l : Fin 128) :
    scores bw len sel kw sw q kn (Fin.last 16) (ix2 r l) = Scalar.select
      (IntOp.andi (BitVec.ofBool (decide (8 * (b.val % 16) ≤ l.val ∧ l.val < 8 * (b.val % 16) + 6)))
        (IntOp.cmpi CmpIPredicate.sle
          (IntOp.muli (IntOp.subi (BitVec.ofNat 32 l.val) (BitVec.ofNat 32 (8 * (b.val % 16)))) 5#32) (BitVec.ofNat 32 r.val)))
      (∑ x : Fin 64, q (ix4 (0 : Fin 1) (0 : Fin 1) r x) * (show EReal from kn (ix3 (0 : Fin 1) x l))) ⊥ := by
  unfold scores
  rw [Tile.tile_new, Tile.new_at, H.number, first_lane]
  have e1 : iota .tc S32x128 32 [0] iota_S32x128_d0_w32 (ix2 r l) = BitVec.ofNat 32 r.val := by pointwise
  have e2 : iota .tc S32x128 32 [1] iota_S32x128_d1_w32 (ix2 r l) = BitVec.ofNat 32 l.val := by pointwise
  rw [e1, e2, in_lanes ⟨b.val % 16, by omega⟩ l]
  simp only [Tile.pay8_at]

theorem new_score (H : Holds X KN VN KR VR SR LEN SEL b bw len sel kw vw sw q kn vn) (s : Fin 6) (g : Fin 5) (t : Fin 6) :
    newScores X KN (ix4 b s g t) = scores bw len sel kw sw q kn (Fin.last 16) (ix2 (⟨s.val * 5 + g.val, by omega⟩ : Fin 32) (lane b t)) * eighth := by
  rw [newScores_at, select_eighth, new_scores X KN VN KR VR SR LEN SEL b bw len sel kw vw sw q kn vn H]
  have e : (lane b t).val = 8 * (b.val % 16) + t.val := rfl
  rw [e, lane_sub ⟨b.val % 16, by omega⟩ t, causal, decide_eq_true (by omega), show BitVec.ofBool true = 1#1 from rfl, and_one]
  congr 2
  refine (Function.Bijective.sum_comp chanK_bijective fun x => X (ix4 b s (⟨g.val, by omega⟩ : Fin 20) x) * KN (ix4 b t (0 : Fin 4) x)).symm.trans ?_
  refine Finset.sum_congr rfl fun k _ => ?_
  rw [H.query, H.newKey]

theorem elsewhere (H : Holds X KN VN KR VR SR LEN SEL b bw len sel kw vw sw q kn vn) (r : Fin 32) (i : Fin 17 × Fin 128) (hi : i ∉ Set.range (spot b)) :
    scores bw len sel kw sw q kn i.1 (ix2 r i.2) = ⊥ := by
  obtain ⟨P, l⟩ := i
  by_cases hP : P.val < 16
  · exact absurd ⟨.inl (l, ⟨P.val, hP⟩), rfl⟩ hi
  · obtain rfl : P = Fin.last 16 := Fin.ext (by show P.val = 16; omega)
    show scores bw len sel kw sw q kn (Fin.last 16) (ix2 r l) = ⊥
    rw [new_scores X KN VN KR VR SR LEN SEL b bw len sel kw vw sw q kn vn H]
    have h : ¬ (8 * (b.val % 16) ≤ l.val ∧ l.val < 8 * (b.val % 16) + 6) := fun h =>
      hi ⟨.inr ⟨l.val - 8 * (b.val % 16), by omega⟩, Prod.ext rfl (Fin.ext (by show 8 * (b.val % 16) + (l.val - 8 * (b.val % 16)) = l.val; omega))⟩
    rw [decide_eq_false h, show BitVec.ofBool false = 0#1 from rfl, and_zero, select_zero]

theorem one_eq (H : Holds X KN VN KR VR SR LEN SEL b bw len sel kw vw sw q kn vn) (D : Twice SR SEL b) (s : Fin 6) (g : Fin 5) (d : Fin 64) :
    Tile.one (F := Ideal) (iota .tc S8x128 32 [0] iota_S8x128_d0_w32) (iota .tc S32x128 32 [0] iota_S32x128_d0_w32) (iota .tc S32x128 32 [1] iota_S32x128_d1_w32) kap bw len sel kw vw sw q kn vn
        (ix4 (0 : Fin 1) (0 : Fin 1) (⟨s.val * 5 + g.val, by omega⟩ : Fin 32) d)
      = whole X KN VN KR VR SR LEN SEL (ix4 b s g (chanV d)) := by
  rw [whole_at]
  refine (Tile.average_at (scores bw len sel kw sw q kn) (vvals sel vw sw vn) _ d).trans ?_
  refine softmax_eq (spot b) (spot_injective b) (fun i => scores bw len sel kw sw q kn i.1 (ix2 (⟨s.val * 5 + g.val, by omega⟩ : Fin 32) i.2)) (fun i => vvals sel vw sw vn i.1 (ix2 d i.2))
    (score X KN KR SR LEN SEL b s g) (value VN VR SR b (chanV d))
    (fun i hi => elsewhere X KN VN KR VR SR LEN SEL b bw len sel kw vw sw q kn vn H _ i hi) ?_ ?_
  · rintro (⟨t, p⟩ | t)
    · exact cache_score X KN VN KR VR SR LEN SEL b bw len sel kw vw sw q kn vn H D s g t p
    · exact new_score X KN VN KR VR SR LEN SEL b bw len sel kw vw sw q kn vn H s g t
  · rintro (⟨t, p⟩ | t)
    · rcases bit_cases (IntOp.cmpi CmpIPredicate.sge (SEL (ix3 b (0 : Fin 4) t)) 0#32) with hs | hs
      · exact .inl (cache_dead X KN VN KR VR SR LEN SEL b bw len sel kw vw sw q kn vn H _ t p hs)
      · refine .inr ?_
        show vvals sel vw sw vn p.castSucc (ix2 d t) = values VR SR (ix4 b t p (chanV d))
        rw [← value_eq X KN VN KR VR SR LEN SEL b bw len sel kw vw sw q kn vn H D t p d hs]
        exact Tile.vals_at _ _ _ p d t
    · refine .inr ?_
      show vvals sel vw sw vn (Fin.last 16) (ix2 d (lane b t)) = VN (ix4 b t (0 : Fin 4) (chanV d))
      rw [← H.newValue]
      unfold vvals
      rw [Tile.vals_new]
      pointwise

end
end Cert.Attn
-- ==== Proof.Host.lean ====
module

public import proofs.«01_k».proof.Proof.Frame
public import proofs.«01_k».proof.Proof.Match
public import Idealize.ShloMosaic.Lib.StableHlo.RunRead

@[expose] public section

set_option maxRecDepth 16384
set_option maxHeartbeats 1000000

noncomputable section

/-!
# The arguments as the host lines lay them out

What the launch's inputs hold, read at an index: the page numbers, the queries, the new keys and the new values.
-/

namespace Cert.KernelIdeal.Body
open Cert.KernelIdeal Cert.KernelIdeal.Gen Cert.Attn
open Idealize.ShloMosaic Idealize.ShloMosaic.TcCoe
open Idealize.SL Idealize.SL.Sem

variable (m : (ℓ : Loc nD τ sig) → Buf (Elt Ideal) ℓ)

/-- The queries as laid out. -/
def layQ (X : FVec Ideal S120x6x20x64 .bf16) : FVec Ideal S4x120x32x64 .bf16 :=
  pad S4x120x32x64 ![0, 0, 0, 0] ![0, 0, 2, 0] ![0, 0, 0, 0]
    (shapeCast S4x120x30x64 (transpose S4x120x6x5x64 [2, 0, 1, 3, 4]
      (shapeCast S120x6x4x5x64 (transpose S120x6x4x5x2x2x8x2 [0, 1, 2, 3, 7, 4, 5, 6]
        (shapeCast S120x6x4x5x2x8x2x2 (shapeCast S120x6x4x5x64 X shapeCasts_S120x6x20x64_S120x6x4x5x64) shapeCasts_S120x6x4x5x64_S120x6x4x5x2x8x2x2)
        transposes_S120x6x4x5x2x8x2x2_S120x6x4x5x2x2x8x2_0_1_2_3_7_4_5_6) shapeCasts_S120x6x4x5x2x2x8x2_S120x6x4x5x64)
      transposes_S120x6x4x5x64_S4x120x6x5x64_2_0_1_3_4) shapeCasts_S4x120x6x5x64_S4x120x30x64)
    (sitofp .bf16 (constantI S_ 32 0#32)) pads_S4x120x30x64_S4x120x32x64_000_000_020_000 h_S_

/-- A sequence of new rows as laid out. -/
def layNew (Y : FVec Ideal S120x6x4x64 .bf16) : FVec Ideal S4x64x1024 .bf16 :=
  pad S4x64x1024 ![0, 0, 0] ![0, 0, 64] ![0, 0, 0]
    (shapeCast S4x64x960 (transpose S4x64x120x8 [2, 3, 0, 1]
      (pad S120x8x4x64 ![0, 0, 0, 0] ![0, 2, 0, 0] ![0, 0, 0, 0] Y (sitofp .bf16 (constantI S_ 32 0#32)) pads_S120x6x4x64_S120x8x4x64_000_020_000_000 h_S_)
      transposes_S120x8x4x64_S4x64x120x8_2_3_0_1) shapeCasts_S4x64x120x8_S4x64x960)
    (sitofp .bf16 (constantI S_ 32 0#32)) pads_S4x64x960_S4x64x1024_000_000_0640 h_S_

/-- The new keys with their channels reordered. -/
def orderK (Y : FVec Ideal S120x6x4x64 .bf16) : FVec Ideal S120x6x4x64 .bf16 :=
  shapeCast S120x6x4x64 (transpose S120x6x4x2x2x8x2 [0, 1, 2, 6, 3, 4, 5]
    (shapeCast S120x6x4x2x8x2x2 Y shapeCasts_S120x6x4x64_S120x6x4x2x8x2x2)
    transposes_S120x6x4x2x8x2x2_S120x6x4x2x2x8x2_0_1_2_6_3_4_5) shapeCasts_S120x6x4x2x2x8x2_S120x6x4x64

/-- The new values with their channels reordered. -/
def orderV (Y : FVec Ideal S120x6x4x64 .bf16) : FVec Ideal S120x6x4x64 .bf16 :=
  shapeCast S120x6x4x64 (transpose S120x6x4x4x8x2 [0, 1, 2, 5, 3, 4]
    (shapeCast S120x6x4x8x2x4 Y shapeCasts_S120x6x4x64_S120x6x4x8x2x4)
    transposes_S120x6x4x8x2x4_S120x6x4x4x8x2_0_1_2_5_3_4) shapeCasts_S120x6x4x4x8x2_S120x6x4x64

theorem V_sel (c : Dev nD) : V m c main_v0 = transpose S4x120x128 [1, 0, 2] (m ((c : Thread nD τ).loc main_arg7)) transposes_S120x4x128_S4x120x128_1_0_2 := by
  unfold V V0
  simp only [List.flatten_cons, List.flatten_nil, List.append_nil, List.cons_append, List.nil_append]
  after_reads_simp
theorem V_q (c : Dev nD) : V m c main_v7 = layQ (m ((c : Thread nD τ).loc main_arg0)) := by
  unfold V V0 layQ
  simp only [List.flatten_cons, List.flatten_nil, List.append_nil, List.cons_append, List.nil_append]
  after_reads_simp
  rfl
theorem V_kn (c : Dev nD) : V m c main_v14 = layNew (orderK (m ((c : Thread nD τ).loc main_arg1))) := by
  unfold V V0 layNew orderK
  simp only [List.flatten_cons, List.flatten_nil, List.append_nil, List.cons_append, List.nil_append]
  after_reads_simp
  rfl
theorem V_vn (c : Dev nD) : V m c main_v21 = layNew (orderV (m ((c : Thread nD τ).loc main_arg2))) := by
  unfold V V0 layNew orderV
  simp only [List.flatten_cons, List.flatten_nil, List.append_nil, List.cons_append, List.nil_append]
  after_reads_simp
  rfl

theorem orderK_at (Y : FVec Ideal S120x6x4x64 .bf16) (b : Fin 120) (t : Fin 6) (h : Fin 4) (k : Fin 64) : orderK Y (ix4 b t h k) = Y (ix4 b t h (chanK k)) := by
  pointwise [orderK]
  congr 2
  apply Fin.ext
  simp only [chanK]
  omega
theorem orderV_at (Y : FVec Ideal S120x6x4x64 .bf16) (b : Fin 120) (t : Fin 6) (h : Fin 4) (k : Fin 64) : orderV Y (ix4 b t h k) = Y (ix4 b t h (chanV k)) := by
  pointwise [orderV]
  congr 2
  apply Fin.ext
  simp only [chanV]
  omega
theorem layNew_at (Y : FVec Ideal S120x6x4x64 .bf16) (b : Fin 120) (t : Fin 6) (h : Fin 4) (k : Fin 64) :
    layNew Y (ix3 h k (⟨8 * b.val + t.val, by omega⟩ : Fin 1024)) = Y (ix4 b t h k) := by
  pointwise [layNew]
  rw [dif_pos (by omega), dif_pos (by omega)]
  congr 2
  apply Fin.ext
  show (8 * b.val + t.val) % 8 = t.val
  omega
theorem layQ_at (X : FVec Ideal S120x6x20x64 .bf16) (h : Fin 4) (b : Fin 120) (s : Fin 6) (g : Fin 5) (k : Fin 64) :
    layQ X (ix4 h b (⟨s.val * 5 + g.val, by omega⟩ : Fin 32) k) = X (ix4 b s (⟨h.val * 5 + g.val, by omega⟩ : Fin 20) (chanK k)) := by
  pointwise [layQ]
  rw [dif_pos (by omega)]
  congr 2
  apply Fin.ext
  simp only [chanK]
  omega

end Cert.KernelIdeal.Body
-- ==== Proof.Final.lean ====
module

public import proofs.«01_k».proof.Proof.Host
public import proofs.«01_k».proof.Proof.RefHeads
public import Idealize.ShloMosaic.Lib.Pipeline.ValueKit

@[expose] public section

set_option maxRecDepth 16384
set_option maxHeartbeats 1000000

noncomputable section

/-!
# One step's block

Step `t` of the launch reads the windows of sequences `8 t … 8 t + 7` and writes their rows of the output array. Where each
scale word of a selected page holds its scale twice, the row of sequence `8 t + k`, position `s` and query head `g` is the reference's
result for that sequence, position and head, in the kernel's channel order (`point`).
-/

namespace Cert.KernelIdeal.Body
open Cert.KernelIdeal Cert.KernelIdeal.Gen Cert.Attn
open Cert.ReferenceIdeal.Stage (moveX moveN moveS moveP wholeH)
open Idealize.ShloMosaic Idealize.ShloMosaic.TcCoe
open Idealize.SL Idealize.SL.Sem
open Idealize.ShloMosaic.Pipeline (Dat)

variable (h : Fin 4) (m : (ℓ : Loc nD τ sig) → Buf (Elt Ideal) ℓ)

theorem coord : ∀ t : Fin grid0.N, (grid0.coords t 0).val = t.val := by decide +kernel

/-- Head `h`'s index maps, in numbers. -/
def MapsAt (h : Fin 4) (ix : (w : Fin 8) → grid0.Coords → Fin (spec0 w).shape.rank → ℕ) : Prop :=
  ∀ t : Fin grid0.N, (ix 0 (grid0.coords t) : Fin 2 → ℕ) = ![t.val, 0] ∧ (ix 1 (grid0.coords t) : Fin 2 → ℕ) = ![t.val, 0]
    ∧ (ix 2 (grid0.coords t) : Fin 2 → ℕ) = ![h.val * 15 + t.val, 0] ∧ (ix 3 (grid0.coords t) : Fin 3 → ℕ) = ![h.val, t.val, 0]
    ∧ (ix 4 (grid0.coords t) : Fin 4 → ℕ) = ![h.val, t.val, 0, 0] ∧ (ix 5 (grid0.coords t) : Fin 3 → ℕ) = ![h.val, 0, t.val / 2]
    ∧ (ix 6 (grid0.coords t) : Fin 3 → ℕ) = ![h.val, 0, t.val / 2] ∧ (ix 7 (grid0.coords t) : Fin 4 → ℕ) = ![0, t.val, 0, 0]
instance (h : Fin 4) (ix : (w : Fin 8) → grid0.Coords → Fin (spec0 w).shape.rank → ℕ) : Decidable (MapsAt h ix) := by
  unfold MapsAt; infer_instance

/-- A table of sequence lengths, to decide facts that no table enters. -/
def table0 : pre0.Contents (Elt Ideal) := fun | 0 => fun _ => (0#32 : BitVec 32)

theorem maps0 : ∀ h : Fin 4, MapsAt h (ixH h table0) := by decide +kernel
theorem maps (pf : pre0.Contents (Elt Ideal)) : ∀ h : Fin 4, MapsAt h (ixH h pf)
  | 0 => maps0 0
  | 1 => maps0 1
  | 2 => maps0 2
  | 3 => maps0 3

theorem index_eq (t : Fin (cfgM h m).N) : ((cfgM h m).win 0).index t = ![t.val, 0] ∧ ((cfgM h m).win 1).index t = ![t.val, 0] ∧ ((cfgM h m).win 2).index t = ![h.val * 15 + t.val, 0]
    ∧ ((cfgM h m).win 3).index t = ![h.val, t.val, 0] ∧ ((cfgM h m).win 4).index t = ![h.val, t.val, 0, 0] ∧ ((cfgM h m).win 5).index t = ![h.val, 0, t.val / 2]
    ∧ ((cfgM h m).win 6).index t = ![h.val, 0, t.val / 2] ∧ ((cfgM h m).win 7).index t = ![0, t.val, 0, 0] := maps (tbl m) h t

theorem covers0 : ∀ h : Fin 4, (((pcfgH (F := Ideal) h).at ⟨table0, trivial⟩).win 7).Covers := by decide +kernel
theorem covers : ∀ h : Fin 4, ((cfgM h m).win 7).Covers
  | 0 => covers0 0
  | 1 => covers0 1
  | 2 => covers0 2
  | 3 => covers0 3

variable (c : Dev nD) (t : Fin (cfgM h m).N)

theorem block0 (r : Fin 1024) (i : Fin 128) : iblk h m c 0 t (ix2 r i)
    = m ((c : Thread nD τ).loc main_arg3) (ix2 (⟨1024 * t.val + r.val, by have : t.val < 15 := t.isLt; omega⟩ : Fin 15360) i) := by
  blk_ext [iblk, V_arg m c main_arg3 (by decide), index_eq h m t]
theorem block1 (r : Fin 1024) (i : Fin 128) : iblk h m c 1 t (ix2 r i)
    = m ((c : Thread nD τ).loc main_arg4) (ix2 (⟨1024 * t.val + r.val, by have : t.val < 15 := t.isLt; omega⟩ : Fin 15360) i) := by
  blk_ext [iblk, V_arg m c main_arg4 (by decide), index_eq h m t]
theorem block2 (r : Fin 1024) (i : Fin 128) : iblk h m c 2 t (ix2 r i)
    = m ((c : Thread nD τ).loc main_arg5) (ix2 (⟨h.val * 15360 + 1024 * t.val + r.val, by have : t.val < 15 := t.isLt; omega⟩ : Fin 61440) i) := by
  blk_ext [iblk, V_arg m c main_arg5 (by decide), index_eq h m t]
theorem block3 (k : Fin 8) (i : Fin 128) : iblk h m c 3 t (ix3 (0 : Fin 1) k i)
    = V m c main_v0 (ix3 h (⟨8 * t.val + k.val, by have : t.val < 15 := t.isLt; omega⟩ : Fin 120) i) := by
  blk_ext [iblk, index_eq h m t]
theorem block4 (k : Fin 8) (r : Fin 32) (d : Fin 64) : iblk h m c 4 t (ix4 (0 : Fin 1) k r d)
    = V m c main_v7 (ix4 h (⟨8 * t.val + k.val, by have : t.val < 15 := t.isLt; omega⟩ : Fin 120) r d) := by
  blk_ext [iblk, index_eq h m t]
theorem block5 (d : Fin 64) (l : Fin 128) : iblk h m c 5 t (ix3 (0 : Fin 1) d l)
    = V m c main_v14 (ix3 h d (⟨128 * (t.val / 2) + l.val, by have : t.val < 15 := t.isLt; omega⟩ : Fin 1024)) := by
  blk_ext [iblk, index_eq h m t]
theorem block6 (d : Fin 64) (l : Fin 128) : iblk h m c 6 t (ix3 (0 : Fin 1) d l)
    = V m c main_v21 (ix3 h d (⟨128 * (t.val / 2) + l.val, by have : t.val < 15 := t.isLt; omega⟩ : Fin 1024)) := by
  blk_ext [iblk, index_eq h m t]

theorem seq_number : ∀ (t : Fin grid0.N) (k : Fin 8),
    Scalar.addi (Scalar.muli (BitVec.ofNat 32 (grid0.coords t 0).val) 8#32) (Scf.iv 0#32 1#32 k.val) = BitVec.ofNat 32 (8 * t.val + k.val) := by decide +kernel

theorem off2_eq : ∀ (t : Fin grid0.N) (k : Fin k0_t1_loop.trips), k0_off2 (grid0.coords t) k = ![8 * t.val + k.val] := by decide +kernel

theorem constant_eq : (Named.named κ "log2e_8" 0x3E38AA3B#32 : Ideal .f32) = kap := rfl

/-- Each scale word that the launch reads holds its scale in both halves. -/
def AllTwice : Prop := ∀ b : Fin 120, Twice (moveS h (m ((c : Thread nD τ).loc main_arg5))) (moveP h (m ((c : Thread nD τ).loc main_arg7))) b

theorem moveN_first (Y : FVec Ideal S120x6x4x64 .bf16) (b : Fin 120) (t : Fin 6) (e : Fin 64) : Y (ix4 b t h e) = moveN h Y (ix4 b t (0 : Fin 4) e) := by
  show _ = Y (ix4 b t (⟨(h.val + 0) % 4, by omega⟩ : Fin 4) e)
  congr 2
  apply Fin.ext
  show h.val = (h.val + 0) % 4
  omega

/-- The launch's blocks at a step hold the rows of the step's sequences. -/
theorem holds (k : Fin k0_t1_loop.trips) (b : Fin 120) (hb : b.val = 8 * t.val + k.val) :
    Holds (moveX h (m ((c : Thread nD τ).loc main_arg0))) (moveN h (m ((c : Thread nD τ).loc main_arg1))) (moveN h (m ((c : Thread nD τ).loc main_arg2)))
      (m ((c : Thread nD τ).loc main_arg3)) (m ((c : Thread nD τ).loc main_arg4)) (moveS h (m ((c : Thread nD τ).loc main_arg5)))
      (m ((c : Thread nD τ).loc main_arg6)) (moveP h (m ((c : Thread nD τ).loc main_arg7))) b
      (Scalar.addi (Scalar.muli (BitVec.ofNat 32 (grid0.coords t 0).val) 8#32) (Scf.iv 0#32 1#32 k.val))
      (View.ld (Val := Elt Ideal) (e' := .i32) (tbl0 m) (Rect.unit (s := S120) (k0_off2 (grid0.coords t) k) S1.size (k0_off2_inb (grid0.coords t) k)) (Shape.Idx.first (s := S1) (by decide)))
      (View.ld (Val := Elt Ideal) (e' := .i32) (iblk h m c 3 t) (Rect.unit (s := S1x8x128) (k0_off1 k) S1x1x128.size (k0_off1_inb k)))
      (View.ld (Val := Elt Ideal) (e' := .i32) (iblk h m c 0 t) (Rect.unit (s := S1024x128) (k0_off3 k) S128x128.size (k0_off3_inb k)))
      (View.ld (Val := Elt Ideal) (e' := .i32) (iblk h m c 1 t) (Rect.unit (s := S1024x128) (k0_off3 k) S128x128.size (k0_off3_inb k)))
      (View.ld (Val := Elt Ideal) (e' := .i32) (iblk h m c 2 t) (Rect.unit (s := S1024x128) (k0_off3 k) S128x128.size (k0_off3_inb k)))
      (View.ld (Val := Elt Ideal) (e' := .bf16) (iblk h m c 4 t) (Rect.unit (s := S1x8x32x64) (k0_off4 k) S1x1x32x64.size (k0_off4_inb k)))
      (View.ld (Val := Elt Ideal) (e' := .bf16) (iblk h m c 5 t) (Rect.unit (s := S1x64x128) ![0, 0, 0] S1x64x128.size inb_S1x64x128_S1x64x128_0_0_0))
      (View.ld (Val := Elt Ideal) (e' := .bf16) (iblk h m c 6 t) (Rect.unit (s := S1x64x128) ![0, 0, 0] S1x64x128.size inb_S1x64x128_S1x64x128_0_0_0)) := by
  have ht : t.val < 15 := t.isLt
  have hk : k.val < 8 := Nat.lt_of_lt_of_eq k.isLt trips_eq
  have words (w : S1024x128.Idx → BitVec 32) (p i : Fin 128) :
      View.ld (Val := Elt Ideal) (e' := .i32) w (Rect.unit (s := S1024x128) (k0_off3 k) S128x128.size (k0_off3_inb k)) (ix2 p i)
        = w (ix2 (⟨128 * k.val + p.val, by omega⟩ : Fin 1024) i) := by
    refine View.ld_unit_apply_of (Val := Elt Ideal) (e := .i32) w _ _ _ _ _ ?_
    intro a
    rw [show k0_off3 k a = _ from congrFun (off3_eq k) a]
    match a with
    | ⟨0, _⟩ => rfl
    | ⟨1, _⟩ => exact (Nat.zero_add _).symm
  have pages (w : S1x8x128.Idx → BitVec 32) (p : Fin 128) :
      View.ld (Val := Elt Ideal) (e' := .i32) w (Rect.unit (s := S1x8x128) (k0_off1 k) S1x1x128.size (k0_off1_inb k)) (ix3 (0 : Fin 1) (0 : Fin 1) p)
        = w (ix3 (0 : Fin 1) (⟨k.val, hk⟩ : Fin 8) p) := by
    refine View.ld_unit_apply_of (Val := Elt Ideal) (e := .i32) w _ _ _ _ _ ?_
    intro a
    rw [show k0_off1 k a = _ from congrFun (off1_eq k) a]
    match a with
    | ⟨0, _⟩ => rfl
    | ⟨1, _⟩ => rfl
    | ⟨2, _⟩ => exact (Nat.zero_add _).symm
  have queries (w : S1x8x32x64.Idx → EReal) (r : Fin 32) (d : Fin 64) :
      View.ld (Val := Elt Ideal) (e' := .bf16) w (Rect.unit (s := S1x8x32x64) (k0_off4 k) S1x1x32x64.size (k0_off4_inb k)) (ix4 (0 : Fin 1) (0 : Fin 1) r d)
        = w (ix4 (0 : Fin 1) (⟨k.val, hk⟩ : Fin 8) r d) := by
    refine View.ld_unit_apply_of (Val := Elt Ideal) (e := .bf16) w _ _ _ _ _ ?_
    intro a
    rw [show k0_off4 k a = _ from congrFun (off4_eq k) a]
    match a with
    | ⟨0, _⟩ => rfl
    | ⟨1, _⟩ => rfl
    | ⟨2, _⟩ => exact (Nat.zero_add _).symm
    | ⟨3, _⟩ => exact (Nat.zero_add _).symm
  have whole3 (w : S1x64x128.Idx → EReal) (d : Fin 64) (l : Fin 128) :
      View.ld (Val := Elt Ideal) (e' := .bf16) w (Rect.unit (s := S1x64x128) ![0, 0, 0] S1x64x128.size inb_S1x64x128_S1x64x128_0_0_0) (ix3 (0 : Fin 1) d l)
        = w (ix3 (0 : Fin 1) d l) := by
    refine View.ld_unit_apply_of (Val := Elt Ideal) (e := .bf16) w _ _ _ _ _ ?_
    intro a
    match a with
    | ⟨0, _⟩ => rfl
    | ⟨1, _⟩ => exact (Nat.zero_add _).symm
    | ⟨2, _⟩ => exact (Nat.zero_add _).symm
  constructor
  · rw [hb]; exact seq_number t ⟨k.val, hk⟩
  · obtain rfl : c = 0 := Subsingleton.elim _ _
    have e : tbl m 0 = m (((0 : Dev nD) : Thread nD τ).loc main_arg6) := V_arg m 0 main_arg6 (by decide)
    refine (View.ld_unit_apply_of (tbl0 m) _ _ _ _ (ix1 b) (by
      intro a
      rw [show k0_off2 (grid0.coords t) k a = _ from congrFun (off2_eq t k) a]
      match a with
      | ⟨0, _⟩ => exact hb)).trans ?_
    exact congrFun e (ix1 b)
  · intro p
    refine (pages (iblk h m c 3 t) p).trans ?_
    rw [block3, V_sel]
    pointwise [moveP]
    congr 2
    · exact Fin.ext hb.symm
    · apply Fin.ext; dsimp only; omega
  · intro p i
    refine (words (iblk h m c 0 t) p i).trans ((block0 h m c t _ i).trans ?_)
    congr 2
    apply Fin.ext; dsimp only; omega
  · intro p i
    refine (words (iblk h m c 1 t) p i).trans ((block1 h m c t _ i).trans ?_)
    congr 2
    apply Fin.ext; dsimp only; omega
  · intro p i
    refine (words (iblk h m c 2 t) p i).trans ((block2 h m c t _ i).trans ?_)
    show _ = (m ((c : Thread nD τ).loc main_arg5)) (ix2 (⟨(h.val * 15360 + (b.val * 128 + p.val)) % 61440, by omega⟩ : Fin 61440) i)
    congr 2
    apply Fin.ext; dsimp only; omega
  · intro s g d
    refine (queries (iblk h m c 4 t) _ d).trans ?_
    rw [block4, V_q]
    rw [show (⟨8 * t.val + (⟨k.val, hk⟩ : Fin 8).val, by dsimp only; omega⟩ : Fin 120) = b from Fin.ext hb.symm]
    refine (layQ_at _ h b s g d).trans ?_
    show _ = (m ((c : Thread nD τ).loc main_arg0)) (ix4 b s (⟨(h.val * 5 + g.val) % 20, by omega⟩ : Fin 20) (chanK d))
    congr 2
    apply Fin.ext; dsimp only; omega
  · intro p d
    refine (whole3 (iblk h m c 5 t) d (lane b p)).trans ?_
    rw [block5, V_kn]
    refine Eq.trans ?_ ((layNew_at (orderK _) b p h d).trans ((orderK_at _ b p h d).trans (moveN_first h _ b p (chanK d))))
    congr 2
    apply Fin.ext
    show 128 * (t.val / 2) + (8 * (b.val % 16) + p.val) = 8 * b.val + p.val
    omega
  · intro p d
    refine (whole3 (iblk h m c 6 t) d (lane b p)).trans ?_
    rw [block6, V_vn]
    refine Eq.trans ?_ ((layNew_at (orderV _) b p h d).trans ((orderV_at _ b p h d).trans (moveN_first h _ b p (chanV d))))
    congr 2
    apply Fin.ext
    show 128 * (t.val / 2) + (8 * (b.val % 16) + p.val) = 8 * b.val + p.val
    omega

/-- The reference's result, on the kernel's argument arrays. -/
abbrev wanted : FVec Ideal S120x6x5x64 .bf16 :=
  Cert.ReferenceIdeal.Stage.wholeH h (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- What a step leaves in its output block. -/
theorem point (D : AllTwice h m c) (b : Fin 120) (k : Fin 8) (hb : b.val = 8 * t.val + k.val) (s : Fin 6) (g : Fin 5) (d : Fin 64) :
    stepOut (grid0.coords t) (tbl0 m) (iblk h m c 0 t) (iblk h m c 1 t) (iblk h m c 2 t) (iblk h m c 3 t) (iblk h m c 4 t) (iblk h m c 5 t) (iblk h m c 6 t)
        (ix4 (0 : Fin 1) k (⟨s.val * 5 + g.val, by omega⟩ : Fin 32) d) = wanted h m c (ix4 b s g (chanV d)) := by
  unfold stepOut
  rw [constant_eq]
  exact one_eq _ _ _ _ _ _ _ _ b _ _ _ _ _ _ _ _ _ (holds h m c t ⟨k.val, by rw [trips_eq]; exact k.isLt⟩ b hb) (D b) s g d

end Cert.KernelIdeal.Body
-- ==== Proof.Result.lean ====
module

public import proofs.«01_k».proof.Proof.Final
public import proofs.«01_k».proof.Proof.Gen.Pre_scales_twice
public import proofs.«01_k».proof.Proof.Gen.Pre_scales_twice1
public import proofs.«01_k».proof.Proof.Gen.Pre_scales_twice2
public import proofs.«01_k».proof.Proof.Gen.Pre_scales_twice3

@[expose] public section

set_option maxRecDepth 16384
set_option maxHeartbeats 1000000

noncomputable section

/-!
# The result array

The launch's output array holds the reference's result in the kernel's row and channel order (`output_row`), the host
lines after it put it in the reference's order (`tail_at`), so a run ends with the reference's result (`value_run`).
-/

namespace Cert.KernelIdeal.Body
open Cert.KernelIdeal Cert.KernelIdeal.Gen Cert.Attn
open Cert.ReferenceIdeal.Stage (moveP moveS)
open Idealize.ShloMosaic Idealize.ShloMosaic.TcCoe
open Idealize.SL Idealize.SL.Sem
open Idealize.ShloMosaic.Pipeline (Dat)

/-- The row of the kernel's layout that holds channel `e` of a result. -/
def rowV (e : Fin 64) : Fin 64 := ⟨e.val % 4 * 16 + 2 * (e.val / 8) + e.val / 4 % 2, by omega⟩
theorem chanV_rowV : ∀ e : Fin 64, chanV (rowV e) = e := by decide +kernel

/-- The host lines after the launch. -/
def layOut (Y : FVec Ideal S1x120x32x64 .bf16) : FVec Ideal S120x6x5x64 .bf16 :=
  shapeCast S120x6x5x64 (transpose S120x6x1x5x64 [1, 2, 0, 3, 4]
    (shapeCast S1x120x6x5x64 (shapeCast S1x120x30x64 (transpose S1x120x30x8x2x4 [0, 1, 2, 4, 5, 3]
      (shapeCast S1x120x30x4x8x2 (extractStridedSlice S1x120x30x64 ![0, 0, 0, 0] Y slices_S1x120x32x64_S1x120x30x64_0_0_0_0) shapeCasts_S1x120x30x64_S1x120x30x4x8x2)
      transposes_S1x120x30x4x8x2_S1x120x30x8x2x4_0_1_2_4_5_3) shapeCasts_S1x120x30x8x2x4_S1x120x30x64) shapeCasts_S1x120x30x64_S1x120x6x5x64)
    transposes_S1x120x6x5x64_S120x6x1x5x64_1_2_0_3_4) shapeCasts_S120x6x1x5x64_S120x6x5x64

/-- An element of the result is one of the launch's output array. -/
theorem tail_at (Y : FVec Ideal S1x120x32x64 .bf16) (b : Fin 120) (s : Fin 6) (g : Fin 5) (e : Fin 64) :
    layOut Y (ix4 b s g e) = Y (ix4 (0 : Fin 1) b (⟨s.val * 5 + g.val, by omega⟩ : Fin 32) (rowV e)) := by
  pointwise [layOut]
  congr 2
  apply Fin.ext
  simp only [rowV]
  omega

variable (h : Fin 4) (m : (ℓ : Loc nD τ sig) → Buf (Elt Ideal) ℓ) (ρ : Dev nD → PrngReg) (c : Dev nD)

/-- The host lines after the launch, run on its output array. -/
theorem tail_eq : Pipeline.afterTail (pcfgsH h) (fun _ => adm h m) (dats h m) 0 (V0 m) [hostOps1] c main_v29
    = layOut ((dats h m 0 c).arrAt 7 (cfgM h m).N) := by
  unfold Pipeline.afterTail
  simp only [List.flatten_cons, List.flatten_nil, List.append_nil, List.cons_append, List.nil_append]
  after_reads_simp
  exact congrArg layOut (Pipeline.withArrays_arr spec0 (by decide) c (V0 m c) (fun w => (dats h m 0 c).arrAt w (cfgM h m).N) 7)

theorem idx_eq (j : S120x6x5x64.Idx) : ∃ (b : Fin 120) (s : Fin 6) (g : Fin 5) (e : Fin 64), j = ix4 b s g e :=
  ⟨⟨(j 0).val, (j 0).isLt⟩, ⟨(j 1).val, (j 1).isLt⟩, ⟨(j 2).val, (j 2).isLt⟩, ⟨(j 3).val, (j 3).isLt⟩, by
    funext a
    match a with
    | ⟨0, _⟩ => rfl
    | ⟨1, _⟩ => rfl
    | ⟨2, _⟩ => rfl
    | ⟨3, _⟩ => rfl⟩

theorem block_idx_eq (j : S1x8x32x64.Idx) : ∃ (k : Fin 8) (r : Fin 32) (d : Fin 64), j = ix4 (0 : Fin 1) k r d :=
  ⟨⟨(j 1).val, (j 1).isLt⟩, ⟨(j 2).val, (j 2).isLt⟩, ⟨(j 3).val, (j 3).isLt⟩, by
    funext a
    match a with
    | ⟨0, _⟩ => exact Fin.ext (by have : (j 0).val < 1 := (j 0).isLt; show (j 0).val = 0; omega)
    | ⟨1, _⟩ => rfl
    | ⟨2, _⟩ => rfl
    | ⟨3, _⟩ => rfl⟩

/-- The output array holds `v` at an index: at a row that holds a result, the reference's. -/
def Row (i : S1x120x32x64.Idx) (v : EReal) : Prop :=
  ∀ (b : Fin 120) (s : Fin 6) (g : Fin 5) (d : Fin 64), (i 1).val = b.val → (i 2).val = s.val * 5 + g.val → (i 3).val = d.val →
    v = wanted h m c (ix4 b s g (chanV d))

/-- The launch's output array, at the rows that hold results. -/
theorem output_row (D : AllTwice h m c) (b : Fin 120) (s : Fin 6) (g : Fin 5) (d : Fin 64) :
    (show FVec Ideal S1x120x32x64 .bf16 from (dats h m 0 c).arrAt 7 (cfgM h m).N) (ix4 (0 : Fin 1) b (⟨s.val * 5 + g.val, by omega⟩ : Fin 32) d)
      = wanted h m c (ix4 b s g (chanV d)) := by
  refine ((dats h m 0 c).arrAt_forall_of_covers 7 (Row h m c) (covers m h) (fun t _ y => ?_)
    (show S1x120x32x64.Idx from ix4 (0 : Fin 1) b (⟨s.val * 5 + g.val, by omega⟩ : Fin 32) d) (Memref.isWhole_whole _)) b s g d rfl rfl rfl
  obtain ⟨k, r, d, rfl⟩ := block_idx_eq y
  intro b s g d' hb hr hd
  blk_simp [index_eq h m t] at hb hr hd ⊢
  rw [after_7]
  have e1 : b.val = 8 * t.val + k.val := by omega
  have e2 : r = (⟨s.val * 5 + g.val, by omega⟩ : Fin 32) := Fin.ext hr
  have e3 : d = d' := Fin.ext hd
  rw [e2, e3]
  exact point h m c t D b k e1 s g d'

/-- A word whose halves are equal has the low one in both places. -/
theorem halves (w : BitVec 32) (hw : IntOp.cmpi CmpIPredicate.eq (IntOp.andi w 65535#32) (IntOp.shrui .host w 16#32) = 1#1) (h : ℕ) (hh : h < 2) :
    w.extractLsb' (16 * h) 16 = w.setWidth 16 := by
  have e : w &&& 65535#32 = w >>> 16 := by
    by_contra hne
    have : IntOp.cmpi CmpIPredicate.eq (w &&& 65535#32) (w >>> 16) = 0#1 := by
      show BitVec.ofBool ((w &&& 65535#32) == (w >>> 16)) = 0#1
      rw [beq_false_of_ne hne]; rfl
    exact absurd (hw.symm.trans this) (by decide)
  have hn : w.toNat % 65536 = w.toNat / 65536 := by
    have h2 := congrArg BitVec.toNat e
    rw [BitVec.toNat_and, BitVec.toNat_ushiftRight, Nat.shiftRight_eq_div_pow] at h2
    rw [show (65535#32).toNat = 2 ^ 16 - 1 from rfl, Nat.and_two_pow_sub_one_eq_mod] at h2
    exact h2
  apply BitVec.eq_of_toNat_eq
  rw [BitVec.extractLsb'_toNat, BitVec.toNat_setWidth, Nat.shiftRight_eq_div_pow]
  have hlt := w.isLt
  rcases (show h = 0 ∨ h = 1 by omega) with rfl | rfl
  · norm_num
  · norm_num
    omega

theorem none_or (c : BitVec 1) : IntOp.ori 0#1 c = c := by
  rcases bit_cases c with rfl | rfl <;> rfl

theorem not_negative (x : BitVec 32) (h : IntOp.cmpi CmpIPredicate.sge x 0#32 = 1#1) : IntOp.cmpi CmpIPredicate.slt x 0#32 = 0#1 := by
  have h1 : BitVec.ofBool ((0#32).sle x) = 1#1 := h
  show BitVec.ofBool (x.slt 0#32) = 0#1
  rcases hb : x.slt 0#32 with _ | _
  · rfl
  · rw [BitVec.slt_iff_toInt_lt] at hb
    rcases hc : (0#32).sle x with _ | _
    · rw [hc] at h1; exact absurd h1 (by decide)
    · rw [BitVec.sle_iff_toInt_le] at hc
      omega

/-- The precondition at a page and a scale word. -/
def wordBit (sel w : BitVec 32) : BitVec 1 :=
  IntOp.ori (IntOp.cmpi CmpIPredicate.slt sel 0#32) (IntOp.cmpi CmpIPredicate.eq (IntOp.andi w 65535#32) (IntOp.shrui .host w 16#32))

/-- The precondition gives what the proof needs of the scale words. -/
theorem twice_of_words (H : ∀ (b : Fin 120) (t : Fin 128) (i : Fin 64), ∃ r : Fin 61440, r.val = h.val * 15360 + (b.val * 128 + t.val) ∧
      wordBit (m ((c : Thread nD τ).loc main_arg7) (ix3 b h t)) (m ((c : Thread nD τ).loc main_arg5) (ix2 r (⟨i.val, by omega⟩ : Fin 128))) = 1#1) :
    AllTwice h m c := by
  intro b t i h' hs hh
  obtain ⟨r, hr, e⟩ := H b t i
  have es : moveP h (m ((c : Thread nD τ).loc main_arg7)) (ix3 b (0 : Fin 4) t) = m ((c : Thread nD τ).loc main_arg7) (ix3 b h t) := by
    show m ((c : Thread nD τ).loc main_arg7) (ix3 b (⟨(h.val + 0) % 4, by omega⟩ : Fin 4) t) = _
    congr 2
    apply Fin.ext
    show (h.val + 0) % 4 = h.val
    omega
  have ew : moveS h (m ((c : Thread nD τ).loc main_arg5)) (ix2 (⟨b.val * 128 + t.val, by omega⟩ : Fin 61440) (⟨i.val, by omega⟩ : Fin 128))
      = m ((c : Thread nD τ).loc main_arg5) (ix2 r (⟨i.val, by omega⟩ : Fin 128)) := by
    show m ((c : Thread nD τ).loc main_arg5) (ix2 (⟨(h.val * 15360 + (b.val * 128 + t.val)) % 61440, by omega⟩ : Fin 61440) (⟨i.val, by omega⟩ : Fin 128)) = _
    congr 2
    apply Fin.ext
    show (h.val * 15360 + (b.val * 128 + t.val)) % 61440 = r.val
    omega
  rw [es] at hs
  rw [ew]
  unfold wordBit at e
  rw [not_negative _ hs, none_or] at e
  exact halves _ e h' hh

theorem twice_of_pre0 (hp : Cert.Pre_scales_twice.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1) :
    AllTwice 0 m c := by
  refine twice_of_words 0 m c fun b t i => ?_
  have e := congrFun hp (ix2 (⟨b.val * 128 + t.val, by omega⟩ : Fin 15360) i)
  pointwise [Cert.Pre_scales_twice.fn] at e
  refine ⟨_, ?_, e⟩
  dsimp only
  omega

theorem twice_of_pre1 (hp : Cert.Pre_scales_twice1.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1) :
    AllTwice 1 m c := by
  refine twice_of_words 1 m c fun b t i => ?_
  have e := congrFun hp (ix2 (⟨b.val * 128 + t.val, by omega⟩ : Fin 15360) i)
  pointwise [Cert.Pre_scales_twice1.fn] at e
  refine ⟨_, ?_, e⟩
  dsimp only
  omega

theorem twice_of_pre2 (hp : Cert.Pre_scales_twice2.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1) :
    AllTwice 2 m c := by
  refine twice_of_words 2 m c fun b t i => ?_
  have e := congrFun hp (ix2 (⟨b.val * 128 + t.val, by omega⟩ : Fin 15360) i)
  pointwise [Cert.Pre_scales_twice2.fn] at e
  refine ⟨_, ?_, e⟩
  dsimp only
  omega

theorem twice_of_pre3 (hp : Cert.Pre_scales_twice3.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1) :
    AllTwice 3 m c := by
  refine twice_of_words 3 m c fun b t i => ?_
  have e := congrFun hp (ix2 (⟨b.val * 128 + t.val, by omega⟩ : Fin 15360) i)
  pointwise [Cert.Pre_scales_twice3.fn] at e
  refine ⟨_, ?_, e⟩
  dsimp only
  omega

/-- A run ends with the reference's result and the arguments unchanged. -/
theorem value_run (D : ∀ c, AllTwice h m c) : θ_run (defsH h) (onTc (τ := τ) (mainH (F := Ideal) h)) ⟨m, fun _ => 0, ρ⟩ (fun r => ∀ c : Dev nD,
      r.2.mem ((c : Thread nD τ).loc main_v29) = wanted h m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run (defsH h) _ _).mono (fun r hp c =>
    ⟨((hp.1 c).2 main_v29 (show main_v29 ∈ Pipeline.restRefs sig spec0 by decide)).trans ((tail_eq h m c).trans (funext fun j => by
        obtain ⟨b, s, g, e, rfl⟩ := idx_eq j
        refine (tail_at _ b s g e).trans ((output_row h m c (D c) b s g (rowV e)).trans ?_)
        rw [chanV_rowV])),
     mem_rest h m hp.1 c main_arg0 (by decide) (by decide) (by decide) (by decide),
     mem_rest h m hp.1 c main_arg1 (by decide) (by decide) (by decide) (by decide),
     mem_rest h m hp.1 c main_arg2 (by decide) (by decide) (by decide) (by decide),
     mem_in h m hp.1 c 0 rfl (by decide), mem_in h m hp.1 c 1 rfl (by decide), mem_in h m hp.1 c 2 rfl (by decide),
     mem_rest h m hp.1 c main_arg6 (by decide) (by decide) (by decide) (by decide),
     mem_rest h m hp.1 c main_arg7 (by decide) (by decide) (by decide) (by decide)⟩) (run_main h m ρ)

end Cert.KernelIdeal.Body
-- ==== Proof.lean ====
module

public import proofs.«01_k».proof.Defs
public import proofs.«01_k».proof.Proof.KFrame
public import proofs.«01_k».proof.Proof.Frame
public import proofs.«01_k».proof.Proof.KSame1
public import proofs.«01_k».proof.Proof.Same1
public import proofs.«01_k».proof.Proof.KSame2
public import proofs.«01_k».proof.Proof.Same2
public import proofs.«01_k».proof.Proof.KSame3
public import proofs.«01_k».proof.Proof.Same3
public import proofs.«01_k».proof.Proof.Gen.ReferenceIdeal
public import proofs.«01_k».proof.Proof.Gen.ReferenceIdeal.Run
public import proofs.«01_k».proof.Proof.Gen.Pre_scales_twice
public import proofs.«01_k».proof.Proof.Gen.Reference1Ideal
public import proofs.«01_k».proof.Proof.Gen.Reference1Ideal.Run
public import proofs.«01_k».proof.Proof.Gen.Pre_scales_twice1
public import proofs.«01_k».proof.Proof.Gen.Reference2Ideal
public import proofs.«01_k».proof.Proof.Gen.Reference2Ideal.Run
public import proofs.«01_k».proof.Proof.Gen.Pre_scales_twice2
public import proofs.«01_k».proof.Proof.Gen.Reference3Ideal
public import proofs.«01_k».proof.Proof.Gen.Reference3Ideal.Run
public import proofs.«01_k».proof.Proof.Gen.Pre_scales_twice3
public import proofs.«01_k».proof.Proof.RefHeads
public import proofs.«01_k».proof.Proof.Result

@[expose] public section

noncomputable section

/-!
# The claim

Each head's program is head 0's run at that head's index maps (`run_of`), and each head's reference is `wholeH` at that head.
-/

namespace Cert.Proof

open Idealize.ShloMosaic Idealize.SL.Sem

/-! ## Head 0 -/

theorem frame_p : Cert.quiescent_Kernel (hKernel := Cert.Kernel.Gen.facts) := fun m ρ _ => Cert.Kernel.Body.frame_run 0 m ρ

theorem frame_pi : Cert.quiescent_KernelIdeal (hKernelIdeal := Cert.KernelIdeal.Gen.facts) := fun m ρ _ => Cert.KernelIdeal.Body.frame_run 0 m ρ

theorem frame_pi_pre : Cert.quiescent_KernelIdeal_pre_scales_twice (hKernelIdeal := Cert.KernelIdeal.Gen.facts) (hPre_scales_twice := Cert.Pre_scales_twice.Gen.facts) :=
  fun m ρ _ => frame_pi m ρ trivial

theorem frame_ri : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_ri_pre : Cert.quiescent_ReferenceIdeal_pre_scales_twice (hReferenceIdeal := Cert.ReferenceIdeal.Gen.facts) (hPre_scales_twice := Cert.Pre_scales_twice.Gen.facts) :=
  fun m ρ _ => frame_ri m ρ trivial

/-- The table's constant is `1 / (8 log 2)`. -/
theorem preserves : Cert.preserves_Kernel_KernelIdeal :=
  IdealRules.named_const.statement Cert.KernelIdeal.κ "log2e_8" .f32 0x3E38AA3B#32 (((8 * (Real.log 2))⁻¹ : ℝ) : EReal) rfl

theorem algebraic : Cert.algebraic_KernelIdeal_ReferenceIdeal_pre_scales_twice (hKernelIdeal := Cert.KernelIdeal.Gen.facts)
    (hReferenceIdeal := Cert.ReferenceIdeal.Gen.facts) (hPre_scales_twice := Cert.Pre_scales_twice.Gen.facts) := by
  intro m ρ m' ρ' hpre hagree
  refine ⟨fun c => Cert.KernelIdeal.Body.wanted 0 m c,
    Cert.KernelIdeal.Body.value_run 0 m ρ (fun c => Cert.KernelIdeal.Body.twice_of_pre0 m c (hpre c)), ?_⟩
  refine (θ_run _ _ _).mono (fun _ h c => ⟨(h c).1.trans ?_, (h c).2⟩) (Cert.ReferenceIdeal.Value.run m' ρ')
  obtain ⟨h0, h1, h2, h3, h4, h5, h6, h7⟩ := hagree c
  exact (Cert.ReferenceIdeal.Stage.result_eq0 m' c).trans (Cert.ReferenceIdeal.Stage.wholeH_congr 0 h0 h1 h2 h3 h4 h5 h6 h7)

/-! ## Head 1 -/

theorem frame_p1 : Cert.quiescent_Kernel1 (hKernel1 := Cert.Kernel1.Gen.facts) := fun m ρ _ => Cert.Kernel1.Same.run_of _ _ (Cert.Kernel.Body.frame_run 1 m ρ)

theorem frame_pi1 : Cert.quiescent_Kernel1Ideal (hKernel1Ideal := Cert.Kernel1Ideal.Gen.facts) := fun m ρ _ => Cert.Kernel1Ideal.Same.run_of _ _ (Cert.KernelIdeal.Body.frame_run 1 m ρ)

theorem frame_pi_pre1 : Cert.quiescent_Kernel1Ideal_pre_scales_twice1 (hKernel1Ideal := Cert.Kernel1Ideal.Gen.facts) (hPre_scales_twice1 := Cert.Pre_scales_twice1.Gen.facts) :=
  fun m ρ _ => frame_pi1 m ρ trivial

theorem frame_ri1 : Cert.quiescent_Reference1Ideal (hReference1Ideal := Cert.Reference1Ideal.Gen.facts) := fun m ρ _ =>
  (θ_run Cert.Reference1Ideal.defs _ _).mono (fun r h => ⟨fun c => (h c).2, Idealize.ShloMosaic.sem_eq_zero_of_no_sems (by decide) r.2⟩)
    (Cert.Reference1Ideal.Value.run (F := Ideal) m ρ)

theorem frame_ri_pre1 : Cert.quiescent_Reference1Ideal_pre_scales_twice1 (hReference1Ideal := Cert.Reference1Ideal.Gen.facts) (hPre_scales_twice1 := Cert.Pre_scales_twice1.Gen.facts) :=
  fun m ρ _ => frame_ri1 m ρ trivial

/-- The table's constant is `1 / (8 log 2)`. -/
theorem preserves1 : Cert.preserves_Kernel1_Kernel1Ideal :=
  IdealRules.named_const.statement Cert.Kernel1Ideal.κ "log2e_8" .f32 0x3E38AA3B#32 (((8 * (Real.log 2))⁻¹ : ℝ) : EReal) rfl

theorem algebraic1 : Cert.algebraic_Kernel1Ideal_Reference1Ideal_pre_scales_twice1 (hKernel1Ideal := Cert.Kernel1Ideal.Gen.facts)
    (hReference1Ideal := Cert.Reference1Ideal.Gen.facts) (hPre_scales_twice1 := Cert.Pre_scales_twice1.Gen.facts) := by
  intro m ρ m' ρ' hpre hagree
  refine ⟨fun c => Cert.KernelIdeal.Body.wanted 1 m c,
    Cert.Kernel1Ideal.Same.run_of _ _ (Cert.KernelIdeal.Body.value_run 1 m ρ (fun c => Cert.KernelIdeal.Body.twice_of_pre1 m c (hpre c))), ?_⟩
  refine (θ_run _ _ _).mono (fun _ h c => ⟨(h c).1.trans ?_, (h c).2⟩) (Cert.Reference1Ideal.Value.run m' ρ')
  obtain ⟨h0, h1, h2, h3, h4, h5, h6, h7⟩ := hagree c
  exact (Cert.ReferenceIdeal.Stage.result_eq1 m' c).trans (Cert.ReferenceIdeal.Stage.wholeH_congr 1 h0 h1 h2 h3 h4 h5 h6 h7)

/-! ## Head 2 -/

theorem frame_p2 : Cert.quiescent_Kernel2 (hKernel2 := Cert.Kernel2.Gen.facts) := fun m ρ _ => Cert.Kernel2.Same.run_of _ _ (Cert.Kernel.Body.frame_run 2 m ρ)

theorem frame_pi2 : Cert.quiescent_Kernel2Ideal (hKernel2Ideal := Cert.Kernel2Ideal.Gen.facts) := fun m ρ _ => Cert.Kernel2Ideal.Same.run_of _ _ (Cert.KernelIdeal.Body.frame_run 2 m ρ)

theorem frame_pi_pre2 : Cert.quiescent_Kernel2Ideal_pre_scales_twice2 (hKernel2Ideal := Cert.Kernel2Ideal.Gen.facts) (hPre_scales_twice2 := Cert.Pre_scales_twice2.Gen.facts) :=
  fun m ρ _ => frame_pi2 m ρ trivial

theorem frame_ri2 : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frame_ri_pre2 : Cert.quiescent_Reference2Ideal_pre_scales_twice2 (hReference2Ideal := Cert.Reference2Ideal.Gen.facts) (hPre_scales_twice2 := Cert.Pre_scales_twice2.Gen.facts) :=
  fun m ρ _ => frame_ri2 m ρ trivial

/-- The table's constant is `1 / (8 log 2)`. -/
theorem preserves2 : Cert.preserves_Kernel2_Kernel2Ideal :=
  IdealRules.named_const.statement Cert.Kernel2Ideal.κ "log2e_8" .f32 0x3E38AA3B#32 (((8 * (Real.log 2))⁻¹ : ℝ) : EReal) rfl

theorem algebraic2 : Cert.algebraic_Kernel2Ideal_Reference2Ideal_pre_scales_twice2 (hKernel2Ideal := Cert.Kernel2Ideal.Gen.facts)
    (hReference2Ideal := Cert.Reference2Ideal.Gen.facts) (hPre_scales_twice2 := Cert.Pre_scales_twice2.Gen.facts) := by
  intro m ρ m' ρ' hpre hagree
  refine ⟨fun c => Cert.KernelIdeal.Body.wanted 2 m c,
    Cert.Kernel2Ideal.Same.run_of _ _ (Cert.KernelIdeal.Body.value_run 2 m ρ (fun c => Cert.KernelIdeal.Body.twice_of_pre2 m c (hpre c))), ?_⟩
  refine (θ_run _ _ _).mono (fun _ h c => ⟨(h c).1.trans ?_, (h c).2⟩) (Cert.Reference2Ideal.Value.run m' ρ')
  obtain ⟨h0, h1, h2, h3, h4, h5, h6, h7⟩ := hagree c
  exact (Cert.ReferenceIdeal.Stage.result_eq2 m' c).trans (Cert.ReferenceIdeal.Stage.wholeH_congr 2 h0 h1 h2 h3 h4 h5 h6 h7)

/-! ## Head 3 -/

theorem frame_p3 : Cert.quiescent_Kernel3 (hKernel3 := Cert.Kernel3.Gen.facts) := fun m ρ _ => Cert.Kernel3.Same.run_of _ _ (Cert.Kernel.Body.frame_run 3 m ρ)

theorem frame_pi3 : Cert.quiescent_Kernel3Ideal (hKernel3Ideal := Cert.Kernel3Ideal.Gen.facts) := fun m ρ _ => Cert.Kernel3Ideal.Same.run_of _ _ (Cert.KernelIdeal.Body.frame_run 3 m ρ)

theorem frame_pi_pre3 : Cert.quiescent_Kernel3Ideal_pre_scales_twice3 (hKernel3Ideal := Cert.Kernel3Ideal.Gen.facts) (hPre_scales_twice3 := Cert.Pre_scales_twice3.Gen.facts) :=
  fun m ρ _ => frame_pi3 m ρ trivial

theorem frame_ri3 : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem frame_ri_pre3 : Cert.quiescent_Reference3Ideal_pre_scales_twice3 (hReference3Ideal := Cert.Reference3Ideal.Gen.facts) (hPre_scales_twice3 := Cert.Pre_scales_twice3.Gen.facts) :=
  fun m ρ _ => frame_ri3 m ρ trivial

/-- The table's constant is `1 / (8 log 2)`. -/
theorem preserves3 : Cert.preserves_Kernel3_Kernel3Ideal :=
  IdealRules.named_const.statement Cert.Kernel3Ideal.κ "log2e_8" .f32 0x3E38AA3B#32 (((8 * (Real.log 2))⁻¹ : ℝ) : EReal) rfl

theorem algebraic3 : Cert.algebraic_Kernel3Ideal_Reference3Ideal_pre_scales_twice3 (hKernel3Ideal := Cert.Kernel3Ideal.Gen.facts)
    (hReference3Ideal := Cert.Reference3Ideal.Gen.facts) (hPre_scales_twice3 := Cert.Pre_scales_twice3.Gen.facts) := by
  intro m ρ m' ρ' hpre hagree
  refine ⟨fun c => Cert.KernelIdeal.Body.wanted 3 m c,
    Cert.Kernel3Ideal.Same.run_of _ _ (Cert.KernelIdeal.Body.value_run 3 m ρ (fun c => Cert.KernelIdeal.Body.twice_of_pre3 m c (hpre c))), ?_⟩
  refine (θ_run _ _ _).mono (fun _ h c => ⟨(h c).1.trans ?_, (h c).2⟩) (Cert.Reference3Ideal.Value.run m' ρ')
  obtain ⟨h0, h1, h2, h3, h4, h5, h6, h7⟩ := hagree c
  exact (Cert.ReferenceIdeal.Stage.result_eq3 m' c).trans (Cert.ReferenceIdeal.Stage.wholeH_congr 3 h0 h1 h2 h3 h4 h5 h6 h7)

theorem claim : Cert.Claim := ⟨Cert.Kernel.Gen.facts, Cert.KernelIdeal.Gen.facts, Cert.ReferenceIdeal.Gen.facts, Cert.Kernel1.Gen.facts, Cert.Kernel1Ideal.Gen.facts, Cert.Reference1Ideal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_scales_twice.Gen.facts, Cert.Pre_scales_twice1.Gen.facts, Cert.Pre_scales_twice2.Gen.facts, Cert.Pre_scales_twice3.Gen.facts,
  frame_p, frame_pi, frame_pi_pre, frame_ri, frame_ri_pre,
  frame_p1, frame_pi1, frame_pi_pre1, frame_ri1, frame_ri_pre1,
  frame_p2, frame_pi2, frame_pi_pre2, frame_ri2, frame_ri_pre2,
  frame_p3, frame_pi3, frame_pi_pre3, frame_ri3, frame_ri_pre3,
  preserves, algebraic, preserves1, algebraic1, preserves2, algebraic2, preserves3, algebraic3⟩

end Cert.Proof

end
